-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Grouped (m : (ℓ : Loc Cert.Grouped.nD Cert.Grouped.τ Cert.Grouped.sig) → Buf (Elt Bits) ℓ) : Prop :=
  True

def Pre_GroupedIdeal (m : (ℓ : Loc Cert.GroupedIdeal.nD Cert.GroupedIdeal.τ Cert.GroupedIdeal.sig) → Buf (Elt Ideal) ℓ) : Prop :=
  True

def Pre_GroupedIdeal_finite4 [hPre_finite4 : Cert.Pre_finite4.Facts] (m : (ℓ : Loc Cert.GroupedIdeal.nD Cert.GroupedIdeal.τ Cert.GroupedIdeal.sig) → Buf (Elt Ideal) ℓ) : Prop :=
  ∀ c : Dev Cert.GroupedIdeal.nD,
    (Cert.Pre_finite4.fn (F := Ideal) (m ((c.tc : Thread Cert.GroupedIdeal.nD Cert.GroupedIdeal.τ).loc Cert.GroupedIdeal.main_arg0)) (m ((c.tc : Thread Cert.GroupedIdeal.nD Cert.GroupedIdeal.τ).loc Cert.GroupedIdeal.main_arg1)) (m ((c.tc : Thread Cert.GroupedIdeal.nD Cert.GroupedIdeal.τ).loc Cert.GroupedIdeal.main_arg2))) = (fun _ => 1#1)

def Pre_GroupedReferenceIdeal (m : (ℓ : Loc Cert.GroupedReferenceIdeal.nD Cert.GroupedReferenceIdeal.τ Cert.GroupedReferenceIdeal.sig) → Buf (Elt Ideal) ℓ) : Prop :=
  True

def Pre_GroupedReferenceIdeal_finite4 [hPre_finite4 : Cert.Pre_finite4.Facts] (m : (ℓ : Loc Cert.GroupedReferenceIdeal.nD Cert.GroupedReferenceIdeal.τ Cert.GroupedReferenceIdeal.sig) → Buf (Elt Ideal) ℓ) : Prop :=
  ∀ c : Dev Cert.GroupedReferenceIdeal.nD,
    (Cert.Pre_finite4.fn (F := Ideal) (m ((c.tc : Thread Cert.GroupedReferenceIdeal.nD Cert.GroupedReferenceIdeal.τ).loc Cert.GroupedReferenceIdeal.main_arg0)) (m ((c.tc : Thread Cert.GroupedReferenceIdeal.nD Cert.GroupedReferenceIdeal.τ).loc Cert.GroupedReferenceIdeal.main_arg1)) (m ((c.tc : Thread Cert.GroupedReferenceIdeal.nD Cert.GroupedReferenceIdeal.τ).loc Cert.GroupedReferenceIdeal.main_arg2))) = (fun _ => 1#1)

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_finite5 [hPre_finite5 : Cert.Pre_finite5.Facts] (m : (ℓ : Loc Cert.LatentIdeal.nD Cert.LatentIdeal.τ Cert.LatentIdeal.sig) → Buf (Elt Ideal) ℓ) : Prop :=
  ∀ c : Dev Cert.LatentIdeal.nD,
    (Cert.Pre_finite5.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2))) = (fun _ => 1#1)

def Pre_LatentReferenceIdeal (m : (ℓ : Loc Cert.LatentReferenceIdeal.nD Cert.LatentReferenceIdeal.τ Cert.LatentReferenceIdeal.sig) → Buf (Elt Ideal) ℓ) : Prop :=
  True

def Pre_LatentReferenceIdeal_finite5 [hPre_finite5 : Cert.Pre_finite5.Facts] (m : (ℓ : Loc Cert.LatentReferenceIdeal.nD Cert.LatentReferenceIdeal.τ Cert.LatentReferenceIdeal.sig) → Buf (Elt Ideal) ℓ) : Prop :=
  ∀ c : Dev Cert.LatentReferenceIdeal.nD,
    (Cert.Pre_finite5.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite6 [hPre_finite6 : Cert.Pre_finite6.Facts] (m : (ℓ : Loc Cert.InprojIdeal.nD Cert.InprojIdeal.τ Cert.InprojIdeal.sig) → Buf (Elt Ideal) ℓ) : Prop :=
  ∀ c : Dev Cert.InprojIdeal.nD,
    (Cert.Pre_finite6.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11))) = (fun _ => 1#1)

def Pre_InprojReferenceIdeal (m : (ℓ : Loc Cert.InprojReferenceIdeal.nD Cert.InprojReferenceIdeal.τ Cert.InprojReferenceIdeal.sig) → Buf (Elt Ideal) ℓ) : Prop :=
  True

def Pre_InprojReferenceIdeal_finite6 [hPre_finite6 : Cert.Pre_finite6.Facts] (m : (ℓ : Loc Cert.InprojReferenceIdeal.nD Cert.InprojReferenceIdeal.τ Cert.InprojReferenceIdeal.sig) → Buf (Elt Ideal) ℓ) : Prop :=
  ∀ c : Dev Cert.InprojReferenceIdeal.nD,
    (Cert.Pre_finite6.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6)) (m ((c.tc : Thread Cert.InprojReferenceIdeal.nD Cert.InprojReferenceIdeal.τ).loc Cert.InprojReferenceIdeal.main_arg7)) (m ((c.tc : Thread Cert.InprojReferenceIdeal.nD Cert.InprojReferenceIdeal.τ).loc Cert.InprojReferenceIdeal.main_arg8)) (m ((c.tc : Thread Cert.InprojReferenceIdeal.nD Cert.InprojReferenceIdeal.τ).loc Cert.InprojReferenceIdeal.main_arg9)) (m ((c.tc : Thread Cert.InprojReferenceIdeal.nD Cert.InprojReferenceIdeal.τ).loc Cert.InprojReferenceIdeal.main_arg10)) (m ((c.tc : Thread Cert.InprojReferenceIdeal.nD Cert.InprojReferenceIdeal.τ).loc Cert.InprojReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_Grouped [hGrouped : Cert.Grouped.Facts] : Prop :=
  ∀ (m : (ℓ : Loc Cert.Grouped.nD Cert.Grouped.τ Cert.Grouped.sig) → Buf (Elt Bits) ℓ) (g : Dev Cert.Grouped.nD → PrngReg), Pre_Grouped m →
    θ_run (Cert.Grouped.defs (F := Bits)) (onTc (τ := Cert.Grouped.τ) (Cert.Grouped.main (F := Bits))) ⟨m, fun _ => 0, g⟩ (fun r => (∀ c : Dev Cert.Grouped.nD,
      r.2.mem ((c.tc : Thread Cert.Grouped.nD Cert.Grouped.τ).loc Cert.Grouped.main_arg0) = m ((c.tc : Thread Cert.Grouped.nD Cert.Grouped.τ).loc Cert.Grouped.main_arg0)
      ∧ r.2.mem ((c.tc : Thread Cert.Grouped.nD Cert.Grouped.τ).loc Cert.Grouped.main_arg1) = m ((c.tc : Thread Cert.Grouped.nD Cert.Grouped.τ).loc Cert.Grouped.main_arg1)
      ∧ r.2.mem ((c.tc : Thread Cert.Grouped.nD Cert.Grouped.τ).loc Cert.Grouped.main_arg2) = m ((c.tc : Thread Cert.Grouped.nD Cert.Grouped.τ).loc Cert.Grouped.main_arg2))
      ∧ r.2.sem = fun _ => 0)

def quiescent_GroupedIdeal [hGroupedIdeal : Cert.GroupedIdeal.Facts] : Prop :=
  ∀ (m : (ℓ : Loc Cert.GroupedIdeal.nD Cert.GroupedIdeal.τ Cert.GroupedIdeal.sig) → Buf (Elt Ideal) ℓ) (g : Dev Cert.GroupedIdeal.nD → PrngReg), Pre_GroupedIdeal m →
    θ_run (Cert.GroupedIdeal.defs (F := Ideal)) (onTc (τ := Cert.GroupedIdeal.τ) (Cert.GroupedIdeal.main (F := Ideal))) ⟨m, fun _ => 0, g⟩ (fun r => (∀ c : Dev Cert.GroupedIdeal.nD,
      r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
      ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
      ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2))
      ∧ r.2.sem = fun _ => 0)

def quiescent_GroupedIdeal_pre_finite4 [hGroupedIdeal : Cert.GroupedIdeal.Facts] [hPre_finite4 : Cert.Pre_finite4.Facts] : Prop :=
  ∀ (m : (ℓ : Loc Cert.GroupedIdeal.nD Cert.GroupedIdeal.τ Cert.GroupedIdeal.sig) → Buf (Elt Ideal) ℓ) (g : Dev Cert.GroupedIdeal.nD → PrngReg), Pre_GroupedIdeal_finite4 m →
    θ_run (Cert.GroupedIdeal.defs (F := Ideal)) (onTc (τ := Cert.GroupedIdeal.τ) (Cert.GroupedIdeal.main (F := Ideal))) ⟨m, fun _ => 0, g⟩ (fun r => (∀ c : Dev Cert.GroupedIdeal.nD,
      r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
      ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
      ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2))
      ∧ r.2.sem = fun _ => 0)

def quiescent_GroupedReferenceIdeal [hGroupedReferenceIdeal : Cert.GroupedReferenceIdeal.Facts] : Prop :=
  ∀ (m : (ℓ : Loc Cert.GroupedReferenceIdeal.nD Cert.GroupedReferenceIdeal.τ Cert.GroupedReferenceIdeal.sig) → Buf (Elt Ideal) ℓ) (g : Dev Cert.GroupedReferenceIdeal.nD → PrngReg), Pre_GroupedReferenceIdeal m →
    θ_run (Cert.GroupedReferenceIdeal.defs (F := Ideal)) (onTc (τ := Cert.GroupedReferenceIdeal.τ) (Cert.GroupedReferenceIdeal.main (F := Ideal))) ⟨m, fun _ => 0, g⟩ (fun r => (∀ c : Dev Cert.GroupedReferenceIdeal.nD,
      r.2.mem ((c.tc : Thread Cert.GroupedReferenceIdeal.nD Cert.GroupedReferenceIdeal.τ).loc Cert.GroupedReferenceIdeal.main_arg0) = m ((c.tc : Thread Cert.GroupedReferenceIdeal.nD Cert.GroupedReferenceIdeal.τ).loc Cert.GroupedReferenceIdeal.main_arg0)
      ∧ r.2.mem ((c.tc : Thread Cert.GroupedReferenceIdeal.nD Cert.GroupedReferenceIdeal.τ).loc Cert.GroupedReferenceIdeal.main_arg1) = m ((c.tc : Thread Cert.GroupedReferenceIdeal.nD Cert.GroupedReferenceIdeal.τ).loc Cert.GroupedReferenceIdeal.main_arg1)
      ∧ r.2.mem ((c.tc : Thread Cert.GroupedReferenceIdeal.nD Cert.GroupedReferenceIdeal.τ).loc Cert.GroupedReferenceIdeal.main_arg2) = m ((c.tc : Thread Cert.GroupedReferenceIdeal.nD Cert.GroupedReferenceIdeal.τ).loc Cert.GroupedReferenceIdeal.main_arg2))
      ∧ r.2.sem = fun _ => 0)

def quiescent_GroupedReferenceIdeal_pre_finite4 [hGroupedReferenceIdeal : Cert.GroupedReferenceIdeal.Facts] [hPre_finite4 : Cert.Pre_finite4.Facts] : Prop :=
  ∀ (m : (ℓ : Loc Cert.GroupedReferenceIdeal.nD Cert.GroupedReferenceIdeal.τ Cert.GroupedReferenceIdeal.sig) → Buf (Elt Ideal) ℓ) (g : Dev Cert.GroupedReferenceIdeal.nD → PrngReg), Pre_GroupedReferenceIdeal_finite4 m →
    θ_run (Cert.GroupedReferenceIdeal.defs (F := Ideal)) (onTc (τ := Cert.GroupedReferenceIdeal.τ) (Cert.GroupedReferenceIdeal.main (F := Ideal))) ⟨m, fun _ => 0, g⟩ (fun r => (∀ c : Dev Cert.GroupedReferenceIdeal.nD,
      r.2.mem ((c.tc : Thread Cert.GroupedReferenceIdeal.nD Cert.GroupedReferenceIdeal.τ).loc Cert.GroupedReferenceIdeal.main_arg0) = m ((c.tc : Thread Cert.GroupedReferenceIdeal.nD Cert.GroupedReferenceIdeal.τ).loc Cert.GroupedReferenceIdeal.main_arg0)
      ∧ r.2.mem ((c.tc : Thread Cert.GroupedReferenceIdeal.nD Cert.GroupedReferenceIdeal.τ).loc Cert.GroupedReferenceIdeal.main_arg1) = m ((c.tc : Thread Cert.GroupedReferenceIdeal.nD Cert.GroupedReferenceIdeal.τ).loc Cert.GroupedReferenceIdeal.main_arg1)
      ∧ r.2.mem ((c.tc : Thread Cert.GroupedReferenceIdeal.nD Cert.GroupedReferenceIdeal.τ).loc Cert.GroupedReferenceIdeal.main_arg2) = m ((c.tc : Thread Cert.GroupedReferenceIdeal.nD Cert.GroupedReferenceIdeal.τ).loc Cert.GroupedReferenceIdeal.main_arg2))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentIdeal_pre_finite5 [hLatentIdeal : Cert.LatentIdeal.Facts] [hPre_finite5 : Cert.Pre_finite5.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_finite5 m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2))
      ∧ r.2.sem = fun _ => 0)

def quiescent_LatentReferenceIdeal_pre_finite5 [hLatentReferenceIdeal : Cert.LatentReferenceIdeal.Facts] [hPre_finite5 : Cert.Pre_finite5.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal_finite5 m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11))
      ∧ r.2.sem = fun _ => 0)

def quiescent_InprojIdeal_pre_finite6 [hInprojIdeal : Cert.InprojIdeal.Facts] [hPre_finite6 : Cert.Pre_finite6.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite6 m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8)
      ∧ r.2.mem ((c.tc : Thread Cert.InprojReferenceIdeal.nD Cert.InprojReferenceIdeal.τ).loc Cert.InprojReferenceIdeal.main_arg9) = m ((c.tc : Thread Cert.InprojReferenceIdeal.nD Cert.InprojReferenceIdeal.τ).loc Cert.InprojReferenceIdeal.main_arg9)
      ∧ r.2.mem ((c.tc : Thread Cert.InprojReferenceIdeal.nD Cert.InprojReferenceIdeal.τ).loc Cert.InprojReferenceIdeal.main_arg10) = m ((c.tc : Thread Cert.InprojReferenceIdeal.nD Cert.InprojReferenceIdeal.τ).loc Cert.InprojReferenceIdeal.main_arg10)
      ∧ r.2.mem ((c.tc : Thread Cert.InprojReferenceIdeal.nD Cert.InprojReferenceIdeal.τ).loc Cert.InprojReferenceIdeal.main_arg11) = m ((c.tc : Thread Cert.InprojReferenceIdeal.nD Cert.InprojReferenceIdeal.τ).loc Cert.InprojReferenceIdeal.main_arg11))
      ∧ r.2.sem = fun _ => 0)

def quiescent_InprojReferenceIdeal_pre_finite6 [hInprojReferenceIdeal : Cert.InprojReferenceIdeal.Facts] [hPre_finite6 : Cert.Pre_finite6.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal_finite6 m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8)
      ∧ r.2.mem ((c.tc : Thread Cert.InprojReferenceIdeal.nD Cert.InprojReferenceIdeal.τ).loc Cert.InprojReferenceIdeal.main_arg9) = m ((c.tc : Thread Cert.InprojReferenceIdeal.nD Cert.InprojReferenceIdeal.τ).loc Cert.InprojReferenceIdeal.main_arg9)
      ∧ r.2.mem ((c.tc : Thread Cert.InprojReferenceIdeal.nD Cert.InprojReferenceIdeal.τ).loc Cert.InprojReferenceIdeal.main_arg10) = m ((c.tc : Thread Cert.InprojReferenceIdeal.nD Cert.InprojReferenceIdeal.τ).loc Cert.InprojReferenceIdeal.main_arg10)
      ∧ r.2.mem ((c.tc : Thread Cert.InprojReferenceIdeal.nD Cert.InprojReferenceIdeal.τ).loc Cert.InprojReferenceIdeal.main_arg11) = m ((c.tc : Thread Cert.InprojReferenceIdeal.nD Cert.InprojReferenceIdeal.τ).loc Cert.InprojReferenceIdeal.main_arg11))
      ∧ r.2.sem = fun _ => 0)

def preserves_Kernel_KernelIdeal : Prop :=
  IdealRules.named_const.Statement Cert.KernelIdeal.κ "qscale" .f32 0x3E8293EE#32 (((11863283 / 67108864) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v56) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v14)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v50) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_Grouped_GroupedIdeal : Prop :=
  IdealRules.named_const.Statement Cert.GroupedIdeal.κ "qscale" .f32 0x3E38AA3B#32 (((1 / 8) * (Real.log 2)⁻¹ : ℝ) : EReal)

def algebraic_GroupedIdeal_GroupedReferenceIdeal_pre_finite4 [hGroupedIdeal : Cert.GroupedIdeal.Facts] [hGroupedReferenceIdeal : Cert.GroupedReferenceIdeal.Facts] [hPre_finite4 : Cert.Pre_finite4.Facts] : Prop :=
  ∀ (m : (ℓ : Loc Cert.GroupedIdeal.nD Cert.GroupedIdeal.τ Cert.GroupedIdeal.sig) → Buf (Elt Ideal) ℓ) (g : Dev Cert.GroupedIdeal.nD → PrngReg)
    (m' : (ℓ : Loc Cert.GroupedReferenceIdeal.nD Cert.GroupedReferenceIdeal.τ Cert.GroupedReferenceIdeal.sig) → Buf (Elt Ideal) ℓ) (g' : Dev Cert.GroupedReferenceIdeal.nD → PrngReg), Pre_GroupedIdeal_finite4 m →
    (∀ c : Dev Cert.GroupedIdeal.nD,
      m' ((c.tc : Thread Cert.GroupedReferenceIdeal.nD Cert.GroupedReferenceIdeal.τ).loc Cert.GroupedReferenceIdeal.main_arg0) = m ((c.tc : Thread Cert.GroupedIdeal.nD Cert.GroupedIdeal.τ).loc Cert.GroupedIdeal.main_arg0)
      ∧ m' ((c.tc : Thread Cert.GroupedReferenceIdeal.nD Cert.GroupedReferenceIdeal.τ).loc Cert.GroupedReferenceIdeal.main_arg1) = m ((c.tc : Thread Cert.GroupedIdeal.nD Cert.GroupedIdeal.τ).loc Cert.GroupedIdeal.main_arg1)
      ∧ m' ((c.tc : Thread Cert.GroupedReferenceIdeal.nD Cert.GroupedReferenceIdeal.τ).loc Cert.GroupedReferenceIdeal.main_arg2) = m ((c.tc : Thread Cert.GroupedIdeal.nD Cert.GroupedIdeal.τ).loc Cert.GroupedIdeal.main_arg2)) →
    ∃ (v0 : (c : Dev Cert.GroupedIdeal.nD) → Buf (Elt Ideal) ((c.tc : Thread Cert.GroupedIdeal.nD Cert.GroupedIdeal.τ).loc Cert.GroupedIdeal.main_v8)),
      θ_run (Cert.GroupedIdeal.defs (F := Ideal)) (onTc (τ := Cert.GroupedIdeal.τ) (Cert.GroupedIdeal.main (F := Ideal))) ⟨m, fun _ => 0, g⟩ (fun r => ∀ c : Dev Cert.GroupedIdeal.nD,
          r.2.mem ((c.tc : Thread Cert.GroupedIdeal.nD Cert.GroupedIdeal.τ).loc Cert.GroupedIdeal.main_v8) = v0 c
          ∧ r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
          ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
          ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2))
      ∧ θ_run (Cert.GroupedReferenceIdeal.defs (F := Ideal)) (onTc (τ := Cert.GroupedReferenceIdeal.τ) (Cert.GroupedReferenceIdeal.main (F := Ideal))) ⟨m', fun _ => 0, g'⟩ (fun r => ∀ c : Dev Cert.GroupedReferenceIdeal.nD,
          r.2.mem ((c.tc : Thread Cert.GroupedReferenceIdeal.nD Cert.GroupedReferenceIdeal.τ).loc Cert.GroupedReferenceIdeal.main_v21) = v0 c
          ∧ r.2.mem ((c.tc : Thread Cert.GroupedReferenceIdeal.nD Cert.GroupedReferenceIdeal.τ).loc Cert.GroupedReferenceIdeal.main_arg0) = m' ((c.tc : Thread Cert.GroupedReferenceIdeal.nD Cert.GroupedReferenceIdeal.τ).loc Cert.GroupedReferenceIdeal.main_arg0)
          ∧ r.2.mem ((c.tc : Thread Cert.GroupedReferenceIdeal.nD Cert.GroupedReferenceIdeal.τ).loc Cert.GroupedReferenceIdeal.main_arg1) = m' ((c.tc : Thread Cert.GroupedReferenceIdeal.nD Cert.GroupedReferenceIdeal.τ).loc Cert.GroupedReferenceIdeal.main_arg1)
          ∧ r.2.mem ((c.tc : Thread Cert.GroupedReferenceIdeal.nD Cert.GroupedReferenceIdeal.τ).loc Cert.GroupedReferenceIdeal.main_arg2) = m' ((c.tc : Thread Cert.GroupedReferenceIdeal.nD Cert.GroupedReferenceIdeal.τ).loc Cert.GroupedReferenceIdeal.main_arg2))

def preserves_Latent_LatentIdeal : Prop :=
  IdealRules.named_const.Statement Cert.LatentIdeal.κ "qscale" .f32 0x3E16C740#32 (((3424635 / 33554432) * (Real.log 2)⁻¹ : ℝ) : EReal)

def algebraic_LatentIdeal_LatentReferenceIdeal_pre_finite5 [hLatentIdeal : Cert.LatentIdeal.Facts] [hLatentReferenceIdeal : Cert.LatentReferenceIdeal.Facts] [hPre_finite5 : Cert.Pre_finite5.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal_finite5 m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)) →
    ∃ (v0 : (c : Dev Cert.LatentIdeal.nD) → Buf (Elt Ideal) ((c.tc : Thread Cert.LatentIdeal.nD Cert.LatentIdeal.τ).loc Cert.LatentIdeal.main_v12)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v12) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v17) = v0 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2))

def preserves_Inproj_InprojIdeal : Prop :=
  IdealRules.named_const.Statement Cert.InprojIdeal.κ "width" .f32 0x3BAAAAAB#32 ((1 / 192 : ℝ) : EReal)

def algebraic_InprojIdeal_InprojReferenceIdeal_pre_finite6 [hInprojIdeal : Cert.InprojIdeal.Facts] [hInprojReferenceIdeal : Cert.InprojReferenceIdeal.Facts] [hPre_finite6 : Cert.Pre_finite6.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal_finite6 m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)
      ∧ m' ((c.tc : Thread Cert.InprojReferenceIdeal.nD Cert.InprojReferenceIdeal.τ).loc Cert.InprojReferenceIdeal.main_arg7) = m ((c.tc : Thread Cert.InprojIdeal.nD Cert.InprojIdeal.τ).loc Cert.InprojIdeal.main_arg7)
      ∧ m' ((c.tc : Thread Cert.InprojReferenceIdeal.nD Cert.InprojReferenceIdeal.τ).loc Cert.InprojReferenceIdeal.main_arg8) = m ((c.tc : Thread Cert.InprojIdeal.nD Cert.InprojIdeal.τ).loc Cert.InprojIdeal.main_arg8)
      ∧ m' ((c.tc : Thread Cert.InprojReferenceIdeal.nD Cert.InprojReferenceIdeal.τ).loc Cert.InprojReferenceIdeal.main_arg9) = m ((c.tc : Thread Cert.InprojIdeal.nD Cert.InprojIdeal.τ).loc Cert.InprojIdeal.main_arg9)
      ∧ m' ((c.tc : Thread Cert.InprojReferenceIdeal.nD Cert.InprojReferenceIdeal.τ).loc Cert.InprojReferenceIdeal.main_arg10) = m ((c.tc : Thread Cert.InprojIdeal.nD Cert.InprojIdeal.τ).loc Cert.InprojIdeal.main_arg10)
      ∧ m' ((c.tc : Thread Cert.InprojReferenceIdeal.nD Cert.InprojReferenceIdeal.τ).loc Cert.InprojReferenceIdeal.main_arg11) = m ((c.tc : Thread Cert.InprojIdeal.nD Cert.InprojIdeal.τ).loc Cert.InprojIdeal.main_arg11)) →
    ∃ (v0 : (c : Dev Cert.InprojIdeal.nD) → Buf (Elt Ideal) ((c.tc : Thread Cert.InprojIdeal.nD Cert.InprojIdeal.τ).loc Cert.InprojIdeal.main_v95_0)) (v1 : (c : Dev Cert.InprojIdeal.nD) → Buf (Elt Ideal) ((c.tc : Thread Cert.InprojIdeal.nD Cert.InprojIdeal.τ).loc Cert.InprojIdeal.main_v95_1)) (v2 : (c : Dev Cert.InprojIdeal.nD) → Buf (Elt Ideal) ((c.tc : Thread Cert.InprojIdeal.nD Cert.InprojIdeal.τ).loc Cert.InprojIdeal.main_v95_2)) (v3 : (c : Dev Cert.InprojIdeal.nD) → Buf (Elt Ideal) ((c.tc : Thread Cert.InprojIdeal.nD Cert.InprojIdeal.τ).loc Cert.InprojIdeal.main_v95_3)) (v4 : (c : Dev Cert.InprojIdeal.nD) → Buf (Elt Ideal) ((c.tc : Thread Cert.InprojIdeal.nD Cert.InprojIdeal.τ).loc Cert.InprojIdeal.main_v95_4)) (v5 : (c : Dev Cert.InprojIdeal.nD) → Buf (Elt Ideal) ((c.tc : Thread Cert.InprojIdeal.nD Cert.InprojIdeal.τ).loc Cert.InprojIdeal.main_v95_5)) (v6 : (c : Dev Cert.InprojIdeal.nD) → Buf (Elt Ideal) ((c.tc : Thread Cert.InprojIdeal.nD Cert.InprojIdeal.τ).loc Cert.InprojIdeal.main_v95_6)) (v7 : (c : Dev Cert.InprojIdeal.nD) → Buf (Elt Ideal) ((c.tc : Thread Cert.InprojIdeal.nD Cert.InprojIdeal.τ).loc Cert.InprojIdeal.main_v95_7)) (v8 : (c : Dev Cert.InprojIdeal.nD) → Buf (Elt Ideal) ((c.tc : Thread Cert.InprojIdeal.nD Cert.InprojIdeal.τ).loc Cert.InprojIdeal.main_v95_8)) (v9 : (c : Dev Cert.InprojIdeal.nD) → Buf (Elt Ideal) ((c.tc : Thread Cert.InprojIdeal.nD Cert.InprojIdeal.τ).loc Cert.InprojIdeal.main_v95_9)) (v10 : (c : Dev Cert.InprojIdeal.nD) → Buf (Elt Ideal) ((c.tc : Thread Cert.InprojIdeal.nD Cert.InprojIdeal.τ).loc Cert.InprojIdeal.main_v95_10)) (v11 : (c : Dev Cert.InprojIdeal.nD) → Buf (Elt Ideal) ((c.tc : Thread Cert.InprojIdeal.nD Cert.InprojIdeal.τ).loc Cert.InprojIdeal.main_v95_11)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v95_0) = v0 c
          ∧ r.2.mem ((c.tc : Thread Cert.InprojIdeal.nD Cert.InprojIdeal.τ).loc Cert.InprojIdeal.main_v95_1) = v1 c
          ∧ r.2.mem ((c.tc : Thread Cert.InprojIdeal.nD Cert.InprojIdeal.τ).loc Cert.InprojIdeal.main_v95_2) = v2 c
          ∧ r.2.mem ((c.tc : Thread Cert.InprojIdeal.nD Cert.InprojIdeal.τ).loc Cert.InprojIdeal.main_v95_3) = v3 c
          ∧ r.2.mem ((c.tc : Thread Cert.InprojIdeal.nD Cert.InprojIdeal.τ).loc Cert.InprojIdeal.main_v95_4) = v4 c
          ∧ r.2.mem ((c.tc : Thread Cert.InprojIdeal.nD Cert.InprojIdeal.τ).loc Cert.InprojIdeal.main_v95_5) = v5 c
          ∧ r.2.mem ((c.tc : Thread Cert.InprojIdeal.nD Cert.InprojIdeal.τ).loc Cert.InprojIdeal.main_v95_6) = v6 c
          ∧ r.2.mem ((c.tc : Thread Cert.InprojIdeal.nD Cert.InprojIdeal.τ).loc Cert.InprojIdeal.main_v95_7) = v7 c
          ∧ r.2.mem ((c.tc : Thread Cert.InprojIdeal.nD Cert.InprojIdeal.τ).loc Cert.InprojIdeal.main_v95_8) = v8 c
          ∧ r.2.mem ((c.tc : Thread Cert.InprojIdeal.nD Cert.InprojIdeal.τ).loc Cert.InprojIdeal.main_v95_9) = v9 c
          ∧ r.2.mem ((c.tc : Thread Cert.InprojIdeal.nD Cert.InprojIdeal.τ).loc Cert.InprojIdeal.main_v95_10) = v10 c
          ∧ r.2.mem ((c.tc : Thread Cert.InprojIdeal.nD Cert.InprojIdeal.τ).loc Cert.InprojIdeal.main_v95_11) = v11 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v244) = v0 c
          ∧ r.2.mem ((c.tc : Thread Cert.InprojReferenceIdeal.nD Cert.InprojReferenceIdeal.τ).loc Cert.InprojReferenceIdeal.main_v247) = v1 c
          ∧ r.2.mem ((c.tc : Thread Cert.InprojReferenceIdeal.nD Cert.InprojReferenceIdeal.τ).loc Cert.InprojReferenceIdeal.main_v248) = v2 c
          ∧ r.2.mem ((c.tc : Thread Cert.InprojReferenceIdeal.nD Cert.InprojReferenceIdeal.τ).loc Cert.InprojReferenceIdeal.main_v249) = v3 c
          ∧ r.2.mem ((c.tc : Thread Cert.InprojReferenceIdeal.nD Cert.InprojReferenceIdeal.τ).loc Cert.InprojReferenceIdeal.main_v251) = v4 c
          ∧ r.2.mem ((c.tc : Thread Cert.InprojReferenceIdeal.nD Cert.InprojReferenceIdeal.τ).loc Cert.InprojReferenceIdeal.main_v255) = v5 c
          ∧ r.2.mem ((c.tc : Thread Cert.InprojReferenceIdeal.nD Cert.InprojReferenceIdeal.τ).loc Cert.InprojReferenceIdeal.main_v259) = v6 c
          ∧ r.2.mem ((c.tc : Thread Cert.InprojReferenceIdeal.nD Cert.InprojReferenceIdeal.τ).loc Cert.InprojReferenceIdeal.main_v264) = v7 c
          ∧ r.2.mem ((c.tc : Thread Cert.InprojReferenceIdeal.nD Cert.InprojReferenceIdeal.τ).loc Cert.InprojReferenceIdeal.main_v268) = v8 c
          ∧ r.2.mem ((c.tc : Thread Cert.InprojReferenceIdeal.nD Cert.InprojReferenceIdeal.τ).loc Cert.InprojReferenceIdeal.main_v270) = v9 c
          ∧ r.2.mem ((c.tc : Thread Cert.InprojReferenceIdeal.nD Cert.InprojReferenceIdeal.τ).loc Cert.InprojReferenceIdeal.main_v273) = v10 c
          ∧ r.2.mem ((c.tc : Thread Cert.InprojReferenceIdeal.nD Cert.InprojReferenceIdeal.τ).loc Cert.InprojReferenceIdeal.main_v277) = v11 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7)
          ∧ r.2.mem ((c.tc : Thread Cert.InprojReferenceIdeal.nD Cert.InprojReferenceIdeal.τ).loc Cert.InprojReferenceIdeal.main_arg8) = m' ((c.tc : Thread Cert.InprojReferenceIdeal.nD Cert.InprojReferenceIdeal.τ).loc Cert.InprojReferenceIdeal.main_arg8)
          ∧ r.2.mem ((c.tc : Thread Cert.InprojReferenceIdeal.nD Cert.InprojReferenceIdeal.τ).loc Cert.InprojReferenceIdeal.main_arg9) = m' ((c.tc : Thread Cert.InprojReferenceIdeal.nD Cert.InprojReferenceIdeal.τ).loc Cert.InprojReferenceIdeal.main_arg9)
          ∧ r.2.mem ((c.tc : Thread Cert.InprojReferenceIdeal.nD Cert.InprojReferenceIdeal.τ).loc Cert.InprojReferenceIdeal.main_arg10) = m' ((c.tc : Thread Cert.InprojReferenceIdeal.nD Cert.InprojReferenceIdeal.τ).loc Cert.InprojReferenceIdeal.main_arg10)
          ∧ r.2.mem ((c.tc : Thread Cert.InprojReferenceIdeal.nD Cert.InprojReferenceIdeal.τ).loc Cert.InprojReferenceIdeal.main_arg11) = m' ((c.tc : Thread Cert.InprojReferenceIdeal.nD Cert.InprojReferenceIdeal.τ).loc Cert.InprojReferenceIdeal.main_arg11))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hGrouped : Cert.Grouped.Facts) (hGroupedIdeal : Cert.GroupedIdeal.Facts) (hGroupedReferenceIdeal : Cert.GroupedReferenceIdeal.Facts) (hLatent : Cert.Latent.Facts) (hLatentIdeal : Cert.LatentIdeal.Facts) (hLatentReferenceIdeal : Cert.LatentReferenceIdeal.Facts) (hInproj : Cert.Inproj.Facts) (hInprojIdeal : Cert.InprojIdeal.Facts) (hInprojReferenceIdeal : Cert.InprojReferenceIdeal.Facts) (hPre_finite : Cert.Pre_finite.Facts) (hPre_finite4 : Cert.Pre_finite4.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Grouped (hGrouped := hGrouped)
    ∧ quiescent_GroupedIdeal (hGroupedIdeal := hGroupedIdeal)
    ∧ quiescent_GroupedIdeal_pre_finite4 (hGroupedIdeal := hGroupedIdeal) (hPre_finite4 := hPre_finite4)
    ∧ quiescent_GroupedReferenceIdeal (hGroupedReferenceIdeal := hGroupedReferenceIdeal)
    ∧ quiescent_GroupedReferenceIdeal_pre_finite4 (hGroupedReferenceIdeal := hGroupedReferenceIdeal) (hPre_finite4 := hPre_finite4)
    ∧ quiescent_Latent (hLatent := hLatent)
    ∧ quiescent_LatentIdeal (hLatentIdeal := hLatentIdeal)
    ∧ quiescent_LatentIdeal_pre_finite5 (hLatentIdeal := hLatentIdeal) (hPre_finite5 := hPre_finite5)
    ∧ quiescent_LatentReferenceIdeal (hLatentReferenceIdeal := hLatentReferenceIdeal)
    ∧ quiescent_LatentReferenceIdeal_pre_finite5 (hLatentReferenceIdeal := hLatentReferenceIdeal) (hPre_finite5 := hPre_finite5)
    ∧ quiescent_Inproj (hInproj := hInproj)
    ∧ quiescent_InprojIdeal (hInprojIdeal := hInprojIdeal)
    ∧ quiescent_InprojIdeal_pre_finite6 (hInprojIdeal := hInprojIdeal) (hPre_finite6 := hPre_finite6)
    ∧ quiescent_InprojReferenceIdeal (hInprojReferenceIdeal := hInprojReferenceIdeal)
    ∧ quiescent_InprojReferenceIdeal_pre_finite6 (hInprojReferenceIdeal := hInprojReferenceIdeal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Grouped_GroupedIdeal
    ∧ algebraic_GroupedIdeal_GroupedReferenceIdeal_pre_finite4 (hGroupedIdeal := hGroupedIdeal) (hGroupedReferenceIdeal := hGroupedReferenceIdeal) (hPre_finite4 := hPre_finite4)
    ∧ preserves_Latent_LatentIdeal
    ∧ algebraic_LatentIdeal_LatentReferenceIdeal_pre_finite5 (hLatentIdeal := hLatentIdeal) (hLatentReferenceIdeal := hLatentReferenceIdeal) (hPre_finite5 := hPre_finite5)
    ∧ preserves_Inproj_InprojIdeal
    ∧ algebraic_InprojIdeal_InprojReferenceIdeal_pre_finite6 (hInprojIdeal := hInprojIdeal) (hInprojReferenceIdeal := hInprojReferenceIdeal) (hPre_finite6 := hPre_finite6)
-- ==== Pre_finite.lean ====
abbrev S32x2048x256 : Shape := ⟨3, ![32, 2048, 256]⟩
abbrev S32 : Shape := ⟨1, ![32]⟩
abbrev S64 : Shape := ⟨1, ![64]⟩
abbrev S_ : Shape := ⟨0, ![]⟩

class Facts : Prop where
  bcast_S_S32x2048x256 : S_.BroadcastsInDim S32x2048x256 (![] : Fin 0 → Fin S32x2048x256.rank)
  reducesTo_S32x2048x256_S_d0_1_2 : S32x2048x256.ReducesTo [0, 1, 2] S_
  h_S_ : 0 < S_.numel

variable [Facts]

def fn {F : FTy → Type} [FloatOps F] (main_arg0 : FVec F S32x2048x256 .f32) (main_arg1 : FVec F S32x2048x256 .f32) (main_arg2 : FVec F S32x2048x256 .f32) (main_arg3 : FVec F S32 .f32) (main_arg4 : FVec F S32 .f32) (main_arg5 : FVec F S32 .f32) (main_arg6 : FVec F S32 .f32) (main_arg7 : FVec F S64 .f32) : IVec S_ 1 :=
  let main_v0 : FVec F S32x2048x256 .f32 := Host.absf main_arg0
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  let main_c : IVec S_ 1 := constantI S_ 1 1#1
  let main_v3 : IVec S_ 1 := (fun x v => Host.reduce IntOp.andi x v reducesTo_S32x2048x256_S_d0_1_2 h_S_) main_v2 main_c
  let main_v4 : FVec F S32x2048x256 .f32 := Host.absf main_arg1
  let main_cst_0 : FVec F S_ .f32 := constant S_ .f32 0x7F800000#32
  let main_v5 : FVec F S32x2048x256 .f32 := broadcastInDim S32x2048x256 ![] bcast_S_S32x2048x256 main_cst_0
  let main_v6 : IVec S32x2048x256 1 := cmpf .olt main_v4 main_v5
  let main_c_1 : IVec S_ 1 := constantI S_ 1 1#1
  let main_v7 : IVec S_ 1 := (fun x v => Host.reduce IntOp.andi x v reducesTo_S32x2048x256_S_d0_1_2 h_S_) main_v6 main_c_1
  let main_v8 : IVec S_ 1 := andi main_v3 main_v7
  main_v8
-- ==== Pre_finite4.lean ====
abbrev S32x2048x256 : Shape := ⟨3, ![32, 2048, 256]⟩
abbrev S32x2048x128 : Shape := ⟨3, ![32, 2048, 128]⟩
abbrev S_ : Shape := ⟨0, ![]⟩

class Facts : Prop where
  bcast_S_S32x2048x256 : S_.BroadcastsInDim S32x2048x256 (![] : Fin 0 → Fin S32x2048x256.rank)
  reducesTo_S32x2048x256_S_d0_1_2 : S32x2048x256.ReducesTo [0, 1, 2] S_
  h_S_ : 0 < S_.numel
  bcast_S_S32x2048x128 : S_.BroadcastsInDim S32x2048x128 (![] : Fin 0 → Fin S32x2048x128.rank)
  reducesTo_S32x2048x128_S_d0_1_2 : S32x2048x128.ReducesTo [0, 1, 2] S_

variable [Facts]

def fn {F : FTy → Type} [FloatOps F] (main_arg0 : FVec F S32x2048x256 .f32) (main_arg1 : FVec F S32x2048x128 .f32) (main_arg2 : FVec F S32x2048x128 .f32) : IVec S_ 1 :=
  let main_v0 : FVec F S32x2048x256 .f32 := Host.absf main_arg0
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  let main_c : IVec S_ 1 := constantI S_ 1 1#1
  let main_v3 : IVec S_ 1 := (fun x v => Host.reduce IntOp.andi x v reducesTo_S32x2048x256_S_d0_1_2 h_S_) main_v2 main_c
  let main_v4 : FVec F S32x2048x128 .f32 := Host.absf main_arg1
  let main_cst_0 : FVec F S_ .f32 := constant S_ .f32 0x7F800000#32
  let main_v5 : FVec F S32x2048x128 .f32 := broadcastInDim S32x2048x128 ![] bcast_S_S32x2048x128 main_cst_0
  let main_v6 : IVec S32x2048x128 1 := cmpf .olt main_v4 main_v5
  let main_c_1 : IVec S_ 1 := constantI S_ 1 1#1
  let main_v7 : IVec S_ 1 := (fun x v => Host.reduce IntOp.andi x v reducesTo_S32x2048x128_S_d0_1_2 h_S_) main_v6 main_c_1
  let main_v8 : IVec S_ 1 := andi main_v3 main_v7
  main_v8
-- ==== Pre_finite5.lean ====
abbrev S32x2048x4x96 : Shape := ⟨4, ![32, 2048, 4, 96]⟩
abbrev S32x2048x4x64 : Shape := ⟨4, ![32, 2048, 4, 64]⟩
abbrev S_ : Shape := ⟨0, ![]⟩

class Facts : Prop where
  bcast_S_S32x2048x4x96 : S_.BroadcastsInDim S32x2048x4x96 (![] : Fin 0 → Fin S32x2048x4x96.rank)
  reducesTo_S32x2048x4x96_S_d0_1_2_3 : S32x2048x4x96.ReducesTo [0, 1, 2, 3] S_
  h_S_ : 0 < S_.numel

variable [Facts]

def fn {F : FTy → Type} [FloatOps F] (main_arg0 : FVec F S32x2048x4x96 .f32) (main_arg1 : FVec F S32x2048x4x96 .f32) (main_arg2 : FVec F S32x2048x4x64 .f32) : IVec S_ 1 :=
  let main_v0 : FVec F S32x2048x4x96 .f32 := Host.absf main_arg0
  let main_cst : FVec F S_ .f32 := constant S_ .f32 0x7F800000#32
  let main_v1 : FVec F S32x2048x4x96 .f32 := broadcastInDim S32x2048x4x96 ![] bcast_S_S32x2048x4x96 main_cst
  let main_v2 : IVec S32x2048x4x96 1 := cmpf .olt main_v0 main_v1
  let main_c : IVec S_ 1 := constantI S_ 1 1#1
  let main_v3 : IVec S_ 1 := (fun x v => Host.reduce IntOp.andi x v reducesTo_S32x2048x4x96_S_d0_1_2_3 h_S_) main_v2 main_c
  let main_v4 : FVec F S32x2048x4x96 .f32 := Host.absf main_arg1
  let main_cst_0 : FVec F S_ .f32 := constant S_ .f32 0x7F800000#32
  let main_v5 : FVec F S32x2048x4x96 .f32 := broadcastInDim S32x2048x4x96 ![] bcast_S_S32x2048x4x96 main_cst_0
  let main_v6 : IVec S32x2048x4x96 1 := cmpf .olt main_v4 main_v5
  let main_c_1 : IVec S_ 1 := constantI S_ 1 1#1
  let main_v7 : IVec S_ 1 := (fun x v => Host.reduce IntOp.andi x v reducesTo_S32x2048x4x96_S_d0_1_2_3 h_S_) main_v6 main_c_1
  let main_v8 : IVec S_ 1 := andi main_v3 main_v7
  main_v8
-- ==== Pre_finite6.lean ====
abbrev S32x2048x1024 : Shape := ⟨3, ![32, 2048, 1024]⟩
abbrev S1024 : Shape := ⟨1, ![1024]⟩
abbrev S1024x6496 : Shape := ⟨2, ![1024, 6496]⟩
abbrev S2048x16 : Shape := ⟨2, ![2048, 16]⟩
abbrev S192 : Shape := ⟨1, ![192]⟩
abbrev S128 : Shape := ⟨1, ![128]⟩
abbrev S192x384 : Shape := ⟨2, ![192, 384]⟩
abbrev S128x512 : Shape := ⟨2, ![128, 512]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x6496 : S_.BroadcastsInDim S1024x6496 (![] : Fin 0 → Fin S1024x6496.rank)
  reducesTo_S1024x6496_S_d0_1 : S1024x6496.ReducesTo [0, 1] S_

variable [Facts]

def fn {F : FTy → Type} [FloatOps F] (main_arg0 : FVec F S32x2048x1024 .f32) (main_arg1 : FVec F S1024 .f32) (main_arg2 : FVec F S1024x6496 .f32) (main_arg3 : FVec F S2048x16 .f32) (main_arg4 : FVec F S2048x16 .f32) (main_arg5 : FVec F S2048x16 .f32) (main_arg6 : FVec F S192 .f32) (main_arg7 : FVec F S128 .f32) (main_arg8 : FVec F S192x384 .f32) (main_arg9 : FVec F S128x512 .f32) (main_arg10 : FVec F S64 .f32) (main_arg11 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x6496 .f32 := Host.absf main_arg2
  let main_cst_0 : FVec F S_ .f32 := constant S_ .f32 0x7F800000#32
  let main_v5 : FVec F S1024x6496 .f32 := broadcastInDim S1024x6496 ![] bcast_S_S1024x6496 main_cst_0
  let main_v6 : IVec S1024x6496 1 := cmpf .olt main_v4 main_v5
  let main_c_1 : IVec S_ 1 := constantI S_ 1 1#1
  let main_v7 : IVec S_ 1 := (fun x v => Host.reduce IntOp.andi x v reducesTo_S1024x6496_S_d0_1 h_S_) main_v6 main_c_1
  let main_v8 : IVec S_ 1 := andi main_v3 main_v7
  main_v8
-- ==== Kernel.lean ====
abbrev S32x2048x256 : Shape := ⟨3, ![32, 2048, 256]⟩
abbrev S32 : Shape := ⟨1, ![32]⟩
abbrev S64 : Shape := ⟨1, ![64]⟩
abbrev S32x256x2048 : Shape := ⟨3, ![32, 256, 2048]⟩
abbrev S_ : Shape := ⟨0, ![]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1 : Shape := ⟨1, ![1]⟩
abbrev S1x2048x256 : Shape := ⟨3, ![1, 2048, 256]⟩
abbrev S1x256x2048 : Shape := ⟨3, ![1, 256, 2048]⟩
abbrev S1x512x32 : Shape := ⟨3, ![1, 512, 32]⟩
abbrev S512x32 : Shape := ⟨2, ![512, 32]⟩
abbrev S1x32x2048 : Shape := ⟨3, ![1, 32, 2048]⟩
abbrev S32x2048 : Shape := ⟨2, ![32, 2048]⟩
abbrev S512x2048 : Shape := ⟨2, ![512, 2048]⟩
abbrev S512 : Shape := ⟨1, ![512]⟩
abbrev S512x1 : Shape := ⟨2, ![512, 1]⟩
abbrev S1x2048x128 : Shape := ⟨3, ![1, 2048, 128]⟩
abbrev S2048x128 : Shape := ⟨2, ![2048, 128]⟩
abbrev S512x128 : Shape := ⟨2, ![512, 128]⟩
abbrev S1x512x128 : Shape := ⟨3, ![1, 512, 128]⟩

abbrev nBuf : Space → Nat
  | .hbm => 29
  | .vmem => 9
  | .smem => 1
  | _ => 0

abbrev bufTy : (tb : Table) → Fin (tcTables nBuf tb) → BufTy
  | .hbm, ⟨0, _⟩ => ⟨S32x2048x256, .f32⟩
  | .hbm, ⟨1, _⟩ => ⟨S32x2048x256, .f32⟩
  | .hbm, ⟨2, _⟩ => ⟨S32x2048x256, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64, .f32⟩
  | .hbm, ⟨8, _⟩ => ⟨S32x2048x256, .bf16⟩
  | .hbm, ⟨9, _⟩ => ⟨S32x256x2048, .f32⟩
  | .hbm, ⟨10, _⟩ => ⟨S32x256x2048, .bf16⟩
  | .hbm, ⟨11, _⟩ => ⟨S32, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S32x2048x256, .bf16⟩
  | .hbm, ⟨23, _⟩ => ⟨S1x64, .f32⟩
  | .hbm, ⟨24, _⟩ => ⟨S2x64, .f32⟩
  | .hbm, ⟨25, _⟩ => ⟨S128, .f32⟩
  | .hbm, ⟨26, _⟩ => ⟨S1x128, .f32⟩
  | .hbm, ⟨27, _⟩ => ⟨S1, .f32⟩
  | .hbm, ⟨28, _⟩ => ⟨S32x2048x256, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x128, .f32⟩
  | .local _ .vmem, ⟨7, _⟩ => ⟨S1x2048x256, .bf16⟩
  | .local _ .vmem, ⟨8, _⟩ => ⟨S1x2048x256, .bf16⟩
  | .local _ .smem, ⟨0, _⟩ => ⟨S1, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c1_i32_1 : BitVec 32 := 1#32
  let v2 : BitVec 32 := Scalar.muli arg7 c1_i32_1
  let c0_i32_2 : BitVec 32 := 0#32
  let v3 : BitVec 32 := Scalar.addi v2 c0_i32_2
  let c512_i32 : BitVec 32 := 512#32
  let v4 : BitVec 32 := Scalar.muli v3 c512_i32
  v4
def k0_off1 (k0_t1 : Fin k0_t1_loop.trips) : Fin 3 → Nat :=
  let c0_3 : Index := 0#32
  let c0_i32 : BitVec 32 := 0#32
  let c1_i32 : BitVec 32 := 1#32
  let arg7 : BitVec 32 := Scf.iv c0_i32 c1_i32 k0_t1
  let c1_i32_1 : BitVec 32 := 1#32
  let v2 : BitVec 32 := Scalar.muli arg7 c1_i32_1
  let c0_i32_2 : BitVec 32 := 0#32
  let v3 : BitVec 32 := Scalar.addi v2 c0_i32_2
  let c512_i32 : BitVec 32 := 512#32
  let v4 : BitVec 32 := Scalar.muli v3 c512_i32
  let v5 : BitVec 32 := v4
  let v6 : Index := Scalar.indexCast v5
  let c0_4 : Index := 0#32
  ![0, v6.toNat, 0]
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c1_i32_9 : BitVec 32 := 1#32
  let v16 : BitVec 32 := Scalar.muli arg7 c1_i32_9
  let c0_i32_10 : BitVec 32 := 0#32
  let v17 : BitVec 32 := Scalar.addi v16 c0_i32_10
  let c512_i32_11 : BitVec 32 := 512#32
  let v18 : BitVec 32 := Scalar.muli v17 c512_i32_11
  v18
def k0_off2 (k0_t1 : Fin k0_t1_loop.trips) : Fin 3 → Nat :=
  let c0_12 : Index := 0#32
  let c0_i32 : BitVec 32 := 0#32
  let c1_i32 : BitVec 32 := 1#32
  let arg7 : BitVec 32 := Scf.iv c0_i32 c1_i32 k0_t1
  let c1_i32_9 : BitVec 32 := 1#32
  let v16 : BitVec 32 := Scalar.muli arg7 c1_i32_9
  let c0_i32_10 : BitVec 32 := 0#32
  let v17 : BitVec 32 := Scalar.addi v16 c0_i32_10
  let c512_i32_11 : BitVec 32 := 512#32
  let v18 : BitVec 32 := Scalar.muli v17 c512_i32_11
  let v19 : BitVec 32 := v18
  let v20 : Index := Scalar.indexCast v19
  let c32 : Index := 32#32
  ![0, v20.toNat, 32]
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c1_i32_18 : BitVec 32 := 1#32
  let v30 : BitVec 32 := Scalar.muli arg7 c1_i32_18
  let c0_i32_19 : BitVec 32 := 0#32
  let v31 : BitVec 32 := Scalar.addi v30 c0_i32_19
  let c512_i32_20 : BitVec 32 := 512#32
  let v32 : BitVec 32 := Scalar.muli v31 c512_i32_20
  v32
def k0_off3 (k0_t1 : Fin k0_t1_loop.trips) : Fin 3 → Nat :=
  let c0_21 : Index := 0#32
  let c0_i32 : BitVec 32 := 0#32
  let c1_i32 : BitVec 32 := 1#32
  let arg7 : BitVec 32 := Scf.iv c0_i32 c1_i32 k0_t1
  let c1_i32_18 : BitVec 32 := 1#32
  let v30 : BitVec 32 := Scalar.muli arg7 c1_i32_18
  let c0_i32_19 : BitVec 32 := 0#32
  let v31 : BitVec 32 := Scalar.addi v30 c0_i32_19
  let c512_i32_20 : BitVec 32 := 512#32
  let v32 : BitVec 32 := Scalar.muli v31 c512_i32_20
  let v33 : BitVec 32 := v32
  let v34 : Index := Scalar.indexCast v33
  let c64 : Index := 64#32
  ![0, v34.toNat, 64]
def k0_mult4 (k0_t1 : Fin k0_t1_loop.trips) : BitVec 32 :=
  let c0_i32 : BitVec 32 := 0#32
  let c1_i32 : BitVec 32 := 1#32
  let arg7 : BitVec 32 := Scf.iv c0_i32 c1_i32 k0_t1
  let c1_i32_27 : BitVec 32 := 1#32
  let v44 : BitVec 32 := Scalar.muli arg7 c1_i32_27
  let c0_i32_28 : BitVec 32 := 0#32
  let v45 : BitVec 32 := Scalar.addi v44 c0_i32_28
  let c512_i32_29 : BitVec 32 := 512#32
  let v46 : BitVec 32 := Scalar.muli v45 c512_i32_29
  v46
def k0_off4 (k0_t1 : Fin k0_t1_loop.trips) : Fin 3 → Nat :=
  let c0_30 : Index := 0#32
  let c0_i32 : BitVec 32 := 0#32
  let c1_i32 : BitVec 32 := 1#32
  let arg7 : BitVec 32 := Scf.iv c0_i32 c1_i32 k0_t1
  let c1_i32_27 : BitVec 32 := 1#32
  let v44 : BitVec 32 := Scalar.muli arg7 c1_i32_27
  let c0_i32_28 : BitVec 32 := 0#32
  let v45 : BitVec 32 := Scalar.addi v44 c0_i32_28
  let c512_i32_29 : BitVec 32 := 512#32
  let v46 : BitVec 32 := Scalar.muli v45 c512_i32_29
  let v47 : BitVec 32 := v46
  let v48 : Index := Scalar.indexCast v47
  let c96 : Index := 96#32
  ![0, v48.toNat, 96]
def k0_mult5 (k0_t1 : Fin k0_t1_loop.trips) : BitVec 32 :=
  let c0_i32 : BitVec 32 := 0#32
  let c1_i32 : BitVec 32 := 1#32
  let arg7 : BitVec 32 := Scf.iv c0_i32 c1_i32 k0_t1
  let c1_i32_40 : BitVec 32 := 1#32
  let v79 : BitVec 32 := Scalar.muli arg7 c1_i32_40
  let c0_i32_41 : BitVec 32 := 0#32
  let v80 : BitVec 32 := Scalar.addi v79 c0_i32_41
  let c512_i32_42 : BitVec 32 := 512#32
  let v81 : BitVec 32 := Scalar.muli v80 c512_i32_42
  v81
def k0_off5 (k0_t1 : Fin k0_t1_loop.trips) : Fin 3 → Nat :=
  let c0_43 : Index := 0#32
  let c0_i32 : BitVec 32 := 0#32
  let c1_i32 : BitVec 32 := 1#32
  let arg7 : BitVec 32 := Scf.iv c0_i32 c1_i32 k0_t1
  let c1_i32_40 : BitVec 32 := 1#32
  let v79 : BitVec 32 := Scalar.muli arg7 c1_i32_40
  let c0_i32_41 : BitVec 32 := 0#32
  let v80 : BitVec 32 := Scalar.addi v79 c0_i32_41
  let c512_i32_42 : BitVec 32 := 512#32
  let v81 : BitVec 32 := Scalar.muli v80 c512_i32_42
  let v82 : BitVec 32 := v81
  let v83 : Index := Scalar.indexCast v82
  let c128 : Index := 128#32
  ![0, v83.toNat, 128]
def k0_mult6 (k0_t1 : Fin k0_t1_loop.trips) : BitVec 32 :=
  let c0_i32 : BitVec 32 := 0#32
  let c1_i32 : BitVec 32 := 1#32
  let arg7 : BitVec 32 := Scf.iv c0_i32 c1_i32 k0_t1
  let c1_i32_49 : BitVec 32 := 1#32
  let v93 : BitVec 32 := Scalar.muli arg7 c1_i32_49
  let c0_i32_50 : BitVec 32 := 0#32
  let v94 : BitVec 32 := Scalar.addi v93 c0_i32_50
  let c512_i32_51 : BitVec 32 := 512#32
  let v95 : BitVec 32 := Scalar.muli v94 c512_i32_51
  v95
def k0_off6 (k0_t1 : Fin k0_t1_loop.trips) : Fin 3 → Nat :=
  let c0_52 : Index := 0#32
  let c0_i32 : BitVec 32 := 0#32
  let c1_i32 : BitVec 32 := 1#32
  let arg7 : BitVec 32 := Scf.iv c0_i32 c1_i32 k0_t1
  let c1_i32_49 : BitVec 32 := 1#32
  let v93 : BitVec 32 := Scalar.muli arg7 c1_i32_49
  let c0_i32_50 : BitVec 32 := 0#32
  let v94 : BitVec 32 := Scalar.addi v93 c0_i32_50
  let c512_i32_51 : BitVec 32 := 512#32
  let v95 : BitVec 32 := Scalar.muli v94 c512_i32_51
  let v96 : BitVec 32 := v95
  let v97 : Index := Scalar.indexCast v96
  let c160 : Index := 160#32
  ![0, v97.toNat, 160]
def k0_mult7 (k0_t1 : Fin k0_t1_loop.trips) : BitVec 32 :=
  let c0_i32 : BitVec 32 := 0#32
  let c1_i32 : BitVec 32 := 1#32
  let arg7 : BitVec 32 := Scf.iv c0_i32 c1_i32 k0_t1
  let c1_i32_71 : BitVec 32 := 1#32
  let v150 : BitVec 32 := Scalar.muli arg7 c1_i32_71
  let c0_i32_72 : BitVec 32 := 0#32
  let v151 : BitVec 32 := Scalar.addi v150 c0_i32_72
  let c512_i32_73 : BitVec 32 := 512#32
  let v152 : BitVec 32 := Scalar.muli v151 c512_i32_73
  v152
def k0_off7 (k0_t1 : Fin k0_t1_loop.trips) : Fin 3 → Nat :=
  let c0_74 : Index := 0#32
  let c0_i32 : BitVec 32 := 0#32
  let c1_i32 : BitVec 32 := 1#32
  let arg7 : BitVec 32 := Scf.iv c0_i32 c1_i32 k0_t1
  let c1_i32_71 : BitVec 32 := 1#32
  let v150 : BitVec 32 := Scalar.muli arg7 c1_i32_71
  let c0_i32_72 : BitVec 32 := 0#32
  let v151 : BitVec 32 := Scalar.addi v150 c0_i32_72
  let c512_i32_73 : BitVec 32 := 512#32
  let v152 : BitVec 32 := Scalar.muli v151 c512_i32_73
  let v153 : BitVec 32 := v152
  let v154 : Index := Scalar.indexCast v153
  let c192 : Index := 192#32
  ![0, v154.toNat, 192]
def k0_mult8 (k0_t1 : Fin k0_t1_loop.trips) : BitVec 32 :=
  let c0_i32 : BitVec 32 := 0#32
  let c1_i32 : BitVec 32 := 1#32
  let arg7 : BitVec 32 := Scf.iv c0_i32 c1_i32 k0_t1
  let c1_i32_80 : BitVec 32 := 1#32
  let v164 : BitVec 32 := Scalar.muli arg7 c1_i32_80
  let c0_i32_81 : BitVec 32 := 0#32
  let v165 : BitVec 32 := Scalar.addi v164 c0_i32_81
  let c512_i32_82 : BitVec 32 := 512#32
  let v166 : BitVec 32 := Scalar.muli v165 c512_i32_82
  v166
def k0_off8 (k0_t1 : Fin k0_t1_loop.trips) : Fin 3 → Nat :=
  let c0_83 : Index := 0#32
  let c0_i32 : BitVec 32 := 0#32
  let c1_i32 : BitVec 32 := 1#32
  let arg7 : BitVec 32 := Scf.iv c0_i32 c1_i32 k0_t1
  let c1_i32_80 : BitVec 32 := 1#32
  let v164 : BitVec 32 := Scalar.muli arg7 c1_i32_80
  let c0_i32_81 : BitVec 32 := 0#32
  let v165 : BitVec 32 := Scalar.addi v164 c0_i32_81
  let c512_i32_82 : BitVec 32 := 512#32
  let v166 : BitVec 32 := Scalar.muli v165 c512_i32_82
  let v167 : BitVec 32 := v166
  let v168 : Index := Scalar.indexCast v167
  let c224 : Index := 224#32
  ![0, v168.toNat, 224]
def k0_mult9 (k0_t1 : Fin k0_t1_loop.trips) : BitVec 32 :=
  let c0_i32 : BitVec 32 := 0#32
  let c1_i32 : BitVec 32 := 1#32
  let arg7 : BitVec 32 := Scf.iv c0_i32 c1_i32 k0_t1
  let c1_i32_104 : BitVec 32 := 1#32
  let v212 : BitVec 32 := Scalar.muli arg7 c1_i32_104
  let c0_i32_105 : BitVec 32 := 0#32
  let v213 : BitVec 32 := Scalar.addi v212 c0_i32_105
  let c512_i32_106 : BitVec 32 := 512#32
  let v214 : BitVec 32 := Scalar.muli v213 c512_i32_106
  v214
def k0_off9 (k0_t1 : Fin k0_t1_loop.trips) : Fin 3 → Nat :=
  let c0_107 : Index := 0#32
  let c0_i32 : BitVec 32 := 0#32
  let c1_i32 : BitVec 32 := 1#32
  let arg7 : BitVec 32 := Scf.iv c0_i32 c1_i32 k0_t1
  let c1_i32_104 : BitVec 32 := 1#32
  let v212 : BitVec 32 := Scalar.muli arg7 c1_i32_104
  let c0_i32_105 : BitVec 32 := 0#32
  let v213 : BitVec 32 := Scalar.addi v212 c0_i32_105
  let c512_i32_106 : BitVec 32 := 512#32
  let v214 : BitVec 32 := Scalar.muli v213 c512_i32_106
  let v215 : BitVec 32 := v214
  let v216 : Index := Scalar.indexCast v215
  let c0_108 : Index := 0#32
  ![0, v216.toNat, 0]
def k0_mult10 (k0_t1 : Fin k0_t1_loop.trips) : BitVec 32 :=
  let c0_i32 : BitVec 32 := 0#32
  let c1_i32 : BitVec 32 := 1#32
  let arg7 : BitVec 32 := Scf.iv c0_i32 c1_i32 k0_t1
  let c1_i32_142 : BitVec 32 := 1#32
  let v318 : BitVec 32 := Scalar.muli arg7 c1_i32_142
  let c0_i32_143 : BitVec 32 := 0#32
  let v319 : BitVec 32 := Scalar.addi v318 c0_i32_143
  let c512_i32_144 : BitVec 32 := 512#32
  let v320 : BitVec 32 := Scalar.muli v319 c512_i32_144
  v320
def k0_off10 (k0_t1 : Fin k0_t1_loop.trips) : Fin 3 → Nat :=
  let c0_145 : Index := 0#32
  let c0_i32 : BitVec 32 := 0#32
  let c1_i32 : BitVec 32 := 1#32
  let arg7 : BitVec 32 := Scf.iv c0_i32 c1_i32 k0_t1
  let c1_i32_142 : BitVec 32 := 1#32
  let v318 : BitVec 32 := Scalar.muli arg7 c1_i32_142
  let c0_i32_143 : BitVec 32 := 0#32
  let v319 : BitVec 32 := Scalar.addi v318 c0_i32_143
  let c512_i32_144 : BitVec 32 := 512#32
  let v320 : BitVec 32 := Scalar.muli v319 c512_i32_144
  let v321 : BitVec 32 := v320
  let v322 : Index := Scalar.indexCast v321
  let c128_146 : Index := 128#32
  ![0, v322.toNat, 128]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "qscale" => some (((11863283 / 67108864) * (Real.log 2)⁻¹ : ℝ) : EReal)
  | _ => none
-- ==== ReferenceIdeal.lean ====
abbrev S32x2048x256 : Shape := ⟨3, ![32, 2048, 256]⟩
abbrev S32 : Shape := ⟨1, ![32]⟩
abbrev S64 : Shape := ⟨1, ![64]⟩
abbrev S32x2048x4x2x32 : Shape := ⟨5, ![32, 2048, 4, 2, 32]⟩
abbrev S_ : Shape := ⟨0, ![]⟩
abbrev S32x2048x4x64 : Shape := ⟨4, ![32, 2048, 4, 64]⟩
abbrev S32x4x2x2048x2048 : Shape := ⟨5, ![32, 4, 2, 2048, 2048]⟩
abbrev S32x4x2x2048 : Shape := ⟨4, ![32, 4, 2, 2048]⟩
abbrev S32x4x2x2048x1 : Shape := ⟨5, ![32, 4, 2, 2048, 1]⟩
abbrev S32x4x1x2048x2048 : Shape := ⟨5, ![32, 4, 1, 2048, 2048]⟩
abbrev S32x4x2048x2048 : Shape := ⟨4, ![32, 4, 2048, 2048]⟩
abbrev S32x4x64x2048 : Shape := ⟨4, ![32, 4, 64, 2048]⟩
abbrev S32x2048x4 : Shape := ⟨3, ![32, 2048, 4]⟩
abbrev S32x2048x4x1 : Shape := ⟨4, ![32, 2048, 4, 1]⟩
abbrev S1x1x1x64 : Shape := ⟨4, ![1, 1, 1, 64]⟩

abbrev nBuf : Space → Nat
  | .hbm => 70
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S32x2048x256, .f32⟩
  | .hbm, ⟨2, _⟩ => ⟨S32x2048x256, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64, .f32⟩
  | .hbm, ⟨8, _⟩ => ⟨S32x2048x4x2x32, .f32⟩
  | .hbm, ⟨9, _⟩ => ⟨S_, .f32⟩
  | .hbm, ⟨10, _⟩ => ⟨S32x2048x4x2x32, .f32⟩
  | .hbm, ⟨11, _⟩ => ⟨S32x2048x4x2x32, .f32⟩
  | .hbm, ⟨12, _⟩ => ⟨S32x2048x4x2x32, .f32⟩
  | .hbm, ⟨13, _⟩ => ⟨S32x2048x4x64, .f32⟩
  | .hbm, ⟨14, _⟩ => ⟨S32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32x4x2x2048x2048, .f32⟩
  | .hbm, ⟨26, _⟩ => ⟨S_, .f32⟩
  | .hbm, ⟨27, _⟩ => ⟨S32x4x2x2048, .f32⟩
  | .hbm, ⟨28, _⟩ => ⟨S_, .f32⟩
  | .hbm, ⟨29, _⟩ => ⟨S32x4x2x2048, .f32⟩
  | .hbm, ⟨30, _⟩ => ⟨S32x4x2x2048, .f32⟩
  | .hbm, ⟨31, _⟩ => ⟨S32x4x2x2048x1, .f32⟩
  | .hbm, ⟨32, _⟩ => ⟨S32x4x2x2048x2048, .f32⟩
  | .hbm, ⟨33, _⟩ => ⟨S32x4x2x2048x2048, .f32⟩
  | .hbm, ⟨34, _⟩ => ⟨S32x4x2x2048x2048, .f32⟩
  | .hbm, ⟨35, _⟩ => ⟨S_, .f32⟩
  | .hbm, ⟨36, _⟩ => ⟨S32x4x2x2048, .f32⟩
  | .hbm, ⟨37, _⟩ => ⟨S32x4x2x2048x1, .f32⟩
  | .hbm, ⟨38, _⟩ => ⟨S32x4x2x2048x2048, .f32⟩
  | .hbm, ⟨39, _⟩ => ⟨S32x4x2x2048x2048, .f32⟩
  | .hbm, ⟨40, _⟩ => ⟨S32x4x1x2048x2048, .f32⟩
  | .hbm, ⟨41, _⟩ => ⟨S32x4x2048x2048, .f32⟩
  | .hbm, ⟨42, _⟩ => ⟨S32x4x1x2048x2048, .f32⟩
  | .hbm, ⟨43, _⟩ => ⟨S32x4x2048x2048, .f32⟩
  | .hbm, ⟨44, _⟩ => ⟨S32x4x2048x2048, .f32⟩
  | .hbm, ⟨45, _⟩ => ⟨S32x4x2048x2048, .f32⟩
  | .hbm, ⟨46, _⟩ => ⟨S32x4x2048x2048, .f32⟩
  | .hbm, ⟨47, _⟩ => ⟨S32x4x64x2048, .f32⟩
  | .hbm, ⟨48, _⟩ => ⟨S32x2048x4x64, .f32⟩
  | .hbm, ⟨49, _⟩ => ⟨S32x2048x4x64, .f32⟩
  | .hbm, ⟨50, _⟩ => ⟨S_, .f32⟩
  | .hbm, ⟨51, _⟩ => ⟨S32x2048x4, .f32⟩
  | .hbm, ⟨52, _⟩ => ⟨S32x2048x4x1, .f32⟩
  | .hbm, ⟨53, _⟩ => ⟨S_, .f32⟩
  | .hbm, ⟨54, _⟩ => ⟨S32x2048x4x1, .f32⟩
  | .hbm, ⟨55, _⟩ => ⟨S32x2048x4x1, .f32⟩
  | .hbm, ⟨56, _⟩ => ⟨S_, .f32⟩
  | .hbm, ⟨57, _⟩ => ⟨S32x2048x4x1, .f32⟩
  | .hbm, ⟨58, _⟩ => ⟨S32x2048x4x1, .f32⟩
  | .hbm, ⟨59, _⟩ => ⟨S32x2048x4x1, .f32⟩
  | .hbm, ⟨60, _⟩ => ⟨S32x2048x4x64, .f32⟩
  | .hbm, ⟨61, _⟩ => ⟨S32x2048x4x64, .f32⟩
  | .hbm, ⟨62, _⟩ => ⟨S1x1x1x64, .f32⟩
  | .hbm, ⟨63, _⟩ => ⟨S32x2048x4x64, .f32⟩
  | .hbm, ⟨64, _⟩ => ⟨S32x2048x4x64, .f32⟩
  | .hbm, ⟨65, _⟩ => ⟨S_, .f32⟩
  | .hbm, ⟨66, _⟩ => ⟨S32x2048x4x64, .f32⟩
  | .hbm, ⟨67, _⟩ => ⟨S32x2048x4x64, .f32⟩
  | .hbm, ⟨68, _⟩ => ⟨S32x2048x256, .f32⟩
  | .hbm, ⟨69, _⟩ => ⟨S32x2048x256, .bf16⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Ffn.lean ====
abbrev S32x2048x1024 : Shape := ⟨3, ![32, 2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1x8x1024 : Shape := ⟨3, ![1, 8, 1024]⟩
abbrev S1x1024x1024 : Shape := ⟨3, ![1, 1024, 1024]⟩
abbrev S1024x2816 : Shape := ⟨2, ![1024, 2816]⟩
abbrev S1024x1024 : Shape := ⟨2, ![1024, 1024]⟩
abbrev S8x1024 : Shape := ⟨2, ![8, 1024]⟩
abbrev S1040x1024 : Shape := ⟨2, ![1040, 1024]⟩
abbrev S1040 : Shape := ⟨1, ![1040]⟩
abbrev S1040x1 : Shape := ⟨2, ![1040, 1]⟩
abbrev S1024x256 : Shape := ⟨2, ![1024, 256]⟩
abbrev S1040x256 : Shape := ⟨2, ![1040, 256]⟩
abbrev S1x256 : Shape := ⟨2, ![1, 256]⟩
abbrev S1024x1 : Shape := ⟨2, ![1024, 1]⟩

abbrev nBuf : Space → Nat
  | .hbm => 13
  | .vmem => 15
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x2816, .f32⟩
  | .hbm, ⟨10, _⟩ => ⟨S2816x1024, .bf16⟩
  | .hbm, ⟨11, _⟩ => ⟨S1x1024, .f32⟩
  | .hbm, ⟨12, _⟩ => ⟨S32x2048x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x5632, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1024x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnReferenceIdeal.lean ====
abbrev S32x2048x1024 : Shape := ⟨3, ![32, 2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩
abbrev S32x2050x2816 : Shape := ⟨3, ![32, 2050, 2816]⟩
abbrev S1x2816 : Shape := ⟨2, ![1, 2816]⟩
abbrev S1x1x2816 : Shape := ⟨3, ![1, 1, 2816]⟩

abbrev nBuf : Space → Nat
  | .hbm => 80
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S32x2048x1024, .f32⟩
  | .hbm, ⟨8, _⟩ => ⟨S_, .f32⟩
  | .hbm, ⟨9, _⟩ => ⟨S32x2048, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S32x2048x1, .f32⟩
  | .hbm, ⟨18, _⟩ => ⟨S32x2048x1024, .f32⟩
  | .hbm, ⟨19, _⟩ => ⟨S32x2048x1024, .f32⟩
  | .hbm, ⟨20, _⟩ => ⟨S1x1x1024, .f32⟩
  | .hbm, ⟨21, _⟩ => ⟨S32x2048x1024, .f32⟩
  | .hbm, ⟨22, _⟩ => ⟨S32x2048x1024, .f32⟩
  | .hbm, ⟨23, _⟩ => ⟨S32x2048x5632, .f32⟩
  | .hbm, ⟨24, _⟩ => ⟨S32x2048x2816, .f32⟩
  | .hbm, ⟨25, _⟩ => ⟨S32x2048x2816, .f32⟩
  | .hbm, ⟨26, _⟩ => ⟨S_, .i32⟩
  | .hbm, ⟨27, _⟩ => ⟨S_, .f32⟩
  | .hbm, ⟨28, _⟩ => ⟨S32x2050x2816, .f32⟩
  | .hbm, ⟨29, _⟩ => ⟨S32x2048x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S32x2048x2816, .f32⟩
  | .hbm, ⟨34, _⟩ => ⟨S32x2048x2816, .f32⟩
  | .hbm, ⟨35, _⟩ => ⟨S32x2048x2816, .f32⟩
  | .hbm, ⟨36, _⟩ => ⟨S1x2816, .f32⟩
  | .hbm, ⟨37, _⟩ => ⟨S2816, .f32⟩
  | .hbm, ⟨38, _⟩ => ⟨S1x1x2816, .f32⟩
  | .hbm, ⟨39, _⟩ => ⟨S32x2048x2816, .f32⟩
  | .hbm, ⟨40, _⟩ => ⟨S32x2048x2816, .f32⟩
  | .hbm, ⟨41, _⟩ => ⟨S32x2048x2816, .f32⟩
  | .hbm, ⟨42, _⟩ => ⟨S32x2048x2816, .f32⟩
  | .hbm, ⟨43, _⟩ => ⟨S1x2816, .f32⟩
  | .hbm, ⟨44, _⟩ => ⟨S2816, .f32⟩
  | .hbm, ⟨45, _⟩ => ⟨S1x1x2816, .f32⟩
  | .hbm, ⟨46, _⟩ => ⟨S32x2048x2816, .f32⟩
  | .hbm, ⟨47, _⟩ => ⟨S32x2048x2816, .f32⟩
  | .hbm, ⟨48, _⟩ => ⟨S32x2048x2816, .f32⟩
  | .hbm, ⟨49, _⟩ => ⟨S1x1x2816, .f32⟩
  | .hbm, ⟨50, _⟩ => ⟨S32x2048x2816, .f32⟩
  | .hbm, ⟨51, _⟩ => ⟨S32x2048x2816, .f32⟩
  | .hbm, ⟨52, _⟩ => ⟨S32x2048x2816, .f32⟩
  | .hbm, ⟨53, _⟩ => ⟨S32x2048x2816, .f32⟩
  | .hbm, ⟨54, _⟩ => ⟨S_, .f32⟩
  | .hbm, ⟨55, _⟩ => ⟨S32x2048x2816, .f32⟩
  | .hbm, ⟨56, _⟩ => ⟨S32x2048x2816, .f32⟩
  | .hbm, ⟨57, _⟩ => ⟨S_, .f32⟩
  | .hbm, ⟨58, _⟩ => ⟨S32x2048x2816, .f32⟩
  | .hbm, ⟨59, _⟩ => ⟨S32x2048x2816, .f32⟩
  | .hbm, ⟨60, _⟩ => ⟨S32x2048x2816, .f32⟩
  | .hbm, ⟨61, _⟩ => ⟨S32x2048x2816, .f32⟩
  | .hbm, ⟨62, _⟩ => ⟨S32x2048x1024, .f32⟩
  | .hbm, ⟨63, _⟩ => ⟨S32x2048x1024, .f32⟩
  | .hbm, ⟨64, _⟩ => ⟨S32x2048x1024, .f32⟩
  | .hbm, ⟨65, _⟩ => ⟨S_, .f32⟩
  | .hbm, ⟨66, _⟩ => ⟨S32x2048, .f32⟩
  | .hbm, ⟨67, _⟩ => ⟨S32x2048x1, .f32⟩
  | .hbm, ⟨68, _⟩ => ⟨S_, .f32⟩
  | .hbm, ⟨69, _⟩ => ⟨S32x2048x1, .f32⟩
  | .hbm, ⟨70, _⟩ => ⟨S32x2048x1, .f32⟩
  | .hbm, ⟨71, _⟩ => ⟨S_, .f32⟩
  | .hbm, ⟨72, _⟩ => ⟨S32x2048x1, .f32⟩
  | .hbm, ⟨73, _⟩ => ⟨S32x2048x1, .f32⟩
  | .hbm, ⟨74, _⟩ => ⟨S32x2048x1, .f32⟩
  | .hbm, ⟨75, _⟩ => ⟨S32x2048x1024, .f32⟩
  | .hbm, ⟨76, _⟩ => ⟨S32x2048x1024, .f32⟩
  | .hbm, ⟨77, _⟩ => ⟨S1x1x1024, .f32⟩
  | .hbm, ⟨78, _⟩ => ⟨S32x2048x1024, .f32⟩
  | .hbm, ⟨79, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_2 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Merge.lean ====
abbrev S32x2048x1024 : Shape := ⟨3, ![32, 2048, 1024]⟩
abbrev S1024 : Shape := ⟨1, ![1024]⟩
abbrev S32x2048x256 : Shape := ⟨3, ![32, 2048, 256]⟩
abbrev S1024x6496 : Shape := ⟨2, ![1024, 6496]⟩
abbrev S4x256x1024 : Shape := ⟨3, ![4, 256, 1024]⟩
abbrev S1024x1024 : Shape := ⟨2, ![1024, 1024]⟩
abbrev S65536x1024 : Shape := ⟨2, ![65536, 1024]⟩
abbrev S1x1024 : Shape := ⟨2, ![1, 1024]⟩
abbrev S65536x256 : Shape := ⟨2, ![65536, 256]⟩
abbrev S1024x768 : Shape := ⟨2, ![1024, 768]⟩
abbrev S1024x352 : Shape := ⟨2, ![1024, 352]⟩
abbrev S1024x512 : Shape := ⟨2, ![1024, 512]⟩
abbrev S1024x4096 : Shape := ⟨2, ![1024, 4096]⟩
abbrev S1024x256 : Shape := ⟨2, ![1024, 256]⟩
abbrev S1024x1 : Shape := ⟨2, ![1024, 1]⟩
abbrev S1x256x1024 : Shape := ⟨3, ![1, 256, 1024]⟩
abbrev S256x1024 : Shape := ⟨2, ![256, 1024]⟩

abbrev nBuf : Space → Nat
  | .hbm => 24
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x2048x256, .bf16⟩
  | .hbm, ⟨3, _⟩ => ⟨S32x2048x256, .bf16⟩
  | .hbm, ⟨4, _⟩ => ⟨S32x2048x256, .bf16⟩
  | .hbm, ⟨5, _⟩ => ⟨S32x2048x256, .bf16⟩
  | .hbm, ⟨6, _⟩ => ⟨S1024x6496, .f32⟩
  | .hbm, ⟨7, _⟩ => ⟨S4x256x1024, .f32⟩
  | .hbm, ⟨8, _⟩ => ⟨S1024x1024, .f32⟩
  | .hbm, ⟨9, _⟩ => ⟨S65536x1024, .f32⟩
  | .hbm, ⟨10, _⟩ => ⟨S1x1024, .f32⟩
  | .hbm, ⟨11, _⟩ => ⟨S65536x256, .bf16⟩
  | .hbm, ⟨12, _⟩ => ⟨S65536x256, .bf16⟩
  | .hbm, ⟨13, _⟩ => ⟨S65536x256, .bf16⟩
  | .hbm, ⟨14, _⟩ => ⟨S65536x256, .bf16⟩
  | .hbm, ⟨15, _⟩ => ⟨S1024x768, .f32⟩
  | .hbm, ⟨16, _⟩ => ⟨S1024x768, .f32⟩
  | .hbm, ⟨17, _⟩ => ⟨S1024x352, .f32⟩
  | .hbm, ⟨18, _⟩ => ⟨S1024x512, .f32⟩
  | .hbm, ⟨19, _⟩ => ⟨S1024x4096, .f32⟩
  | .hbm, ⟨20, _⟩ => ⟨S1024x4096, .bf16⟩
  | .hbm, ⟨21, _⟩ => ⟨S4x256x1024, .bf16⟩
  | .hbm, ⟨22, _⟩ => ⟨S1024x1024, .bf16⟩
  | .hbm, ⟨23, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x4096, .bf16⟩
  | .local _ .vmem, ⟨12, _⟩ => ⟨S4x256x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S32x2048x1024 : Shape := ⟨3, ![32, 2048, 1024]⟩
abbrev S1024 : Shape := ⟨1, ![1024]⟩
abbrev S32x2048x256 : Shape := ⟨3, ![32, 2048, 256]⟩
abbrev S1024x6496 : Shape := ⟨2, ![1024, 6496]⟩
abbrev S4x256x1024 : Shape := ⟨3, ![4, 256, 1024]⟩
abbrev S1024x1024 : Shape := ⟨2, ![1024, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x6496 : Shape := ⟨3, ![32, 2048, 6496]⟩
abbrev S32x2048x4096 : Shape := ⟨3, ![32, 2048, 4096]⟩
abbrev S1x256x1024 : Shape := ⟨3, ![1, 256, 1024]⟩
abbrev S256x1024 : Shape := ⟨2, ![256, 1024]⟩
abbrev S65536x1024 : Shape := ⟨2, ![65536, 1024]⟩

abbrev nBuf : Space → Nat
  | .hbm => 65
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x2048x256, .bf16⟩
  | .hbm, ⟨3, _⟩ => ⟨S32x2048x256, .bf16⟩
  | .hbm, ⟨4, _⟩ => ⟨S32x2048x256, .bf16⟩
  | .hbm, ⟨5, _⟩ => ⟨S32x2048x256, .bf16⟩
  | .hbm, ⟨6, _⟩ => ⟨S1024x6496, .f32⟩
  | .hbm, ⟨7, _⟩ => ⟨S4x256x1024, .f32⟩
  | .hbm, ⟨8, _⟩ => ⟨S1024x1024, .f32⟩
  | .hbm, ⟨9, _⟩ => ⟨S32x2048x1024, .f32⟩
  | .hbm, ⟨10, _⟩ => ⟨S_, .f32⟩
  | .hbm, ⟨11, _⟩ => ⟨S32x2048, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S_, .f32⟩
  | .hbm, ⟨17, _⟩ => ⟨S32x2048x1, .f32⟩
  | .hbm, ⟨18, _⟩ => ⟨S32x2048x1, .f32⟩
  | .hbm, ⟨19, _⟩ => ⟨S32x2048x1, .f32⟩
  | .hbm, ⟨20, _⟩ => ⟨S32x2048x1024, .f32⟩
  | .hbm, ⟨21, _⟩ => ⟨S32x2048x1024, .f32⟩
  | .hbm, ⟨22, _⟩ => ⟨S1x1x1024, .f32⟩
  | .hbm, ⟨23, _⟩ => ⟨S32x2048x1024, .f32⟩
  | .hbm, ⟨24, _⟩ => ⟨S32x2048x1024, .f32⟩
  | .hbm, ⟨25, _⟩ => ⟨S32x2048x6496, .f32⟩
  | .hbm, ⟨26, _⟩ => ⟨S32x2048x4096, .f32⟩
  | .hbm, ⟨27, _⟩ => ⟨S32x2048x4096, .f32⟩
  | .hbm, ⟨28, _⟩ => ⟨S32x2048x4096, .f32⟩
  | .hbm, ⟨29, _⟩ => ⟨S_, .f32⟩
  | .hbm, ⟨30, _⟩ => ⟨S32x2048x4096, .f32⟩
  | .hbm, ⟨31, _⟩ => ⟨S32x2048x4096, .f32⟩
  | .hbm, ⟨32, _⟩ => ⟨S_, .f32⟩
  | .hbm, ⟨33, _⟩ => ⟨S32x2048x4096, .f32⟩
  | .hbm, ⟨34, _⟩ => ⟨S32x2048x4096, .f32⟩
  | .hbm, ⟨35, _⟩ => ⟨S32x2048x1024, .f32⟩
  | .hbm, ⟨36, _⟩ => ⟨S32x2048x256, .f32⟩
  | .hbm, ⟨37, _⟩ => ⟨S1x256x1024, .f32⟩
  | .hbm, ⟨38, _⟩ => ⟨S256x1024, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S32x2048x256, .f32⟩
  | .hbm, ⟨43, _⟩ => ⟨S1x256x1024, .f32⟩
  | .hbm, ⟨44, _⟩ => ⟨S256x1024, .f32⟩
  | .hbm, ⟨45, _⟩ => ⟨S32x2048x1024, .f32⟩
  | .hbm, ⟨46, _⟩ => ⟨S32x2048x1024, .f32⟩
  | .hbm, ⟨47, _⟩ => ⟨S32x2048x1024, .f32⟩
  | .hbm, ⟨48, _⟩ => ⟨S32x2048x1024, .f32⟩
  | .hbm, ⟨49, _⟩ => ⟨S32x2048x256, .f32⟩
  | .hbm, ⟨50, _⟩ => ⟨S1x256x1024, .f32⟩
  | .hbm, ⟨51, _⟩ => ⟨S256x1024, .f32⟩
  | .hbm, ⟨52, _⟩ => ⟨S32x2048x1024, .f32⟩
  | .hbm, ⟨53, _⟩ => ⟨S32x2048x1024, .f32⟩
  | .hbm, ⟨54, _⟩ => ⟨S32x2048x1024, .f32⟩
  | .hbm, ⟨55, _⟩ => ⟨S32x2048x1024, .f32⟩
  | .hbm, ⟨56, _⟩ => ⟨S32x2048x256, .f32⟩
  | .hbm, ⟨57, _⟩ => ⟨S1x256x1024, .f32⟩
  | .hbm, ⟨58, _⟩ => ⟨S256x1024, .f32⟩
  | .hbm, ⟨59, _⟩ => ⟨S32x2048x1024, .f32⟩
  | .hbm, ⟨60, _⟩ => ⟨S32x2048x1024, .f32⟩
  | .hbm, ⟨61, _⟩ => ⟨S32x2048x1024, .f32⟩
  | .hbm, ⟨62, _⟩ => ⟨S32x2048x1024, .f32⟩
  | .hbm, ⟨63, _⟩ => ⟨S32x2048x1024, .f32⟩
  | .hbm, ⟨64, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Grouped.lean ====
abbrev S32x2048x256 : Shape := ⟨3, ![32, 2048, 256]⟩
abbrev S32x2048x128 : Shape := ⟨3, ![32, 2048, 128]⟩
abbrev S32x2048x2x64 : Shape := ⟨4, ![32, 2048, 2, 64]⟩
abbrev S_ : Shape := ⟨0, ![]⟩
abbrev S32x128x2048 : Shape := ⟨3, ![32, 128, 2048]⟩
abbrev S32x2048x2x128 : Shape := ⟨4, ![32, 2048, 2, 128]⟩
abbrev S1x2048x256 : Shape := ⟨3, ![1, 2048, 256]⟩
abbrev S1x128x2048 : Shape := ⟨3, ![1, 128, 2048]⟩
abbrev S1x1024x64 : Shape := ⟨3, ![1, 1024, 64]⟩
abbrev S1024x64 : Shape := ⟨2, ![1024, 64]⟩
abbrev S1x64x2048 : Shape := ⟨3, ![1, 64, 2048]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩
abbrev S1x2048x128 : Shape := ⟨3, ![1, 2048, 128]⟩
abbrev S2048x128 : Shape := ⟨2, ![2048, 128]⟩
abbrev S1024x128 : Shape := ⟨2, ![1024, 128]⟩
abbrev S1x1024x128 : Shape := ⟨3, ![1, 1024, 128]⟩

abbrev nBuf : Space → Nat
  | .hbm => 13
  | .vmem => 8
  | .smem => 0
  | _ => 0

abbrev bufTy : (tb : Table) → Fin (tcTables nBuf tb) → BufTy
  | .hbm, ⟨0, _⟩ => ⟨S32x2048x256, .f32⟩
  | .hbm, ⟨1, _⟩ => ⟨S32x2048x128, .f32⟩
  | .hbm, ⟨2, _⟩ => ⟨S32x2048x128, .f32⟩
  | .hbm, ⟨3, _⟩ => ⟨S32x2048x2x64, .f32⟩
  | .hbm, ⟨4, _⟩ => ⟨S_, .f32⟩
  | .hbm, ⟨5, _⟩ => ⟨S32x2048x2x64, .f32⟩
  | .hbm, ⟨6, _⟩ => ⟨S32x2048x256, .bf16⟩
  | .hbm, ⟨7, _⟩ => ⟨S32x128x2048, .f32⟩
  | .hbm, ⟨8, _⟩ => ⟨S32x128x2048, .bf16⟩
  | .hbm, ⟨9, _⟩ => ⟨S32x2048x2x128, .f32⟩
  | .hbm, ⟨10, _⟩ => ⟨S32x2048x256, .f32⟩
  | .hbm, ⟨11, _⟩ => ⟨S32x2048x256, .bf16⟩
  | .hbm, ⟨12, _⟩ => ⟨S32x2048x256, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c2_i32 : BitVec 32 := 2#32
  let v0 : BitVec 32 := Scalar.muli c0_i32 c2_i32
  let c0_i32_0 : BitVec 32 := 0#32
  let v1 : BitVec 32 := Scalar.addi v0 c0_i32_0
  let c1024_i32 : BitVec 32 := 1024#32
  let v2 : BitVec 32 := Scalar.muli v1 c1024_i32
  v2
def k0_off1 (c0_i32_0 : BitVec 32) : Fin 3 → Nat :=
  let c0 : Index := 0#32
  let c0_i32 : BitVec 32 := 0#32
  let c2_i32 : BitVec 32 := 2#32
  let v0 : BitVec 32 := Scalar.muli c0_i32 c2_i32
  let v1 : BitVec 32 := Scalar.addi v0 c0_i32_0
  let c1024_i32 : BitVec 32 := 1024#32
  let v2 : BitVec 32 := Scalar.muli v1 c1024_i32
  let v3 : BitVec 32 := v2
  let v4 : Index := Scalar.indexCast v3
  let c0_1 : Index := 0#32
  ![0, v4.toNat, 0]
def k0_mult2 : BitVec 32 :=
  let c0_i32 : BitVec 32 := 0#32
  let c2_i32_6 : BitVec 32 := 2#32
  let v14 : BitVec 32 := Scalar.muli c0_i32 c2_i32_6
  let c0_i32_7 : BitVec 32 := 0#32
  let v15 : BitVec 32 := Scalar.addi v14 c0_i32_7
  let c1024_i32_8 : BitVec 32 := 1024#32
  let v16 : BitVec 32 := Scalar.muli v15 c1024_i32_8
  v16
def k0_off2 (c0_i32_7 : BitVec 32) : Fin 3 → Nat :=
  let c0_9 : Index := 0#32
  let c0_i32 : BitVec 32 := 0#32
  let c2_i32_6 : BitVec 32 := 2#32
  let v14 : BitVec 32 := Scalar.muli c0_i32 c2_i32_6
  let v15 : BitVec 32 := Scalar.addi v14 c0_i32_7
  let c1024_i32_8 : BitVec 32 := 1024#32
  let v16 : BitVec 32 := Scalar.muli v15 c1024_i32_8
  let v17 : BitVec 32 := v16
  let v18 : Index := Scalar.indexCast v17
  let c64 : Index := 64#32
  ![0, v18.toNat, 64]
def k0_mult3 : BitVec 32 :=
  let c0_i32 : BitVec 32 := 0#32
  let c2_i32_16 : BitVec 32 := 2#32
  let v34 : BitVec 32 := Scalar.muli c0_i32 c2_i32_16
  let c0_i32_17 : BitVec 32 := 0#32
  let v35 : BitVec 32 := Scalar.addi v34 c0_i32_17
  let c1024_i32_18 : BitVec 32 := 1024#32
  let v36 : BitVec 32 := Scalar.muli v35 c1024_i32_18
  v36
def k0_off3 (c0_i32_17 : BitVec 32) : Fin 3 → Nat :=
  let c0_19 : Index := 0#32
  let c0_i32 : BitVec 32 := 0#32
  let c2_i32_16 : BitVec 32 := 2#32
  let v34 : BitVec 32 := Scalar.muli c0_i32 c2_i32_16
  let v35 : BitVec 32 := Scalar.addi v34 c0_i32_17
  let c1024_i32_18 : BitVec 32 := 1024#32
  let v36 : BitVec 32 := Scalar.muli v35 c1024_i32_18
  let v37 : BitVec 32 := v36
  let v38 : Index := Scalar.indexCast v37
  let c128 : Index := 128#32
  ![0, v38.toNat, 128]
def k0_mult4 : BitVec 32 :=
  let c0_i32 : BitVec 32 := 0#32
  let c2_i32_31 : BitVec 32 := 2#32
  let v61 : BitVec 32 := Scalar.muli c0_i32 c2_i32_31
  let c0_i32_32 : BitVec 32 := 0#32
  let v62 : BitVec 32 := Scalar.addi v61 c0_i32_32
  let c1024_i32_33 : BitVec 32 := 1024#32
  let v63 : BitVec 32 := Scalar.muli v62 c1024_i32_33
  v63
def k0_off4 (c0_i32_32 : BitVec 32) : Fin 3 → Nat :=
  let c0_34 : Index := 0#32
  let c0_i32 : BitVec 32 := 0#32
  let c2_i32_31 : BitVec 32 := 2#32
  let v61 : BitVec 32 := Scalar.muli c0_i32 c2_i32_31
  let v62 : BitVec 32 := Scalar.addi v61 c0_i32_32
  let c1024_i32_33 : BitVec 32 := 1024#32
  let v63 : BitVec 32 := Scalar.muli v62 c1024_i32_33
  let v64 : BitVec 32 := v63
  let v65 : Index := Scalar.indexCast v64
  let c192 : Index := 192#32
  ![0, v65.toNat, 192]
def k0_mult5 : BitVec 32 :=
  let c0_i32 : BitVec 32 := 0#32
  let c2_i32_48 : BitVec 32 := 2#32
  let v88 : BitVec 32 := Scalar.muli c0_i32 c2_i32_48
  let c0_i32_49 : BitVec 32 := 0#32
  let v89 : BitVec 32 := Scalar.addi v88 c0_i32_49
  let c1024_i32_50 : BitVec 32 := 1024#32
  let v90 : BitVec 32 := Scalar.muli v89 c1024_i32_50
  v90
def k0_off5 (c0_i32_49 : BitVec 32) : Fin 3 → Nat :=
  let c0_51 : Index := 0#32
  let c0_i32 : BitVec 32 := 0#32
  let c2_i32_48 : BitVec 32 := 2#32
  let v88 : BitVec 32 := Scalar.muli c0_i32 c2_i32_48
  let v89 : BitVec 32 := Scalar.addi v88 c0_i32_49
  let c1024_i32_50 : BitVec 32 := 1024#32
  let v90 : BitVec 32 := Scalar.muli v89 c1024_i32_50
  let v91 : BitVec 32 := v90
  let v92 : Index := Scalar.indexCast v91
  let c0_52 : Index := 0#32
  ![0, v92.toNat, 0]
def k0_mult6 : BitVec 32 :=
  let c0_i32 : BitVec 32 := 0#32
  let c2_i32_54 : BitVec 32 := 2#32
  let v102 : BitVec 32 := Scalar.muli c0_i32 c2_i32_54
  let c1_i32 : BitVec 32 := 1#32
  let v103 : BitVec 32 := Scalar.addi v102 c1_i32
  let c1024_i32_55 : BitVec 32 := 1024#32
  let v104 : BitVec 32 := Scalar.muli v103 c1024_i32_55
  v104
def k0_mult7 : BitVec 32 :=
  let c0_i32 : BitVec 32 := 0#32
  let c2_i32_70 : BitVec 32 := 2#32
  let v129 : BitVec 32 := Scalar.muli c0_i32 c2_i32_70
  let c1_i32_71 : BitVec 32 := 1#32
  let v130 : BitVec 32 := Scalar.addi v129 c1_i32_71
  let c1024_i32_72 : BitVec 32 := 1024#32
  let v131 : BitVec 32 := Scalar.muli v130 c1024_i32_72
  v131
def k0_mult8 : BitVec 32 :=
  let c0_i32 : BitVec 32 := 0#32
  let c2_i32_88 : BitVec 32 := 2#32
  let v156 : BitVec 32 := Scalar.muli c0_i32 c2_i32_88
  let c0_i32_89 : BitVec 32 := 0#32
  let v157 : BitVec 32 := Scalar.addi v156 c0_i32_89
  let c1024_i32_90 : BitVec 32 := 1024#32
  let v158 : BitVec 32 := Scalar.muli v157 c1024_i32_90
  v158
def k0_off6 (c0_i32_89 : BitVec 32) : Fin 3 → Nat :=
  let c0_91 : Index := 0#32
  let c0_i32 : BitVec 32 := 0#32
  let c2_i32_88 : BitVec 32 := 2#32
  let v156 : BitVec 32 := Scalar.muli c0_i32 c2_i32_88
  let v157 : BitVec 32 := Scalar.addi v156 c0_i32_89
  let c1024_i32_90 : BitVec 32 := 1024#32
  let v158 : BitVec 32 := Scalar.muli v157 c1024_i32_90
  let v159 : BitVec 32 := v158
  let v160 : Index := Scalar.indexCast v159
  let c128_92 : Index := 128#32
  ![0, v160.toNat, 128]
def k0_mult9 : BitVec 32 :=
  let c0_i32 : BitVec 32 := 0#32
  let c2_i32_94 : BitVec 32 := 2#32
  let v170 : BitVec 32 := Scalar.muli c0_i32 c2_i32_94
  let c1_i32_95 : BitVec 32 := 1#32
  let v171 : BitVec 32 := Scalar.addi v170 c1_i32_95
  let c1024_i32_96 : BitVec 32 := 1024#32
  let v172 : BitVec 32 := Scalar.muli v171 c1024_i32_96
  v172
def k0_mult10 : BitVec 32 :=
  let c0_i32 : BitVec 32 := 0#32
  let c2_i32_111 : BitVec 32 := 2#32
  let v197 : BitVec 32 := Scalar.muli c0_i32 c2_i32_111
  let c1_i32_112 : BitVec 32 := 1#32
  let v198 : BitVec 32 := Scalar.addi v197 c1_i32_112
  let c1024_i32_113 : BitVec 32 := 1024#32
  let v199 : BitVec 32 := Scalar.muli v198 c1024_i32_113
  v199
def k0_mult11 : BitVec 32 :=
  let c0_i32 : BitVec 32 := 0#32
  let c2_i32_129 : BitVec 32 := 2#32
  let v224 : BitVec 32 := Scalar.muli c0_i32 c2_i32_129
  let c1_i32_130 : BitVec 32 := 1#32
  let v225 : BitVec 32 := Scalar.addi v224 c1_i32_130
  let c1024_i32_131 : BitVec 32 := 1024#32
  let v226 : BitVec 32 := Scalar.muli v225 c1024_i32_131
  v226
def k0_mult12 : BitVec 32 :=
  let c0_i32 : BitVec 32 := 0#32
  let c2_i32_150 : BitVec 32 := 2#32
  let v264 : BitVec 32 := Scalar.muli c0_i32 c2_i32_150
  let c1_i32_151 : BitVec 32 := 1#32
  let v265 : BitVec 32 := Scalar.addi v264 c1_i32_151
  let c1024_i32_152 : BitVec 32 := 1024#32
  let v266 : BitVec 32 := Scalar.muli v265 c1024_i32_152
  v266
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GroupedIdeal.lean ====
variable {F : FTy → Type} [FloatOps F] [Named F]
def κ : String → Option EReal := fun
  | "qscale" => some (((1 / 8) * (Real.log 2)⁻¹ : ℝ) : EReal)
  | _ => none
-- ==== GroupedReferenceIdeal.lean ====
abbrev S32x2048x256 : Shape := ⟨3, ![32, 2048, 256]⟩
abbrev S32x2048x128 : Shape := ⟨3, ![32, 2048, 128]⟩
abbrev S32x2048x2x2x64 : Shape := ⟨5, ![32, 2048, 2, 2, 64]⟩
abbrev S_ : Shape := ⟨0, ![]⟩
abbrev S32x2048x2x64 : Shape := ⟨4, ![32, 2048, 2, 64]⟩
abbrev S32x2x2048x2048x2 : Shape := ⟨5, ![32, 2, 2048, 2048, 2]⟩
abbrev S32x2x2x2048x2048 : Shape := ⟨5, ![32, 2, 2, 2048, 2048]⟩
abbrev S32x2x2x2048 : Shape := ⟨4, ![32, 2, 2, 2048]⟩
abbrev S32x2x2x2048x1 : Shape := ⟨5, ![32, 2, 2, 2048, 1]⟩
abbrev S32x2x64x2x2048 : Shape := ⟨5, ![32, 2, 64, 2, 2048]⟩

abbrev nBuf : Space → Nat
  | .hbm => 29
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S32x2048x128, .f32⟩
  | .hbm, ⟨2, _⟩ => ⟨S32x2048x128, .f32⟩
  | .hbm, ⟨3, _⟩ => ⟨S32x2048x2x2x64, .f32⟩
  | .hbm, ⟨4, _⟩ => ⟨S_, .f32⟩
  | .hbm, ⟨5, _⟩ => ⟨S32x2048x2x2x64, .f32⟩
  | .hbm, ⟨6, _⟩ => ⟨S32x2048x2x2x64, .f32⟩
  | .hbm, ⟨7, _⟩ => ⟨S32x2048x2x64, .f32⟩
  | .hbm, ⟨8, _⟩ => ⟨S32x2048x2x64, .f32⟩
  | .hbm, ⟨9, _⟩ => ⟨S32x2x2048x2048x2, .f32⟩
  | .hbm, ⟨10, _⟩ => ⟨S32x2x2x2048x2048, .f32⟩
  | .hbm, ⟨11, _⟩ => ⟨S_, .f32⟩
  | .hbm, ⟨12, _⟩ => ⟨S32x2x2x2048, .f32⟩
  | .hbm, ⟨13, _⟩ => ⟨S_, .f32⟩
  | .hbm, ⟨14, _⟩ => ⟨S32x2x2x2048, .f32⟩
  | .hbm, ⟨15, _⟩ => ⟨S32x2x2x2048, .f32⟩
  | .hbm, ⟨16, _⟩ => ⟨S32x2x2x2048x1, .f32⟩
  | .hbm, ⟨17, _⟩ => ⟨S32x2x2x2048x2048, .f32⟩
  | .hbm, ⟨18, _⟩ => ⟨S32x2x2x2048x2048, .f32⟩
  | .hbm, ⟨19, _⟩ => ⟨S32x2x2x2048x2048, .f32⟩
  | .hbm, ⟨20, _⟩ => ⟨S_, .f32⟩
  | .hbm, ⟨21, _⟩ => ⟨S32x2x2x2048, .f32⟩
  | .hbm, ⟨22, _⟩ => ⟨S32x2x2x2048x1, .f32⟩
  | .hbm, ⟨23, _⟩ => ⟨S32x2x2x2048x2048, .f32⟩
  | .hbm, ⟨24, _⟩ => ⟨S32x2x2x2048x2048, .f32⟩
  | .hbm, ⟨25, _⟩ => ⟨S32x2x64x2x2048, .f32⟩
  | .hbm, ⟨26, _⟩ => ⟨S32x2048x2x2x64, .f32⟩
  | .hbm, ⟨27, _⟩ => ⟨S32x2048x256, .f32⟩
  | .hbm, ⟨28, _⟩ => ⟨S32x2048x256, .bf16⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Latent.lean ====
abbrev S32x2048x4x96 : Shape := ⟨4, ![32, 2048, 4, 96]⟩
abbrev S32x2048x4x64 : Shape := ⟨4, ![32, 2048, 4, 64]⟩
abbrev S_ : Shape := ⟨0, ![]⟩
abbrev S32x2048x4x32 : Shape := ⟨4, ![32, 2048, 4, 32]⟩
abbrev S32x2048x4x128 : Shape := ⟨4, ![32, 2048, 4, 128]⟩
abbrev S32x2048x512 : Shape := ⟨3, ![32, 2048, 512]⟩
abbrev S32x512x2048 : Shape := ⟨3, ![32, 512, 2048]⟩
abbrev S32x2048x256 : Shape := ⟨3, ![32, 2048, 256]⟩
abbrev S1x2048x512 : Shape := ⟨3, ![1, 2048, 512]⟩
abbrev S1x512x2048 : Shape := ⟨3, ![1, 512, 2048]⟩
abbrev S1x2048x256 : Shape := ⟨3, ![1, 2048, 256]⟩
abbrev S1x1024x128 : Shape := ⟨3, ![1, 1024, 128]⟩
abbrev S1024x128 : Shape := ⟨2, ![1024, 128]⟩
abbrev S1x128x2048 : Shape := ⟨3, ![1, 128, 2048]⟩
abbrev S128x2048 : Shape := ⟨2, ![128, 2048]⟩
abbrev S1024x2048 : Shape := ⟨2, ![1024, 2048]⟩
abbrev S1024 : Shape := ⟨1, ![1024]⟩
abbrev S1024x1 : Shape := ⟨2, ![1024, 1]⟩
abbrev S1x2048x128 : Shape := ⟨3, ![1, 2048, 128]⟩
abbrev S2048x128 : Shape := ⟨2, ![2048, 128]⟩

abbrev nBuf : Space → Nat
  | .hbm => 18
  | .vmem => 8
  | .smem => 0
  | _ => 0

abbrev bufTy : (tb : Table) → Fin (tcTables nBuf tb) → BufTy
  | .hbm, ⟨0, _⟩ => ⟨S32x2048x4x96, .f32⟩
  | .hbm, ⟨1, _⟩ => ⟨S32x2048x4x96, .f32⟩
  | .hbm, ⟨2, _⟩ => ⟨S32x2048x4x64, .f32⟩
  | .hbm, ⟨3, _⟩ => ⟨S_, .f32⟩
  | .hbm, ⟨4, _⟩ => ⟨S32x2048x4x32, .f32⟩
  | .hbm, ⟨5, _⟩ => ⟨S_, .f32⟩
  | .hbm, ⟨6, _⟩ => ⟨S32x2048x4x64, .f32⟩
  | .hbm, ⟨7, _⟩ => ⟨S32x2048x4x128, .f32⟩
  | .hbm, ⟨8, _⟩ => ⟨S32x2048x512, .f32⟩
  | .hbm, ⟨9, _⟩ => ⟨S32x2048x512, .bf16⟩
  | .hbm, ⟨10, _⟩ => ⟨S32x2048x4x128, .f32⟩
  | .hbm, ⟨11, _⟩ => ⟨S32x2048x512, .f32⟩
  | .hbm, ⟨12, _⟩ => ⟨S32x512x2048, .f32⟩
  | .hbm, ⟨13, _⟩ => ⟨S32x512x2048, .bf16⟩
  | .hbm, ⟨14, _⟩ => ⟨S32x2048x4x128, .f32⟩
  | .hbm, ⟨15, _⟩ => ⟨S32x2048x512, .f32⟩
  | .hbm, ⟨16, _⟩ => ⟨S32x2048x512, .bf16⟩
  | .hbm, ⟨17, _⟩ => ⟨S32x2048x256, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x256, .bf16⟩
  | .local _ .vmem, ⟨7, _⟩ => ⟨S1x2048x256, .bf16⟩
  | _, _ => ⟨S32x2048x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c2_i32 : BitVec 32 := 2#32
  let v0 : BitVec 32 := Scalar.muli c0_i32 c2_i32
  let c0_i32_0 : BitVec 32 := 0#32
  let v1 : BitVec 32 := Scalar.addi v0 c0_i32_0
  let c1024_i32 : BitVec 32 := 1024#32
  let v2 : BitVec 32 := Scalar.muli v1 c1024_i32
  v2
def k0_off1 (c0_i32_0 : BitVec 32) : Fin 3 → Nat :=
  let c0 : Index := 0#32
  let c0_i32 : BitVec 32 := 0#32
  let c2_i32 : BitVec 32 := 2#32
  let v0 : BitVec 32 := Scalar.muli c0_i32 c2_i32
  let v1 : BitVec 32 := Scalar.addi v0 c0_i32_0
  let c1024_i32 : BitVec 32 := 1024#32
  let v2 : BitVec 32 := Scalar.muli v1 c1024_i32
  let v3 : BitVec 32 := v2
  let v4 : Index := Scalar.indexCast v3
  let c0_1 : Index := 0#32
  ![0, v4.toNat, 0]
def k0_mult2 : BitVec 32 :=
  let c0_i32 : BitVec 32 := 0#32
  let c2_i32_6 : BitVec 32 := 2#32
  let v14 : BitVec 32 := Scalar.muli c0_i32 c2_i32_6
  let c0_i32_7 : BitVec 32 := 0#32
  let v15 : BitVec 32 := Scalar.addi v14 c0_i32_7
  let c1024_i32_8 : BitVec 32 := 1024#32
  let v16 : BitVec 32 := Scalar.muli v15 c1024_i32_8
  v16
def k0_off2 (c0_i32_7 : BitVec 32) : Fin 3 → Nat :=
  let c0_9 : Index := 0#32
  let c0_i32 : BitVec 32 := 0#32
  let c2_i32_6 : BitVec 32 := 2#32
  let v14 : BitVec 32 := Scalar.muli c0_i32 c2_i32_6
  let v15 : BitVec 32 := Scalar.addi v14 c0_i32_7
  let c1024_i32_8 : BitVec 32 := 1024#32
  let v16 : BitVec 32 := Scalar.muli v15 c1024_i32_8
  let v17 : BitVec 32 := v16
  let v18 : Index := Scalar.indexCast v17
  let c128 : Index := 128#32
  ![0, v18.toNat, 128]
def k0_mult3 : BitVec 32 :=
  let c0_i32 : BitVec 32 := 0#32
  let c2_i32_16 : BitVec 32 := 2#32
  let v34 : BitVec 32 := Scalar.muli c0_i32 c2_i32_16
  let c0_i32_17 : BitVec 32 := 0#32
  let v35 : BitVec 32 := Scalar.addi v34 c0_i32_17
  let c1024_i32_18 : BitVec 32 := 1024#32
  let v36 : BitVec 32 := Scalar.muli v35 c1024_i32_18
  v36
def k0_off3 (c0_i32_17 : BitVec 32) : Fin 3 → Nat :=
  let c0_19 : Index := 0#32
  let c0_i32 : BitVec 32 := 0#32
  let c2_i32_16 : BitVec 32 := 2#32
  let v34 : BitVec 32 := Scalar.muli c0_i32 c2_i32_16
  let v35 : BitVec 32 := Scalar.addi v34 c0_i32_17
  let c1024_i32_18 : BitVec 32 := 1024#32
  let v36 : BitVec 32 := Scalar.muli v35 c1024_i32_18
  let v37 : BitVec 32 := v36
  let v38 : Index := Scalar.indexCast v37
  let c256 : Index := 256#32
  ![0, v38.toNat, 256]
def k0_mult4 : BitVec 32 :=
  let c0_i32 : BitVec 32 := 0#32
  let c2_i32_31 : BitVec 32 := 2#32
  let v61 : BitVec 32 := Scalar.muli c0_i32 c2_i32_31
  let c0_i32_32 : BitVec 32 := 0#32
  let v62 : BitVec 32 := Scalar.addi v61 c0_i32_32
  let c1024_i32_33 : BitVec 32 := 1024#32
  let v63 : BitVec 32 := Scalar.muli v62 c1024_i32_33
  v63
def k0_off4 (c0_i32_32 : BitVec 32) : Fin 3 → Nat :=
  let c0_34 : Index := 0#32
  let c0_i32 : BitVec 32 := 0#32
  let c2_i32_31 : BitVec 32 := 2#32
  let v61 : BitVec 32 := Scalar.muli c0_i32 c2_i32_31
  let v62 : BitVec 32 := Scalar.addi v61 c0_i32_32
  let c1024_i32_33 : BitVec 32 := 1024#32
  let v63 : BitVec 32 := Scalar.muli v62 c1024_i32_33
  let v64 : BitVec 32 := v63
  let v65 : Index := Scalar.indexCast v64
  let c384 : Index := 384#32
  ![0, v65.toNat, 384]
def k0_mult5 : BitVec 32 :=
  let c0_i32 : BitVec 32 := 0#32
  let c2_i32_48 : BitVec 32 := 2#32
  let v88 : BitVec 32 := Scalar.muli c0_i32 c2_i32_48
  let c0_i32_49 : BitVec 32 := 0#32
  let v89 : BitVec 32 := Scalar.addi v88 c0_i32_49
  let c1024_i32_50 : BitVec 32 := 1024#32
  let v90 : BitVec 32 := Scalar.muli v89 c1024_i32_50
  v90
def k0_off5 (c0_i32_49 : BitVec 32) : Fin 3 → Nat :=
  let c0_51 : Index := 0#32
  let c0_i32 : BitVec 32 := 0#32
  let c2_i32_48 : BitVec 32 := 2#32
  let v88 : BitVec 32 := Scalar.muli c0_i32 c2_i32_48
  let v89 : BitVec 32 := Scalar.addi v88 c0_i32_49
  let c1024_i32_50 : BitVec 32 := 1024#32
  let v90 : BitVec 32 := Scalar.muli v89 c1024_i32_50
  let v91 : BitVec 32 := v90
  let v92 : Index := Scalar.indexCast v91
  let c0_52 : Index := 0#32
  ![0, v92.toNat, 0]
def k0_mult6 : BitVec 32 :=
  let c0_i32 : BitVec 32 := 0#32
  let c2_i32_54 : BitVec 32 := 2#32
  let v102 : BitVec 32 := Scalar.muli c0_i32 c2_i32_54
  let c1_i32 : BitVec 32 := 1#32
  let v103 : BitVec 32 := Scalar.addi v102 c1_i32
  let c1024_i32_55 : BitVec 32 := 1024#32
  let v104 : BitVec 32 := Scalar.muli v103 c1024_i32_55
  v104
def k0_mult7 : BitVec 32 :=
  let c0_i32 : BitVec 32 := 0#32
  let c2_i32_70 : BitVec 32 := 2#32
  let v129 : BitVec 32 := Scalar.muli c0_i32 c2_i32_70
  let c1_i32_71 : BitVec 32 := 1#32
  let v130 : BitVec 32 := Scalar.addi v129 c1_i32_71
  let c1024_i32_72 : BitVec 32 := 1024#32
  let v131 : BitVec 32 := Scalar.muli v130 c1024_i32_72
  v131
def k0_mult8 : BitVec 32 :=
  let c0_i32 : BitVec 32 := 0#32
  let c2_i32_88 : BitVec 32 := 2#32
  let v156 : BitVec 32 := Scalar.muli c0_i32 c2_i32_88
  let c0_i32_89 : BitVec 32 := 0#32
  let v157 : BitVec 32 := Scalar.addi v156 c0_i32_89
  let c1024_i32_90 : BitVec 32 := 1024#32
  let v158 : BitVec 32 := Scalar.muli v157 c1024_i32_90
  v158
def k0_off6 (c0_i32_89 : BitVec 32) : Fin 3 → Nat :=
  let c0_91 : Index := 0#32
  let c0_i32 : BitVec 32 := 0#32
  let c2_i32_88 : BitVec 32 := 2#32
  let v156 : BitVec 32 := Scalar.muli c0_i32 c2_i32_88
  let v157 : BitVec 32 := Scalar.addi v156 c0_i32_89
  let c1024_i32_90 : BitVec 32 := 1024#32
  let v158 : BitVec 32 := Scalar.muli v157 c1024_i32_90
  let v159 : BitVec 32 := v158
  let v160 : Index := Scalar.indexCast v159
  let c128_92 : Index := 128#32
  ![0, v160.toNat, 128]
def k0_mult9 : BitVec 32 :=
  let c0_i32 : BitVec 32 := 0#32
  let c2_i32_94 : BitVec 32 := 2#32
  let v170 : BitVec 32 := Scalar.muli c0_i32 c2_i32_94
  let c1_i32_95 : BitVec 32 := 1#32
  let v171 : BitVec 32 := Scalar.addi v170 c1_i32_95
  let c1024_i32_96 : BitVec 32 := 1024#32
  let v172 : BitVec 32 := Scalar.muli v171 c1024_i32_96
  v172
def k0_mult10 : BitVec 32 :=
  let c0_i32 : BitVec 32 := 0#32
  let c2_i32_111 : BitVec 32 := 2#32
  let v197 : BitVec 32 := Scalar.muli c0_i32 c2_i32_111
  let c1_i32_112 : BitVec 32 := 1#32
  let v198 : BitVec 32 := Scalar.addi v197 c1_i32_112
  let c1024_i32_113 : BitVec 32 := 1024#32
  let v199 : BitVec 32 := Scalar.muli v198 c1024_i32_113
  v199
def k0_mult11 : BitVec 32 :=
  let c0_i32 : BitVec 32 := 0#32
  let c2_i32_129 : BitVec 32 := 2#32
  let v224 : BitVec 32 := Scalar.muli c0_i32 c2_i32_129
  let c1_i32_130 : BitVec 32 := 1#32
  let v225 : BitVec 32 := Scalar.addi v224 c1_i32_130
  let c1024_i32_131 : BitVec 32 := 1024#32
  let v226 : BitVec 32 := Scalar.muli v225 c1024_i32_131
  v226
def k0_mult12 : BitVec 32 :=
  let c0_i32 : BitVec 32 := 0#32
  let c2_i32_150 : BitVec 32 := 2#32
  let v264 : BitVec 32 := Scalar.muli c0_i32 c2_i32_150
  let c1_i32_151 : BitVec 32 := 1#32
  let v265 : BitVec 32 := Scalar.addi v264 c1_i32_151
  let c1024_i32_152 : BitVec 32 := 1024#32
  let v266 : BitVec 32 := Scalar.muli v265 c1024_i32_152
  v266
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LatentIdeal.lean ====
variable {F : FTy → Type} [FloatOps F] [Named F]
def κ : String → Option EReal := fun
  | "qscale" => some (((3424635 / 33554432) * (Real.log 2)⁻¹ : ℝ) : EReal)
  | _ => none
-- ==== LatentReferenceIdeal.lean ====
abbrev S32x2048x4x96 : Shape := ⟨4, ![32, 2048, 4, 96]⟩
abbrev S32x2048x4x64 : Shape := ⟨4, ![32, 2048, 4, 64]⟩
abbrev S_ : Shape := ⟨0, ![]⟩
abbrev S32x4x2048x2048 : Shape := ⟨4, ![32, 4, 2048, 2048]⟩
abbrev S32x4x2048 : Shape := ⟨3, ![32, 4, 2048]⟩
abbrev S32x4x2048x1 : Shape := ⟨4, ![32, 4, 2048, 1]⟩
abbrev S32x4x64x2048 : Shape := ⟨4, ![32, 4, 64, 2048]⟩
abbrev S32x2048x256 : Shape := ⟨3, ![32, 2048, 256]⟩

abbrev nBuf : Space → Nat
  | .hbm => 25
  | .vmem => 0
  | .smem => 0
  | _ => 0

abbrev bufTy : (tb : Table) → Fin (tcTables nBuf tb) → BufTy
  | .hbm, ⟨0, _⟩ => ⟨S32x2048x4x96, .f32⟩
  | .hbm, ⟨1, _⟩ => ⟨S32x2048x4x96, .f32⟩
  | .hbm, ⟨2, _⟩ => ⟨S32x2048x4x64, .f32⟩
  | .hbm, ⟨3, _⟩ => ⟨S_, .f32⟩
  | .hbm, ⟨4, _⟩ => ⟨S32x2048x4x96, .f32⟩
  | .hbm, ⟨5, _⟩ => ⟨S32x2048x4x96, .f32⟩
  | .hbm, ⟨6, _⟩ => ⟨S32x4x2048x2048, .f32⟩
  | .hbm, ⟨7, _⟩ => ⟨S_, .f32⟩
  | .hbm, ⟨8, _⟩ => ⟨S32x4x2048, .f32⟩
  | .hbm, ⟨9, _⟩ => ⟨S_, .f32⟩
  | .hbm, ⟨10, _⟩ => ⟨S32x4x2048, .f32⟩
  | .hbm, ⟨11, _⟩ => ⟨S32x4x2048, .f32⟩
  | .hbm, ⟨12, _⟩ => ⟨S32x4x2048x1, .f32⟩
  | .hbm, ⟨13, _⟩ => ⟨S32x4x2048x2048, .f32⟩
  | .hbm, ⟨14, _⟩ => ⟨S32x4x2048x2048, .f32⟩
  | .hbm, ⟨15, _⟩ => ⟨S32x4x2048x2048, .f32⟩
  | .hbm, ⟨16, _⟩ => ⟨S_, .f32⟩
  | .hbm, ⟨17, _⟩ => ⟨S32x4x2048, .f32⟩
  | .hbm, ⟨18, _⟩ => ⟨S32x4x2048x1, .f32⟩
  | .hbm, ⟨19, _⟩ => ⟨S32x4x2048x2048, .f32⟩
  | .hbm, ⟨20, _⟩ => ⟨S32x4x2048x2048, .f32⟩
  | .hbm, ⟨21, _⟩ => ⟨S32x4x64x2048, .f32⟩
  | .hbm, ⟨22, _⟩ => ⟨S32x2048x4x64, .f32⟩
  | .hbm, ⟨23, _⟩ => ⟨S32x2048x256, .f32⟩
  | .hbm, ⟨24, _⟩ => ⟨S32x2048x256, .bf16⟩
  | _, _ => ⟨S32x2048x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Inproj.lean ====
abbrev S32x2048x1024 : Shape := ⟨3, ![32, 2048, 1024]⟩
abbrev S1024 : Shape := ⟨1, ![1024]⟩
abbrev S1024x6496 : Shape := ⟨2, ![1024, 6496]⟩
abbrev S2048x16 : Shape := ⟨2, ![2048, 16]⟩
abbrev S192 : Shape := ⟨1, ![192]⟩
abbrev S128 : Shape := ⟨1, ![128]⟩
abbrev S192x384 : Shape := ⟨2, ![192, 384]⟩
abbrev S128x512 : Shape := ⟨2, ![128, 512]⟩
abbrev S64 : Shape := ⟨1, ![64]⟩
abbrev S1024x768 : Shape := ⟨2, ![1024, 768]⟩
abbrev S1024x352 : Shape := ⟨2, ![1024, 352]⟩
abbrev S1024x512 : Shape := ⟨2, ![1024, 512]⟩
abbrev S1024x4096 : Shape := ⟨2, ![1024, 4096]⟩
abbrev S1024x192 : Shape := ⟨2, ![1024, 192]⟩
abbrev S1024x128 : Shape := ⟨2, ![1024, 128]⟩
abbrev S1024x32 : Shape := ⟨2, ![1024, 32]⟩
abbrev S_ : Shape := ⟨0, ![]⟩
abbrev S1024x64 : Shape := ⟨2, ![1024, 64]⟩
abbrev S1024x2560 : Shape := ⟨2, ![1024, 2560]⟩
abbrev S192x4x96 : Shape := ⟨3, ![192, 4, 96]⟩
abbrev S256x4x128 : Shape := ⟨3, ![256, 4, 128]⟩
abbrev S256x512 : Shape := ⟨2, ![256, 512]⟩
abbrev S128x4x128 : Shape := ⟨3, ![128, 4, 128]⟩
abbrev S128x4x64 : Shape := ⟨3, ![128, 4, 64]⟩
abbrev S128x1024 : Shape := ⟨2, ![128, 1024]⟩
abbrev S256 : Shape := ⟨1, ![256]⟩
abbrev S1x256 : Shape := ⟨2, ![1, 256]⟩
abbrev S1x128 : Shape := ⟨2, ![1, 128]⟩
abbrev S1x64 : Shape := ⟨2, ![1, 64]⟩
abbrev S2x64 : Shape := ⟨2, ![2, 64]⟩
abbrev S1x1024 : Shape := ⟨2, ![1, 1024]⟩
abbrev S128x1 : Shape := ⟨2, ![128, 1]⟩
abbrev S2048x128 : Shape := ⟨2, ![2048, 128]⟩
abbrev S1x2048x128 : Shape := ⟨3, ![1, 2048, 128]⟩
abbrev S9x2048x128 : Shape := ⟨3, ![9, 2048, 128]⟩
abbrev S32x2048x256 : Shape := ⟨3, ![32, 2048, 256]⟩
abbrev S32x256x2048 : Shape := ⟨3, ![32, 256, 2048]⟩
abbrev S32x2048x512 : Shape := ⟨3, ![32, 2048, 512]⟩
abbrev S32x512x2048 : Shape := ⟨3, ![32, 512, 2048]⟩
abbrev S32x128x2048 : Shape := ⟨3, ![32, 128, 2048]⟩
abbrev S1x1024x1024 : Shape := ⟨3, ![1, 1024, 1024]⟩
abbrev S9x1024x128 : Shape := ⟨3, ![9, 1024, 128]⟩
abbrev S1x1024x256 : Shape := ⟨3, ![1, 1024, 256]⟩
abbrev S1x256x1024 : Shape := ⟨3, ![1, 256, 1024]⟩
abbrev S1x1024x512 : Shape := ⟨3, ![1, 1024, 512]⟩
abbrev S1x512x1024 : Shape := ⟨3, ![1, 512, 1024]⟩
abbrev S1x128x1024 : Shape := ⟨3, ![1, 128, 1024]⟩
abbrev S1024x1024 : Shape := ⟨2, ![1024, 1024]⟩
abbrev S1024x1 : Shape := ⟨2, ![1024, 1]⟩
abbrev S1024x256 : Shape := ⟨2, ![1024, 256]⟩
abbrev S1x1024x128 : Shape := ⟨3, ![1, 1024, 128]⟩
abbrev S128x128 : Shape := ⟨2, ![128, 128]⟩

abbrev nBuf : Space → Nat
  | .hbm => 178
  | .vmem => 36
  | .smem => 0
  | _ => 0

abbrev hbmTy0_0 (i : Nat) : BufTy := match i % 128 with
  | 0 => ⟨S32x2048x1024, .f32⟩
  | 1 => ⟨S1024, .f32⟩
  | 2 => ⟨S1024x6496, .f32⟩
  | 3 => ⟨S2048x16, .f32⟩
  | 4 => ⟨S2048x16, .f32⟩
  | 5 => ⟨S2048x16, .f32⟩
  | 6 => ⟨S192, .f32⟩
  | 7 => ⟨S128, .f32⟩
  | 8 => ⟨S192x384, .f32⟩
  | 9 => ⟨S128x512, .f32⟩
  | 10 => ⟨S64, .f32⟩
  | 11 => ⟨S64, .f32⟩
  | 12 => ⟨S128, .i1⟩
  | 13 => ⟨S128, .i32⟩
  | 14 => ⟨S128, .i1⟩
  | 15 => ⟨S128, .i1⟩
  | 16 => ⟨S128, .i1⟩
  | 17 => ⟨S128, .i1⟩
  | 18 => ⟨S128, .i1⟩
  | 19 => ⟨S1024x768, .f32⟩
  | 20 => ⟨S1024x768, .f32⟩
  | 21 => ⟨S1024x352, .f32⟩
  | 22 => ⟨S1024x512, .f32⟩
  | 23 => ⟨S1024x4096, .f32⟩
  | 24 => ⟨S1024x192, .f32⟩
  | 25 => ⟨S1024x128, .f32⟩
  | 26 => ⟨S1024x32, .f32⟩
  | 27 => ⟨S_, .f32⟩
  | 28 => ⟨S1024x64, .f32⟩
  | 29 => ⟨S_, .f32⟩
  | 30 => ⟨S1024x64, .f32⟩
  | 31 => ⟨S_, .f32⟩
  | 32 => ⟨S1024x32, .f32⟩
  | 33 => ⟨S1024x2560, .f32⟩
  | 34 => ⟨S192x4x96, .f32⟩
  | 35 => ⟨S_, .i32⟩
  | 36 => ⟨S_, .f32⟩
  | 37 => ⟨S256x4x128, .f32⟩
  | 38 => ⟨S256x512, .f32⟩
  | 39 => ⟨S128x4x128, .f32⟩
  | 40 => ⟨S128x4x64, .f32⟩
  | 41 => ⟨S_, .i32⟩
  | 42 => ⟨S_, .f32⟩
  | 43 => ⟨S128x4x128, .f32⟩
  | 44 => ⟨S128x512, .f32⟩
  | 45 => ⟨S128x4x64, .f32⟩
  | 46 => ⟨S_, .i32⟩
  | 47 => ⟨S_, .f32⟩
  | 48 => ⟨S128x4x128, .f32⟩
  | 49 => ⟨S128x512, .f32⟩
  | 50 => ⟨S128x1024, .f32⟩
  | 51 => ⟨S_, .i32⟩
  | 52 => ⟨S_, .f32⟩
  | 53 => ⟨S256, .f32⟩
  | 54 => ⟨S1x256, .f32⟩
  | 55 => ⟨S1024x2560, .bf16⟩
  | 56 => ⟨S1x128, .f32⟩
  | 57 => ⟨S256x512, .bf16⟩
  | 58 => ⟨S128x1024, .bf16⟩
  | 59 => ⟨S1x64, .f32⟩
  | 60 => ⟨S2x64, .f32⟩
  | 61 => ⟨S128, .f32⟩
  | 62 => ⟨S1x128, .f32⟩
  | 63 => ⟨S1x64, .f32⟩
  | 64 => ⟨S2x64, .f32⟩
  | 65 => ⟨S128, .f32⟩
  | 66 => ⟨S1x128, .f32⟩
  | 67 => ⟨S1x1024, .f32⟩
  | 68 => ⟨S1x128, .i1⟩
  | 69 => ⟨S_, .i32⟩
  | 70 => ⟨S128, .i32⟩
  | 71 => ⟨S128, .i32⟩
  | 72 => ⟨S128, .i32⟩
  | 73 => ⟨S128x1, .i32⟩
  | 74 => ⟨S2048x128, .f32⟩
  | 75 => ⟨S1x128, .i1⟩
  | 76 => ⟨S_, .i32⟩
  | 77 => ⟨S128, .i32⟩
  | 78 => ⟨S128, .i32⟩
  | 79 => ⟨S128, .i32⟩
  | 80 => ⟨S128x1, .i32⟩
  | 81 => ⟨S2048x128, .f32⟩
  | 82 => ⟨S_, .i32⟩
  | 83 => ⟨S128, .i32⟩
  | 84 => ⟨S128, .i32⟩
  | 85 => ⟨S128, .i32⟩
  | 86 => ⟨S128x1, .i32⟩
  | 87 => ⟨S2048x128, .f32⟩
  | 88 => ⟨S2048x128, .i1⟩
  | 89 => ⟨S2048x128, .f32⟩
  | 90 => ⟨S1x128, .i1⟩
  | 91 => ⟨S_, .i1⟩
  | 92 => ⟨S1x128, .i1⟩
  | 93 => ⟨S2048x128, .f32⟩
  | 94 => ⟨S2048x128, .f32⟩
  | 95 => ⟨S_, .f32⟩
  | 96 => ⟨S_, .f32⟩
  | 97 => ⟨S2048x128, .i1⟩
  | 98 => ⟨S2048x128, .f32⟩
  | 99 => ⟨S2048x128, .f32⟩
  | 100 => ⟨S1x128, .i1⟩
  | 101 => ⟨S2048x128, .f32⟩
  | 102 => ⟨S_, .f32⟩
  | 103 => ⟨S_, .f32⟩
  | 104 => ⟨S2048x128, .i1⟩
  | 105 => ⟨S2048x128, .f32⟩
  | 106 => ⟨S2048x128, .f32⟩
  | 107 => ⟨S1x128, .i1⟩
  | 108 => ⟨S1x128, .i1⟩
  | 109 => ⟨S_, .f32⟩
  | 110 => ⟨S_, .f32⟩
  | 111 => ⟨S2048x128, .i1⟩
  | 112 => ⟨S2048x128, .f32⟩
  | 113 => ⟨S2048x128, .f32⟩
  | 114 => ⟨S2048x128, .f32⟩
  | 115 => ⟨S2048x128, .f32⟩
  | 116 => ⟨S_, .f32⟩
  | 117 => ⟨S_, .f32⟩
  | 118 => ⟨S2048x128, .i1⟩
  | 119 => ⟨S2048x128, .f32⟩
  | 120 => ⟨S2048x128, .f32⟩
  | 121 => ⟨S1x128, .i1⟩
  | 122 => ⟨S2048x128, .f32⟩
  | 123 => ⟨S_, .f32⟩
  | 124 => ⟨S_, .f32⟩
  | 125 => ⟨S2048x128, .i1⟩
  | 126 => ⟨S2048x128, .f32⟩
  | 127 => ⟨S2048x128, .f32⟩
  | _ => ⟨S32x2048x1024, .f32⟩

abbrev hbmTy0_1 (i : Nat) : BufTy := match i % 128 with
  | 0 => ⟨S1x128, .i1⟩
  | 1 => ⟨S1x128, .i1⟩
  | 2 => ⟨S_, .f32⟩
  | 3 => ⟨S_, .f32⟩
  | 4 => ⟨S2048x128, .i1⟩
  | 5 => ⟨S2048x128, .f32⟩
  | 6 => ⟨S2048x128, .f32⟩
  | 7 => ⟨S2048x128, .f32⟩
  | 8 => ⟨S2048x128, .f32⟩
  | 9 => ⟨S_, .f32⟩
  | 10 => ⟨S_, .f32⟩
  | 11 => ⟨S2048x128, .i1⟩
  | 12 => ⟨S2048x128, .f32⟩
  | 13 => ⟨S2048x128, .f32⟩
  | 14 => ⟨S1x128, .i1⟩
  | 15 => ⟨S2048x128, .f32⟩
  | 16 => ⟨S_, .f32⟩
  | 17 => ⟨S_, .f32⟩
  | 18 => ⟨S2048x128, .i1⟩
  | 19 => ⟨S2048x128, .f32⟩
  | 20 => ⟨S2048x128, .f32⟩
  | 21 => ⟨S1x128, .i1⟩
  | 22 => ⟨S1x128, .i1⟩
  | 23 => ⟨S_, .f32⟩
  | 24 => ⟨S_, .f32⟩
  | 25 => ⟨S2048x128, .i1⟩
  | 26 => ⟨S2048x128, .f32⟩
  | 27 => ⟨S2048x128, .f32⟩
  | 28 => ⟨S1x2048x128, .f32⟩
  | 29 => ⟨S1x2048x128, .f32⟩
  | 30 => ⟨S1x2048x128, .f32⟩
  | 31 => ⟨S1x2048x128, .f32⟩
  | 32 => ⟨S1x2048x128, .f32⟩
  | 33 => ⟨S1x2048x128, .f32⟩
  | 34 => ⟨S1x2048x128, .f32⟩
  | 35 => ⟨S1x2048x128, .f32⟩
  | 36 => ⟨S1x2048x128, .f32⟩
  | 37 => ⟨S9x2048x128, .f32⟩
  | 38 => ⟨S32x2048x256, .bf16⟩
  | 39 => ⟨S32x256x2048, .bf16⟩
  | 40 => ⟨S32x2048x256, .bf16⟩
  | 41 => ⟨S32x2048x256, .bf16⟩
  | 42 => ⟨S32x256x2048, .bf16⟩
  | 43 => ⟨S32x2048x512, .bf16⟩
  | 44 => ⟨S32x2048x512, .bf16⟩
  | 45 => ⟨S32x512x2048, .bf16⟩
  | 46 => ⟨S32x2048x512, .bf16⟩
  | 47 => ⟨S32x2048x256, .bf16⟩
  | 48 => ⟨S32x128x2048, .bf16⟩
  | 49 => ⟨S32x2048x256, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2560, .bf16⟩
  | .local _ .vmem, ⟨4, _⟩ => ⟨S9x1024x128, .f32⟩
  | .local _ .vmem, ⟨5, _⟩ => ⟨S9x1024x128, .f32⟩
  | .local _ .vmem, ⟨6, _⟩ => ⟨S1x256, .f32⟩
  | .local _ .vmem, ⟨7, _⟩ => ⟨S1x128, .f32⟩
  | .local _ .vmem, ⟨8, _⟩ => ⟨S256x512, .bf16⟩
  | .local _ .vmem, ⟨9, _⟩ => ⟨S128x1024, .bf16⟩
  | .local _ .vmem, ⟨10, _⟩ => ⟨S1x128, .f32⟩
  | .local _ .vmem, ⟨11, _⟩ => ⟨S1x128, .f32⟩
  | .local _ .vmem, ⟨12, _⟩ => ⟨S1x1024x256, .bf16⟩
  | .local _ .vmem, ⟨13, _⟩ => ⟨S1x1024x256, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x256, .bf16⟩
  | .local _ .vmem, ⟨19, _⟩ => ⟨S1x1024x256, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x1024x512, .bf16⟩
  | .local _ .vmem, ⟨29, _⟩ => ⟨S1x1024x512, .bf16⟩
  | .local _ .vmem, ⟨30, _⟩ => ⟨S1x1024x256, .bf16⟩
  | .local _ .vmem, ⟨31, _⟩ => ⟨S1x1024x256, .bf16⟩
  | .local _ .vmem, ⟨32, _⟩ => ⟨S1x128x1024, .bf16⟩
  | .local _ .vmem, ⟨33, _⟩ => ⟨S1x128x1024, .bf16⟩
  | .local _ .vmem, ⟨34, _⟩ => ⟨S1x1024x256, .bf16⟩
  | .local _ .vmem, ⟨35, _⟩ => ⟨S1x1024x256, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_c_2 : Ref sig .tc := ⟨.hbm, 15, rfl⟩
abbrev main_c_3 : Ref sig .tc := ⟨.hbm, 16, rfl⟩
abbrev main_c_4 : Ref sig .tc := ⟨.hbm, 17, rfl⟩
abbrev main_c_5 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_cst_6 : Ref sig .tc := ⟨.hbm, 29, rfl⟩
abbrev main_v9 : Ref sig .tc := ⟨.hbm, 30, rfl⟩
abbrev main_cst_7 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_8 : Ref sig .tc := ⟨.hbm, 35, rfl⟩
abbrev main_call0_v0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c_9 : Ref sig .tc := ⟨.hbm, 41, rfl⟩
abbrev main_call1_v0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_10 : Ref sig .tc := ⟨.hbm, 46, rfl⟩
abbrev main_call2_v0 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_11 : Ref sig .tc := ⟨.hbm, 51, rfl⟩
abbrev main_call3_v0 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_12 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_13 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_14 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_call4_v0 : Ref sig .tc := ⟨.hbm, 88, rfl⟩
abbrev main_v55 : Ref sig .tc := ⟨.hbm, 89, rfl⟩
abbrev main_v56 : Ref sig .tc := ⟨.hbm, 90, rfl⟩
abbrev main_c_15 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_16 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_17 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_18 : Ref sig .tc := ⟨.hbm, 109, rfl⟩
abbrev main_call7_v0 : Ref sig .tc := ⟨.hbm, 110, rfl⟩
abbrev main_call7_v1 : Ref sig .tc := ⟨.hbm, 111, rfl⟩
abbrev main_call7_v2 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_19 : Ref sig .tc := ⟨.hbm, 116, rfl⟩
abbrev main_call8_v0 : Ref sig .tc := ⟨.hbm, 117, rfl⟩
abbrev main_call8_v1 : Ref sig .tc := ⟨.hbm, 118, rfl⟩
abbrev main_call8_v2 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_20 : Ref sig .tc := ⟨.hbm, 123, rfl⟩
abbrev main_call9_v0 : Ref sig .tc := ⟨.hbm, 124, rfl⟩
abbrev main_call9_v1 : Ref sig .tc := ⟨.hbm, 125, rfl⟩
abbrev main_call9_v2 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_21 : Ref sig .tc := ⟨.hbm, 130, rfl⟩
abbrev main_call10_v0 : Ref sig .tc := ⟨.hbm, 131, rfl⟩
abbrev main_call10_v1 : Ref sig .tc := ⟨.hbm, 132, rfl⟩
abbrev main_call10_v2 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_cst_22 : Ref sig .tc := ⟨.hbm, 137, rfl⟩
abbrev main_call11_v0 : Ref sig .tc := ⟨.hbm, 138, rfl⟩
abbrev main_call11_v1 : Ref sig .tc := ⟨.hbm, 139, rfl⟩
abbrev main_call11_v2 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_cst_23 : Ref sig .tc := ⟨.hbm, 144, rfl⟩
abbrev main_call12_v0 : Ref sig .tc := ⟨.hbm, 145, rfl⟩
abbrev main_call12_v1 : Ref sig .tc := ⟨.hbm, 146, rfl⟩
abbrev main_call12_v2 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_cst_24 : Ref sig .tc := ⟨.hbm, 151, rfl⟩
abbrev main_call13_v0 : Ref sig .tc := ⟨.hbm, 152, rfl⟩
abbrev main_call13_v1 : Ref sig .tc := ⟨.hbm, 153, rfl⟩
abbrev main_call13_v2 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95_0 : Ref sig .tc := ⟨.hbm, 166, rfl⟩
abbrev main_v95_1 : Ref sig .tc := ⟨.hbm, 167, rfl⟩
abbrev main_v95_2 : Ref sig .tc := ⟨.hbm, 168, rfl⟩
abbrev main_v95_3 : Ref sig .tc := ⟨.hbm, 169, rfl⟩
abbrev main_v95_4 : Ref sig .tc := ⟨.hbm, 170, rfl⟩
abbrev main_v95_5 : Ref sig .tc := ⟨.hbm, 171, rfl⟩
abbrev main_v95_6 : Ref sig .tc := ⟨.hbm, 172, rfl⟩
abbrev main_v95_7 : Ref sig .tc := ⟨.hbm, 173, rfl⟩
abbrev main_v95_8 : Ref sig .tc := ⟨.hbm, 174, rfl⟩
abbrev main_v95_9 : Ref sig .tc := ⟨.hbm, 175, rfl⟩
abbrev main_v95_10 : Ref sig .tc := ⟨.hbm, 176, rfl⟩
abbrev main_v95_11 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S9x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x128x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1024x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== InprojIdeal.lean ====
variable {F : FTy → Type} [FloatOps F] [Named F]
def κ : String → Option EReal := fun
  | "width" => some ((1 / 192 : ℝ) : EReal)
  | _ => none
-- ==== InprojReferenceIdeal.lean ====
abbrev S32x2048x1024 : Shape := ⟨3, ![32, 2048, 1024]⟩
abbrev S1024 : Shape := ⟨1, ![1024]⟩
abbrev S1024x6496 : Shape := ⟨2, ![1024, 6496]⟩
abbrev S2048x16 : Shape := ⟨2, ![2048, 16]⟩
abbrev S192 : Shape := ⟨1, ![192]⟩
abbrev S128 : Shape := ⟨1, ![128]⟩
abbrev S192x384 : Shape := ⟨2, ![192, 384]⟩
abbrev S128x512 : Shape := ⟨2, ![128, 512]⟩
abbrev S64 : Shape := ⟨1, ![64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x6496 : Shape := ⟨3, ![32, 2048, 6496]⟩
abbrev S32x2048x768 : Shape := ⟨3, ![32, 2048, 768]⟩
abbrev S32x2048x352 : Shape := ⟨3, ![32, 2048, 352]⟩
abbrev S32x2048x512 : Shape := ⟨3, ![32, 2048, 512]⟩
abbrev S32x2048x4096 : Shape := ⟨3, ![32, 2048, 4096]⟩
abbrev S32x2048x256 : Shape := ⟨3, ![32, 2048, 256]⟩
abbrev S32x2048x4x2x32 : Shape := ⟨5, ![32, 2048, 4, 2, 32]⟩
abbrev S1x2048x1x1x16 : Shape := ⟨5, ![1, 2048, 1, 1, 16]⟩
abbrev S32x2048x4x2x16 : Shape := ⟨5, ![32, 2048, 4, 2, 16]⟩
abbrev S32x2048x4x64 : Shape := ⟨4, ![32, 2048, 4, 64]⟩
abbrev S32x2048x192 : Shape := ⟨3, ![32, 2048, 192]⟩
abbrev S32x2048x128 : Shape := ⟨3, ![32, 2048, 128]⟩
abbrev S32x2048x32 : Shape := ⟨3, ![32, 2048, 32]⟩
abbrev S1x1x192 : Shape := ⟨3, ![1, 1, 192]⟩
abbrev S32x2048x384 : Shape := ⟨3, ![32, 2048, 384]⟩
abbrev S32x2048x4x96 : Shape := ⟨4, ![32, 2048, 4, 96]⟩
abbrev S32x2048x4x32 : Shape := ⟨4, ![32, 2048, 4, 32]⟩
abbrev S1x2048x1x16 : Shape := ⟨4, ![1, 2048, 1, 16]⟩
abbrev S32x2048x4x16 : Shape := ⟨4, ![32, 2048, 4, 16]⟩
abbrev S1x1x128 : Shape := ⟨3, ![1, 1, 128]⟩
abbrev S32x2048x4x128 : Shape := ⟨4, ![32, 2048, 4, 128]⟩
abbrev S1x2048x16 : Shape := ⟨3, ![1, 2048, 16]⟩
abbrev S32x2048x16 : Shape := ⟨3, ![32, 2048, 16]⟩
abbrev S32x2048x1x32 : Shape := ⟨4, ![32, 2048, 1, 32]⟩
abbrev S32x2048x2x2x64 : Shape := ⟨5, ![32, 2048, 2, 2, 64]⟩
abbrev S32x2048x2x2 : Shape := ⟨4, ![32, 2048, 2, 2]⟩
abbrev S32x2048x2x2x1 : Shape := ⟨5, ![32, 2048, 2, 2, 1]⟩
abbrev S1x1x1x1x64 : Shape := ⟨5, ![1, 1, 1, 1, 64]⟩
abbrev S32x2048x2x2x32 : Shape := ⟨5, ![32, 2048, 2, 2, 32]⟩
abbrev S32x2048x2x2x16 : Shape := ⟨5, ![32, 2048, 2, 2, 16]⟩
abbrev S32x2048x2x64 : Shape := ⟨4, ![32, 2048, 2, 64]⟩
abbrev S32x2048x2 : Shape := ⟨3, ![32, 2048, 2]⟩
abbrev S32x2048x2x1 : Shape := ⟨4, ![32, 2048, 2, 1]⟩
abbrev S1x1x1x64 : Shape := ⟨4, ![1, 1, 1, 64]⟩
abbrev S32x2048x2x32 : Shape := ⟨4, ![32, 2048, 2, 32]⟩
abbrev S32x2048x2x16 : Shape := ⟨4, ![32, 2048, 2, 16]⟩
abbrev S32x256x2048 : Shape := ⟨3, ![32, 256, 2048]⟩
abbrev S32x512x2048 : Shape := ⟨3, ![32, 512, 2048]⟩
abbrev S32x128x2048 : Shape := ⟨3, ![32, 128, 2048]⟩
abbrev S32x2048x2x128 : Shape := ⟨4, ![32, 2048, 2, 128]⟩

abbrev nBuf : Space → Nat
  | .hbm => 310
  | .vmem => 0
  | .smem => 0
  | _ => 0

abbrev hbmTy0_0 (i : Nat) : BufTy := match i % 128 with
  | 0 => ⟨S32x2048x1024, .f32⟩
  | 1 => ⟨S1024, .f32⟩
  | 2 => ⟨S1024x6496, .f32⟩
  | 3 => ⟨S2048x16, .f32⟩
  | 4 => ⟨S2048x16, .f32⟩
  | 5 => ⟨S2048x16, .f32⟩
  | 6 => ⟨S192, .f32⟩
  | 7 => ⟨S128, .f32⟩
  | 8 => ⟨S192x384, .f32⟩
  | 9 => ⟨S128x512, .f32⟩
  | 10 => ⟨S64, .f32⟩
  | 11 => ⟨S64, .f32⟩
  | 12 => ⟨S32x2048x1024, .f32⟩
  | 13 => ⟨S_, .f32⟩
  | 14 => ⟨S32x2048, .f32⟩
  | 15 => ⟨S32x2048x1, .f32⟩
  | 16 => ⟨S_, .f32⟩
  | 17 => ⟨S32x2048x1, .f32⟩
  | 18 => ⟨S32x2048x1, .f32⟩
  | 19 => ⟨S_, .f32⟩
  | 20 => ⟨S32x2048x1, .f32⟩
  | 21 => ⟨S32x2048x1, .f32⟩
  | 22 => ⟨S32x2048x1, .f32⟩
  | 23 => ⟨S32x2048x1024, .f32⟩
  | 24 => ⟨S32x2048x1024, .f32⟩
  | 25 => ⟨S1x1x1024, .f32⟩
  | 26 => ⟨S32x2048x1024, .f32⟩
  | 27 => ⟨S32x2048x1024, .f32⟩
  | 28 => ⟨S32x2048x6496, .f32⟩
  | 29 => ⟨S32x2048x768, .f32⟩
  | 30 => ⟨S32x2048x768, .f32⟩
  | 31 => ⟨S32x2048x352, .f32⟩
  | 32 => ⟨S32x2048x512, .f32⟩
  | 33 => ⟨S32x2048x4096, .f32⟩
  | 34 => ⟨S32x2048x256, .f32⟩
  | 35 => ⟨S32x2048x256, .f32⟩
  | 36 => ⟨S32x2048x256, .f32⟩
  | 37 => ⟨S32x2048x4x2x32, .f32⟩
  | 38 => ⟨S2048x16, .f32⟩
  | 39 => ⟨S1x2048x1x1x16, .f32⟩
  | 40 => ⟨S2048x16, .f32⟩
  | 41 => ⟨S1x2048x1x1x16, .f32⟩
  | 42 => ⟨S32x2048x4x2x16, .f32⟩
  | 43 => ⟨S32x2048x4x2x16, .f32⟩
  | 44 => ⟨S32x2048x4x2x16, .f32⟩
  | 45 => ⟨S32x2048x4x2x16, .f32⟩
  | 46 => ⟨S32x2048x4x2x16, .f32⟩
  | 47 => ⟨S32x2048x4x2x16, .f32⟩
  | 48 => ⟨S32x2048x4x2x16, .f32⟩
  | 49 => ⟨S32x2048x4x2x16, .f32⟩
  | 50 => ⟨S32x2048x4x2x16, .f32⟩
  | 51 => ⟨S32x2048x4x2x16, .f32⟩
  | 52 => ⟨S32x2048x4x2x16, .f32⟩
  | 53 => ⟨S32x2048x4x2x16, .f32⟩
  | 54 => ⟨S32x2048x4x2x32, .f32⟩
  | 55 => ⟨S32x2048x4x2x32, .f32⟩
  | 56 => ⟨S2048x16, .f32⟩
  | 57 => ⟨S1x2048x1x1x16, .f32⟩
  | 58 => ⟨S2048x16, .f32⟩
  | 59 => ⟨S1x2048x1x1x16, .f32⟩
  | 60 => ⟨S32x2048x4x2x16, .f32⟩
  | 61 => ⟨S32x2048x4x2x16, .f32⟩
  | 62 => ⟨S32x2048x4x2x16, .f32⟩
  | 63 => ⟨S32x2048x4x2x16, .f32⟩
  | 64 => ⟨S32x2048x4x2x16, .f32⟩
  | 65 => ⟨S32x2048x4x2x16, .f32⟩
  | 66 => ⟨S32x2048x4x2x16, .f32⟩
  | 67 => ⟨S32x2048x4x2x16, .f32⟩
  | 68 => ⟨S32x2048x4x2x16, .f32⟩
  | 69 => ⟨S32x2048x4x2x16, .f32⟩
  | 70 => ⟨S32x2048x4x2x16, .f32⟩
  | 71 => ⟨S32x2048x4x2x16, .f32⟩
  | 72 => ⟨S32x2048x4x2x32, .f32⟩
  | 73 => ⟨S32x2048x256, .f32⟩
  | 74 => ⟨S32x2048x256, .f32⟩
  | 75 => ⟨S32x2048x256, .f32⟩
  | 76 => ⟨S32x2048x4x64, .f32⟩
  | 77 => ⟨S32x2048x192, .f32⟩
  | 78 => ⟨S32x2048x128, .f32⟩
  | 79 => ⟨S32x2048x32, .f32⟩
  | 80 => ⟨S32x2048x192, .f32⟩
  | 81 => ⟨S_, .f32⟩
  | 82 => ⟨S32x2048, .f32⟩
  | 83 => ⟨S32x2048x1, .f32⟩
  | 84 => ⟨S_, .f32⟩
  | 85 => ⟨S32x2048x1, .f32⟩
  | 86 => ⟨S32x2048x1, .f32⟩
  | 87 => ⟨S_, .f32⟩
  | 88 => ⟨S32x2048x1, .f32⟩
  | 89 => ⟨S32x2048x1, .f32⟩
  | 90 => ⟨S32x2048x1, .f32⟩
  | 91 => ⟨S32x2048x192, .f32⟩
  | 92 => ⟨S32x2048x192, .f32⟩
  | 93 => ⟨S1x1x192, .f32⟩
  | 94 => ⟨S32x2048x192, .f32⟩
  | 95 => ⟨S32x2048x192, .f32⟩
  | 96 => ⟨S32x2048x384, .f32⟩
  | 97 => ⟨S32x2048x4x96, .f32⟩
  | 98 => ⟨S32x2048x4x64, .f32⟩
  | 99 => ⟨S32x2048x4x32, .f32⟩
  | 100 => ⟨S2048x16, .f32⟩
  | 101 => ⟨S1x2048x1x16, .f32⟩
  | 102 => ⟨S2048x16, .f32⟩
  | 103 => ⟨S1x2048x1x16, .f32⟩
  | 104 => ⟨S32x2048x4x16, .f32⟩
  | 105 => ⟨S32x2048x4x16, .f32⟩
  | 106 => ⟨S32x2048x4x16, .f32⟩
  | 107 => ⟨S32x2048x4x16, .f32⟩
  | 108 => ⟨S32x2048x4x16, .f32⟩
  | 109 => ⟨S32x2048x4x16, .f32⟩
  | 110 => ⟨S32x2048x4x16, .f32⟩
  | 111 => ⟨S32x2048x4x16, .f32⟩
  | 112 => ⟨S32x2048x4x16, .f32⟩
  | 113 => ⟨S32x2048x4x16, .f32⟩
  | 114 => ⟨S32x2048x4x16, .f32⟩
  | 115 => ⟨S32x2048x4x16, .f32⟩
  | 116 => ⟨S32x2048x4x32, .f32⟩
  | 117 => ⟨S32x2048x4x96, .f32⟩
  | 118 => ⟨S32x2048x128, .f32⟩
  | 119 => ⟨S_, .f32⟩
  | 120 => ⟨S32x2048, .f32⟩
  | 121 => ⟨S32x2048x1, .f32⟩
  | 122 => ⟨S_, .f32⟩
  | 123 => ⟨S32x2048x1, .f32⟩
  | 124 => ⟨S32x2048x1, .f32⟩
  | 125 => ⟨S_, .f32⟩
  | 126 => ⟨S32x2048x1, .f32⟩
  | 127 => ⟨S32x2048x1, .f32⟩
  | _ => ⟨S32x2048x1024, .f32⟩

abbrev hbmTy0_1 (i : Nat) : BufTy := match i % 128 with
  | 0 => ⟨S32x2048x1, .f32⟩
  | 1 => ⟨S32x2048x128, .f32⟩
  | 2 => ⟨S32x2048x128, .f32⟩
  | 3 => ⟨S1x1x128, .f32⟩
  | 4 => ⟨S32x2048x128, .f32⟩
  | 5 => ⟨S32x2048x128, .f32⟩
  | 6 => ⟨S32x2048x512, .f32⟩
  | 7 => ⟨S32x2048x4x128, .f32⟩
  | 8 => ⟨S32x2048x4x64, .f32⟩
  | 9 => ⟨S32x2048x4x64, .f32⟩
  | 10 => ⟨S2048x16, .f32⟩
  | 11 => ⟨S1x2048x16, .f32⟩
  | 12 => ⟨S2048x16, .f32⟩
  | 13 => ⟨S1x2048x16, .f32⟩
  | 14 => ⟨S32x2048x16, .f32⟩
  | 15 => ⟨S32x2048x16, .f32⟩
  | 16 => ⟨S32x2048x16, .f32⟩
  | 17 => ⟨S32x2048x16, .f32⟩
  | 18 => ⟨S32x2048x16, .f32⟩
  | 19 => ⟨S32x2048x16, .f32⟩
  | 20 => ⟨S32x2048x16, .f32⟩
  | 21 => ⟨S32x2048x16, .f32⟩
  | 22 => ⟨S32x2048x16, .f32⟩
  | 23 => ⟨S32x2048x16, .f32⟩
  | 24 => ⟨S32x2048x16, .f32⟩
  | 25 => ⟨S32x2048x16, .f32⟩
  | 26 => ⟨S32x2048x32, .f32⟩
  | 27 => ⟨S32x2048x1x32, .f32⟩
  | 28 => ⟨S32x2048x4x32, .f32⟩
  | 29 => ⟨S32x2048x4x96, .f32⟩
  | 30 => ⟨S32x2048x256, .f32⟩
  | 31 => ⟨S32x2048x128, .f32⟩
  | 32 => ⟨S32x2048x128, .f32⟩
  | 33 => ⟨S32x2048x2x2x64, .f32⟩
  | 34 => ⟨S32x2048x2x2x64, .f32⟩
  | 35 => ⟨S_, .f32⟩
  | 36 => ⟨S32x2048x2x2, .f32⟩
  | 37 => ⟨S32x2048x2x2x1, .f32⟩
  | 38 => ⟨S_, .f32⟩
  | 39 => ⟨S32x2048x2x2x1, .f32⟩
  | 40 => ⟨S32x2048x2x2x1, .f32⟩
  | 41 => ⟨S_, .f32⟩
  | 42 => ⟨S32x2048x2x2x1, .f32⟩
  | 43 => ⟨S32x2048x2x2x1, .f32⟩
  | 44 => ⟨S32x2048x2x2x1, .f32⟩
  | 45 => ⟨S32x2048x2x2x64, .f32⟩
  | 46 => ⟨S32x2048x2x2x64, .f32⟩
  | 47 => ⟨S1x1x1x1x64, .f32⟩
  | 48 => ⟨S32x2048x2x2x64, .f32⟩
  | 49 => ⟨S32x2048x2x2x64, .f32⟩
  | 50 => ⟨S32x2048x2x2x32, .f32⟩
  | 51 => ⟨S2048x16, .f32⟩
  | 52 => ⟨S1x2048x1x1x16, .f32⟩
  | 53 => ⟨S2048x16, .f32⟩
  | 54 => ⟨S1x2048x1x1x16, .f32⟩
  | 55 => ⟨S32x2048x2x2x16, .f32⟩
  | 56 => ⟨S32x2048x2x2x16, .f32⟩
  | 57 => ⟨S32x2048x2x2x16, .f32⟩
  | 58 => ⟨S32x2048x2x2x16, .f32⟩
  | 59 => ⟨S32x2048x2x2x16, .f32⟩
  | 60 => ⟨S32x2048x2x2x16, .f32⟩
  | 61 => ⟨S32x2048x2x2x16, .f32⟩
  | 62 => ⟨S32x2048x2x2x16, .f32⟩
  | 63 => ⟨S32x2048x2x2x16, .f32⟩
  | 64 => ⟨S32x2048x2x2x16, .f32⟩
  | 65 => ⟨S32x2048x2x2x16, .f32⟩
  | 66 => ⟨S32x2048x2x2x16, .f32⟩
  | 67 => ⟨S32x2048x2x2x32, .f32⟩
  | 68 => ⟨S32x2048x2x2x32, .f32⟩
  | 69 => ⟨S2048x16, .f32⟩
  | 70 => ⟨S1x2048x1x1x16, .f32⟩
  | 71 => ⟨S2048x16, .f32⟩
  | 72 => ⟨S1x2048x1x1x16, .f32⟩
  | 73 => ⟨S32x2048x2x2x16, .f32⟩
  | 74 => ⟨S32x2048x2x2x16, .f32⟩
  | 75 => ⟨S32x2048x2x2x16, .f32⟩
  | 76 => ⟨S32x2048x2x2x16, .f32⟩
  | 77 => ⟨S32x2048x2x2x16, .f32⟩
  | 78 => ⟨S32x2048x2x2x16, .f32⟩
  | 79 => ⟨S32x2048x2x2x16, .f32⟩
  | 80 => ⟨S32x2048x2x2x16, .f32⟩
  | 81 => ⟨S32x2048x2x2x16, .f32⟩
  | 82 => ⟨S32x2048x2x2x16, .f32⟩
  | 83 => ⟨S32x2048x2x2x16, .f32⟩
  | 84 => ⟨S32x2048x2x2x16, .f32⟩
  | 85 => ⟨S32x2048x2x2x32, .f32⟩
  | 86 => ⟨S32x2048x2x2x64, .f32⟩
  | 87 => ⟨S32x2048x2x64, .f32⟩
  | 88 => ⟨S32x2048x2x64, .f32⟩
  | 89 => ⟨S_, .f32⟩
  | 90 => ⟨S32x2048x2, .f32⟩
  | 91 => ⟨S32x2048x2x1, .f32⟩
  | 92 => ⟨S_, .f32⟩
  | 93 => ⟨S32x2048x2x1, .f32⟩
  | 94 => ⟨S32x2048x2x1, .f32⟩
  | 95 => ⟨S_, .f32⟩
  | 96 => ⟨S32x2048x2x1, .f32⟩
  | 97 => ⟨S32x2048x2x1, .f32⟩
  | 98 => ⟨S32x2048x2x1, .f32⟩
  | 99 => ⟨S32x2048x2x64, .f32⟩
  | 100 => ⟨S32x2048x2x64, .f32⟩
  | 101 => ⟨S1x1x1x64, .f32⟩
  | 102 => ⟨S32x2048x2x64, .f32⟩
  | 103 => ⟨S32x2048x2x64, .f32⟩
  | 104 => ⟨S32x2048x2x32, .f32⟩
  | 105 => ⟨S2048x16, .f32⟩
  | 106 => ⟨S1x2048x1x16, .f32⟩
  | 107 => ⟨S2048x16, .f32⟩
  | 108 => ⟨S1x2048x1x16, .f32⟩
  | 109 => ⟨S32x2048x2x16, .f32⟩
  | 110 => ⟨S32x2048x2x16, .f32⟩
  | 111 => ⟨S32x2048x2x16, .f32⟩
  | 112 => ⟨S32x2048x2x16, .f32⟩
  | 113 => ⟨S32x2048x2x16, .f32⟩
  | 114 => ⟨S32x2048x2x16, .f32⟩
  | 115 => ⟨S32x2048x2x16, .f32⟩
  | 116 => ⟨S32x2048x2x16, .f32⟩
  | 117 => ⟨S32x2048x2x16, .f32⟩
  | 118 => ⟨S32x2048x2x16, .f32⟩
  | 119 => ⟨S32x2048x2x16, .f32⟩
  | 120 => ⟨S32x2048x2x16, .f32⟩
  | 121 => ⟨S32x2048x2x32, .f32⟩
  | 122 => ⟨S32x2048x2x32, .f32⟩
  | 123 => ⟨S2048x16, .f32⟩
  | 124 => ⟨S1x2048x1x16, .f32⟩
  | 125 => ⟨S2048x16, .f32⟩
  | 126 => ⟨S1x2048x1x16, .f32⟩
  | 127 => ⟨S32x2048x2x16, .f32⟩
  | _ => ⟨S32x2048x1024, .f32⟩

abbrev hbmTy0_2 (i : Nat) : BufTy := match i % 128 with
  | 0 => ⟨S32x2048x2x16, .f32⟩
  | 1 => ⟨S32x2048x2x16, .f32⟩
  | 2 => ⟨S32x2048x2x16, .f32⟩
  | 3 => ⟨S32x2048x2x16, .f32⟩
  | 4 => ⟨S32x2048x2x16, .f32⟩
  | 5 => ⟨S32x2048x2x16, .f32⟩
  | 6 => ⟨S32x2048x2x16, .f32⟩
  | 7 => ⟨S32x2048x2x16, .f32⟩
  | 8 => ⟨S32x2048x2x16, .f32⟩
  | 9 => ⟨S32x2048x2x16, .f32⟩
  | 10 => ⟨S32x2048x2x16, .f32⟩
  | 11 => ⟨S32x2048x2x32, .f32⟩
  | 12 => ⟨S32x2048x2x64, .f32⟩
  | 13 => ⟨S32x2048x2x64, .f32⟩
  | 14 => ⟨S32x2048x256, .f32⟩
  | 15 => ⟨S32x2048x256, .bf16⟩
  | 16 => ⟨S32x2048x256, .f32⟩
  | 17 => ⟨S32x256x2048, .f32⟩
  | 18 => ⟨S32x256x2048, .bf16⟩
  | 19 => ⟨S32x2048x256, .bf16⟩
  | 20 => ⟨S32x2048x256, .bf16⟩
  | 21 => ⟨S32x256x2048, .f32⟩
  | 22 => ⟨S32x256x2048, .bf16⟩
  | 23 => ⟨S_, .f32⟩
  | 24 => ⟨S32x2048x4x64, .f32⟩
  | 25 => ⟨S32x2048x4x128, .f32⟩
  | 26 => ⟨S32x2048x512, .f32⟩
  | 27 => ⟨S32x2048x512, .bf16⟩
  | 28 => ⟨S_, .f32⟩
  | 29 => ⟨S32x2048x4x32, .f32⟩
  | 30 => ⟨S32x2048x4x128, .f32⟩
  | 31 => ⟨S32x2048x512, .f32⟩
  | 32 => ⟨S32x2048x512, .bf16⟩
  | 33 => ⟨S_, .f32⟩
  | 34 => ⟨S32x2048x4x32, .f32⟩
  | 35 => ⟨S32x2048x4x128, .f32⟩
  | 36 => ⟨S32x2048x512, .f32⟩
  | 37 => ⟨S32x512x2048, .f32⟩
  | 38 => ⟨S32x512x2048, .bf16⟩
  | 39 => ⟨S_, .f32⟩
  | 40 => ⟨S32x2048x4x64, .f32⟩
  | 41 => ⟨S32x2048x4x128, .f32⟩
  | 42 => ⟨S32x2048x512, .f32⟩
  | 43 => ⟨S32x2048x512, .bf16⟩
  | 44 => ⟨S32x2048x256, .f32⟩
  | 45 => ⟨S32x2048x256, .bf16⟩
  | 46 => ⟨S32x2048x128, .f32⟩
  | 47 => ⟨S32x128x2048, .f32⟩
  | 48 => ⟨S32x128x2048, .bf16⟩
  | 49 => ⟨S_, .f32⟩
  | 50 => ⟨S32x2048x2x64, .f32⟩
  | 51 => ⟨S32x2048x2x128, .f32⟩
  | 52 => ⟨S32x2048x256, .f32⟩
  | 53 => ⟨S32x2048x256, .bf16⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_2 : Ref sig .tc := ⟨.hbm, 81, rfl⟩
abbrev main_v66 : Ref sig .tc := ⟨.hbm, 82, rfl⟩
abbrev main_v67 : Ref sig .tc := ⟨.hbm, 83, rfl⟩
abbrev main_cst_3 : Ref sig .tc := ⟨.hbm, 84, rfl⟩
abbrev main_v68 : Ref sig .tc := ⟨.hbm, 85, rfl⟩
abbrev main_v69 : Ref sig .tc := ⟨.hbm, 86, rfl⟩
abbrev main_cst_4 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_5 : Ref sig .tc := ⟨.hbm, 119, rfl⟩
abbrev main_v101 : Ref sig .tc := ⟨.hbm, 120, rfl⟩
abbrev main_v102 : Ref sig .tc := ⟨.hbm, 121, rfl⟩
abbrev main_cst_6 : Ref sig .tc := ⟨.hbm, 122, rfl⟩
abbrev main_v103 : Ref sig .tc := ⟨.hbm, 123, rfl⟩
abbrev main_v104 : Ref sig .tc := ⟨.hbm, 124, rfl⟩
abbrev main_cst_7 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_cst_8 : Ref sig .tc := ⟨.hbm, 163, rfl⟩
abbrev main_v142 : Ref sig .tc := ⟨.hbm, 164, rfl⟩
abbrev main_v143 : Ref sig .tc := ⟨.hbm, 165, rfl⟩
abbrev main_cst_9 : Ref sig .tc := ⟨.hbm, 166, rfl⟩
abbrev main_v144 : Ref sig .tc := ⟨.hbm, 167, rfl⟩
abbrev main_v145 : Ref sig .tc := ⟨.hbm, 168, rfl⟩
abbrev main_cst_10 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_cst_11 : Ref sig .tc := ⟨.hbm, 217, rfl⟩
abbrev main_v193 : Ref sig .tc := ⟨.hbm, 218, rfl⟩
abbrev main_v194 : Ref sig .tc := ⟨.hbm, 219, rfl⟩
abbrev main_cst_12 : Ref sig .tc := ⟨.hbm, 220, rfl⟩
abbrev main_v195 : Ref sig .tc := ⟨.hbm, 221, rfl⟩
abbrev main_v196 : Ref sig .tc := ⟨.hbm, 222, rfl⟩
abbrev main_cst_13 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_v250 : Ref sig .tc := ⟨.hbm, 277, rfl⟩
abbrev main_v251 : Ref sig .tc := ⟨.hbm, 278, rfl⟩
abbrev main_cst_14 : Ref sig .tc := ⟨.hbm, 279, rfl⟩
abbrev main_v252 : Ref sig .tc := ⟨.hbm, 280, rfl⟩
abbrev main_v253 : Ref sig .tc := ⟨.hbm, 281, rfl⟩
abbrev main_v254 : Ref sig .tc := ⟨.hbm, 282, rfl⟩
abbrev main_v255 : Ref sig .tc := ⟨.hbm, 283, rfl⟩
abbrev main_cst_15 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_cst_16 : Ref sig .tc := ⟨.hbm, 289, rfl⟩
abbrev main_v260 : Ref sig .tc := ⟨.hbm, 290, rfl⟩
abbrev main_v261 : Ref sig .tc := ⟨.hbm, 291, rfl⟩
abbrev main_v262 : Ref sig .tc := ⟨.hbm, 292, rfl⟩
abbrev main_v263 : Ref sig .tc := ⟨.hbm, 293, rfl⟩
abbrev main_v264 : Ref sig .tc := ⟨.hbm, 294, rfl⟩
abbrev main_cst_17 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_cst_18 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩

abbrev nD : Nat := 1
abbrev τ : Topo := Topo.v7x

variable {F : FTy → Type} [FloatOps F]
-- ==== Proof.AttnBlock.lean ====
/-
  The differential attention call on one tile of 512 queries: what its two stores hold at an index, as functions of
  the scores of one query and of the values of one pair of heads.
-/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.AttnRow

open Idealize.ShloMosaic

/-- The largest score of a query. -/
def top (s : Fin 2048 → EReal) : EReal := Finset.fold max (Ideal.ofBits .f32 0xFF800000#32) s Finset.univ

/-- Two to the power of a score less the largest one. -/
def term (s : Fin 2048 → EReal) (k : Fin 2048) : EReal := Ideal.exp2 (s k - top s)

/-- The sum of these powers. -/
def total (s : Fin 2048 → EReal) : EReal := ∑ k, term s k

/-- The weight of key `k`, unnormalised: the first map's term less the second's, the latter scaled by `lam` and by the ratio of
    the two sums. -/
def weight (lam : EReal) (s t : Fin 2048 → EReal) (k : Fin 2048) : EReal :=
  term s k - term t k * Ideal.div (lam * total s) (total t)

/-- One lane of a head's output: the weighted sum of the values, divided by the first map's sum. -/
def attend (lam : EReal) (s t v : Fin 2048 → EReal) : EReal := (∑ k, weight lam s t k * v k) * Ideal.div 1 (total s)

/-- A lane divided by the root mean square of the 64 lanes that `p` selects. -/
def lane (o : Fin 128 → EReal) (p : Fin 128 → Prop) [DecidablePred p] (d : Fin 128) : EReal :=
  o d * Ideal.rsqrt ((∑ x, if p x then o x * o x else 0) * Ideal.ofBits .f32 0x3C800000#32 + Ideal.ofBits .f32 0x358637BD#32)

/-- A lane of two joined heads: the low 64 lanes are the first head's, the others the second's; then the gain and the scale. -/
def pair (lam : EReal) (s t s' t' : Fin 2048 → EReal) (v : Fin 2048 → Fin 128 → EReal) (g : Fin 128 → EReal) (d : Fin 128) : EReal :=
  (if d.val < 64 then lane (fun x => attend lam s t fun k => v k x) (fun x => x.val < 64) d
    else lane (fun x => attend lam s' t' fun k => v k x) (fun x => ¬ x.val < 64) d) * g d * Ideal.ofBits .f32 0x3F4CCCCD#32

/-- A lane is in the low half just if its number is below 64. -/
theorem low_iff : ∀ d : Fin 128, (IntOp.cmpi .slt (BitVec.ofNat 32 d.val) 64#32 = 1 ↔ d.val < 64) := by decide +kernel

/-- The same for the complement. -/
theorem high_iff : ∀ d : Fin 128, (IntOp.xori (IntOp.cmpi .slt (BitVec.ofNat 32 d.val) 64#32) 1#1 = 1 ↔ ¬ d.val < 64) := by decide +kernel

/-- Choosing by the low half. -/
theorem select_low (d : Fin 128) (a b : EReal) :
    Scalar.select (IntOp.cmpi .slt (BitVec.ofNat 32 d.val) 64#32) a b = if d.val < 64 then a else b := by
  unfold Scalar.select; simp only [low_iff]

/-- Choosing by the high half. -/
theorem select_high (d : Fin 128) (a b : EReal) :
    Scalar.select (IntOp.xori (IntOp.cmpi .slt (BitVec.ofNat 32 d.val) 64#32) 1#1) a b = if ¬ d.val < 64 then a else b := by
  unfold Scalar.select; simp only [high_iff]

end Cert.AttnRow

namespace Cert.KernelIdeal.Gen

open Idealize.ShloMosaic Cert.AttnRow

/-- The kernel's query scale. -/
abbrev qs : EReal := Named.named (F := Ideal) Cert.KernelIdeal.κ "qscale" (φ := .f32) 0x3E8293EE#32

/-- The scores of a slice of the queries against a slice of the keys; all eight read the same. -/
theorem pay2_apply (X : Vec Ideal S1x512x32 .bf16) (Y : Vec Ideal S1x32x2048 .bf16) (r : Fin 512) (k : Fin 2048) :
    k0_pay2 X Y (ix2 r k) = ∑ x : Fin 32, X (ix3 0 r x) * qs * Y (ix3 0 x k) := by
  pointwise [k0_pay2]

theorem pay3_eq (X : Vec Ideal S1x512x32 .bf16) (Y : Vec Ideal S1x32x2048 .bf16) : k0_pay3 X Y = k0_pay2 X Y := rfl
theorem pay4_eq (X : Vec Ideal S1x512x32 .bf16) (Y : Vec Ideal S1x32x2048 .bf16) : k0_pay4 X Y = k0_pay2 X Y := rfl
theorem pay5_eq (X : Vec Ideal S1x512x32 .bf16) (Y : Vec Ideal S1x32x2048 .bf16) : k0_pay5 X Y = k0_pay2 X Y := rfl
theorem pay9_eq (X : Vec Ideal S1x512x32 .bf16) (Y : Vec Ideal S1x32x2048 .bf16) : k0_pay9 X Y = k0_pay2 X Y := rfl
theorem pay10_eq (X : Vec Ideal S1x512x32 .bf16) (Y : Vec Ideal S1x32x2048 .bf16) : k0_pay10 X Y = k0_pay2 X Y := rfl
theorem pay18_eq (X : Vec Ideal S1x512x32 .bf16) (Y : Vec Ideal S1x32x2048 .bf16) : k0_pay18 (k0_pay17 X) Y = k0_pay2 X Y := rfl
theorem pay19_eq (X : Vec Ideal S1x512x32 .bf16) (Y : Vec Ideal S1x32x2048 .bf16) : k0_pay19 X Y = k0_pay2 X Y := rfl

section
variable (lam : Elt Ideal .f32) (s t s' t' : FVec Ideal S512x2048 .f32) (v : Vec Ideal S1x2048x128 .bf16) (g : Vec Ideal S1x128 .f32) (r : Fin 512)

/-- The terms of the first map. -/
theorem pay6_apply (k : Fin 2048) : k0_pay6 s (ix2 r k) = term (fun k => s (ix2 r k)) k := by
  pointwise [k0_pay6]; rfl

theorem pay14_eq : k0_pay14 s = k0_pay6 s := rfl
theorem pay23_eq : k0_pay23 s = k0_pay6 s := rfl
theorem pay24_eq : k0_pay24 s = k0_pay6 s := rfl
theorem pay28_eq : k0_pay28 s = k0_pay6 s := rfl

/-- Their sum. -/
theorem pay7_apply : k0_pay7 s (ix2 r 0) = total (fun k => s (ix2 r k)) := by
  pointwise [k0_pay7]; simp only [pay6_apply]; rfl

theorem pay15_eq : k0_pay15 s = k0_pay7 s := rfl
theorem pay25_eq : k0_pay25 s = k0_pay7 s := rfl
theorem pay29_eq : k0_pay29 s = k0_pay7 s := rfl

/-- The second map's terms, scaled. -/
theorem pay8_apply (k : Fin 2048) : k0_pay8 lam s t (ix2 r k)
    = term (fun k => t (ix2 r k)) k * Ideal.div (lam * total fun k => s (ix2 r k)) (total fun k => t (ix2 r k)) := by
  pointwise [k0_pay8]; simp only [pay7_apply]; rfl

/-- The weights of the first pair's second head. -/
theorem pay16_apply (k : Fin 2048) : k0_pay16 lam s t (ix2 r k) = weight lam (fun k => s (ix2 r k)) (fun k => t (ix2 r k)) k := by
  pointwise [k0_pay16]; simp only [pay14_eq, pay15_eq, pay6_apply, pay7_apply]; rfl

theorem pay30_eq : k0_pay30 lam s t = k0_pay16 lam s t := rfl

/-- The scale of the second pair's first head. -/
theorem pay26_apply (k : Fin 2048) : k0_pay26 lam s t (ix2 r k)
    = Ideal.div (lam * total fun k => s (ix2 r k)) (total fun k => t (ix2 r k)) := by
  pointwise [k0_pay26]; simp only [pay24_eq, pay25_eq, pay6_apply, pay7_apply]; rfl

/-- The first head of the first pair, divided by its root mean square. -/
theorem low0 (d : Fin 128) :
    k0_pay13 (k0_pay11 (k0_pay6 s) (k0_pay8 lam s t) v) (k0_pay12 (k0_pay7 s)) (ix2 r d)
      = lane (fun x => attend lam (fun k => s (ix2 r k)) (fun k => t (ix2 r k)) fun k => v (ix3 0 k x)) (fun x => x.val < 64) d := by
  pointwise [k0_pay13, k0_pay11, k0_pay12]
  simp only [pay6_apply, pay7_apply, pay8_apply, select_low]
  rfl

/-- The first head of the second pair, likewise. -/
theorem low1 (d : Fin 128) :
    k0_pay27 (k0_pay23 s) (k0_pay24 t) (k0_pay25 s) (k0_pay26 lam s t) v (ix2 r d)
      = lane (fun x => attend lam (fun k => s (ix2 r k)) (fun k => t (ix2 r k)) fun k => v (ix3 0 k x)) (fun x => x.val < 64) d := by
  pointwise [k0_pay27]
  simp only [pay23_eq, pay24_eq, pay25_eq, pay26_apply, pay6_apply, pay7_apply, select_low]
  rfl

/-- The second head of the first pair before its norm. -/
theorem pay20_apply (d : Fin 128) : k0_pay20 (k0_pay15 s) (k0_pay16 lam s t) v (ix2 r d)
    = attend lam (fun k => s (ix2 r k)) (fun k => t (ix2 r k)) fun k => v (ix3 0 k d) := by
  pointwise [k0_pay20]
  simp only [pay15_eq, pay16_apply, pay7_apply]
  rfl

/-- What is stored of the first pair. -/
theorem out0 (d : Fin 128) :
    k0_pay22 (k0_pay13 (k0_pay11 (k0_pay6 s) (k0_pay8 lam s t) v) (k0_pay12 (k0_pay7 s)))
        (k0_pay20 (k0_pay15 s') (k0_pay16 lam s' t') v) (k0_pay21 (k0_pay15 s') (k0_pay16 lam s' t') v) g (ix3 0 r d)
      = pair lam (fun k => s (ix2 r k)) (fun k => t (ix2 r k)) (fun k => s' (ix2 r k)) (fun k => t' (ix2 r k))
          (fun k x => v (ix3 0 k x)) (fun x => g (ix2 0 x)) d := by
  pointwise [k0_pay22, k0_pay21]
  simp only [pay20_apply, select_high, select_low]
  unfold pair
  split
  · rw [low0]
  · rfl

/-- What is stored of the second pair. -/
theorem out1 (d : Fin 128) :
    k0_pay1 (k0_pay31 (k0_pay27 (k0_pay23 s) (k0_pay24 t) (k0_pay25 s) (k0_pay26 lam s t) v) (k0_pay29 s') (k0_pay30 lam s' t') v g) (ix3 0 r d)
      = pair lam (fun k => s (ix2 r k)) (fun k => t (ix2 r k)) (fun k => s' (ix2 r k)) (fun k => t' (ix2 r k))
          (fun k x => v (ix3 0 k x)) (fun x => g (ix2 0 x)) d := by
  pointwise [k0_pay1, k0_pay31]
  simp only [low1, pay29_eq, pay30_eq, pay16_apply, pay7_apply, select_high, select_low]
  rfl

end

end Cert.KernelIdeal.Gen

end
-- ==== Proof.AttnMath.lean ====
/-
  The two forms of one differential attention row agree when the scores are real numbers: powers of two of the scores over
  the logarithm of two are the exponentials, and the first map's sum may be divided out before or after the sum over the
  keys.
-/
module

public import proofs.«01_k».proof.Proof.AttnBlock

@[expose] public section

set_option maxRecDepth 16384

noncomputable section

namespace Cert.AttnRow

open Idealize.ShloMosaic

/-- The largest score, as the reference takes it. -/
def rtop (s : Fin 2048 → EReal) : EReal :=
  max (Ideal.ofBits .f32 0xFF800000#32) (Finset.fold max (Ideal.ofBits .f32 0xFF800000#32) s Finset.univ)

/-- A softmax weight, as the reference takes it. -/
def prob (s : Fin 2048 → EReal) (k : Fin 2048) : EReal :=
  Ideal.div (Ideal.exp (s k - rtop s)) (∑ j, Ideal.exp (s j - rtop s))

/-- One lane of a head's output, as the reference takes it. -/
def mix (lam : EReal) (s t v : Fin 2048 → EReal) : EReal := ∑ k, v k * (prob s k - lam * prob t k)

/-- A lane divided by the root mean square of the head's 64 lanes; then the gain and the scale. -/
def head (o g : Fin 64 → EReal) (d : Fin 64) : EReal :=
  o d * Ideal.rsqrt (Ideal.div (∑ x, o x * o x) (Ideal.ofBits .f32 0x42800000#32) + Ideal.ofBits .f32 0x358637BD#32) * g d
    * Ideal.ofBits .f32 0x3F4CCCCD#32

theorem low_bits : Ideal.ofBits .f32 0xFF800000#32 = ⊥ := by simp [Ideal.ofBits, Ideal.ieee]

theorem size_bits : Ideal.ofBits .f32 0x42800000#32 = ((64 : ℝ) : EReal) := by
  simp [Ideal.ofBits, Ideal.ieee, -EReal.coe_mul]; norm_num

theorem inverse_bits : Ideal.ofBits .f32 0x3C800000#32 = ((1 / 64 : ℝ) : EReal) := by
  simp [Ideal.ofBits, Ideal.ieee, -EReal.coe_mul]; norm_num

theorem scale_bits : Ideal.ofBits .f32 0x3E3504F3#32 = ((11863283 / 67108864 : ℝ) : EReal) := by
  simp [Ideal.ofBits, Ideal.ieee, -EReal.coe_mul]; norm_num

/-- A sum of real numbers, in the extended reals. -/
theorem coe_sum {ι : Type} [Fintype ι] (f : ι → ℝ) : (∑ k, ((f k : ℝ) : EReal)) = ((∑ k, f k : ℝ) : EReal) := by
  classical
  induction (Finset.univ : Finset ι) using Finset.induction_on with
  | empty => simp
  | insert a s h ih => rw [Finset.sum_insert h, Finset.sum_insert h, ih, EReal.coe_add]

/-- A nonnegative real factor goes into a sum of extended reals. -/
theorem sum_scale {ι : Type} [Fintype ι] (f : ι → EReal) (c : ℝ) (hc : 0 ≤ c) : (∑ k, f k) * (c : EReal) = ∑ k, f k * (c : EReal) := by
  classical
  induction (Finset.univ : Finset ι) using Finset.induction_on with
  | empty => simp
  | insert a s h ih =>
    rw [Finset.sum_insert h, Finset.sum_insert h, ← ih, EReal.right_distrib_of_nonneg_of_ne_top (EReal.coe_nonneg.mpr hc) (EReal.coe_ne_top c)]

/-- A nonnegative real factor goes into a difference of extended reals. -/
theorem sub_scale (x y : EReal) (c : ℝ) (hc : 0 ≤ c) : (x - y) * (c : EReal) = x * (c : EReal) - y * (c : EReal) := by
  rw [sub_eq_add_neg, EReal.right_distrib_of_nonneg_of_ne_top (EReal.coe_nonneg.mpr hc) (EReal.coe_ne_top c), EReal.neg_mul, ← sub_eq_add_neg]

/-- The largest of real scores is one of them. -/
theorem fold_real (a : Fin 2048 → ℝ) (k0 : Fin 2048) (h : ∀ k, a k ≤ a k0) :
    Finset.fold max (Ideal.ofBits .f32 0xFF800000#32) (fun k => ((a k : ℝ) : EReal)) Finset.univ = ((a k0 : ℝ) : EReal) := by
  rw [low_bits]
  apply le_antisymm
  · exact (Finset.fold_max_le _).mpr ⟨bot_le, fun k _ => EReal.coe_le_coe_iff.mpr (h k)⟩
  · exact (Finset.le_fold_max _).mpr (Or.inr ⟨k0, Finset.mem_univ _, le_rfl⟩)

/-- Some score is the largest. -/
theorem exists_top (a : Fin 2048 → ℝ) : ∃ k0, ∀ k, a k ≤ a k0 := by
  obtain ⟨k0, _, h⟩ := Finset.exists_max_image Finset.univ a ⟨0, Finset.mem_univ _⟩
  exact ⟨k0, fun k => h k (Finset.mem_univ _)⟩

/-- A power of two of a quotient by the logarithm of two is the exponential. -/
theorem two_pow (x : ℝ) : Real.rpow 2 (x * (Real.log 2)⁻¹) = Real.exp x := by
  have h : Real.log 2 ≠ 0 := (Real.log_pos (by norm_num)).ne'
  show (2 : ℝ) ^ (x * (Real.log 2)⁻¹) = Real.exp x
  rw [Real.rpow_def_of_pos (by norm_num)]
  congr 1
  field_simp

/-- Both sides' terms are the exponentials of the scores less the largest one. -/
theorem terms_real (a : Fin 2048 → ℝ) : ∃ e : Fin 2048 → ℝ, (∀ k, 0 < e k)
    ∧ (∀ k, term (fun k => ((a k * (Real.log 2)⁻¹ : ℝ) : EReal)) k = ((e k : ℝ) : EReal))
    ∧ (∀ k, Ideal.exp (((a k : ℝ) : EReal) - rtop (fun k => ((a k : ℝ) : EReal))) = ((e k : ℝ) : EReal)) := by
  obtain ⟨k0, h⟩ := exists_top a
  have hl : 0 ≤ (Real.log 2)⁻¹ := inv_nonneg.mpr (Real.log_pos (by norm_num)).le
  refine ⟨fun k => Real.exp (a k - a k0), fun k => Real.exp_pos _, fun k => ?_, fun k => ?_⟩
  · unfold term top
    rw [fold_real (fun k => a k * (Real.log 2)⁻¹) k0 (fun k => mul_le_mul_of_nonneg_right (h k) hl), ← EReal.coe_sub, Ideal.exp2_coe, ← sub_mul, two_pow]
  · unfold rtop
    rw [fold_real a k0 h, low_bits, max_eq_right bot_le, ← EReal.coe_sub, Ideal.exp_coe]

/-- Dividing by a positive real number. -/
theorem div_real (x : EReal) (y : ℝ) (hy : 0 < y) : Ideal.div x (y : EReal) = x * ((1 / y : ℝ) : EReal) := Ideal.div_coe hy.ne' x

/-- The products of one key, in the order of either side. -/
theorem key_eq (lam v : EReal) (e f l l' : ℝ) (hl : 0 < l) :
    ((e : EReal) - (f : EReal) * (lam * (l : EReal) * ((1 / l' : ℝ) : EReal))) * v * ((1 / l : ℝ) : EReal)
      = v * ((e : EReal) * ((1 / l : ℝ) : EReal) - lam * ((f : EReal) * ((1 / l' : ℝ) : EReal))) := by
  rw [mul_right_comm, sub_scale _ _ _ (one_div_nonneg.mpr hl.le), mul_comm _ v]
  congr 2
  have h1 : (l : EReal) * ((1 / l : ℝ) : EReal) = 1 := by
    rw [← EReal.coe_mul, mul_one_div_cancel hl.ne', EReal.coe_one]
  calc (f : EReal) * (lam * (l : EReal) * ((1 / l' : ℝ) : EReal)) * ((1 / l : ℝ) : EReal)
      = lam * ((f : EReal) * ((1 / l' : ℝ) : EReal)) * ((l : EReal) * ((1 / l : ℝ) : EReal)) := by ac_rfl
    _ = _ := by rw [h1, mul_one]

/-- The two forms of a lane agree. -/
theorem attend_eq (lam : EReal) (a b : Fin 2048 → ℝ) (v : Fin 2048 → EReal) :
    attend lam (fun k => ((a k * (Real.log 2)⁻¹ : ℝ) : EReal)) (fun k => ((b k * (Real.log 2)⁻¹ : ℝ) : EReal)) v
      = mix lam (fun k => ((a k : ℝ) : EReal)) (fun k => ((b k : ℝ) : EReal)) v := by
  obtain ⟨e, he, hs, hs'⟩ := terms_real a
  obtain ⟨f, hf, ht, ht'⟩ := terms_real b
  have hl : 0 < ∑ k, e k := Finset.sum_pos (fun k _ => he k) ⟨0, Finset.mem_univ _⟩
  have hl' : 0 < ∑ k, f k := Finset.sum_pos (fun k _ => hf k) ⟨0, Finset.mem_univ _⟩
  unfold attend mix weight prob total
  simp only [hs, ht, hs', ht', coe_sum]
  rw [div_real _ _ hl, one_mul, sum_scale _ _ (one_div_nonneg.mpr hl.le)]
  refine Finset.sum_congr rfl fun k _ => ?_
  rw [div_real _ _ hl', div_real _ _ hl, div_real _ _ hl']
  exact key_eq lam (v k) (e k) (f k) _ _ hl

/-- The sum over the low lanes. -/
theorem sum_low (f : Fin 128 → EReal) : (∑ x : Fin 128, if x.val < 64 then f x else 0) = ∑ x : Fin 64, f ⟨x.val, by omega⟩ := by
  refine (Fin.sum_univ_add (a := 64) (b := 64) fun x : Fin 128 => if x.val < 64 then f x else 0).trans ?_
  rw [show (∑ i : Fin 64, if (Fin.natAdd 64 i).val < 64 then f (Fin.natAdd 64 i) else 0) = 0 from
    Finset.sum_eq_zero fun i _ => if_neg (by simp), add_zero]
  exact Finset.sum_congr rfl fun i _ => if_pos (by simp)

/-- The sum over the high lanes. -/
theorem sum_high (f : Fin 128 → EReal) : (∑ x : Fin 128, if ¬ x.val < 64 then f x else 0) = ∑ x : Fin 64, f ⟨64 + x.val, by omega⟩ := by
  refine (Fin.sum_univ_add (a := 64) (b := 64) fun x : Fin 128 => if ¬ x.val < 64 then f x else 0).trans ?_
  rw [show (∑ i : Fin 64, if ¬ (Fin.castAdd 64 i).val < 64 then f (Fin.castAdd 64 i) else 0) = 0 from
    Finset.sum_eq_zero fun i _ => if_neg (by simp), zero_add]
  exact Finset.sum_congr rfl fun i _ => if_pos (by simp)

/-- A low lane's norm is its head's. -/
theorem lane_low (o : Fin 128 → EReal) (d : Fin 64) : lane o (fun x => x.val < 64) ⟨d.val, by omega⟩
    = o ⟨d.val, by omega⟩ * Ideal.rsqrt (Ideal.div (∑ x : Fin 64, o ⟨x.val, by omega⟩ * o ⟨x.val, by omega⟩) (Ideal.ofBits .f32 0x42800000#32)
        + Ideal.ofBits .f32 0x358637BD#32) := by
  unfold lane
  rw [sum_low (fun x => o x * o x), inverse_bits, size_bits, div_real _ _ (by norm_num)]

/-- A high lane's norm is its head's. -/
theorem lane_high (o : Fin 128 → EReal) (d : Fin 64) : lane o (fun x => ¬ x.val < 64) ⟨64 + d.val, by omega⟩
    = o ⟨64 + d.val, by omega⟩ * Ideal.rsqrt (Ideal.div (∑ x : Fin 64, o ⟨64 + x.val, by omega⟩ * o ⟨64 + x.val, by omega⟩) (Ideal.ofBits .f32 0x42800000#32)
        + Ideal.ofBits .f32 0x358637BD#32) := by
  unfold lane
  rw [sum_high (fun x => o x * o x), inverse_bits, size_bits, div_real _ _ (by norm_num)]

/-- A low lane of a pair of heads is a lane of the first. -/
theorem pair_low (lam : EReal) (a b : Fin 2048 → ℝ) (s' t' : Fin 2048 → EReal) (v : Fin 2048 → Fin 128 → EReal) (g : Fin 128 → EReal) (d : Fin 64) :
    pair lam (fun k => ((a k * (Real.log 2)⁻¹ : ℝ) : EReal)) (fun k => ((b k * (Real.log 2)⁻¹ : ℝ) : EReal)) s' t' v g ⟨d.val, by omega⟩
      = head (fun x => mix lam (fun k => ((a k : ℝ) : EReal)) (fun k => ((b k : ℝ) : EReal)) fun k => v k ⟨x.val, by omega⟩) (fun x => g ⟨x.val, by omega⟩) d := by
  unfold pair head
  rw [if_pos d.isLt, lane_low]
  simp only [attend_eq]

/-- A high lane of a pair of heads is a lane of the second. -/
theorem pair_high (lam : EReal) (a b : Fin 2048 → ℝ) (s t : Fin 2048 → EReal) (v : Fin 2048 → Fin 128 → EReal) (g : Fin 128 → EReal) (d : Fin 64) :
    pair lam s t (fun k => ((a k * (Real.log 2)⁻¹ : ℝ) : EReal)) (fun k => ((b k * (Real.log 2)⁻¹ : ℝ) : EReal)) v g ⟨64 + d.val, by omega⟩
      = head (fun x => mix lam (fun k => ((a k : ℝ) : EReal)) (fun k => ((b k : ℝ) : EReal)) fun k => v k ⟨64 + x.val, by omega⟩) (fun x => g ⟨64 + x.val, by omega⟩) d := by
  unfold pair head
  rw [if_neg (by simp), lane_high]
  simp only [attend_eq]

end Cert.AttnRow
-- ==== Proof.AttnReference.lean ====
/-
  The differential attention's reference, each array at an index.
-/
module

public import proofs.«01_k».proof.Proof.AttnBlock
public import proofs.«01_k».proof.Proof.Gen.ReferenceIdeal.Read

@[expose] public section

set_option maxRecDepth 16384

noncomputable section

namespace Cert.ReferenceIdeal.Head

open Cert.ReferenceIdeal Cert.ReferenceIdeal.Read Idealize.ShloMosaic Cert.AttnRow

variable (x0 x1 x2 : (⟨S32x2048x256, .f32⟩ : BufTy).Contents (Elt Ideal)) (x3 x4 x5 x6 : (⟨S32, .f32⟩ : BufTy).Contents (Elt Ideal))
  (x7 : (⟨S64, .f32⟩ : BufTy).Contents (Elt Ideal)) (b : Fin 32)

/-- The number that the second map is scaled by. -/
theorem v12_apply (i : S_.Idx) : val_main_v12 x3 x4 x5 x6 i
    = Ideal.exp (∑ x, x3 (ix1 x) * x4 (ix1 x)) - Ideal.exp (∑ x, x5 (ix1 x) * x6 (ix1 x)) + Ideal.ofBits FTy.f32 0x3E4CCCCD#32 := by
  pointwise [val_main_v12, val_main_v11, val_main_v10, val_main_v9, val_main_v8, val_main_v7, val_main_v6, val_main_v5, val_main_cst_0, val_main_cst_1, val_main_cst_2]

/-- The scores. -/
theorem v13_apply (h : Fin 4) (c : Fin 2) (n k : Fin 2048) : val_main_v13 x0 x1 (ix5 b h c n k)
    = ∑ x : Fin 32, x0 (ix3 b n ⟨h * 64 + c * 32 + x, by omega⟩) * Ideal.ofBits FTy.f32 0x3E3504F3#32 * x1 (ix3 b k ⟨h * 64 + c * 32 + x, by omega⟩) := by
  pointwise [val_main_v13, val_main_v0, val_main_v1, val_main_v2, val_main_v3, val_main_cst]

/-- The scores' maximum. -/
theorem v14_apply (h : Fin 4) (c : Fin 2) (n : Fin 2048) : val_main_v14 x0 x1 (ix4 b h c n)
    = Finset.fold max (Ideal.ofBits FTy.f32 0xFF800000#32) (fun x => val_main_v13 x0 x1 (ix5 b h c n x)) Finset.univ := by
  pointwise [val_main_v14, val_main_cst_3]

/-- The row's maximum. -/
theorem v16_apply (h : Fin 4) (c : Fin 2) (n : Fin 2048) : val_main_v16 x0 x1 (ix4 b h c n)
    = max (Ideal.ofBits FTy.f32 0xFF800000#32) (val_main_v14 x0 x1 (ix4 b h c n)) := by
  rw [val_main_v16_apply, val_main_v15_apply, val_main_cst_4_apply]
  generalize val_main_v14 x0 x1 _ = p
  rfl

theorem idx_broadcast (h : Fin 4) (c : Fin 2) (n k : Fin 2048) : idx_main_v17 (idx_main_v18 (ix5 b h c n k)) = ix4 b h c n :=
  funext fun a => by match a with | ⟨0, _⟩ => rfl | ⟨1, _⟩ => rfl | ⟨2, _⟩ => rfl | ⟨3, _⟩ => rfl

theorem idx_broadcast' (h : Fin 4) (c : Fin 2) (n k : Fin 2048) : idx_main_v22 (idx_main_v23 (ix5 b h c n k)) = ix4 b h c n :=
  funext fun a => by match a with | ⟨0, _⟩ => rfl | ⟨1, _⟩ => rfl | ⟨2, _⟩ => rfl | ⟨3, _⟩ => rfl

theorem idx_sum (h : Fin 4) (c : Fin 2) (n k : Fin 2048) : idx_main_v21 (ix4 b h c n) k = ix5 b h c n k :=
  funext fun a => by match a with | ⟨0, _⟩ => rfl | ⟨1, _⟩ => rfl | ⟨2, _⟩ => rfl | ⟨3, _⟩ => rfl | ⟨4, _⟩ => rfl

/-- The exponentials. -/
theorem v20_apply (h : Fin 4) (c : Fin 2) (n k : Fin 2048) : val_main_v20 x0 x1 (ix5 b h c n k)
    = Ideal.exp (val_main_v13 x0 x1 (ix5 b h c n k) - val_main_v16 x0 x1 (ix4 b h c n)) := by
  rw [val_main_v20_apply, val_main_v19_apply, val_main_v18_apply, val_main_v17_apply, idx_broadcast]
  generalize val_main_v13 x0 x1 _ = p
  generalize val_main_v16 x0 x1 _ = q
  rfl

/-- Their sum. -/
theorem v21_apply (h : Fin 4) (c : Fin 2) (n : Fin 2048) : val_main_v21 x0 x1 (ix4 b h c n)
    = ∑ k, val_main_v20 x0 x1 (ix5 b h c n k) := by
  rw [val_main_v21_apply, val_main_cst_5_apply]
  simp only [idx_sum]
  rw [show (FloatOps.ofBits (F := Ideal) .f32 0x00000000#32 : EReal) = 0 from Ideal.ofBits_zero ..]
  exact zero_add _

/-- The weights of one map. -/
theorem v24_apply (h : Fin 4) (c : Fin 2) (n k : Fin 2048) : val_main_v24 x0 x1 (ix5 b h c n k)
    = Ideal.div (val_main_v20 x0 x1 (ix5 b h c n k)) (val_main_v21 x0 x1 (ix4 b h c n)) := by
  rw [val_main_v24_apply, val_main_v23_apply, val_main_v22_apply, idx_broadcast']
  generalize val_main_v20 x0 x1 _ = p
  generalize val_main_v21 x0 x1 _ = q
  rfl

/-- The first map. -/
theorem v26_apply (h : Fin 4) (n k : Fin 2048) : val_main_v26 x0 x1 (ix4 b h n k) = val_main_v24 x0 x1 (ix5 b h 0 n k) := by
  pointwise [val_main_v26, val_main_v25]

/-- The second map. -/
theorem v28_apply (h : Fin 4) (n k : Fin 2048) : val_main_v28 x0 x1 (ix4 b h n k) = val_main_v24 x0 x1 (ix5 b h 1 n k) := by
  pointwise [val_main_v28, val_main_v27]

/-- The values. -/
theorem v4_apply (h : Fin 4) (n : Fin 2048) (d : Fin 64) : val_main_v4 x2 (ix4 b n h d) = x2 (ix3 b n ⟨h * 64 + d, by omega⟩) := by
  pointwise [val_main_v4]

/-- The weights. -/
theorem v31_apply (h : Fin 4) (n k : Fin 2048) : val_main_v31 x0 x1 x3 x4 x5 x6 (ix4 b h n k)
    = val_main_v26 x0 x1 (ix4 b h n k) - val_main_v12 x3 x4 x5 x6 (idx_main_v29 (ix4 b h n k)) * val_main_v28 x0 x1 (ix4 b h n k) := by
  rw [val_main_v31_apply, val_main_v30_apply, val_main_v29_apply]
  generalize val_main_v26 x0 x1 _ = p
  generalize val_main_v12 x3 x4 x5 x6 _ = r
  generalize val_main_v28 x0 x1 _ = q
  rfl

theorem idx_perm (h : Fin 4) (n : Fin 2048) (d : Fin 64) : idx_main_v33 (ix4 b n h d) = ix4 b h d n :=
  funext fun a => by match a with | ⟨0, _⟩ => rfl | ⟨1, _⟩ => rfl | ⟨2, _⟩ => rfl | ⟨3, _⟩ => rfl
theorem idx_lhs (h : Fin 4) (n k : Fin 2048) (d : Fin 64) : lidx_main_v32 (ix4 b h d n) k = ix4 b k h d :=
  funext fun a => by match a with | ⟨0, _⟩ => rfl | ⟨1, _⟩ => rfl | ⟨2, _⟩ => rfl | ⟨3, _⟩ => rfl
theorem idx_rhs (h : Fin 4) (n k : Fin 2048) (d : Fin 64) : ridx_main_v32 (ix4 b h d n) k = ix4 b h n k :=
  funext fun a => by match a with | ⟨0, _⟩ => rfl | ⟨1, _⟩ => rfl | ⟨2, _⟩ => rfl | ⟨3, _⟩ => rfl

/-- The sum over the keys. -/
theorem v33_apply (h : Fin 4) (n : Fin 2048) (d : Fin 64) : val_main_v33 x0 x1 x2 x3 x4 x5 x6 (ix4 b n h d)
    = ∑ k, val_main_v4 x2 (ix4 b k h d) * val_main_v31 x0 x1 x3 x4 x5 x6 (ix4 b h n k) := by
  rw [val_main_v33_apply, idx_perm, val_main_v32_apply]
  simp only [idx_lhs, idx_rhs]

/-- The result. -/
theorem v50_apply (n : Fin 2048) (e : Fin 256) : val_main_v50 x0 x1 x2 x3 x4 x5 x6 x7 (ix3 b n e)
    = val_main_v33 x0 x1 x2 x3 x4 x5 x6 (ix4 b n ⟨e / 64, by omega⟩ ⟨e % 64, by omega⟩)
      * Ideal.rsqrt (Ideal.div (∑ x : Fin 64, val_main_v33 x0 x1 x2 x3 x4 x5 x6 (ix4 b n ⟨e / 64, by omega⟩ x) * val_main_v33 x0 x1 x2 x3 x4 x5 x6 (ix4 b n ⟨e / 64, by omega⟩ x))
          (Ideal.ofBits FTy.f32 0x42800000#32) + Ideal.ofBits FTy.f32 0x358637BD#32)
      * x7 (ix1 ⟨e % 64, by omega⟩) * Ideal.ofBits FTy.f32 0x3F4CCCCD#32 := by
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_6, val_main_cst_7, val_main_cst_8, val_main_cst_9]

end Cert.ReferenceIdeal.Head

end
-- ==== Proof.AttnTrip.lean ====
/-
  The differential attention call on one sequence: what its four trips store, as one function of the blocks.
-/
module

public import proofs.«01_k».proof.Proof.AttnBlock
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.KernelIdeal.Attn

open Cert.KernelIdeal Cert.KernelIdeal.Gen Idealize.ShloMosaic Idealize.ShloMosaic.TcCoe Idealize.SL.Sem Cert.AttnRow

/-! The loads' and stores' offsets at a trip. -/

theorem off1_eq : ∀ k : Fin k0_t1_loop.trips, k0_off1 k = ![0, 512 * k.val, 0] := by decide +kernel
theorem off2_eq : ∀ k : Fin k0_t1_loop.trips, k0_off2 k = ![0, 512 * k.val, 32] := by decide +kernel
theorem off3_eq : ∀ k : Fin k0_t1_loop.trips, k0_off3 k = ![0, 512 * k.val, 64] := by decide +kernel
theorem off4_eq : ∀ k : Fin k0_t1_loop.trips, k0_off4 k = ![0, 512 * k.val, 96] := by decide +kernel
theorem off5_eq : ∀ k : Fin k0_t1_loop.trips, k0_off5 k = ![0, 512 * k.val, 128] := by decide +kernel
theorem off6_eq : ∀ k : Fin k0_t1_loop.trips, k0_off6 k = ![0, 512 * k.val, 160] := by decide +kernel
theorem off7_eq : ∀ k : Fin k0_t1_loop.trips, k0_off7 k = ![0, 512 * k.val, 192] := by decide +kernel
theorem off8_eq : ∀ k : Fin k0_t1_loop.trips, k0_off8 k = ![0, 512 * k.val, 224] := by decide +kernel
theorem off9_eq : ∀ k : Fin k0_t1_loop.trips, k0_off9 k = ![0, 512 * k.val, 0] := by decide +kernel
theorem off10_eq : ∀ k : Fin k0_t1_loop.trips, k0_off10 k = ![0, 512 * k.val, 128] := by decide +kernel

/-- The score of row `n` and key `k` in slice `j` of the lanes. -/
def score (x1 : Vec Ideal S1x2048x256 .bf16) (x2 : Vec Ideal S1x256x2048 .bf16) (n : Fin 2048) (j : ℕ) (hj : j < 8) (k : Fin 2048) : EReal :=
  ∑ x : Fin 32, x1 (ix3 0 n ⟨32 * j + x, by omega⟩) * qs * x2 (ix3 0 ⟨32 * j + x, by omega⟩ k)

/-- The result at row `n`, lane `d` of pair `p`. -/
def lanes (lam : EReal) (x1 : Vec Ideal S1x2048x256 .bf16) (x2 : Vec Ideal S1x256x2048 .bf16) (x3 : Vec Ideal S1x2048x256 .bf16) (x4 : Vec Ideal S1x128 .f32)
    (n : Fin 2048) (p : ℕ) (hp : p < 2) (d : Fin 128) : EReal :=
  pair lam (score x1 x2 n (4 * p) (by omega)) (score x1 x2 n (4 * p + 1) (by omega)) (score x1 x2 n (4 * p + 2) (by omega)) (score x1 x2 n (4 * p + 3) (by omega))
    (fun k x => x3 (ix3 0 k ⟨128 * p + x, by omega⟩)) (fun x => x4 (ix2 0 x)) d

/-- The result at an index of the block. -/
def blockOf (lam : EReal) (x1 : Vec Ideal S1x2048x256 .bf16) (x2 : Vec Ideal S1x256x2048 .bf16) (x3 : Vec Ideal S1x2048x256 .bf16) (x4 : Vec Ideal S1x128 .f32) :
    S1x2048x256.Idx → EReal := fun i =>
  have h1 : (i 1).val < 2048 := (i 1).isLt
  have h2 : (i 2).val < 256 := (i 2).isLt
  lanes lam x1 x2 x3 x4 ⟨(i 1).val, h1⟩ ((i 2).val / 128) (by omega) ⟨(i 2).val % 128, by omega⟩

/-- `blockOf` where the coordinates are known. -/
theorem blockOf_apply (lam : EReal) (x1 : Vec Ideal S1x2048x256 .bf16) (x2 : Vec Ideal S1x256x2048 .bf16) (x3 : Vec Ideal S1x2048x256 .bf16) (x4 : Vec Ideal S1x128 .f32)
    (n : Fin 2048) (p : ℕ) (hp : p < 2) (d : Fin 128) (i : S1x2048x256.Idx) (h1 : (i 1).val = n.val) (h2 : (i 2).val = 128 * p + d.val) :
    blockOf lam x1 x2 x3 x4 i = lanes lam x1 x2 x3 x4 n p hp d := by
  have e1 : (i 2).val / 128 = p := by omega
  have e2 : (i 2).val % 128 = d.val := by omega
  unfold blockOf
  simp only [h1, e1, e2]

/-- A load's element, where its coordinates are known. -/
theorem ld_q (x1 : Vec Ideal S1x2048x256 .bf16) (off : Fin 3 → ℕ) (h) (n : Fin 2048) (j : Fin 256) (r : Fin 512) (x : Fin 32) (e : off = ![0, n.val - r.val, j.val - x.val])
    (hn : r.val ≤ n.val) (hj : x.val ≤ j.val) :
    View.ld x1 (Rect.unit (s := S1x2048x256) off S1x512x32.size h) (ix3 0 r x) = x1 (ix3 0 n j) := by
  subst e
  rw [View.ld_apply]
  refine congrArg x1 (funext fun a => Fin.ext ?_)
  rw [Rect.idx_unit_val]
  match a with
  | ⟨0, _⟩ => rfl
  | ⟨1, _⟩ => exact Nat.sub_add_cancel hn
  | ⟨2, _⟩ => exact Nat.sub_add_cancel hj

theorem ld_k (x2 : Vec Ideal S1x256x2048 .bf16) (o : ℕ) (h) (j : Fin 256) (x : Fin 32) (k : Fin 2048) (e : j.val = o + x.val) :
    View.ld x2 (Rect.unit (s := S1x256x2048) ![0, o, 0] S1x32x2048.size h) (ix3 0 x k) = x2 (ix3 0 j k) := by
  rw [View.ld_apply]
  refine congrArg x2 (funext fun a => Fin.ext ?_)
  rw [Rect.idx_unit_val]
  match a with
  | ⟨0, _⟩ => rfl
  | ⟨1, _⟩ => exact e.symm
  | ⟨2, _⟩ => exact Nat.zero_add _

theorem ld_v (x3 : Vec Ideal S1x2048x256 .bf16) (o : ℕ) (h) (j : Fin 256) (x : Fin 128) (k : Fin 2048) (e : j.val = o + x.val) :
    View.ld x3 (Rect.unit (s := S1x2048x256) ![0, 0, o] S1x2048x128.size h) (ix3 0 k x) = x3 (ix3 0 k j) := by
  rw [View.ld_apply]
  refine congrArg x3 (funext fun a => Fin.ext ?_)
  rw [Rect.idx_unit_val]
  match a with
  | ⟨0, _⟩ => rfl
  | ⟨1, _⟩ => exact Nat.zero_add _
  | ⟨2, _⟩ => exact e.symm

/-- A trip's scores are the rows' scores. -/
theorem pay2_score (x1 : Vec Ideal S1x2048x256 .bf16) (x2 : Vec Ideal S1x256x2048 .bf16) (off : Fin 3 → ℕ) (o : ℕ) (h h') (b j : ℕ) (hj : j < 8) (e : off = ![0, b, 32 * j])
    (eo : o = 32 * j) (r : Fin 512) (n : Fin 2048) (hn : n.val = b + r.val) :
    (fun k => k0_pay2 (View.ld x1 (Rect.unit (s := S1x2048x256) off S1x512x32.size h)) (View.ld x2 (Rect.unit (s := S1x256x2048) ![0, o, 0] S1x32x2048.size h')) (ix2 r k))
      = score x1 x2 n j hj := by
  funext k
  rw [pay2_apply]
  unfold score
  refine Finset.sum_congr rfl fun x _ => ?_
  rw [ld_q x1 off h n ⟨32 * j + x, by omega⟩ r x (by rw [e, hn, Nat.add_sub_cancel]; show _ = ![0, b, 32 * j + x.val - x.val]; rw [Nat.add_sub_cancel]) (by omega) (Nat.le_add_left _ _),
    ld_k x2 o h' ⟨32 * j + x, by omega⟩ x k (by rw [eo])]

/-- Equal arguments give equal lanes. -/
theorem pair_congr {lam : EReal} {s t s' t' a b a' b' : Fin 2048 → EReal} {v w : Fin 2048 → Fin 128 → EReal} {g g' : Fin 128 → EReal} {d : Fin 128}
    (h1 : s = a) (h2 : t = b) (h3 : s' = a') (h4 : t' = b') (h5 : v = w) (h6 : g = g') : pair lam s t s' t' v g d = pair lam a b a' b' w g' d := by
  subst h1 h2 h3 h4 h5 h6; rfl

/-- The gain's load is the whole block. -/
theorem ld_g (x4 : Vec Ideal S1x128 .f32) (h) (x : Fin 128) : View.ld x4 (Rect.unit (s := S1x128) ![0, 0] S1x128.size h) (ix2 0 x) = x4 (ix2 0 x) := by
  rw [View.ld_apply]
  refine congrArg x4 (funext fun a => Fin.ext ?_)
  rw [Rect.idx_unit_val]
  match a with
  | ⟨0, _⟩ => rfl
  | ⟨1, _⟩ => exact Nat.zero_add _

/-- A trip stores the second pair's lanes after the first pair's. -/
theorem trip_eq (c : Dev nD) (i : grid0.Coords) (arg1 : Memref sig .tc .smem S1 .f32) (harg1 : arg1.IsWhole) (arg2 : Memref sig .tc .vmem S1x2048x256 .bf16) (harg2 : arg2.IsWhole) (arg3 : Memref sig .tc .vmem S1x256x2048 .bf16) (harg3 : arg3.IsWhole) (arg4 : Memref sig .tc .vmem S1x2048x256 .bf16) (harg4 : arg4.IsWhole) (arg5 : Memref sig .tc .vmem S1x128 .f32) (harg5 : arg5.IsWhole) (arg6 : Memref sig .tc .vmem S1x2048x256 .bf16) (harg6 : arg6.IsWhole) (v0 : Elt Ideal .f32) (x1 : Vec Ideal S1x2048x256 .bf16) (x2 : Vec Ideal S1x256x2048 .bf16) (x3 : Vec Ideal S1x2048x256 .bf16) (x4 : Vec Ideal S1x128 .f32) (k : Fin k0_t1_loop.trips) :
    tripL_k0_t1 (F := Ideal) Variants.none c none i arg1 harg1 arg2 harg2 arg3 harg3 arg4 harg4 arg5 harg5 arg6 harg6 v0 (harg2.unread x1) (harg3.unread x2) (harg4.unread x3) (harg5.unread x4) k
    = [⟨Rect.unit (s := S1x2048x256) (k0_off10 k) S1x512x128.size (k0_off10_inb k), k0_pay1 (k0_pay31 (k0_pay27 (k0_pay23 (k0_pay2 (View.ld x1 (Rect.unit (s := S1x2048x256) (k0_off5 k) S1x512x32.size (k0_off5_inb k))) (View.ld x2 (Rect.unit (s := S1x256x2048) ![0, 128, 0] S1x32x2048.size inb_S1x256x2048_S1x32x2048_0_128_0)))) (k0_pay24 (k0_pay2 (View.ld x1 (Rect.unit (s := S1x2048x256) (k0_off6 k) S1x512x32.size (k0_off6_inb k))) (View.ld x2 (Rect.unit (s := S1x256x2048) ![0, 160, 0] S1x32x2048.size inb_S1x256x2048_S1x32x2048_0_160_0)))) (k0_pay25 (k0_pay2 (View.ld x1 (Rect.unit (s := S1x2048x256) (k0_off5 k) S1x512x32.size (k0_off5_inb k))) (View.ld x2 (Rect.unit (s := S1x256x2048) ![0, 128, 0] S1x32x2048.size inb_S1x256x2048_S1x32x2048_0_128_0)))) (k0_pay26 v0 (k0_pay2 (View.ld x1 (Rect.unit (s := S1x2048x256) (k0_off5 k) S1x512x32.size (k0_off5_inb k))) (View.ld x2 (Rect.unit (s := S1x256x2048) ![0, 128, 0] S1x32x2048.size inb_S1x256x2048_S1x32x2048_0_128_0))) (k0_pay2 (View.ld x1 (Rect.unit (s := S1x2048x256) (k0_off6 k) S1x512x32.size (k0_off6_inb k))) (View.ld x2 (Rect.unit (s := S1x256x2048) ![0, 160, 0] S1x32x2048.size inb_S1x256x2048_S1x32x2048_0_160_0)))) (View.ld x3 (Rect.unit (s := S1x2048x256) ![0, 0, 128] S1x2048x128.size inb_S1x2048x256_S1x2048x128_0_0_128))) (k0_pay29 (k0_pay2 (View.ld x1 (Rect.unit (s := S1x2048x256) (k0_off7 k) S1x512x32.size (k0_off7_inb k))) (View.ld x2 (Rect.unit (s := S1x256x2048) ![0, 192, 0] S1x32x2048.size inb_S1x256x2048_S1x32x2048_0_192_0)))) (k0_pay30 v0 (k0_pay2 (View.ld x1 (Rect.unit (s := S1x2048x256) (k0_off7 k) S1x512x32.size (k0_off7_inb k))) (View.ld x2 (Rect.unit (s := S1x256x2048) ![0, 192, 0] S1x32x2048.size inb_S1x256x2048_S1x32x2048_0_192_0))) (k0_pay2 (View.ld x1 (Rect.unit (s := S1x2048x256) (k0_off8 k) S1x512x32.size (k0_off8_inb k))) (View.ld x2 (Rect.unit (s := S1x256x2048) ![0, 224, 0] S1x32x2048.size inb_S1x256x2048_S1x32x2048_0_224_0)))) (View.ld x3 (Rect.unit (s := S1x2048x256) ![0, 0, 128] S1x2048x128.size inb_S1x2048x256_S1x2048x128_0_0_128)) (View.ld x4 (Rect.unit (s := S1x128) ![0, 0] S1x128.size inb_S1x128_S1x128_0_0)))⟩,
      ⟨Rect.unit (s := S1x2048x256) (k0_off9 k) S1x512x128.size (k0_off9_inb k), k0_pay22 (k0_pay13 (k0_pay11 (k0_pay6 (k0_pay2 (View.ld x1 (Rect.unit (s := S1x2048x256) (k0_off1 k) S1x512x32.size (k0_off1_inb k))) (View.ld x2 (Rect.unit (s := S1x256x2048) ![0, 0, 0] S1x32x2048.size inb_S1x256x2048_S1x32x2048_0_0_0)))) (k0_pay8 v0 (k0_pay2 (View.ld x1 (Rect.unit (s := S1x2048x256) (k0_off1 k) S1x512x32.size (k0_off1_inb k))) (View.ld x2 (Rect.unit (s := S1x256x2048) ![0, 0, 0] S1x32x2048.size inb_S1x256x2048_S1x32x2048_0_0_0))) (k0_pay2 (View.ld x1 (Rect.unit (s := S1x2048x256) (k0_off2 k) S1x512x32.size (k0_off2_inb k))) (View.ld x2 (Rect.unit (s := S1x256x2048) ![0, 32, 0] S1x32x2048.size inb_S1x256x2048_S1x32x2048_0_32_0)))) (View.ld x3 (Rect.unit (s := S1x2048x256) ![0, 0, 0] S1x2048x128.size inb_S1x2048x256_S1x2048x128_0_0_0))) (k0_pay12 (k0_pay7 (k0_pay2 (View.ld x1 (Rect.unit (s := S1x2048x256) (k0_off1 k) S1x512x32.size (k0_off1_inb k))) (View.ld x2 (Rect.unit (s := S1x256x2048) ![0, 0, 0] S1x32x2048.size inb_S1x256x2048_S1x32x2048_0_0_0)))))) (k0_pay20 (k0_pay15 (k0_pay2 (View.ld x1 (Rect.unit (s := S1x2048x256) (k0_off3 k) S1x512x32.size (k0_off3_inb k))) (View.ld x2 (Rect.unit (s := S1x256x2048) ![0, 64, 0] S1x32x2048.size inb_S1x256x2048_S1x32x2048_0_64_0)))) (k0_pay16 v0 (k0_pay2 (View.ld x1 (Rect.unit (s := S1x2048x256) (k0_off3 k) S1x512x32.size (k0_off3_inb k))) (View.ld x2 (Rect.unit (s := S1x256x2048) ![0, 64, 0] S1x32x2048.size inb_S1x256x2048_S1x32x2048_0_64_0))) (k0_pay2 (View.ld x1 (Rect.unit (s := S1x2048x256) (k0_off4 k) S1x512x32.size (k0_off4_inb k))) (View.ld x2 (Rect.unit (s := S1x256x2048) ![0, 96, 0] S1x32x2048.size inb_S1x256x2048_S1x32x2048_0_96_0)))) (View.ld x3 (Rect.unit (s := S1x2048x256) ![0, 0, 0] S1x2048x128.size inb_S1x2048x256_S1x2048x128_0_0_0))) (k0_pay21 (k0_pay15 (k0_pay2 (View.ld x1 (Rect.unit (s := S1x2048x256) (k0_off3 k) S1x512x32.size (k0_off3_inb k))) (View.ld x2 (Rect.unit (s := S1x256x2048) ![0, 64, 0] S1x32x2048.size inb_S1x256x2048_S1x32x2048_0_64_0)))) (k0_pay16 v0 (k0_pay2 (View.ld x1 (Rect.unit (s := S1x2048x256) (k0_off3 k) S1x512x32.size (k0_off3_inb k))) (View.ld x2 (Rect.unit (s := S1x256x2048) ![0, 64, 0] S1x32x2048.size inb_S1x256x2048_S1x32x2048_0_64_0))) (k0_pay2 (View.ld x1 (Rect.unit (s := S1x2048x256) (k0_off4 k) S1x512x32.size (k0_off4_inb k))) (View.ld x2 (Rect.unit (s := S1x256x2048) ![0, 96, 0] S1x32x2048.size inb_S1x256x2048_S1x32x2048_0_96_0)))) (View.ld x3 (Rect.unit (s := S1x2048x256) ![0, 0, 0] S1x2048x128.size inb_S1x2048x256_S1x2048x128_0_0_0))) (View.ld x4 (Rect.unit (s := S1x128) ![0, 0] S1x128.size inb_S1x128_S1x128_0_0))⟩] := by
  unfold tripL_k0_t1 trip_k0_t1
  dsimp only
  sl_unfold_run_names
  simp only [View.readAt_eq_ld, Memref.IsWhole.read_unread]
  rfl

/-- Every piece of a trip agrees with the block's function. -/
theorem trip_agrees (c : Dev nD) (i : grid0.Coords) (arg1 : Memref sig .tc .smem S1 .f32) (harg1 : arg1.IsWhole) (arg2 : Memref sig .tc .vmem S1x2048x256 .bf16) (harg2 : arg2.IsWhole) (arg3 : Memref sig .tc .vmem S1x256x2048 .bf16) (harg3 : arg3.IsWhole) (arg4 : Memref sig .tc .vmem S1x2048x256 .bf16) (harg4 : arg4.IsWhole) (arg5 : Memref sig .tc .vmem S1x128 .f32) (harg5 : arg5.IsWhole) (arg6 : Memref sig .tc .vmem S1x2048x256 .bf16) (harg6 : arg6.IsWhole) (v0 : Elt Ideal .f32) (x1 : Vec Ideal S1x2048x256 .bf16) (x2 : Vec Ideal S1x256x2048 .bf16) (x3 : Vec Ideal S1x2048x256 .bf16) (x4 : Vec Ideal S1x128 .f32) (k : Fin k0_t1_loop.trips) :
    ∀ p ∈ tripL_k0_t1 (F := Ideal) Variants.none c none i arg1 harg1 arg2 harg2 arg3 harg3 arg4 harg4 arg5 harg5 arg6 harg6 v0 (harg2.unread x1) (harg3.unread x2) (harg4.unread x3) (harg5.unread x4) k,
      ∀ y : p.1.shape.Idx, p.2 y = blockOf v0 x1 x2 x3 x4 (p.1.emb y) := by
  have hk : k.val < 4 := Nat.lt_of_lt_of_le k.isLt k0_t1_abs.2.1
  rw [trip_eq]
  refine List.forall_mem_cons.mpr ⟨fun y => ?_, List.forall_mem_cons.mpr ⟨fun y => ?_, fun _ h => absurd h List.not_mem_nil⟩⟩
  · dsimp only at y ⊢
    idx_vars y
    obtain rfl : y0 = 0 := Subsingleton.elim _ _
    rw [out1]
    refine Eq.trans ?_ (blockOf_apply v0 x1 x2 x3 x4 ⟨512 * k.val + y1, by omega⟩ 1 (by omega) y2 _
      ((Rect.idx_unit_val _ _ _ _ 1).trans ?_) ((Rect.idx_unit_val _ _ _ _ 2).trans ?_)).symm
    · exact pair_congr
        (pay2_score x1 x2 _ 128 _ _ (512 * k.val) 4 (by omega) (off5_eq k) rfl y1 ⟨512 * k.val + y1, by omega⟩ rfl)
        (pay2_score x1 x2 _ 160 _ _ (512 * k.val) 5 (by omega) (off6_eq k) rfl y1 ⟨512 * k.val + y1, by omega⟩ rfl)
        (pay2_score x1 x2 _ 192 _ _ (512 * k.val) 6 (by omega) (off7_eq k) rfl y1 ⟨512 * k.val + y1, by omega⟩ rfl)
        (pay2_score x1 x2 _ 224 _ _ (512 * k.val) 7 (by omega) (off8_eq k) rfl y1 ⟨512 * k.val + y1, by omega⟩ rfl)
        (funext fun k => funext fun x => ld_v x3 128 _ ⟨128 * 1 + x, by omega⟩ x k rfl) (funext fun x => ld_g x4 _ x)
    · exact congrArg (· + y1.val) (congrFun (off10_eq k) 1)
    · exact congrArg (· + y2.val) (congrFun (off10_eq k) 2)
  · dsimp only at y ⊢
    idx_vars y
    obtain rfl : y0 = 0 := Subsingleton.elim _ _
    rw [out0]
    refine Eq.trans ?_ (blockOf_apply v0 x1 x2 x3 x4 ⟨512 * k.val + y1, by omega⟩ 0 (by omega) y2 _
      ((Rect.idx_unit_val _ _ _ _ 1).trans ?_) ((Rect.idx_unit_val _ _ _ _ 2).trans ?_)).symm
    · exact pair_congr
        (pay2_score x1 x2 _ 0 _ _ (512 * k.val) 0 (by omega) (off1_eq k) rfl y1 ⟨512 * k.val + y1, by omega⟩ rfl)
        (pay2_score x1 x2 _ 32 _ _ (512 * k.val) 1 (by omega) (off2_eq k) rfl y1 ⟨512 * k.val + y1, by omega⟩ rfl)
        (pay2_score x1 x2 _ 64 _ _ (512 * k.val) 2 (by omega) (off3_eq k) rfl y1 ⟨512 * k.val + y1, by omega⟩ rfl)
        (pay2_score x1 x2 _ 96 _ _ (512 * k.val) 3 (by omega) (off4_eq k) rfl y1 ⟨512 * k.val + y1, by omega⟩ rfl)
        (funext fun k => funext fun x => ld_v x3 0 _ ⟨128 * 0 + x, by omega⟩ x k rfl) (funext fun x => ld_g x4 _ x)
    · exact congrArg (· + y1.val) (congrFun (off9_eq k) 1)
    · exact congrArg (· + y2.val) (congrFun (off9_eq k) 2)

/-- The same of all the trips before one. -/
theorem trips_agree (c : Dev nD) (i : grid0.Coords) (arg1 : Memref sig .tc .smem S1 .f32) (harg1 : arg1.IsWhole) (arg2 : Memref sig .tc .vmem S1x2048x256 .bf16) (harg2 : arg2.IsWhole) (arg3 : Memref sig .tc .vmem S1x256x2048 .bf16) (harg3 : arg3.IsWhole) (arg4 : Memref sig .tc .vmem S1x2048x256 .bf16) (harg4 : arg4.IsWhole) (arg5 : Memref sig .tc .vmem S1x128 .f32) (harg5 : arg5.IsWhole) (arg6 : Memref sig .tc .vmem S1x2048x256 .bf16) (harg6 : arg6.IsWhole) (v0 : Elt Ideal .f32) (x1 : Vec Ideal S1x2048x256 .bf16) (x2 : Vec Ideal S1x256x2048 .bf16) (x3 : Vec Ideal S1x2048x256 .bf16) (x4 : Vec Ideal S1x128 .f32) :
    ∀ n, n ≤ k0_t1_loop.trips → ∀ p ∈ pb_k0_t1 (F := Ideal) Variants.none c none i arg1 harg1 arg2 harg2 arg3 harg3 arg4 harg4 arg5 harg5 arg6 harg6 v0 (harg2.unread x1) (harg3.unread x2) (harg4.unread x3) (harg5.unread x4) n,
      ∀ y : p.1.shape.Idx, p.2 y = blockOf v0 x1 x2 x3 x4 (p.1.emb y)
  | 0, _, p, hp => absurd hp List.not_mem_nil
  | n + 1, hn, p, hp => by
    rw [pb_k0_t1_succ Variants.none c none i arg1 harg1 arg2 harg2 arg3 harg3 arg4 harg4 arg5 harg5 arg6 harg6 v0 _ _ _ _ ⟨n, hn⟩] at hp
    rcases List.mem_append.mp hp with hp | hp
    · exact trip_agrees c i arg1 harg1 arg2 harg2 arg3 harg3 arg4 harg4 arg5 harg5 arg6 harg6 v0 x1 x2 x3 x4 ⟨n, hn⟩ p hp
    · exact trips_agree c i arg1 harg1 arg2 harg2 arg3 harg3 arg4 harg4 arg5 harg5 arg6 harg6 v0 x1 x2 x3 x4 n (by omega) p hp

/-- What the call leaves in the result's block. -/
theorem out_eq (c : Dev nD) (i : grid0.Coords) (arg1 : Memref sig .tc .smem S1 .f32) (harg1 : arg1.IsWhole) (arg2 : Memref sig .tc .vmem S1x2048x256 .bf16) (harg2 : arg2.IsWhole) (arg3 : Memref sig .tc .vmem S1x256x2048 .bf16) (harg3 : arg3.IsWhole) (arg4 : Memref sig .tc .vmem S1x2048x256 .bf16) (harg4 : arg4.IsWhole) (arg5 : Memref sig .tc .vmem S1x128 .f32) (harg5 : arg5.IsWhole) (arg6 : Memref sig .tc .vmem S1x2048x256 .bf16) (harg6 : arg6.IsWhole) (x0 : Vec Ideal S1 .f32) (x1 : Vec Ideal S1x2048x256 .bf16) (x2 : Vec Ideal S1x256x2048 .bf16) (x3 : Vec Ideal S1x2048x256 .bf16) (x4 : Vec Ideal S1x128 .f32) :
    out0_A_5 (F := Ideal) c i arg1 harg1 arg2 harg2 arg3 harg3 arg4 harg4 arg5 harg5 arg6 harg6 x0 x1 x2 x3 x4 = blockOf (x0 (ix1 0)) x1 x2 x3 x4 := by
  funext y
  unfold out0_A_5
  refine View.read_writes_apply_of_pieces _ _ _ _ ?_ y (cover0_A_5 c i arg1 harg1 arg2 harg2 arg3 harg3 arg4 harg4 arg5 harg5 arg6 harg6 x0 x1 x2 x3 x4 y)
  unfold kernelRun0_A
  dsimp only
  sl_unfold_run_names
  simp only [View.readAt_eq_ld, Memref.IsWhole.read_unread]
  have e : View.ld x0 (Rect.unit (s := S1) ![0] S1.size inb_S1_S1_0) (Shape.Idx.first (by decide)) = x0 (ix1 0) :=
    congrArg x0 (funext fun a => Fin.ext (by match a with | ⟨0, _⟩ => rfl))
  intro p hp
  exact e ▸ trips_agree c i arg1 harg1 arg2 harg2 arg3 harg3 arg4 harg4 arg5 harg5 arg6 harg6 _ x1 x2 x3 x4 _ (le_refl _) p hp

end Cert.KernelIdeal.Attn

end
-- ==== Proof.AttnValue.lean ====
/-
  The differential attention call's result array after the run, of the arguments.
-/
module

public import proofs.«01_k».proof.Proof.AttnTrip

@[expose] public section

set_option maxRecDepth 16384

noncomputable section

namespace Cert.KernelIdeal.Attn

open Cert.KernelIdeal Cert.KernelIdeal.Gen Idealize.ShloMosaic Idealize.ShloMosaic.TcCoe Idealize.SL.Sem Cert.AttnRow

variable (m : (ℓ : Loc nD τ sig) → Buf (Elt Ideal) ℓ)

/-- The number that the second map is scaled by. -/
def lamOf (x3 x4 x5 x6 : Fin 32 → EReal) : EReal :=
  Ideal.exp (∑ x, x3 x * x4 x) - Ideal.exp (∑ x, x5 x * x6 x) + Ideal.ofBits FTy.f32 0x3E4CCCCD#32

/-- A dot product whose first operand is scaled. -/
def dotOf (r : EReal) (q k : Fin 32 → EReal) : EReal := ∑ x, q x * r * k x

/-- The score of query `n` and key `k` of sequence `b` in slice `j` of the lanes. -/
def scoreOf (c : Dev nD) (b : Fin 32) (n : Fin 2048) (j : ℕ) (hj : j < 8) (k : Fin 2048) : EReal :=
  dotOf qs (fun x => m ((c : Thread nD τ).loc main_arg0) (ix3 b n ⟨32 * j + x, by omega⟩)) (fun x => m ((c : Thread nD τ).loc main_arg1) (ix3 b k ⟨32 * j + x, by omega⟩))

/-- The result at token `n` of sequence `b`, lane `d` of pair `p`. -/
def lanesOf (c : Dev nD) (b : Fin 32) (n : Fin 2048) (p : ℕ) (hp : p < 2) (d : Fin 128) : EReal :=
  pair (lamOf (fun x => m ((c : Thread nD τ).loc main_arg3) (ix1 x)) (fun x => m ((c : Thread nD τ).loc main_arg4) (ix1 x))
      (fun x => m ((c : Thread nD τ).loc main_arg5) (ix1 x)) (fun x => m ((c : Thread nD τ).loc main_arg6) (ix1 x)))
    (scoreOf m c b n (4 * p) (by omega)) (scoreOf m c b n (4 * p + 1) (by omega)) (scoreOf m c b n (4 * p + 2) (by omega)) (scoreOf m c b n (4 * p + 3) (by omega))
    (fun k x => m ((c : Thread nD τ).loc main_arg2) (ix3 b k ⟨128 * p + x, by omega⟩)) (fun x => m ((c : Thread nD τ).loc main_arg7) (ix1 ⟨x.val % 64, by omega⟩)) d

/-- The result array. -/
def G (c : Dev nD) : S32x2048x256.Idx → EReal := fun i =>
  have h0 : (i 0).val < 32 := (i 0).isLt
  have h1 : (i 1).val < 2048 := (i 1).isLt
  have h2 : (i 2).val < 256 := (i 2).isLt
  lanesOf m c ⟨(i 0).val, h0⟩ ⟨(i 1).val, h1⟩ ((i 2).val / 128) (by omega) ⟨(i 2).val % 128, by omega⟩

/-- The windows' block indices at a point. -/
theorem idx : ∀ t : Fin cfg0.N, win0_0.index t = ![0] ∧ win0_1.index t = ![t.val, 0, 0] ∧ win0_2.index t = ![t.val, 0, 0] ∧ win0_3.index t = ![t.val, 0, 0]
    ∧ win0_4.index t = ![0, 0] ∧ win0_5.index t = ![t.val, 0, 0] :=
  (by decide +kernel : ∀ t : Fin grid0.N, win0_0.index t = ![0] ∧ win0_1.index t = ![t.val, 0, 0] ∧ win0_2.index t = ![t.val, 0, 0] ∧ win0_3.index t = ![t.val, 0, 0]
    ∧ win0_4.index t = ![0, 0] ∧ win0_5.index t = ![t.val, 0, 0])

/-- The queries, cast. -/
theorem read_q (c : Dev nD) (b : Fin 32) (n : Fin 2048) (k : Fin 256) : V m c main_v0 (ix3 b n k) = m ((c : Thread nD τ).loc main_arg0) (ix3 b n k) := by
  unfold V
  after_reads_at

/-- The keys, transposed and cast. -/
theorem read_k (c : Dev nD) (b : Fin 32) (n : Fin 2048) (k : Fin 256) : V m c main_v2 (ix3 b k n) = m ((c : Thread nD τ).loc main_arg1) (ix3 b n k) := by
  unfold V
  after_reads_at

/-- The values, cast. -/
theorem read_v (c : Dev nD) (b : Fin 32) (n : Fin 2048) (k : Fin 256) : V m c main_v11 (ix3 b n k) = m ((c : Thread nD τ).loc main_arg2) (ix3 b n k) := by
  unfold V
  after_reads_at

/-- The gain, repeated for two heads. -/
theorem read_g (c : Dev nD) (k : Fin 128) : V m c main_v15 (ix2 0 k) = m ((c : Thread nD τ).loc main_arg7) (ix1 ⟨k.val % 64, by omega⟩) := by
  unfold V
  after_reads_at

/-- The second map's scale. -/
theorem read_lam (c : Dev nD) : V m c main_v16 (ix1 0) = lamOf (fun x => m ((c : Thread nD τ).loc main_arg3) (ix1 x)) (fun x => m ((c : Thread nD τ).loc main_arg4) (ix1 x))
      (fun x => m ((c : Thread nD τ).loc main_arg5) (ix1 x)) (fun x => m ((c : Thread nD τ).loc main_arg6) (ix1 x)) := by
  unfold V lamOf
  after_reads_at

/-- A point's query block is its sequence. -/
theorem blk_q (c : Dev nD) (t : Fin cfg0.N) (n : Fin 2048) (k : Fin 256) (h0 : t.val < 32) : iblk m c 1 t (ix3 0 n k) = V m c main_v0 (ix3 ⟨t.val, h0⟩ n k) := by
  blk_ext [iblk, idx t]

/-- A point's key block is its sequence. -/
theorem blk_k (c : Dev nD) (t : Fin cfg0.N) (n : Fin 2048) (k : Fin 256) (h0 : t.val < 32) : iblk m c 2 t (ix3 0 k n) = V m c main_v2 (ix3 ⟨t.val, h0⟩ k n) := by
  blk_ext [iblk, idx t]

/-- A point's value block is its sequence. -/
theorem blk_v (c : Dev nD) (t : Fin cfg0.N) (n : Fin 2048) (k : Fin 256) (h0 : t.val < 32) : iblk m c 3 t (ix3 0 n k) = V m c main_v11 (ix3 ⟨t.val, h0⟩ n k) := by
  blk_ext [iblk, idx t]

/-- Every point's gain block is the whole gain. -/
theorem blk_g (c : Dev nD) (t : Fin cfg0.N) (k : Fin 128) : iblk m c 4 t (ix2 0 k) = V m c main_v15 (ix2 0 k) := by
  blk_ext [iblk, idx t]

/-- Every point's scale. -/
theorem blk_lam (c : Dev nD) (t : Fin cfg0.N) : iblk m c 0 t (ix1 0) = V m c main_v16 (ix1 0) := by
  blk_ext [iblk, idx t]

/-- A block's scores are the sequence's. -/
theorem score_eq (c : Dev nD) (t : Fin cfg0.N) (n : Fin 2048) (j : ℕ) (hj : j < 8) (h0 : t.val < 32) :
    score (iblk m c 1 t) (iblk m c 2 t) n j hj = scoreOf m c ⟨t.val, h0⟩ n j hj := by
  funext k
  unfold score scoreOf dotOf
  refine Finset.sum_congr rfl fun x _ => ?_
  rw [blk_q m c t _ _ h0, read_q, blk_k m c t _ _ h0, read_k]

/-- `G` where the coordinates are known. -/
theorem G_apply (c : Dev nD) (b : Fin 32) (n : Fin 2048) (e : Fin 256) (i : S32x2048x256.Idx) (h0 : (i 0).val = b.val) (h1 : (i 1).val = n.val)
    (h2 : (i 2).val = e.val) : G m c i = lanesOf m c b n (e.val / 128) (by omega) ⟨e.val % 128, by omega⟩ := by
  unfold G
  simp only [h0, h1, h2]

/-- The result array after the run. -/
theorem arr_eq (c : Dev nD) : (dats m 0 c).arrAt 5 cfg0.N = G m c := by
  refine (dats m 0 c).arrAt_eq_of_covers 5 _ (by decide +kernel) fun t hf y => ?_
  blk_simp
  rw [after0_5]
  unfold outsAt0
  rw [out_eq]
  idx_vars y
  have ht : t.val < 32 := lt_of_lt_of_eq t.isLt N_0
  rw [G_apply m c ⟨t.val, ht⟩ y1 y2 _ (by blk_simp [idx t]) (by blk_simp [idx t]) (by blk_simp [idx t])]
  refine (blockOf_apply _ _ _ _ _ y1 (y2.val / 128) (by omega) ⟨y2.val % 128, by omega⟩ _ rfl (Nat.div_add_mod _ _).symm).trans ?_
  unfold lanes lanesOf
  rw [blk_lam, read_lam]
  exact pair_congr (score_eq m c t _ _ _ ht) (score_eq m c t _ _ _ ht) (score_eq m c t _ _ _ ht) (score_eq m c t _ _ _ ht)
    (funext fun k => funext fun x => (blk_v m c t _ _ ht).trans (read_v m c _ _ _)) (funext fun x => (blk_g m c t x).trans (read_g m c x))

end Cert.KernelIdeal.Attn

end
-- ==== Proof.AttnHead.lean ====
/-
  The differential attention call's result array is the reference's, when the queries and the keys are real numbers.
-/
module

public import proofs.«01_k».proof.Proof.AttnMath
public import proofs.«01_k».proof.Proof.AttnReference
public import proofs.«01_k».proof.Proof.AttnValue

@[expose] public section

set_option maxRecDepth 16384

noncomputable section

namespace Cert.ReferenceIdeal.Head

open Cert.ReferenceIdeal Cert.ReferenceIdeal.Read Idealize.ShloMosaic Cert.AttnRow

variable (x0 x1 x2 : (⟨S32x2048x256, .f32⟩ : BufTy).Contents (Elt Ideal)) (x3 x4 x5 x6 : (⟨S32, .f32⟩ : BufTy).Contents (Elt Ideal))
  (x7 : (⟨S64, .f32⟩ : BufTy).Contents (Elt Ideal)) (b : Fin 32)

/-- A row of scores. -/
def row (h : Fin 4) (c : Fin 2) (n : Fin 2048) : Fin 2048 → EReal := fun k => val_main_v13 x0 x1 (ix5 b h c n k)

/-- The reference's softmax weights. -/
theorem v24_prob (h : Fin 4) (c : Fin 2) (n k : Fin 2048) : val_main_v24 x0 x1 (ix5 b h c n k) = prob (row x0 x1 b h c n) k := by
  have ht : val_main_v16 x0 x1 (ix4 b h c n) = rtop (row x0 x1 b h c n) := by
    rw [v16_apply, v14_apply]; rfl
  rw [v24_apply, v21_apply]
  simp only [v20_apply, ht]
  rfl

/-- A lane of a head before the norm. -/
theorem v33_mix (h : Fin 4) (n : Fin 2048) (d : Fin 64) : val_main_v33 x0 x1 x2 x3 x4 x5 x6 (ix4 b n h d)
    = mix (Cert.KernelIdeal.Attn.lamOf (fun x => x3 (ix1 x)) (fun x => x4 (ix1 x)) (fun x => x5 (ix1 x)) (fun x => x6 (ix1 x)))
        (row x0 x1 b h 0 n) (row x0 x1 b h 1 n) (fun k => x2 (ix3 b k ⟨h * 64 + d, by omega⟩)) := by
  rw [v33_apply]
  refine Finset.sum_congr rfl fun k _ => ?_
  rw [v4_apply, v31_apply, v26_apply, v28_apply, v24_prob, v24_prob, v12_apply]
  rfl

/-- A lane of the result. -/
theorem v50_head (n : Fin 2048) (e : Fin 256) : val_main_v50 x0 x1 x2 x3 x4 x5 x6 x7 (ix3 b n e)
    = head (fun d => mix (Cert.KernelIdeal.Attn.lamOf (fun x => x3 (ix1 x)) (fun x => x4 (ix1 x)) (fun x => x5 (ix1 x)) (fun x => x6 (ix1 x)))
        (row x0 x1 b ⟨e.val / 64, by omega⟩ 0 n) (row x0 x1 b ⟨e.val / 64, by omega⟩ 1 n) (fun k => x2 (ix3 b k ⟨e.val / 64 * 64 + d, by omega⟩)))
      (fun d => x7 (ix1 d)) ⟨e.val % 64, by omega⟩ := by
  rw [v50_apply]
  simp only [v33_mix]
  rfl

end Cert.ReferenceIdeal.Head

namespace Cert.KernelIdeal.Attn

open Cert.KernelIdeal Cert.KernelIdeal.Gen Idealize.ShloMosaic Idealize.ShloMosaic.TcCoe Idealize.SL.Sem Cert.AttnRow

/-- A dot product of real vectors under a real scale. -/
theorem dot_real (r : ℝ) (q k : Fin 32 → ℝ) :
    dotOf (r : EReal) (fun x => ((q x : ℝ) : EReal)) (fun x => ((k x : ℝ) : EReal)) = ((∑ x, q x * r * k x : ℝ) : EReal) := by
  unfold dotOf
  rw [← coe_sum]
  simp only [EReal.coe_mul]

/-- The kernel's query scale is the reference's over the logarithm of two. -/
theorem qs_real : qs = ((11863283 / 67108864 * (Real.log 2)⁻¹ : ℝ) : EReal) :=
  IdealRules.named_const.ideal_named_scalar _ _ _ _ rfl

/-- A kernel score is the reference's over the logarithm of two. -/
theorem dot_scaled (q k : Fin 32 → ℝ) : dotOf qs (fun x => ((q x : ℝ) : EReal)) (fun x => ((k x : ℝ) : EReal))
    = (((∑ x, q x * (11863283 / 67108864) * k x) * (Real.log 2)⁻¹ : ℝ) : EReal) := by
  rw [qs_real, dot_real, Finset.sum_mul]
  congr 1
  exact Finset.sum_congr rfl fun x _ => by ring

variable (m : (ℓ : Loc nD τ sig) → Buf (Elt Ideal) ℓ)

/-- One row of scores, on both sides. -/
theorem rows (c : Dev nD) (hq : ∀ i, ∃ r : ℝ, m ((c : Thread nD τ).loc main_arg0) i = (r : EReal)) (hk : ∀ i, ∃ r : ℝ, m ((c : Thread nD τ).loc main_arg1) i = (r : EReal))
    (b : Fin 32) (n : Fin 2048) (h : Fin 4) (u : Fin 2) (j : ℕ) (hj : j < 8) (e : j = 2 * h.val + u.val) :
    ∃ a : Fin 2048 → ℝ, scoreOf m c b n j hj = (fun k => ((a k * (Real.log 2)⁻¹ : ℝ) : EReal))
      ∧ Cert.ReferenceIdeal.Head.row (m ((c : Thread nD τ).loc main_arg0)) (m ((c : Thread nD τ).loc main_arg1)) b h u n = fun k => ((a k : ℝ) : EReal) := by
  choose q hq using hq
  choose r hr using hk
  subst e
  refine ⟨fun k => ∑ x : Fin 32, q (ix3 b n ⟨32 * (2 * h.val + u.val) + x, by omega⟩) * (11863283 / 67108864) * r (ix3 b k ⟨32 * (2 * h.val + u.val) + x, by omega⟩), ?_, ?_⟩
  · funext k
    unfold scoreOf
    simp only [hq, hr]
    exact dot_scaled _ _
  · funext k
    unfold Cert.ReferenceIdeal.Head.row
    rw [Cert.ReferenceIdeal.Head.v13_apply]
    have e : ∀ x : Fin 32, h.val * 64 + u.val * 32 + x.val = 32 * (2 * h.val + u.val) + x.val := fun x => by omega
    simp only [hq, hr, scale_bits, e]
    exact dot_real _ _ _

/-- The two results at one lane. -/
theorem lanes_eq (c : Dev nD) (hq : ∀ i, ∃ r : ℝ, m ((c : Thread nD τ).loc main_arg0) i = (r : EReal)) (hk : ∀ i, ∃ r : ℝ, m ((c : Thread nD τ).loc main_arg1) i = (r : EReal))
    (b : Fin 32) (n : Fin 2048) (e : Fin 256) :
    lanesOf m c b n (e.val / 128) (by omega) ⟨e.val % 128, by omega⟩
      = Cert.ReferenceIdeal.Read.val_main_v50 (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (ix3 b n e) := by
  rw [Cert.ReferenceIdeal.Head.v50_head]
  unfold lanesOf
  by_cases hd : e.val % 128 < 64
  · obtain ⟨a, ha, ha'⟩ := rows m c hq hk b n ⟨e.val / 64, by omega⟩ 0 (4 * (e.val / 128)) (by omega) (by show _ = 2 * (e.val / 64) + 0; omega)
    obtain ⟨a', hb, hb'⟩ := rows m c hq hk b n ⟨e.val / 64, by omega⟩ 1 (4 * (e.val / 128) + 1) (by omega) (by show _ = 2 * (e.val / 64) + 1; omega)
    rw [ha, hb, ha', hb']
    have hx : (⟨e.val % 128, by omega⟩ : Fin 128) = ⟨(⟨e.val % 64, by omega⟩ : Fin 64).val, by omega⟩ := Fin.ext (by show e.val % 128 = e.val % 64; omega)
    rw [hx, pair_low]
    have hv : ∀ x : Fin 64, 128 * (e.val / 128) + x.val = e.val / 64 * 64 + x.val := fun x => by omega
    have hg : ∀ x : Fin 64, x.val % 64 = x.val := fun x => Nat.mod_eq_of_lt x.isLt
    simp only [hv, hg]
  · obtain ⟨a, ha, ha'⟩ := rows m c hq hk b n ⟨e.val / 64, by omega⟩ 0 (4 * (e.val / 128) + 2) (by omega) (by show _ = 2 * (e.val / 64) + 0; omega)
    obtain ⟨a', hb, hb'⟩ := rows m c hq hk b n ⟨e.val / 64, by omega⟩ 1 (4 * (e.val / 128) + 3) (by omega) (by show _ = 2 * (e.val / 64) + 1; omega)
    rw [ha, hb, ha', hb']
    have hx : (⟨e.val % 128, by omega⟩ : Fin 128) = ⟨64 + (⟨e.val % 64, by omega⟩ : Fin 64).val, by omega⟩ := Fin.ext (by show e.val % 128 = 64 + e.val % 64; omega)
    rw [hx, pair_high]
    have hv : ∀ x : Fin 64, 128 * (e.val / 128) + (64 + x.val) = e.val / 64 * 64 + x.val := fun x => by omega
    have hg : ∀ x : Fin 64, (64 + x.val) % 64 = x.val := fun x => by omega
    simp only [hv, hg]

end Cert.KernelIdeal.Attn
-- ==== Proof.AttnFinite.lean ====
/-
  The stated precondition, read back: every entry of the queries and of the keys is a real number.
-/
module

public import proofs.«01_k».proof.Defs
public import Idealize.ShloMosaic.Lib.ReduceAll
public import Idealize.ShloMosaic.Lib.Pointwise

@[expose] public section

set_option maxRecDepth 16384

noncomputable section

namespace Cert.Pre_finite.Entry

open Cert.Pre_finite Idealize.ShloMosaic

/-- The predicate's side conditions. -/
theorem facts : Facts where
  bcast_S_S32x2048x256 := by decide
  reducesTo_S32x2048x256_S_d0_1_2 := by decide
  h_S_ := by decide

local instance : Subsingleton S_.Idx := ⟨fun i j => funext fun a => a.elim0⟩

/-- An extended real whose absolute value is below infinity is a real number. -/
theorem real_of_abs (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  have hlt : max x (-x) < ⊤ := by
    rw [htop] at h
    by_contra hn
    simp [Ideal.cmp, hn] at h
  induction x using EReal.rec with
  | bot => simp at hlt
  | coe r => exact ⟨r, rfl⟩
  | top => simp at hlt

/-- Every entry of the first two arguments is a real number. -/
theorem entries [hF : Facts] (x0 x1 x2 : FVec Ideal S32x2048x256 .f32) (x3 x4 x5 x6 : FVec Ideal S32 .f32) (x7 : FVec Ideal S64 .f32)
    (h : Cert.Pre_finite.fn (F := Ideal) x0 x1 x2 x3 x4 x5 x6 x7 = fun _ => 1#1) :
    (∀ i, ∃ r : ℝ, x0 i = (r : EReal)) ∧ ∀ i, ∃ r : ℝ, x1 i = (r : EReal) := by
  have h' := congrFun h (fun a => a.elim0)
  dsimp only [Cert.Pre_finite.fn] at h'
  obtain ⟨ha, hb⟩ := IntOp.andi_eq_one.1 h'
  exact ⟨fun i => real_of_abs _ (Host.reduce_andi_all _ _ _ _ _ ha i), fun i => real_of_abs _ (Host.reduce_andi_all _ _ _ _ _ hb i)⟩

end Cert.Pre_finite.Entry
-- ==== Proof.AttnClaim.lean ====
/-
  The claims about the differential attention call.
-/
module

public import proofs.«01_k».proof.Defs
public import proofs.«01_k».proof.Proof.AttnHead
public import proofs.«01_k».proof.Proof.AttnFinite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel.Frame
public import Idealize.ShloMosaic.Lib.Quiescent

@[expose] public section

set_option maxRecDepth 16384

noncomputable section

namespace Cert.Proof.AttnClaims

open Idealize.ShloMosaic Idealize.ShloMosaic.TcCoe Idealize.SL.Sem

/-- The printed kernel keeps its arguments and leaves every semaphore at zero. -/
theorem frame_p : Cert.quiescent_Kernel (hKernel := Cert.Kernel.Gen.facts) := fun m ρ _ => Cert.Kernel.Gen.frame m ρ

/-- The idealized kernel keeps its arguments and leaves every semaphore at zero. -/
theorem frame_pi : Cert.quiescent_KernelIdeal (hKernelIdeal := Cert.KernelIdeal.Gen.facts) := fun m ρ _ => Cert.KernelIdeal.Gen.frame m ρ

/-- The reference keeps its arguments; it has no semaphores. -/
theorem frame_ri : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealized kernel's frame, with the precondition. -/
theorem frame_pi_pre : Cert.quiescent_KernelIdeal_pre_finite (hKernelIdeal := Cert.KernelIdeal.Gen.facts) (hPre_finite := Cert.Pre_finite.Entry.facts) :=
  fun m ρ _ => Cert.KernelIdeal.Gen.frame m ρ

/-- The reference's frame, with the precondition. -/
theorem frame_ri_pre : Cert.quiescent_ReferenceIdeal_pre_finite (hReferenceIdeal := Cert.ReferenceIdeal.Gen.facts) (hPre_finite := Cert.Pre_finite.Entry.facts) :=
  fun m ρ _ => frame_ri m ρ trivial

/-- The idealized kernel's scale names the printed constant. -/
theorem preserves : Cert.preserves_Kernel_KernelIdeal :=
  IdealRules.named_const.statement Cert.KernelIdeal.κ "qscale" .f32 0x3E8293EE#32 (((11863283 / 67108864) * (Real.log 2)⁻¹ : ℝ) : EReal) rfl

/-- The idealized kernel and the reference compute the same result of finite queries and keys. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Entry.facts) := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  obtain ⟨hq, hk⟩ := Cert.Pre_finite.Entry.entries (hF := Cert.Pre_finite.Entry.facts) _ _ _ _ _ _ _ _ (hpre c)
  rw [Cert.ReferenceIdeal.Read.val_main_v50_eq, h0, h1, h2, h3, h4, h5, h6, h7, Cert.KernelIdeal.Attn.arr_eq]
  funext i
  rw [show i = ix3 (i 0) (i 1) (i 2) from ValueIdx.eq_ix3 i]
  exact (Cert.KernelIdeal.Attn.lanes_eq m c hq hk (i 0) (i 1) (i 2)).symm

end Cert.Proof.AttnClaims

end
-- ==== Proof.Rms.lean ====
/-
  One row's root-mean-square norm over 1024 entries, as both the merge and the feed-forward calls compute it.
-/
module

public import Idealize.ShloMosaic.Lib.Pointwise

@[expose] public section

noncomputable section

namespace Cert.Rms

open Idealize.ShloMosaic

/-- Entry `d` of one row after the root-mean-square norm with gain `g`. -/
def normed (x g : Fin 1024 → EReal) (d : Fin 1024) : EReal :=
  x d * Ideal.rsqrt (Ideal.div (∑ k : Fin 1024, x k * x k) (Ideal.ofBits .f32 0x44800000#32) + Ideal.ofBits .f32 0x358637BD#32) * g d

end Cert.Rms
-- ==== Proof.FfnBlock.lean ====
/-
  The feed-forward call on one block of 1024 rows: what its body computes at an index, as functions of rows.
-/
module

public import proofs.«01_k».proof.Proof.Gen.FfnIdeal.Skeleton
public import proofs.«01_k».proof.Proof.Rms
public import Idealize.ShloMosaic.Lib.Pointwise
public import Idealize.ShloMosaic.Lib.Pipeline.ValueKit

@[expose] public section

set_option maxRecDepth 16384

noncomputable section

namespace Cert.FfnRow

open Idealize.ShloMosaic Cert.Rms

/-- A row times one column of weights. -/
def lin (h w : Fin 1024 → EReal) : EReal := ∑ k, h k * w k

/-- The gated activation of one hidden unit: three gates of neighbouring rows under a three-tap filter with bias `b`, the gate's
    SiLU times the value `u`. -/
def act (gm g gp c0 c1 c2 b u : EReal) : EReal :=
  (gm * c0 + g * c1 + gp * c2 + b) * Ideal.logistic (gm * c0 + g * c1 + gp * c2 + b) * u

/-- One row of the result at column `d`: the row plus the projected activations `a`, normed with gain `fg`. -/
def row (x : Fin 1024 → EReal) (a : Fin 2816 → EReal) (wo : Fin 2816 → Fin 1024 → EReal) (fg : Fin 1024 → EReal) (d : Fin 1024) : EReal :=
  normed (fun d => x d + ∑ e, a e * wo e d) fg d

/-- Rows with equal entries have equal results. -/
theorem row_congr {x x' : Fin 1024 → EReal} {a a' : Fin 2816 → EReal} {wo wo' : Fin 2816 → Fin 1024 → EReal} {fg fg' : Fin 1024 → EReal} {d d' : Fin 1024}
    (hx : ∀ k, x k = x' k) (ha : ∀ e, a e = a' e) (hw : ∀ e k, wo e k = wo' e k) (hf : ∀ k, fg k = fg' k) (hd : d = d') :
    row x a wo fg d = row x' a' wo' fg' d' := by
  obtain rfl := funext hx
  obtain rfl := funext ha
  obtain rfl : wo = wo' := funext fun k => funext (hw k)
  obtain rfl := funext hf
  rw [hd]

/-- The gate of a row of weights `w` at row `n` of a sequence padded with one zero row on each side (row `n` is token `n - 1`). -/
def seqGate (X : Fin 2048 → Fin 1024 → EReal) (g w : Fin 1024 → EReal) (n : ℕ) : EReal :=
  if n = 0 then 0 else if h : n - 1 < 2048 then lin (normed (X ⟨n - 1, h⟩) g) w else 0

/-- The activation of one hidden unit at token `n` of a sequence. -/
def seqAct (X : Fin 2048 → Fin 1024 → EReal) (g wu wg : Fin 1024 → EReal) (c0 c1 c2 b : EReal) (n : Fin 2048) : EReal :=
  act (seqGate X g wg n.val) (seqGate X g wg (n.val + 1)) (seqGate X g wg (n.val + 2)) c0 c1 c2 b (lin (normed (X n) g) wu)

end Cert.FfnRow

namespace Cert.FfnIdeal.Gen

open Idealize.ShloMosaic Cert.Rms Cert.FfnRow

/-- The normed block at one of its own 1024 rows. -/
theorem pay3_mid (x : Vec Ideal S1x1024x1024 .f32) (xp xn : Vec Ideal S1x8x1024 .f32) (g : Vec Ideal S1x1024 .f32) (r : Fin 1040) (d : Fin 1024)
    (h8 : 8 ≤ r.val) (h : r.val - 8 < 1024) :
    k0_pay3 x xp xn g (ix2 r d) = normed (fun k => x (ix3 0 ⟨r.val - 8, h⟩ k)) (fun k => g (ix2 0 k)) d := by
  pointwise [k0_pay3, k0_pay2, normed]
  simp only [h, not_lt.mpr h8, dif_pos, dif_neg, not_false_eq_true]

/-- The normed block at the row before its first: the last row of the block before. -/
theorem pay3_top (x : Vec Ideal S1x1024x1024 .f32) (xp xn : Vec Ideal S1x8x1024 .f32) (g : Vec Ideal S1x1024 .f32) (r : Fin 1040) (d : Fin 1024)
    (h7 : r.val = 7) : k0_pay3 x xp xn g (ix2 r d) = normed (fun k => xp (ix3 0 7 k)) (fun k => g (ix2 0 k)) d := by
  obtain rfl : r = ⟨7, by decide⟩ := Fin.ext h7
  pointwise [k0_pay3, k0_pay2, normed]

/-- The normed block at the row after its last: the first row of the block after. -/
theorem pay3_bot (x : Vec Ideal S1x1024x1024 .f32) (xp xn : Vec Ideal S1x8x1024 .f32) (g : Vec Ideal S1x1024 .f32) (r : Fin 1040) (d : Fin 1024)
    (h7 : r.val = 1032) : k0_pay3 x xp xn g (ix2 r d) = normed (fun k => xn (ix3 0 0 k)) (fun k => g (ix2 0 k)) d := by
  obtain rfl : r = ⟨1032, by decide⟩ := Fin.ext h7
  pointwise [k0_pay3, k0_pay2, normed]

/-- Row numbers up to 1039 compare with 8 as the naturals do. -/
theorem slt8 : ∀ r : Fin 1040, IntOp.cmpi .slt (BitVec.ofNat 32 r.val) 8#32 = if r.val < 8 then 1 else 0 := by decide +kernel

/-- Row numbers up to 1039 compare with 1032 as the naturals do. -/
theorem sge1032 : ∀ r : Fin 1040, IntOp.cmpi .sge (BitVec.ofNat 32 r.val) 1032#32 = if 1032 ≤ r.val then 1 else 0 := by decide +kernel

/-- The factor of the row before the block, by the block's number in its sequence. -/
theorem factor_prev (j : Fin 2) : (((Scalar.extui (Scalar.cmpi CmpIPredicate.sgt (BitVec.ofNat 32 j.val) 0#32) : BitVec 32).toInt : ℝ) : EReal)
    = if j.val = 0 then 0 else 1 := by
  fin_cases j
  · rw [show (Scalar.extui (Scalar.cmpi CmpIPredicate.sgt (BitVec.ofNat 32 0) 0#32) : BitVec 32).toInt = 0 by decide]; simp
  · rw [show (Scalar.extui (Scalar.cmpi CmpIPredicate.sgt (BitVec.ofNat 32 1) 0#32) : BitVec 32).toInt = 1 by decide]; simp

/-- The factor of the row after the block, by the block's number in its sequence. -/
theorem factor_next (j : Fin 2) : (((Scalar.extui (Scalar.cmpi CmpIPredicate.slt (BitVec.ofNat 32 j.val) 1#32) : BitVec 32).toInt : ℝ) : EReal)
    = if j.val = 0 then 1 else 0 := by
  fin_cases j
  · rw [show (Scalar.extui (Scalar.cmpi CmpIPredicate.slt (BitVec.ofNat 32 0) 1#32) : BitVec 32).toInt = 1 by decide]; simp
  · rw [show (Scalar.extui (Scalar.cmpi CmpIPredicate.slt (BitVec.ofNat 32 1) 1#32) : BitVec 32).toInt = 0 by decide]; simp

/-- The row factor is one inside the block. -/
theorem pay4_mid (i : grid0.Coords) (r : Fin 1040) (h8 : 8 ≤ r.val) (h : r.val < 1032) : k0_pay4 (F := Ideal) i (ix2 r 0) = 1 := by
  pointwise [k0_pay4]
  rw [slt8, sge1032, if_neg (by omega), if_neg (by omega)]
  rfl

/-- The row factor before the block: zero at the first block of a sequence, else one. -/
theorem pay4_top (i : grid0.Coords) (r : Fin 1040) (h8 : r.val = 7) : k0_pay4 (F := Ideal) i (ix2 r 0) = if (i 1).val = 0 then 0 else 1 := by
  pointwise [k0_pay4]
  rw [slt8, if_pos (by omega)]
  exact factor_prev (i 1)

/-- The row factor after the block: one at the first block of a sequence, else zero. -/
theorem pay4_bot (i : grid0.Coords) (r : Fin 1040) (h8 : r.val = 1032) : k0_pay4 (F := Ideal) i (ix2 r 0) = if (i 1).val = 0 then 1 else 0 := by
  pointwise [k0_pay4]
  rw [slt8, sge1032, if_neg (by omega), if_pos (by omega)]
  exact factor_next (i 1)

/-- One chunk's activations at an index, of the normed rows `h` and the row factors `s`. -/
theorem pay5_apply (h : Vec Ideal S1040x1024 .bf16) (s : Vec Ideal S1040x1 .f32) (wu wg : Vec Ideal S1024x256 .bf16) (c0 c1 c2 cb : Vec Ideal S1x256 .f32)
    (r : Fin 1024) (e : Fin 256) :
    k0_pay5 h s wu wg c0 c1 c2 cb (ix2 r e)
      = act (lin (fun k => h (ix2 ⟨r.val + 7, by omega⟩ k)) (fun k => wg (ix2 k e)) * s (ix2 ⟨r.val + 7, by omega⟩ 0))
          (lin (fun k => h (ix2 ⟨r.val + 8, by omega⟩ k)) (fun k => wg (ix2 k e)) * s (ix2 ⟨r.val + 8, by omega⟩ 0))
          (lin (fun k => h (ix2 ⟨r.val + 9, by omega⟩ k)) (fun k => wg (ix2 k e)) * s (ix2 ⟨r.val + 9, by omega⟩ 0))
          (c0 (ix2 0 e)) (c1 (ix2 0 e)) (c2 (ix2 0 e)) (cb (ix2 0 e)) (lin (fun k => h (ix2 ⟨r.val + 8, by omega⟩ k)) (fun k => wu (ix2 k e))) := by
  pointwise [k0_pay5]
  simp only [show 8 + r.val = r.val + 8 by omega, show (r.val + 8 + 1040 - 1) % 1040 = r.val + 7 by omega,
    show (r.val + 8 + 1040 - 1039) % 1040 = r.val + 9 by omega]
  rfl

/-- The gate of a row of weights `w` at row `n` of a block, one row on each side included (row `n` is `n - 1` of the block's own):
    zero outside the sequence, of which the block is the first half when `j = 0` and else the second. -/
def gate (j : ℕ) (x : Vec Ideal S1x1024x1024 .f32) (xp xn : Vec Ideal S1x8x1024 .f32) (g w : Fin 1024 → EReal) (n : ℕ) : EReal :=
  if n = 0 then (if j = 0 then 0 else lin (normed (fun k => xp (ix3 0 7 k)) g) w)
  else if h : n - 1 < 1024 then lin (normed (fun k => x (ix3 0 ⟨n - 1, h⟩ k)) g) w
  else (if j = 0 then lin (normed (fun k => xn (ix3 0 0 k)) g) w else 0)

/-- The gate the body computes at each row it uses. -/
theorem gate_apply (i : grid0.Coords) (x : Vec Ideal S1x1024x1024 .f32) (xp xn : Vec Ideal S1x8x1024 .f32) (g : Vec Ideal S1x1024 .f32) (w : Fin 1024 → EReal)
    (n : ℕ) (hn : n < 1026) :
    lin (fun k => k0_pay3 x xp xn g (ix2 ⟨n + 7, by omega⟩ k)) w * k0_pay4 (F := Ideal) i (ix2 ⟨n + 7, by omega⟩ 0)
      = gate (i 1).val x xp xn (fun k => g (ix2 0 k)) w n := by
  unfold gate
  split
  · rename_i h0
    rw [pay4_top i _ (by simp only; omega)]
    simp only [pay3_top x xp xn g ⟨n + 7, by omega⟩ _ (by simp only; omega)]
    split <;> simp only [mul_zero, mul_one]
  split
  · rename_i h0 h1
    rw [pay4_mid i _ (by simp only; omega) (by simp only; omega)]
    simp only [pay3_mid x xp xn g ⟨n + 7, by omega⟩ _ (by simp only; omega) (by simp only; omega), mul_one]
    simp only [show n + 7 - 8 = n - 1 by omega]
  · rename_i h0 h1
    rw [pay4_bot i _ (by simp only; omega)]
    simp only [pay3_bot x xp xn g ⟨n + 7, by omega⟩ _ (by simp only; omega)]
    split <;> simp only [mul_zero, mul_one]

/-- The activation of hidden unit `e` at row `r` of a block, of the weights' columns. -/
def unit (j : ℕ) (x : Vec Ideal S1x1024x1024 .f32) (xp xn : Vec Ideal S1x8x1024 .f32) (g : Vec Ideal S1x1024 .f32) (W : Vec Ideal S1024x5632 .bf16)
    (C : Vec Ideal S3x2816 .f32) (B : Vec Ideal S1x2816 .f32) (r : Fin 1024) (e : Fin 2816) : EReal :=
  act (gate j x xp xn (fun k => g (ix2 0 k)) (fun k => W (ix2 k ⟨2816 + e, by omega⟩)) r.val)
    (gate j x xp xn (fun k => g (ix2 0 k)) (fun k => W (ix2 k ⟨2816 + e, by omega⟩)) (r.val + 1))
    (gate j x xp xn (fun k => g (ix2 0 k)) (fun k => W (ix2 k ⟨2816 + e, by omega⟩)) (r.val + 2))
    (C (ix2 0 e)) (C (ix2 1 e)) (C (ix2 2 e)) (B (ix2 0 e))
    (lin (normed (fun k => x (ix3 0 r k)) (fun k => g (ix2 0 k))) (fun k => W (ix2 k ⟨e, by omega⟩)))

/-- One chunk's store is the activations of its 256 hidden units, the first of them unit `o`. -/
theorem chunk_apply (o : ℕ) (i : grid0.Coords) (x : Vec Ideal S1x1024x1024 .f32) (xp xn : Vec Ideal S1x8x1024 .f32) (g : Vec Ideal S1x1024 .f32)
    (W : Vec Ideal S1024x5632 .bf16) (C : Vec Ideal S3x2816 .f32) (B : Vec Ideal S1x2816 .f32)
    (hu : ∀ a, (![0, o] : Fin 2 → ℕ) a + (![1024, 256] : Fin 2 → ℕ) a ≤ S1024x5632.size a)
    (hg : ∀ a, (![0, 2816 + o] : Fin 2 → ℕ) a + (![1024, 256] : Fin 2 → ℕ) a ≤ S1024x5632.size a)
    (h0 : ∀ a, (![0, o] : Fin 2 → ℕ) a + (![1, 256] : Fin 2 → ℕ) a ≤ S3x2816.size a)
    (h1 : ∀ a, (![1, o] : Fin 2 → ℕ) a + (![1, 256] : Fin 2 → ℕ) a ≤ S3x2816.size a)
    (h2 : ∀ a, (![2, o] : Fin 2 → ℕ) a + (![1, 256] : Fin 2 → ℕ) a ≤ S3x2816.size a)
    (hb : ∀ a, (![0, o] : Fin 2 → ℕ) a + (![1, 256] : Fin 2 → ℕ) a ≤ S1x2816.size a)
    (r : Fin 1024) (e : Fin 256) (n : Fin 2816) (hn : n.val = o + e.val) :
    k0_pay5 (k0_pay3 x xp xn g) (k0_pay4 i) (View.ld W (Rect.unit ![0, o] ![1024, 256] hu)) (View.ld W (Rect.unit ![0, 2816 + o] ![1024, 256] hg))
      (View.ld C (Rect.unit ![0, o] ![1, 256] h0)) (View.ld C (Rect.unit ![1, o] ![1, 256] h1)) (View.ld C (Rect.unit ![2, o] ![1, 256] h2))
      (View.ld B (Rect.unit ![0, o] ![1, 256] hb)) (ix2 r e)
      = unit (i 1).val x xp xn g W C B r n := by
  have ho : o + e.val < 2816 := hn ▸ n.isLt
  obtain rfl : n = ⟨o + e.val, ho⟩ := Fin.ext hn
  have eu : ∀ k : Fin 1024, View.ld W (Rect.unit ![0, o] ![1024, 256] hu) (ix2 k e) = W (ix2 k ⟨o + e.val, by omega⟩) := fun k => by pointwise
  have eg : ∀ k : Fin 1024, View.ld W (Rect.unit ![0, 2816 + o] ![1024, 256] hg) (ix2 k e) = W (ix2 k ⟨2816 + (o + e.val), by omega⟩) := fun k => by
    pointwise
    simp only [Nat.add_assoc]
  have e0 : View.ld C (Rect.unit ![0, o] ![1, 256] h0) (ix2 0 e) = C (ix2 0 ⟨o + e.val, ho⟩) := by pointwise
  have e1 : View.ld C (Rect.unit ![1, o] ![1, 256] h1) (ix2 0 e) = C (ix2 1 ⟨o + e.val, ho⟩) := by pointwise
  have e2 : View.ld C (Rect.unit ![2, o] ![1, 256] h2) (ix2 0 e) = C (ix2 2 ⟨o + e.val, ho⟩) := by pointwise
  have eb : View.ld B (Rect.unit ![0, o] ![1, 256] hb) (ix2 0 e) = B (ix2 0 ⟨o + e.val, ho⟩) := by pointwise
  rw [pay5_apply, e0, e1, e2, eb]
  simp only [eu, eg]
  rw [gate_apply i x xp xn g _ r.val (by omega), gate_apply i x xp xn g _ (r.val + 1) (by omega), gate_apply i x xp xn g _ (r.val + 2) (by omega)]
  simp only [pay3_mid x xp xn g ⟨r.val + 8, by omega⟩ _ (by simp only; omega) (by simp only; omega), Nat.add_sub_cancel]
  rfl

/-- The final norm of the row plus its projected activations. -/
theorem pay39_apply (x : Vec Ideal S1024x1024 .f32) (a : Vec Ideal S1024x2816 .bf16) (w : Vec Ideal S2816x1024 .bf16) (g : Vec Ideal S1x1024 .f32) (r d : Fin 1024) :
    k0_pay39 x a w g (ix2 r d) = row (fun d => x (ix2 r d)) (fun e => a (ix2 r e)) (fun e d => w (ix2 e d)) (fun d => g (ix2 0 d)) d := by
  pointwise [k0_pay39, normed, row]

end Cert.FfnIdeal.Gen
-- ==== Proof.FfnValue.lean ====
/-
  The feed-forward call's result array after the run: the row function of the arguments at every index.
-/
module

public import proofs.«01_k».proof.Proof.FfnBlock
public import proofs.«01_k».proof.Proof.Gen.FfnIdeal.Value
public import Idealize.ShloMosaic.Lib.Pipeline.ValueKit
public import Idealize.ShloMosaic.Lib.StableHlo.ReadAt

@[expose] public section

set_option maxRecDepth 16384

noncomputable section

namespace Cert.FfnIdeal.Row

open Cert.FfnIdeal Cert.FfnIdeal.Gen Idealize.ShloMosaic Idealize.ShloMosaic.TcCoe Idealize.SL.Sem Cert.Rms Cert.FfnRow

variable (m : (ℓ : Loc nD τ sig) → Buf (Elt Ideal) ℓ)

/-- Element `(b, n, d)` of the result, of the arguments. -/
def G (c : Dev nD) : S32x2048x1024.Idx → EReal := fun i =>
  have h0 : (i 0).val < 32 := (i 0).isLt
  have h1 : (i 1).val < 2048 := (i 1).isLt
  have h2 : (i 2).val < 1024 := (i 2).isLt
  row (fun k => m ((c : Thread nD τ).loc main_arg0) (ix3 ⟨(i 0).val, h0⟩ ⟨(i 1).val, h1⟩ k))
    (fun e => seqAct (fun n k => m ((c : Thread nD τ).loc main_arg0) (ix3 ⟨(i 0).val, h0⟩ n k)) (fun k => m ((c : Thread nD τ).loc main_arg1) (ix1 k))
      (fun k => m ((c : Thread nD τ).loc main_arg2) (ix2 k ⟨e, by omega⟩)) (fun k => m ((c : Thread nD τ).loc main_arg2) (ix2 k ⟨2816 + e, by omega⟩))
      (m ((c : Thread nD τ).loc main_arg3) (ix2 0 e)) (m ((c : Thread nD τ).loc main_arg3) (ix2 1 e)) (m ((c : Thread nD τ).loc main_arg3) (ix2 2 e))
      (m ((c : Thread nD τ).loc main_arg4) (ix1 e)) ⟨(i 1).val, h1⟩)
    (fun e k => m ((c : Thread nD τ).loc main_arg5) (ix2 e k)) (fun k => m ((c : Thread nD τ).loc main_arg6) (ix1 k)) ⟨(i 2).val, h2⟩

/-- The windows' block indices at a point, and the point's second coordinate: point `t` is half `t % 2` of sequence `t / 2`. -/
theorem idx : ∀ t : Fin cfg0.N, win0_0.index t = ![t.val / 2, t.val % 2 * 128 - 1, 0] ∧ win0_1.index t = ![t.val / 2, t.val % 2, 0]
    ∧ win0_2.index t = ![t.val / 2, min ((t.val % 2 + 1) * 128) 255, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val / 2, t.val % 2, 0]
    ∧ (grid0.coords t 1).val = t.val % 2 :=
  (by decide +kernel : ∀ t : Fin grid0.N, win0_0.index t = ![t.val / 2, t.val % 2 * 128 - 1, 0] ∧ win0_1.index t = ![t.val / 2, t.val % 2, 0]
    ∧ win0_2.index t = ![t.val / 2, min ((t.val % 2 + 1) * 128) 255, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val / 2, t.val % 2, 0]
    ∧ (grid0.coords t 1).val = t.val % 2)

/-- The token array is the first argument. -/
theorem read_x (c : Dev nD) (b : Fin 32) (n : Fin 2048) (k : Fin 1024) : V m c main_arg0 (ix3 b n k) = m ((c : Thread nD τ).loc main_arg0) (ix3 b n k) := by
  unfold V
  after_reads_at

/-- The gain as a row. -/
theorem read_g (c : Dev nD) (k : Fin 1024) : V m c main_v0 (ix2 0 k) = m ((c : Thread nD τ).loc main_arg1) (ix1 k) := by
  unfold V
  after_reads_at

/-- The value and gate weights, cast. -/
theorem read_w (c : Dev nD) (n : Fin 1024) (k : Fin 5632) : V m c main_v1 (ix2 n k) = m ((c : Thread nD τ).loc main_arg2) (ix2 n k) := by
  unfold V
  after_reads_at

/-- The filter is the fourth argument. -/
theorem read_c (c : Dev nD) (n : Fin 3) (k : Fin 2816) : V m c main_arg3 (ix2 n k) = m ((c : Thread nD τ).loc main_arg3) (ix2 n k) := by
  unfold V
  after_reads_at

/-- The filter's bias as a row. -/
theorem read_b (c : Dev nD) (k : Fin 2816) : V m c main_v2 (ix2 0 k) = m ((c : Thread nD τ).loc main_arg4) (ix1 k) := by
  unfold V
  after_reads_at

/-- The output projection, cast. -/
theorem read_o (c : Dev nD) (n : Fin 2816) (k : Fin 1024) : V m c main_v3 (ix2 n k) = m ((c : Thread nD τ).loc main_arg5) (ix2 n k) := by
  unfold V
  after_reads_at

/-- The final gain as a row. -/
theorem read_f (c : Dev nD) (k : Fin 1024) : V m c main_v4 (ix2 0 k) = m ((c : Thread nD τ).loc main_arg6) (ix1 k) := by
  unfold V
  after_reads_at

/-- Point `t`'s token block is half `t % 2` of sequence `t / 2`. -/
theorem blk_x (c : Dev nD) (t : Fin cfg0.N) (r k : Fin 1024) (h0 : t.val / 2 < 32) (h : t.val % 2 * 1024 + r.val < 2048) :
    iblk m c 1 t (ix3 0 r k) = V m c main_arg0 (ix3 ⟨t.val / 2, h0⟩ ⟨t.val % 2 * 1024 + r, h⟩ k) := by
  blk_ext [iblk, idx t]

/-- The last row of the block of eight before the second half is token 1023. -/
theorem blk_p (c : Dev nD) (t : Fin cfg0.N) (k : Fin 1024) (h0 : t.val / 2 < 32) (h : t.val % 2 = 1) :
    iblk m c 0 t (ix3 0 7 k) = V m c main_arg0 (ix3 ⟨t.val / 2, h0⟩ ⟨1023, by omega⟩ k) := by
  blk_ext [iblk, idx t]

/-- The first row of the block of eight after the first half is token 1024. -/
theorem blk_n (c : Dev nD) (t : Fin cfg0.N) (k : Fin 1024) (h0 : t.val / 2 < 32) (h : t.val % 2 = 0) :
    iblk m c 2 t (ix3 0 0 k) = V m c main_arg0 (ix3 ⟨t.val / 2, h0⟩ ⟨1024, by omega⟩ k) := by
  blk_ext [iblk, idx t]

/-- Every point's gain block is the whole gain. -/
theorem blk_g (c : Dev nD) (t : Fin cfg0.N) (k : Fin 1024) : iblk m c 3 t (ix2 0 k) = V m c main_v0 (ix2 0 k) := by
  blk_ext [iblk, idx t]

/-- Every point's weight block is the whole array. -/
theorem blk_w (c : Dev nD) (t : Fin cfg0.N) (r : Fin 1024) (k : Fin 5632) : iblk m c 4 t (ix2 r k) = V m c main_v1 (ix2 r k) := by
  blk_ext [iblk, idx t]

/-- Every point's filter block is the whole filter. -/
theorem blk_c (c : Dev nD) (t : Fin cfg0.N) (r : Fin 3) (k : Fin 2816) : iblk m c 5 t (ix2 r k) = V m c main_arg3 (ix2 r k) := by
  blk_ext [iblk, idx t]

/-- Every point's bias block is the whole bias. -/
theorem blk_b (c : Dev nD) (t : Fin cfg0.N) (k : Fin 2816) : iblk m c 6 t (ix2 0 k) = V m c main_v2 (ix2 0 k) := by
  blk_ext [iblk, idx t]

/-- Every point's block of the output projection is the whole array. -/
theorem blk_o (c : Dev nD) (t : Fin cfg0.N) (r : Fin 2816) (k : Fin 1024) : iblk m c 7 t (ix2 r k) = V m c main_v3 (ix2 r k) := by
  blk_ext [iblk, idx t]

/-- Every point's block of the final gain is the whole gain. -/
theorem blk_f (c : Dev nD) (t : Fin cfg0.N) (k : Fin 1024) : iblk m c 8 t (ix2 0 k) = V m c main_v4 (ix2 0 k) := by
  blk_ext [iblk, idx t]

/-- The gate of a block is the gate of its sequence at the block's offset. -/
theorem gate_eq (c : Dev nD) (t : Fin cfg0.N) (g w w' : Fin 1024 → EReal) (hw : w = w') (n : ℕ) (hn : n < 1026) (h0 : t.val / 2 < 32) :
    gate (t.val % 2) (iblk m c 1 t) (iblk m c 0 t) (iblk m c 2 t) g w n
      = seqGate (fun n k => m ((c : Thread nD τ).loc main_arg0) (ix3 ⟨t.val / 2, h0⟩ n k)) g w' (t.val % 2 * 1024 + n) := by
  subst hw
  unfold gate seqGate
  have h2 : t.val % 2 = 0 ∨ t.val % 2 = 1 := by omega
  have ex : ∀ (r k : Fin 1024) (h : t.val % 2 * 1024 + r.val < 2048), iblk m c 1 t (ix3 0 r k)
      = m ((c : Thread nD τ).loc main_arg0) (ix3 ⟨t.val / 2, h0⟩ ⟨t.val % 2 * 1024 + r, h⟩ k) := fun r k h => (blk_x m c t r k h0 h).trans (read_x m c _ _ _)
  by_cases hz : n = 0
  · rw [if_pos hz]
    rcases h2 with h2 | h2
    · rw [if_pos h2, if_pos (by omega)]
    · have e0 : ¬t.val % 2 * 1024 + n = 0 := by omega
      have e1 : t.val % 2 * 1024 + n - 1 < 2048 := by omega
      have e2 : ¬t.val % 2 = 0 := by omega
      rw [if_neg e2, if_neg e0, dif_pos e1]
      refine congrArg (fun x => lin (normed x g) w) (funext fun k => ((blk_p m c t k h0 h2).trans (read_x m c _ _ _)).trans ?_)
      simp only [h2, hz, Nat.one_mul, Nat.add_zero, Nat.reduceSub]
  have e0 : ¬t.val % 2 * 1024 + n = 0 := by omega
  rw [if_neg hz, if_neg e0]
  by_cases h1 : n - 1 < 1024
  · rw [dif_pos h1, dif_pos (by omega)]
    refine congrArg (fun x => lin (normed x g) w) (funext fun k => (ex ⟨n - 1, h1⟩ k (by simp only; omega)).trans ?_)
    simp only [show t.val % 2 * 1024 + (n - 1) = t.val % 2 * 1024 + n - 1 by omega]
  · rw [dif_neg h1]
    rcases h2 with h2 | h2
    · rw [if_pos h2, dif_pos (by omega)]
      refine congrArg (fun x => lin (normed x g) w) (funext fun k => ((blk_n m c t k h0 h2).trans (read_x m c _ _ _)).trans ?_)
      simp only [h2, show n = 1025 by omega, Nat.zero_mul, Nat.zero_add, Nat.reduceSub]
    · have e2 : ¬t.val % 2 = 0 := by omega
      have e1 : ¬t.val % 2 * 1024 + n - 1 < 2048 := by omega
      rw [if_neg e2, dif_neg e1]

/-- The activations of a block are the activations of its sequence at the block's offset. -/
theorem unit_eq (c : Dev nD) (t : Fin cfg0.N) (r : Fin 1024) (e : Fin 2816) (h0 : t.val / 2 < 32) (h : t.val % 2 * 1024 + r.val < 2048) :
    unit (grid0.coords t 1).val (iblk m c 1 t) (iblk m c 0 t) (iblk m c 2 t) (iblk m c 3 t) (iblk m c 4 t) (iblk m c 5 t) (iblk m c 6 t) r e
      = seqAct (fun n k => m ((c : Thread nD τ).loc main_arg0) (ix3 ⟨t.val / 2, h0⟩ n k)) (fun k => m ((c : Thread nD τ).loc main_arg1) (ix1 k))
          (fun k => m ((c : Thread nD τ).loc main_arg2) (ix2 k ⟨e, by omega⟩)) (fun k => m ((c : Thread nD τ).loc main_arg2) (ix2 k ⟨2816 + e, by omega⟩))
          (m ((c : Thread nD τ).loc main_arg3) (ix2 0 e)) (m ((c : Thread nD τ).loc main_arg3) (ix2 1 e)) (m ((c : Thread nD τ).loc main_arg3) (ix2 2 e))
          (m ((c : Thread nD τ).loc main_arg4) (ix1 e)) ⟨t.val % 2 * 1024 + r, h⟩ := by
  unfold unit seqAct
  have eg : (fun k => iblk m c 3 t (ix2 0 k)) = fun k => m ((c : Thread nD τ).loc main_arg1) (ix1 k) := funext fun k => (blk_g m c t k).trans (read_g m c k)
  have ew : ∀ j : Fin 5632, (fun k => iblk m c 4 t (ix2 k j)) = fun k => m ((c : Thread nD τ).loc main_arg2) (ix2 k j) :=
    fun j => funext fun k => (blk_w m c t k j).trans (read_w m c k j)
  have ec : ∀ j : Fin 3, iblk m c 5 t (ix2 j e) = m ((c : Thread nD τ).loc main_arg3) (ix2 j e) := fun j => (blk_c m c t j e).trans (read_c m c j e)
  have eb : iblk m c 6 t (ix2 0 e) = m ((c : Thread nD τ).loc main_arg4) (ix1 e) := (blk_b m c t e).trans (read_b m c e)
  have ex : (fun k => iblk m c 1 t (ix3 0 r k)) = fun k => m ((c : Thread nD τ).loc main_arg0) (ix3 ⟨t.val / 2, h0⟩ ⟨t.val % 2 * 1024 + r, h⟩ k) :=
    funext fun k => (blk_x m c t r k h0 h).trans (read_x m c _ _ _)
  rw [(idx t).2.2.2.2.2.2.2.2.2.2, gate_eq m c t _ _ _ (ew _) r.val (by omega) h0, gate_eq m c t _ _ _ (ew _) (r.val + 1) (by omega) h0,
    gate_eq m c t _ _ _ (ew _) (r.val + 2) (by omega) h0, eg, ew, ec, ec, ec, eb, ex]
  simp only [Nat.add_assoc]

/-- `G` at three coordinates. -/
theorem G_apply (c : Dev nD) (b : Fin 32) (n : Fin 2048) (d : Fin 1024) (i : S32x2048x1024.Idx) (h0 : (i 0).val = b.val) (h1 : (i 1).val = n.val)
    (h2 : (i 2).val = d.val) : G m c i = G m c (ix3 b n d) :=
  congrArg (G m c) (funext fun a => Fin.ext (by match a with | ⟨0, _⟩ => exact h0 | ⟨1, _⟩ => exact h1 | ⟨2, _⟩ => exact h2))

/-- The store's leading axis has extent one. -/
theorem pay1_apply (v : Vec Ideal S1024x1024 .f32) (u : Fin 1) (r d : Fin 1024) : k0_pay1 (F := Ideal) v (ix3 u r d) = v (ix2 r d) := by
  pointwise [k0_pay1]

/-- The block's leading axis has extent one. -/
theorem pay2_apply (v : Vec Ideal S1x1024x1024 .f32) (r d : Fin 1024) : k0_pay2 (F := Ideal) v (ix2 r d) = v (ix3 0 r d) := by
  pointwise [k0_pay2]

/-- The result array after the run. -/
theorem arr_eq (c : Dev nD) : (dats m 0 c).arrAt 9 cfg0.N = G m c := by
  refine (dats m 0 c).arrAt_eq_of_covers 9 _ (by decide +kernel) fun t hf y => ?_
  blk_simp
  rw [after0_9]
  unfold outsAt0
  frame_out
  idx_vars y
  have ht : t.val < 64 := lt_of_lt_of_eq t.isLt N_0
  rw [G_apply m c ⟨t.val / 2, by omega⟩ ⟨t.val % 2 * 1024 + y1, by omega⟩ y2 _ (by blk_simp [idx t]) (by blk_simp [idx t]) (by blk_simp [idx t])]
  rw [pay1_apply, pay39_apply]
  unfold G
  refine row_congr (fun k => (pay2_apply _ _ _).trans ((blk_x m c t y1 k (by omega) (by omega)).trans (read_x m c _ _ _))) (fun e => ?_)
    (fun e k => (blk_o m c t e k).trans (read_o m c e k)) (fun k => (blk_f m c t k).trans (read_f m c k)) rfl
  rw [View.readCov_eq_canon']
  refine Eq.trans ?_ (unit_eq m c t y1 e (by omega) (by omega))
  canon_tiles x h
  all_goals
    idx_vars x
    simp only [Rect.idx_unit_val] at h0 h1
    have ex : x0 = y1 := Fin.ext (by simpa using h0.symm)
    subst ex
  case piece0 => exact chunk_apply 2560 (grid0.coords t) (iblk m c 1 t) (iblk m c 0 t) (iblk m c 2 t) (iblk m c 3 t) (iblk m c 4 t) (iblk m c 5 t) (iblk m c 6 t) _ _ _ _ _ _ x0 x1 e (by simpa using h1)
  case piece1 => exact chunk_apply 2304 (grid0.coords t) (iblk m c 1 t) (iblk m c 0 t) (iblk m c 2 t) (iblk m c 3 t) (iblk m c 4 t) (iblk m c 5 t) (iblk m c 6 t) _ _ _ _ _ _ x0 x1 e (by simpa using h1)
  case piece2 => exact chunk_apply 2048 (grid0.coords t) (iblk m c 1 t) (iblk m c 0 t) (iblk m c 2 t) (iblk m c 3 t) (iblk m c 4 t) (iblk m c 5 t) (iblk m c 6 t) _ _ _ _ _ _ x0 x1 e (by simpa using h1)
  case piece3 => exact chunk_apply 1792 (grid0.coords t) (iblk m c 1 t) (iblk m c 0 t) (iblk m c 2 t) (iblk m c 3 t) (iblk m c 4 t) (iblk m c 5 t) (iblk m c 6 t) _ _ _ _ _ _ x0 x1 e (by simpa using h1)
  case piece4 => exact chunk_apply 1536 (grid0.coords t) (iblk m c 1 t) (iblk m c 0 t) (iblk m c 2 t) (iblk m c 3 t) (iblk m c 4 t) (iblk m c 5 t) (iblk m c 6 t) _ _ _ _ _ _ x0 x1 e (by simpa using h1)
  case piece5 => exact chunk_apply 1280 (grid0.coords t) (iblk m c 1 t) (iblk m c 0 t) (iblk m c 2 t) (iblk m c 3 t) (iblk m c 4 t) (iblk m c 5 t) (iblk m c 6 t) _ _ _ _ _ _ x0 x1 e (by simpa using h1)
  case piece6 => exact chunk_apply 1024 (grid0.coords t) (iblk m c 1 t) (iblk m c 0 t) (iblk m c 2 t) (iblk m c 3 t) (iblk m c 4 t) (iblk m c 5 t) (iblk m c 6 t) _ _ _ _ _ _ x0 x1 e (by simpa using h1)
  case piece7 => exact chunk_apply 768 (grid0.coords t) (iblk m c 1 t) (iblk m c 0 t) (iblk m c 2 t) (iblk m c 3 t) (iblk m c 4 t) (iblk m c 5 t) (iblk m c 6 t) _ _ _ _ _ _ x0 x1 e (by simpa using h1)
  case piece8 => exact chunk_apply 512 (grid0.coords t) (iblk m c 1 t) (iblk m c 0 t) (iblk m c 2 t) (iblk m c 3 t) (iblk m c 4 t) (iblk m c 5 t) (iblk m c 6 t) _ _ _ _ _ _ x0 x1 e (by simpa using h1)
  case piece9 => exact chunk_apply 256 (grid0.coords t) (iblk m c 1 t) (iblk m c 0 t) (iblk m c 2 t) (iblk m c 3 t) (iblk m c 4 t) (iblk m c 5 t) (iblk m c 6 t) _ _ _ _ _ _ x0 x1 e (by simpa using h1)
  case piece10 => exact chunk_apply 0 (grid0.coords t) (iblk m c 1 t) (iblk m c 0 t) (iblk m c 2 t) (iblk m c 3 t) (iblk m c 4 t) (iblk m c 5 t) (iblk m c 6 t) _ _ _ _ _ _ x0 x1 e (by simpa using h1)

end Cert.FfnIdeal.Row
-- ==== Proof.FfnReference.lean ====
/-
  The feed-forward reference at an index, as the same row function.
-/
module

public import proofs.«01_k».proof.Proof.FfnBlock
public import proofs.«01_k».proof.Proof.Gen.FfnReferenceIdeal.Read
public import Idealize.ShloMosaic.Lib.Pointwise

@[expose] public section

set_option maxRecDepth 16384

noncomputable section

namespace Cert.FfnReferenceIdeal.Row

open Cert.FfnReferenceIdeal Cert.FfnReferenceIdeal.Read Idealize.ShloMosaic Cert.Rms Cert.FfnRow

/-- The normed tokens. -/
theorem v12_apply (x0 : (⟨S32x2048x1024, .f32⟩ : BufTy).Contents (Elt Ideal)) (x1 : (⟨S1024, .f32⟩ : BufTy).Contents (Elt Ideal)) (b : Fin 32) (n : Fin 2048) (d : Fin 1024) :
    val_main_v12 x0 x1 (ix3 b n d) = normed (fun k => x0 (ix3 b n k)) (fun k => x1 (ix1 k)) d := by
  pointwise [val_main_v12, val_main_v11, val_main_v10, val_main_v9, val_main_v8, val_main_v7, val_main_v6, val_main_v5, val_main_v4, val_main_v3, val_main_v2,
    val_main_v1, val_main_v0, val_main_cst, val_main_cst_0, val_main_cst_1, normed]

/-- The value and gate columns. -/
theorem v13_apply (x0 : (⟨S32x2048x1024, .f32⟩ : BufTy).Contents (Elt Ideal)) (x1 : (⟨S1024, .f32⟩ : BufTy).Contents (Elt Ideal))
    (x2 : (⟨S1024x5632, .f32⟩ : BufTy).Contents (Elt Ideal)) (b : Fin 32) (n : Fin 2048) (e : Fin 5632) :
    val_main_v13 x0 x1 x2 (ix3 b n e) = lin (normed (fun k => x0 (ix3 b n k)) (fun k => x1 (ix1 k))) (fun k => x2 (ix2 k e)) := by
  pointwise [val_main_v13]
  simp only [v12_apply]
  rfl

/-- The padded gate. -/
theorem v16_apply (x0 : (⟨S32x2048x1024, .f32⟩ : BufTy).Contents (Elt Ideal)) (x1 : (⟨S1024, .f32⟩ : BufTy).Contents (Elt Ideal))
    (x2 : (⟨S1024x5632, .f32⟩ : BufTy).Contents (Elt Ideal)) (b : Fin 32) (n : Fin 2050) (e : Fin 2816) :
    val_main_v16 x0 x1 x2 (ix3 b n e) = seqGate (fun n k => x0 (ix3 b n k)) (fun k => x1 (ix1 k)) (fun k => x2 (ix2 k ⟨2816 + e, by omega⟩)) n.val := by
  pointwise [val_main_v16, val_main_v15, val_main_call0_v0, val_main_c]
  simp only [v13_apply]
  unfold seqGate
  have hz : (FloatOps.sitofp (F := Ideal) FTy.f32 0#32 : EReal) = 0 := by
    show (((0#32 : BitVec 32).toInt : ℝ) : EReal) = 0
    simp
  by_cases h0 : n.val = 0
  · rw [dif_neg (by omega), if_pos h0]
    exact hz
  rw [if_neg h0]
  by_cases h1 : n.val - 1 < 2048
  · rw [dif_pos ⟨by omega, h1⟩, dif_pos h1]
  · rw [dif_neg (fun h => h1 h.2), dif_neg h1]
    exact hz

/-- The activations. -/
theorem v41_apply (x0 : (⟨S32x2048x1024, .f32⟩ : BufTy).Contents (Elt Ideal)) (x1 : (⟨S1024, .f32⟩ : BufTy).Contents (Elt Ideal))
    (x2 : (⟨S1024x5632, .f32⟩ : BufTy).Contents (Elt Ideal)) (x3 : (⟨S3x2816, .f32⟩ : BufTy).Contents (Elt Ideal)) (x4 : (⟨S2816, .f32⟩ : BufTy).Contents (Elt Ideal))
    (b : Fin 32) (n : Fin 2048) (e : Fin 2816) :
    val_main_v41 x0 x1 x2 x3 x4 (ix3 b n e) = seqAct (fun n k => x0 (ix3 b n k)) (fun k => x1 (ix1 k)) (fun k => x2 (ix2 k ⟨e, by omega⟩))
      (fun k => x2 (ix2 k ⟨2816 + e, by omega⟩)) (x3 (ix2 0 e)) (x3 (ix2 1 e)) (x3 (ix2 2 e)) (x4 (ix1 e)) n := by
  pointwise [val_main_v41, val_main_v40, val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22, val_main_v21, val_main_v20, val_main_v19,
    val_main_v18, val_main_v17, val_main_v14, val_main_call1_v5,
    val_main_call1_v4, val_main_call1_v3, val_main_call1_v2, val_main_call1_v1, val_main_call1_v0, val_main_call1_cst, val_main_call1_cst_0]
  simp only [v13_apply, v16_apply, Nat.add_comm 1, Nat.add_comm 2]
  rfl

/-- The result. -/
theorem v56_apply (x0 : (⟨S32x2048x1024, .f32⟩ : BufTy).Contents (Elt Ideal)) (x1 : (⟨S1024, .f32⟩ : BufTy).Contents (Elt Ideal))
    (x2 : (⟨S1024x5632, .f32⟩ : BufTy).Contents (Elt Ideal)) (x3 : (⟨S3x2816, .f32⟩ : BufTy).Contents (Elt Ideal)) (x4 : (⟨S2816, .f32⟩ : BufTy).Contents (Elt Ideal))
    (x5 : (⟨S2816x1024, .f32⟩ : BufTy).Contents (Elt Ideal)) (x6 : (⟨S1024, .f32⟩ : BufTy).Contents (Elt Ideal)) (b : Fin 32) (n : Fin 2048) (d : Fin 1024) :
    val_main_v56 x0 x1 x2 x3 x4 x5 x6 (ix3 b n d) = row (fun k => x0 (ix3 b n k))
      (fun e => seqAct (fun n k => x0 (ix3 b n k)) (fun k => x1 (ix1 k)) (fun k => x2 (ix2 k ⟨e, by omega⟩))
        (fun k => x2 (ix2 k ⟨2816 + e, by omega⟩)) (x3 (ix2 0 e)) (x3 (ix2 1 e)) (x3 (ix2 2 e)) (x4 (ix1 e)) n)
      (fun e k => x5 (ix2 e k)) (fun k => x6 (ix1 k)) d := by
  pointwise [val_main_v56, val_main_v55, val_main_v54, val_main_v53, val_main_v52, val_main_v51, val_main_v50, val_main_v49, val_main_v48, val_main_v47, val_main_v46,
    val_main_v45, val_main_v44, val_main_v43, val_main_v42, val_main_cst_2, val_main_cst_3, val_main_cst_4]
  simp only [v41_apply]
  rfl

end Cert.FfnReferenceIdeal.Row
-- ==== Proof.FfnClaim.lean ====
/-
  The claims about the feed-forward call.
-/
module

public import proofs.«01_k».proof.Defs
public import proofs.«01_k».proof.Proof.FfnValue
public import proofs.«01_k».proof.Proof.FfnReference
public import proofs.«01_k».proof.Proof.Gen.Ffn.Frame
public import Idealize.ShloMosaic.Lib.Quiescent

@[expose] public section

set_option maxRecDepth 16384

noncomputable section

namespace Cert.Proof.FfnClaims

open Idealize.ShloMosaic Idealize.ShloMosaic.TcCoe Idealize.SL.Sem

/-- The printed kernel keeps its arguments and leaves every semaphore at zero. -/
theorem frame_p : Cert.quiescent_Ffn (hFfn := Cert.Ffn.Gen.facts) := fun m ρ _ => Cert.Ffn.Gen.frame m ρ

/-- The idealized kernel keeps its arguments and leaves every semaphore at zero. -/
theorem frame_pi : Cert.quiescent_FfnIdeal (hFfnIdeal := Cert.FfnIdeal.Gen.facts) := fun m ρ _ => Cert.FfnIdeal.Gen.frame m ρ

/-- The reference keeps its arguments; it has no semaphores. -/
theorem frame_ri : Cert.quiescent_FfnReferenceIdeal (hFfnReferenceIdeal := Cert.FfnReferenceIdeal.Gen.facts) := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)

/-- The idealized kernel and the reference compute the same result. -/
theorem algebraic : Cert.algebraic_FfnIdeal_FfnReferenceIdeal (hFfnIdeal := Cert.FfnIdeal.Gen.facts)
    (hFfnReferenceIdeal := Cert.FfnReferenceIdeal.Gen.facts) := by
  intro m ρ m' ρ' _ hagree
  refine ⟨_, Cert.FfnIdeal.Value.run_blocks (F := Ideal) m ρ, ?_⟩
  refine (θ_run Cert.FfnReferenceIdeal.defs _ _).mono (fun _ h c => ⟨(h c).1.trans ?_, (h c).2⟩)
    (Cert.FfnReferenceIdeal.Value.run (F := Ideal) m' ρ')
  obtain ⟨h0, h1, h2, h3, h4, h5, h6⟩ := hagree c
  rw [Cert.FfnReferenceIdeal.Read.val_main_v56_eq, h0, h1, h2, h3, h4, h5, h6, Cert.FfnIdeal.Row.arr_eq]
  funext i
  rw [show i = ix3 (i 0) (i 1) (i 2) from ValueIdx.eq_ix3 i]
  exact Cert.FfnReferenceIdeal.Row.v56_apply _ _ _ _ _ _ _ (i 0) (i 1) (i 2)

end Cert.Proof.FfnClaims
-- ==== Proof.MergeBlock.lean ====
/-
  The merge call on one block of 1024 rows: what its body stores at an index, as one function of the row.
-/
module

public import proofs.«01_k».proof.Proof.Gen.MergeIdeal.Skeleton
public import proofs.«01_k».proof.Proof.Rms
public import Idealize.ShloMosaic.Lib.Pointwise

@[expose] public section

set_option maxRecDepth 16384

noncomputable section

namespace Cert.MergeRow

open Idealize.ShloMosaic Cert.Rms

/-- One branch at one column: the gate of the normed row times the branch's projection. -/
def branch (h w : Fin 1024 → EReal) (o p : Fin 256 → EReal) : EReal :=
  Ideal.logistic (∑ k, h k * w k) * ∑ k, o k * p k

/-- The four gated branches at column `d`, added in order; `w0` … `w3` hold the branches' gate columns. -/
def mixed (h : Fin 1024 → EReal) (w0 w1 w2 w3 : Fin 1024 → Fin 1024 → EReal) (o0 o1 o2 o3 : Fin 256 → EReal) (p0 p1 p2 p3 : Fin 256 → Fin 1024 → EReal) (d : Fin 1024) : EReal :=
  branch h (fun k => w0 k d) o0 (fun k => p0 k d) + branch h (fun k => w1 k d) o1 (fun k => p1 k d)
    + branch h (fun k => w2 k d) o2 (fun k => p2 k d) + branch h (fun k => w3 k d) o3 (fun k => p3 k d)

/-- One row of the result at column `d`: the row plus the merged branches. -/
def row (x g : Fin 1024 → EReal) (w0 w1 w2 w3 : Fin 1024 → Fin 1024 → EReal) (o0 o1 o2 o3 : Fin 256 → EReal) (p0 p1 p2 p3 : Fin 256 → Fin 1024 → EReal) (q : Fin 1024 → Fin 1024 → EReal) (d : Fin 1024) : EReal :=
  x d + ∑ k, mixed (normed x g) w0 w1 w2 w3 o0 o1 o2 o3 p0 p1 p2 p3 k * q k d

end Cert.MergeRow

namespace Cert.MergeIdeal.Gen

open Idealize.ShloMosaic Cert.Rms Cert.MergeRow

/-- The normed block at an index is its row's norm. -/
theorem pay3_apply (v0 : Vec Ideal S1024x1024 .f32) (v2 : Vec Ideal S1x1024 .f32) (r d : Fin 1024) :
    k0_pay3 v0 v2 (ix2 r d) = normed (fun k => v0 (ix2 r k)) (fun k => v2 (ix2 0 k)) d := by
  pointwise [k0_pay3, k0_pay2, normed]

/-- The stored block at an index is the row function of the loaded blocks' rows. -/
theorem stored_apply (x : Vec Ideal S1024x1024 .f32) (g : Vec Ideal S1x1024 .f32)
    (w0 w1 w2 w3 : Vec Ideal S1024x1024 .bf16) (o0 o1 o2 o3 : Vec Ideal S1024x256 .bf16)
    (p0 p1 p2 p3 : Vec Ideal S1x256x1024 .bf16) (q : Vec Ideal S1024x1024 .bf16) (r d : Fin 1024) :
    k0_pay1 (k0_pay2 x) (k0_pay3 x g) (k0_pay4 x g w0 o0 p0) (k0_pay5 x g w1) (k0_pay6 o1) (k0_pay7 p1) w2 o2 p2 w3 o3 p3 q (ix2 r d)
      = row (fun k => x (ix2 r k)) (fun k => g (ix2 0 k)) (fun k e => w0 (ix2 k e)) (fun k e => w1 (ix2 k e)) (fun k e => w2 (ix2 k e)) (fun k e => w3 (ix2 k e))
          (fun k => o0 (ix2 r k)) (fun k => o1 (ix2 r k)) (fun k => o2 (ix2 r k)) (fun k => o3 (ix2 r k))
          (fun k e => p0 (ix3 0 k e)) (fun k e => p1 (ix3 0 k e)) (fun k e => p2 (ix3 0 k e)) (fun k e => p3 (ix3 0 k e)) (fun k e => q (ix2 k e)) d := by
  pointwise [k0_pay1, k0_pay2, k0_pay4, k0_pay5, k0_pay6, k0_pay7]
  simp only [pay3_apply]
  rfl

end Cert.MergeIdeal.Gen
-- ==== Proof.MergeValue.lean ====
/-
  The merge call's result array after the run: the row function of the arguments at every index.
-/
module

public import proofs.«01_k».proof.Proof.MergeBlock
public import proofs.«01_k».proof.Proof.Gen.MergeIdeal.Value
public import Idealize.ShloMosaic.Lib.Pipeline.ValueKit
public import Idealize.ShloMosaic.Lib.StableHlo.ReadAt

@[expose] public section

set_option maxRecDepth 16384

noncomputable section

namespace Cert.MergeIdeal.Row

open Cert.MergeIdeal Cert.MergeIdeal.Gen Idealize.ShloMosaic Idealize.ShloMosaic.TcCoe Idealize.SL.Sem Cert.MergeRow

variable (m : (ℓ : Loc nD τ sig) → Buf (Elt Ideal) ℓ)

/-- Element `(n, d)` of the result, of the arguments: token `n` is row `n % 2048` of sequence `n / 2048`. -/
def G (c : Dev nD) : S65536x1024.Idx → EReal := fun i =>
  have h0 : (i 0).val < 65536 := (i 0).isLt
  have h1 : (i 1).val < 1024 := (i 1).isLt
  row (fun k => m ((c : Thread nD τ).loc main_arg0) (ix3 ⟨(i 0).val / 2048, by omega⟩ ⟨(i 0).val % 2048, by omega⟩ k)) (fun k => m ((c : Thread nD τ).loc main_arg1) (ix1 k))
    (fun k e => m ((c : Thread nD τ).loc main_arg6) (ix2 k ⟨2400 + e, by omega⟩))
    (fun k e => m ((c : Thread nD τ).loc main_arg6) (ix2 k ⟨3424 + e, by omega⟩))
    (fun k e => m ((c : Thread nD τ).loc main_arg6) (ix2 k ⟨4448 + e, by omega⟩))
    (fun k e => m ((c : Thread nD τ).loc main_arg6) (ix2 k ⟨5472 + e, by omega⟩))
    (fun k => m ((c : Thread nD τ).loc main_arg2) (ix3 ⟨(i 0).val / 2048, by omega⟩ ⟨(i 0).val % 2048, by omega⟩ k))
    (fun k => m ((c : Thread nD τ).loc main_arg3) (ix3 ⟨(i 0).val / 2048, by omega⟩ ⟨(i 0).val % 2048, by omega⟩ k))
    (fun k => m ((c : Thread nD τ).loc main_arg4) (ix3 ⟨(i 0).val / 2048, by omega⟩ ⟨(i 0).val % 2048, by omega⟩ k))
    (fun k => m ((c : Thread nD τ).loc main_arg5) (ix3 ⟨(i 0).val / 2048, by omega⟩ ⟨(i 0).val % 2048, by omega⟩ k))
    (fun k e => m ((c : Thread nD τ).loc main_arg7) (ix3 0 k e))
    (fun k e => m ((c : Thread nD τ).loc main_arg7) (ix3 1 k e))
    (fun k e => m ((c : Thread nD τ).loc main_arg7) (ix3 2 k e))
    (fun k e => m ((c : Thread nD τ).loc main_arg7) (ix3 3 k e))
    (fun k e => m ((c : Thread nD τ).loc main_arg8) (ix2 k e)) ⟨(i 1).val, h1⟩

/-- The windows' block indices at a point. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0, 0] ∧ win0_8.index t = ![0, 0]
    ∧ win0_9.index t = ![t.val, 0] :=
  (by decide +kernel : ∀ t : Fin grid0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0, 0] ∧ win0_8.index t = ![0, 0]
    ∧ win0_9.index t = ![t.val, 0])

/-- Rows with equal entries have equal results. -/
theorem row_congr {x x' g g' : Fin 1024 → EReal} {w0 w1 w2 w3 w0' w1' w2' w3' : Fin 1024 → Fin 1024 → EReal} {o0 o1 o2 o3 o0' o1' o2' o3' : Fin 256 → EReal}
    {p0 p1 p2 p3 p0' p1' p2' p3' : Fin 256 → Fin 1024 → EReal} {q q' : Fin 1024 → Fin 1024 → EReal} {d d' : Fin 1024}
    (hx : ∀ k, x k = x' k) (hg : ∀ k, g k = g' k)
    (hw0 : ∀ k e, w0 k e = w0' k e)    (hw1 : ∀ k e, w1 k e = w1' k e)    (hw2 : ∀ k e, w2 k e = w2' k e)    (hw3 : ∀ k e, w3 k e = w3' k e)
    (ho0 : ∀ k, o0 k = o0' k)    (ho1 : ∀ k, o1 k = o1' k)    (ho2 : ∀ k, o2 k = o2' k)    (ho3 : ∀ k, o3 k = o3' k)
    (hp0 : ∀ k e, p0 k e = p0' k e)    (hp1 : ∀ k e, p1 k e = p1' k e)    (hp2 : ∀ k e, p2 k e = p2' k e)    (hp3 : ∀ k e, p3 k e = p3' k e)
    (hq : ∀ k e, q k e = q' k e) (hd : d = d') :
    row x g w0 w1 w2 w3 o0 o1 o2 o3 p0 p1 p2 p3 q d = row x' g' w0' w1' w2' w3' o0' o1' o2' o3' p0' p1' p2' p3' q' d' := by
  obtain rfl := funext hx
  obtain rfl := funext hg
  obtain rfl : w0 = w0' := funext fun k => funext (hw0 k)
  obtain rfl := funext ho0
  obtain rfl : p0 = p0' := funext fun k => funext (hp0 k)
  obtain rfl : w1 = w1' := funext fun k => funext (hw1 k)
  obtain rfl := funext ho1
  obtain rfl : p1 = p1' := funext fun k => funext (hp1 k)
  obtain rfl : w2 = w2' := funext fun k => funext (hw2 k)
  obtain rfl := funext ho2
  obtain rfl : p2 = p2' := funext fun k => funext (hp2 k)
  obtain rfl : w3 = w3' := funext fun k => funext (hw3 k)
  obtain rfl := funext ho3
  obtain rfl : p3 = p3' := funext fun k => funext (hp3 k)
  obtain rfl : q = q' := funext fun k => funext (hq k)
  rw [hd]

/-- The first operand is the token array with its two leading axes flattened. -/
theorem read_x (c : Dev nD) (n : Fin 65536) (k : Fin 1024) : V m c main_v0 (ix2 n k)
    = m ((c : Thread nD τ).loc main_arg0) (ix3 ⟨n / 2048, by omega⟩ ⟨n % 2048, by omega⟩ k) := by
  unfold V
  after_reads_at

/-- The gain as a row. -/
theorem read_g (c : Dev nD) (k : Fin 1024) : V m c main_v1 (ix2 0 k) = m ((c : Thread nD τ).loc main_arg1) (ix1 k) := by
  unfold V
  after_reads_at

/-- The gate columns of the input weights. -/
theorem read_w (c : Dev nD) (n : Fin 1024) (k : Fin 4096) : V m c main_v11 (ix2 n k)
    = m ((c : Thread nD τ).loc main_arg6) (ix2 n ⟨2400 + k, by omega⟩) := by
  unfold V
  after_reads_at

/-- The branch projections, cast. -/
theorem read_p (c : Dev nD) (j : Fin 4) (n : Fin 256) (k : Fin 1024) : V m c main_v12 (ix3 j n k) = m ((c : Thread nD τ).loc main_arg7) (ix3 j n k) := by
  unfold V
  after_reads_at

/-- The merge projection, cast. -/
theorem read_q (c : Dev nD) (n k : Fin 1024) : V m c main_v13 (ix2 n k) = m ((c : Thread nD τ).loc main_arg8) (ix2 n k) := by
  unfold V
  after_reads_at

/-- Branch 0's output with its two leading axes flattened. -/
theorem read_o0 (c : Dev nD) (n : Fin 65536) (k : Fin 256) : V m c main_v2 (ix2 n k)
    = m ((c : Thread nD τ).loc main_arg2) (ix3 ⟨n / 2048, by omega⟩ ⟨n % 2048, by omega⟩ k) := by
  unfold V
  after_reads_at

/-- Branch 1's output with its two leading axes flattened. -/
theorem read_o1 (c : Dev nD) (n : Fin 65536) (k : Fin 256) : V m c main_v3 (ix2 n k)
    = m ((c : Thread nD τ).loc main_arg3) (ix3 ⟨n / 2048, by omega⟩ ⟨n % 2048, by omega⟩ k) := by
  unfold V
  after_reads_at

/-- Branch 2's output with its two leading axes flattened. -/
theorem read_o2 (c : Dev nD) (n : Fin 65536) (k : Fin 256) : V m c main_v4 (ix2 n k)
    = m ((c : Thread nD τ).loc main_arg4) (ix3 ⟨n / 2048, by omega⟩ ⟨n % 2048, by omega⟩ k) := by
  unfold V
  after_reads_at

/-- Branch 3's output with its two leading axes flattened. -/
theorem read_o3 (c : Dev nD) (n : Fin 65536) (k : Fin 256) : V m c main_v5 (ix2 n k)
    = m ((c : Thread nD τ).loc main_arg5) (ix3 ⟨n / 2048, by omega⟩ ⟨n % 2048, by omega⟩ k) := by
  unfold V
  after_reads_at

/-- Point `t`'s token block starts at row `1024 * t`. -/
theorem blk_x (c : Dev nD) (t : Fin cfg0.N) (r k : Fin 1024) (h : t.val * 1024 + r < 65536) : iblk m c 0 t (ix2 r k)
    = V m c main_v0 (ix2 ⟨t.val * 1024 + r, h⟩ k) := by
  blk_ext [iblk, idx t]

/-- Every point's gain block is the whole gain. -/
theorem blk_g (c : Dev nD) (t : Fin cfg0.N) (k : Fin 1024) : iblk m c 1 t (ix2 0 k) = V m c main_v1 (ix2 0 k) := by
  blk_ext [iblk, idx t]

/-- Every point's gate block is the whole array. -/
theorem blk_w (c : Dev nD) (t : Fin cfg0.N) (r : Fin 1024) (k : Fin 4096) : iblk m c 6 t (ix2 r k) = V m c main_v11 (ix2 r k) := by
  blk_ext [iblk, idx t]

/-- Every point's block of branch projections is the whole array. -/
theorem blk_p (c : Dev nD) (t : Fin cfg0.N) (j : Fin 4) (r : Fin 256) (k : Fin 1024) : iblk m c 7 t (ix3 j r k) = V m c main_v12 (ix3 j r k) := by
  blk_ext [iblk, idx t]

/-- Every point's block of the merge projection is the whole array. -/
theorem blk_q (c : Dev nD) (t : Fin cfg0.N) (r k : Fin 1024) : iblk m c 8 t (ix2 r k) = V m c main_v13 (ix2 r k) := by
  blk_ext [iblk, idx t]

/-- Point `t`'s block of branch 0 starts at row `1024 * t`. -/
theorem blk_o0 (c : Dev nD) (t : Fin cfg0.N) (r : Fin 1024) (k : Fin 256) (h : t.val * 1024 + r < 65536) : iblk m c 2 t (ix2 r k)
    = V m c main_v2 (ix2 ⟨t.val * 1024 + r, h⟩ k) := by
  blk_ext [iblk, idx t]

/-- Point `t`'s block of branch 1 starts at row `1024 * t`. -/
theorem blk_o1 (c : Dev nD) (t : Fin cfg0.N) (r : Fin 1024) (k : Fin 256) (h : t.val * 1024 + r < 65536) : iblk m c 3 t (ix2 r k)
    = V m c main_v3 (ix2 ⟨t.val * 1024 + r, h⟩ k) := by
  blk_ext [iblk, idx t]

/-- Point `t`'s block of branch 2 starts at row `1024 * t`. -/
theorem blk_o2 (c : Dev nD) (t : Fin cfg0.N) (r : Fin 1024) (k : Fin 256) (h : t.val * 1024 + r < 65536) : iblk m c 4 t (ix2 r k)
    = V m c main_v4 (ix2 ⟨t.val * 1024 + r, h⟩ k) := by
  blk_ext [iblk, idx t]

/-- Point `t`'s block of branch 3 starts at row `1024 * t`. -/
theorem blk_o3 (c : Dev nD) (t : Fin cfg0.N) (r : Fin 1024) (k : Fin 256) (h : t.val * 1024 + r < 65536) : iblk m c 5 t (ix2 r k)
    = V m c main_v5 (ix2 ⟨t.val * 1024 + r, h⟩ k) := by
  blk_ext [iblk, idx t]

/-- `G` at a pair of coordinates. -/
theorem G_apply (c : Dev nD) (n : Fin 65536) (d : Fin 1024) (i : S65536x1024.Idx) (h0 : (i 0).val = n.val) (h1 : (i 1).val = d.val) :
    G m c i = G m c (ix2 n d) := congrArg (G m c) (funext fun a => Fin.ext (by match a with | ⟨0, _⟩ => exact h0 | ⟨1, _⟩ => exact h1))

/-- The result array after the run. -/
theorem arr_eq (c : Dev nD) : (dats m 0 c).arrAt 9 cfg0.N = G m c := by
  refine (dats m 0 c).arrAt_eq_of_covers 9 _ (by decide +kernel) fun t hf y => ?_
  blk_simp
  rw [after0_9]
  frame_out
  idx_vars y
  rw [stored_apply]
  have ht : t.val < 64 := lt_of_lt_of_eq t.isLt N_0
  rw [G_apply m c ⟨t.val * 1024 + y0, by omega⟩ y1 _ (by blk_simp [idx t]) (by blk_simp [idx t])]
  unfold G
  refine row_congr (fun k => (blk_x m c t y0 k (by omega)).trans (read_x m c _ k)) (fun k => (blk_g m c t k).trans (read_g m c k))
    (fun k e => ?_) (fun k e => ?_) (fun k e => ?_) (fun k e => ?_)
    (fun k => (blk_o0 m c t y0 k (by omega)).trans (read_o0 m c _ k)) (fun k => (blk_o1 m c t y0 k (by omega)).trans (read_o1 m c _ k))
    (fun k => (blk_o2 m c t y0 k (by omega)).trans (read_o2 m c _ k)) (fun k => (blk_o3 m c t y0 k (by omega)).trans (read_o3 m c _ k))
    (fun k e => ?_) (fun k e => ?_) (fun k e => ?_) (fun k e => ?_) (fun k e => (blk_q m c t k e).trans (read_q m c k e)) rfl
  · refine Eq.trans ?_ ((blk_w m c t k ⟨0 + e, by omega⟩).trans ((read_w m c k _).trans ?_))
    · pointwise
    · simp only [← Nat.add_assoc, Nat.reduceAdd]
  · refine Eq.trans ?_ ((blk_w m c t k ⟨1024 + e, by omega⟩).trans ((read_w m c k _).trans ?_))
    · pointwise
    · simp only [← Nat.add_assoc, Nat.reduceAdd]
  · refine Eq.trans ?_ ((blk_w m c t k ⟨2048 + e, by omega⟩).trans ((read_w m c k _).trans ?_))
    · pointwise
    · simp only [← Nat.add_assoc, Nat.reduceAdd]
  · refine Eq.trans ?_ ((blk_w m c t k ⟨3072 + e, by omega⟩).trans ((read_w m c k _).trans ?_))
    · pointwise
    · simp only [← Nat.add_assoc, Nat.reduceAdd]
  · refine Eq.trans ?_ ((blk_p m c t 0 k e).trans (read_p m c 0 k e))
    pointwise
  · refine Eq.trans ?_ ((blk_p m c t 1 k e).trans (read_p m c 1 k e))
    pointwise
  · refine Eq.trans ?_ ((blk_p m c t 2 k e).trans (read_p m c 2 k e))
    pointwise
  · refine Eq.trans ?_ ((blk_p m c t 3 k e).trans (read_p m c 3 k e))
    pointwise

end Cert.MergeIdeal.Row
-- ==== Proof.MergeReference.lean ====
/-
  The merge reference at an index, as the row function.
-/
module

public import proofs.«01_k».proof.Proof.MergeBlock
public import proofs.«01_k».proof.Proof.Gen.MergeReferenceIdeal.Read
public import Idealize.ShloMosaic.Lib.Pointwise
public import Idealize.ShloMosaic.Lib.IdealHost

@[expose] public section

set_option maxRecDepth 16384

noncomputable section

namespace Cert.MergeReferenceIdeal.Row

open Cert.MergeReferenceIdeal Cert.MergeReferenceIdeal.Gen Cert.MergeReferenceIdeal.Read Idealize.ShloMosaic Cert.MergeRow Cert.Rms

variable (x0 : (⟨S32x2048x1024, .f32⟩ : BufTy).Contents (Elt Ideal)) (x1 : (⟨S1024, .f32⟩ : BufTy).Contents (Elt Ideal))
  (x2 x3 x4 x5 : (⟨S32x2048x256, .bf16⟩ : BufTy).Contents (Elt Ideal)) (x6 : (⟨S1024x6496, .f32⟩ : BufTy).Contents (Elt Ideal))
  (x7 : (⟨S4x256x1024, .f32⟩ : BufTy).Contents (Elt Ideal)) (x8 : (⟨S1024x1024, .f32⟩ : BufTy).Contents (Elt Ideal))

/-- The normed activations at an index. -/
theorem v12_apply (b : Fin 32) (s : Fin 2048) (d : Fin 1024) :
    val_main_v12 x0 x1 (ix3 b s d) = normed (fun k => x0 (ix3 b s k)) (fun k => x1 (ix1 k)) d := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0, normed]

/-- The gates at an index. -/
theorem v20_apply (b : Fin 32) (s : Fin 2048) (d : Fin 4096) :
    val_main_v20 x0 x1 x6 (ix3 b s d) = Ideal.logistic (∑ k, normed (fun k => x0 (ix3 b s k)) (fun k => x1 (ix1 k)) k * x6 (ix2 k ⟨2400 + d, by omega⟩)) := by
  pointwise [val_main_v20, val_main_v19, val_main_cst_3, val_main_v18, val_main_v17, val_main_cst_2, val_main_v16, val_main_v15, val_main_v14, val_main_v13]
  simp only [v12_apply]
  rfl

/-- The result at row `n` of the flattened tokens. -/
theorem v50_apply (n : Fin 65536) (d : Fin 1024) :
    val_main_v50 x0 x1 x2 x3 x4 x5 x6 x7 x8 (ix2 n d) =
      row (fun k => x0 (ix3 ⟨n / 2048, by omega⟩ ⟨n % 2048, by omega⟩ k)) (fun k => x1 (ix1 k))
          (fun k e => x6 (ix2 k ⟨2400 + e, by omega⟩)) (fun k e => x6 (ix2 k ⟨3424 + e, by omega⟩)) (fun k e => x6 (ix2 k ⟨4448 + e, by omega⟩)) (fun k e => x6 (ix2 k ⟨5472 + e, by omega⟩))
          (fun k => x2 (ix3 ⟨n / 2048, by omega⟩ ⟨n % 2048, by omega⟩ k)) (fun k => x3 (ix3 ⟨n / 2048, by omega⟩ ⟨n % 2048, by omega⟩ k)) (fun k => x4 (ix3 ⟨n / 2048, by omega⟩ ⟨n % 2048, by omega⟩ k)) (fun k => x5 (ix3 ⟨n / 2048, by omega⟩ ⟨n % 2048, by omega⟩ k))
          (fun k e => x7 (ix3 0 k e)) (fun k e => x7 (ix3 1 k e)) (fun k e => x7 (ix3 2 k e)) (fun k e => x7 (ix3 3 k e)) (fun k e => x8 (ix2 k e)) d := by
  pointwise [val_main_v50, val_main_v49, val_main_v48, val_main_v47, val_main_v46, val_main_v45, val_main_v44, val_main_v43,
    val_main_v42, val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_v24, val_main_v23,
    val_main_v22, val_main_v21]
  simp only [v20_apply]
  simp only [← Nat.add_assoc]
  rfl

end Cert.MergeReferenceIdeal.Row
-- ==== Proof.MergeClaim.lean ====
/-
  The claims about the merge call.
-/
module

public import proofs.«01_k».proof.Defs
public import proofs.«01_k».proof.Proof.MergeValue
public import proofs.«01_k».proof.Proof.MergeReference
public import proofs.«01_k».proof.Proof.Gen.Merge.Frame
public import Idealize.ShloMosaic.Lib.Quiescent

@[expose] public section

set_option maxRecDepth 16384

noncomputable section

namespace Cert.Proof.MergeClaims

open Idealize.ShloMosaic Idealize.ShloMosaic.TcCoe Idealize.SL.Sem

/-- The printed kernel keeps its arguments and leaves every semaphore at zero. -/
theorem frame_p : Cert.quiescent_Merge (hMerge := Cert.Merge.Gen.facts) := fun m ρ _ => Cert.Merge.Gen.frame m ρ

/-- The idealized kernel keeps its arguments and leaves every semaphore at zero. -/
theorem frame_pi : Cert.quiescent_MergeIdeal (hMergeIdeal := Cert.MergeIdeal.Gen.facts) := fun m ρ _ => Cert.MergeIdeal.Gen.frame m ρ

/-- The reference keeps its arguments; it has no semaphores. -/
theorem frame_ri : Cert.quiescent_MergeReferenceIdeal (hMergeReferenceIdeal := Cert.MergeReferenceIdeal.Gen.facts) := fun m ρ _ =>
  (θ_run Cert.MergeReferenceIdeal.defs _ _).mono (fun r h => ⟨fun c => (h c).2,
      Idealize.ShloMosaic.sem_eq_zero_of_no_sems (by decide) r.2⟩)
    (Cert.MergeReferenceIdeal.Value.run (F := Ideal) m ρ)

/-- The idealized kernel and the reference compute the same result. -/
theorem algebraic : Cert.algebraic_MergeIdeal_MergeReferenceIdeal (hMergeIdeal := Cert.MergeIdeal.Gen.facts)
    (hMergeReferenceIdeal := Cert.MergeReferenceIdeal.Gen.facts) := by
  intro m ρ m' ρ' _ hagree
  refine ⟨_, Cert.MergeIdeal.Value.run_blocks (F := Ideal) m ρ, ?_⟩
  refine (θ_run Cert.MergeReferenceIdeal.defs _ _).mono (fun _ h c => ⟨(h c).1.trans ?_, (h c).2⟩)
    (Cert.MergeReferenceIdeal.Value.run (F := Ideal) m' ρ')
  obtain ⟨h0, h1, h2, h3, h4, h5, h6, h7, h8⟩ := hagree c
  rw [Cert.MergeReferenceIdeal.Read.val_main_v50_eq, h0, h1, h2, h3, h4, h5, h6, h7, h8, Cert.MergeIdeal.Row.arr_eq]
  funext i
  rw [show i = ix2 (i 0) (i 1) from ValueIdx.eq_ix2 i]
  exact Cert.MergeReferenceIdeal.Row.v50_apply _ _ _ _ _ _ _ _ _ (i 0) (i 1)

end Cert.Proof.MergeClaims
-- ==== Proof.SoftRow.lean ====
/-
  One lane of a softmax row in two forms: the kernel sums the values over the keys, sums a lane of ones beside them and
  multiplies by that sum's inverse; the reference sums the values over the normalised weights.
-/
module

public import proofs.«01_k».proof.Proof.AttnMath

@[expose] public section

set_option maxRecDepth 16384

noncomputable section

namespace Cert.SoftRow

open Idealize.ShloMosaic Cert.AttnRow

/-- One lane over another lane of the same sums. -/
def quot (s v w : Fin 2048 → EReal) : EReal := (∑ k, term s k * v k) * Ideal.div 1 (∑ k, term s k * w k)

/-- The lane 64 places further round. -/
abbrev turn (d : Fin 128) : Fin 128 := ⟨(d.val + 128 - 64) % 128, Nat.mod_lt _ (by omega)⟩

/-- A lane of two joined heads: the low 64 lanes are the first head's, the others the second's. -/
def joined (s t : Fin 2048 → EReal) (v w : Fin 128 → Fin 2048 → EReal) (d : Fin 128) : EReal :=
  if d.val < 64 then quot s (v d) (v (turn d)) else quot t (w (turn d)) (w (turn (turn d)))

/-- One lane of the reference's row. -/
def soft (s v : Fin 2048 → EReal) : EReal := ∑ k, v k * prob s k

/-- Beside a lane of ones the two forms agree, when the scores are real numbers. -/
theorem quot_eq (a : Fin 2048 → ℝ) (v w : Fin 2048 → EReal) (hw : ∀ k, w k = 1) :
    quot (fun k => ((a k * (Real.log 2)⁻¹ : ℝ) : EReal)) v w = soft (fun k => ((a k : ℝ) : EReal)) v := by
  obtain ⟨e, he, hs, hs'⟩ := terms_real a
  have hl : 0 < ∑ k, e k := Finset.sum_pos (fun k _ => he k) ⟨0, Finset.mem_univ _⟩
  unfold quot soft prob
  simp only [hs, hs', hw, mul_one, coe_sum]
  rw [div_real _ _ hl, one_mul, sum_scale _ _ (one_div_nonneg.mpr hl.le)]
  refine Finset.sum_congr rfl fun k _ => ?_
  rw [div_real _ _ hl]
  ac_rfl

/-- A dot product whose first operand is scaled. -/
def dot {n : ℕ} (r : EReal) (q k : Fin n → EReal) : EReal := ∑ x, q x * r * k x

/-- The products may be taken in the other order. -/
theorem dot_comm {n : ℕ} (r : EReal) (q k : Fin n → EReal) : ∑ x, k x * (q x * r) = dot r q k :=
  Finset.sum_congr rfl fun x _ => mul_comm _ _

/-- A dot product of real vectors under a real scale. -/
theorem dot_real {n : ℕ} (r : ℝ) (q k : Fin n → ℝ) :
    dot (r : EReal) (fun x => ((q x : ℝ) : EReal)) (fun x => ((k x : ℝ) : EReal)) = ((∑ x, q x * r * k x : ℝ) : EReal) := by
  unfold dot
  rw [← coe_sum]
  simp only [EReal.coe_mul]

/-- A factor of the scale comes out of the sum. -/
theorem dot_scaled {n : ℕ} (r l : ℝ) (q k : Fin n → ℝ) :
    dot ((r * l : ℝ) : EReal) (fun x => ((q x : ℝ) : EReal)) (fun x => ((k x : ℝ) : EReal)) = (((∑ x, q x * r * k x) * l : ℝ) : EReal) := by
  rw [dot_real, Finset.sum_mul]
  congr 1
  exact Finset.sum_congr rfl fun x _ => by ring

end Cert.SoftRow

end
-- ==== Proof.GroupedReference.lean ====
/-
  The grouped attention's reference, each array at an index.
-/
module

public import proofs.«01_k».proof.Proof.SoftRow
public import proofs.«01_k».proof.Proof.Gen.GroupedReferenceIdeal.Read
public import Idealize.ShloMosaic.Lib.Pointwise

@[expose] public section

set_option maxRecDepth 16384

noncomputable section

namespace Cert.GroupedReferenceIdeal.Head

open Cert.GroupedReferenceIdeal Cert.GroupedReferenceIdeal.Read Idealize.ShloMosaic Cert.AttnRow Cert.SoftRow

variable (x0 : (⟨S32x2048x256, .f32⟩ : BufTy).Contents (Elt Ideal)) (x1 x2 : (⟨S32x2048x128, .f32⟩ : BufTy).Contents (Elt Ideal)) (b : Fin 32)

/-- The scores, of group `p` and its head `g`. -/
theorem v6_apply (p g : Fin 2) (n k : Fin 2048) : val_main_v6 x0 x1 (ix5 b p g n k)
    = ∑ x : Fin 64, x1 (ix3 b k ⟨p * 64 + x, by omega⟩) * (x0 (ix3 b n ⟨p * 128 + g * 64 + x, by omega⟩) * Ideal.ofBits FTy.f32 0x3E000000#32) := by
  pointwise [val_main_v6, val_main_v5, val_main_v0, val_main_v1, val_main_v2, val_main_v3, val_main_cst]

/-- A row of scores. -/
def row (p g : Fin 2) (n : Fin 2048) : Fin 2048 → EReal := fun k => val_main_v6 x0 x1 (ix5 b p g n k)

/-- The scores' maximum. -/
theorem v7_apply (p g : Fin 2) (n : Fin 2048) : val_main_v7 x0 x1 (ix4 b p g n)
    = Finset.fold max (Ideal.ofBits FTy.f32 0xFF800000#32) (row x0 x1 b p g n) Finset.univ := by
  pointwise [val_main_v7, val_main_cst_0]
  rfl

/-- The row's maximum. -/
theorem v9_apply (p g : Fin 2) (n : Fin 2048) : val_main_v9 x0 x1 (ix4 b p g n) = rtop (row x0 x1 b p g n) := by
  rw [val_main_v9_apply, val_main_v8_apply, val_main_cst_1_apply, v7_apply]
  rfl

theorem idx_broadcast (p g : Fin 2) (n k : Fin 2048) : idx_main_v10 (idx_main_v11 (ix5 b p g n k)) = ix4 b p g n :=
  funext fun a => by match a with | ⟨0, _⟩ => rfl | ⟨1, _⟩ => rfl | ⟨2, _⟩ => rfl | ⟨3, _⟩ => rfl

theorem idx_broadcast' (p g : Fin 2) (n k : Fin 2048) : idx_main_v15 (idx_main_v16 (ix5 b p g n k)) = ix4 b p g n :=
  funext fun a => by match a with | ⟨0, _⟩ => rfl | ⟨1, _⟩ => rfl | ⟨2, _⟩ => rfl | ⟨3, _⟩ => rfl

theorem idx_sum (p g : Fin 2) (n k : Fin 2048) : idx_main_v14 (ix4 b p g n) k = ix5 b p g n k :=
  funext fun a => by match a with | ⟨0, _⟩ => rfl | ⟨1, _⟩ => rfl | ⟨2, _⟩ => rfl | ⟨3, _⟩ => rfl | ⟨4, _⟩ => rfl

/-- The exponentials. -/
theorem v13_apply (p g : Fin 2) (n k : Fin 2048) : val_main_v13 x0 x1 (ix5 b p g n k)
    = Ideal.exp (row x0 x1 b p g n k - rtop (row x0 x1 b p g n)) := by
  rw [val_main_v13_apply, val_main_v12_apply, val_main_v11_apply, val_main_v10_apply, idx_broadcast, v9_apply]
  unfold row
  generalize rtop _ = q
  generalize val_main_v6 x0 x1 _ = u
  rfl

/-- Their sum. -/
theorem v14_apply (p g : Fin 2) (n : Fin 2048) : val_main_v14 x0 x1 (ix4 b p g n)
    = ∑ k, Ideal.exp (row x0 x1 b p g n k - rtop (row x0 x1 b p g n)) := by
  rw [val_main_v14_apply, val_main_cst_2_apply]
  simp only [idx_sum, v13_apply]
  rw [show (FloatOps.ofBits (F := Ideal) .f32 0x00000000#32 : EReal) = 0 from Ideal.ofBits_zero ..]
  exact zero_add _

/-- The softmax weights. -/
theorem v17_apply (p g : Fin 2) (n k : Fin 2048) : val_main_v17 x0 x1 (ix5 b p g n k) = prob (row x0 x1 b p g n) k := by
  rw [val_main_v17_apply, val_main_v16_apply, val_main_v15_apply, idx_broadcast', v13_apply, v14_apply]
  rfl

/-- The values. -/
theorem v4_apply (p : Fin 2) (n : Fin 2048) (d : Fin 64) : val_main_v4 x2 (ix4 b n p d) = x2 (ix3 b n ⟨p * 64 + d, by omega⟩) := by
  pointwise [val_main_v4]

theorem idx_perm (p g : Fin 2) (n : Fin 2048) (d : Fin 64) : idx_main_v19 (ix5 b n p g d) = ix5 b p d g n :=
  funext fun a => by match a with | ⟨0, _⟩ => rfl | ⟨1, _⟩ => rfl | ⟨2, _⟩ => rfl | ⟨3, _⟩ => rfl | ⟨4, _⟩ => rfl
theorem idx_lhs (p g : Fin 2) (n k : Fin 2048) (d : Fin 64) : lidx_main_v18 (ix5 b p d g n) k = ix4 b k p d :=
  funext fun a => by match a with | ⟨0, _⟩ => rfl | ⟨1, _⟩ => rfl | ⟨2, _⟩ => rfl | ⟨3, _⟩ => rfl
theorem idx_rhs (p g : Fin 2) (n k : Fin 2048) (d : Fin 64) : ridx_main_v18 (ix5 b p d g n) k = ix5 b p g n k :=
  funext fun a => by match a with | ⟨0, _⟩ => rfl | ⟨1, _⟩ => rfl | ⟨2, _⟩ => rfl | ⟨3, _⟩ => rfl | ⟨4, _⟩ => rfl

/-- The sum over the keys. -/
theorem v19_apply (p g : Fin 2) (n : Fin 2048) (d : Fin 64) : val_main_v19 x0 x1 x2 (ix5 b n p g d)
    = soft (row x0 x1 b p g n) (fun k => x2 (ix3 b k ⟨p * 64 + d, by omega⟩)) := by
  rw [val_main_v19_apply, idx_perm, val_main_v18_apply]
  simp only [idx_lhs, idx_rhs, v4_apply, v17_apply]
  rfl

/-- The result. -/
theorem v21_apply (n : Fin 2048) (e : Fin 256) : val_main_v21 x0 x1 x2 (ix3 b n e)
    = val_main_v19 x0 x1 x2 (ix5 b n ⟨e / 128, by omega⟩ ⟨e / 64 % 2, by omega⟩ ⟨e % 64, by omega⟩) := by
  pointwise [val_main_v21, val_main_v20]

end Cert.GroupedReferenceIdeal.Head

end
-- ==== Proof.GroupedBlock.lean ====
/-
  The grouped attention call on one tile of 1024 queries: what a store holds at an index, as functions of the scores of one
  query and of the values of one group of heads.
-/
module

public import proofs.«01_k».proof.Proof.SoftRow
public import proofs.«01_k».proof.Proof.Gen.GroupedIdeal.Skeleton
public import Idealize.ShloMosaic.Lib.Pointwise
public import Idealize.ShloMosaic.Lib.Pipeline.ValueKit

@[expose] public section

set_option maxRecDepth 16384

noncomputable section

namespace Cert.GroupedIdeal.Gen

open Idealize.ShloMosaic Cert.AttnRow Cert.SoftRow

/-- The kernel's query scale. -/
abbrev qs : EReal := Named.named (F := Ideal) Cert.GroupedIdeal.κ "qscale" (φ := .f32) 0x3E38AA3B#32

/-- The scores of a slice of the queries against a slice of the keys. -/
theorem pay2_apply (X : Vec Ideal S1x1024x64 .bf16) (Y : Vec Ideal S1x64x2048 .bf16) (r : Fin 1024) (k : Fin 2048) :
    k0_pay2 X Y (ix2 r k) = ∑ x : Fin 64, X (ix3 0 r x) * qs * Y (ix3 0 x k) := by
  pointwise [k0_pay2]

/-- The terms of a row of scores. -/
theorem pay6_apply (s : FVec Ideal S1024x2048 .f32) (r : Fin 1024) (k : Fin 2048) : k0_pay6 s (ix2 r k) = term (fun k => s (ix2 r k)) k := by
  pointwise [k0_pay6]; rfl

/-- A lane over the lane 64 places further round. -/
theorem pay5_apply (p : FVec Ideal S1024x2048 .bf16) (v : Vec Ideal S1x2048x128 .bf16) (r : Fin 1024) (d : Fin 128) :
    k0_pay5 p v (ix2 r d) = (∑ k, p (ix2 r k) * v (ix3 0 k d)) * Ideal.div 1 (∑ k, p (ix2 r k) * v (ix3 0 k (turn d))) := by
  pointwise [k0_pay5]

/-- The low lanes of one head beside the other's, turned. -/
theorem pay1_apply (p q : FVec Ideal S1024x128 .f32) (r : Fin 1024) (d : Fin 128) :
    k0_pay1 p q (ix3 0 r d) = if d.val < 64 then p (ix2 r d) else q (ix2 r (turn d)) := by
  pointwise [k0_pay1]
  simp only [select_low]

/-- What is stored of two heads. -/
def kept (s t : FVec Ideal S1024x2048 .f32) (v w : Vec Ideal S1x2048x128 .bf16) : FVec Ideal S1x1024x128 .bf16 :=
  k0_pay1 (k0_pay5 (k0_pay6 s) v) (k0_pay5 (k0_pay6 t) w)

/-- The same at an index. -/
theorem kept_apply (s t : FVec Ideal S1024x2048 .f32) (v w : Vec Ideal S1x2048x128 .bf16) (r : Fin 1024) (d : Fin 128) :
    kept s t v w (ix3 0 r d) = joined (fun k => s (ix2 r k)) (fun k => t (ix2 r k)) (fun d k => v (ix3 0 k d)) (fun d k => w (ix3 0 k d)) d := by
  unfold kept
  rw [pay1_apply, pay5_apply, pay5_apply]
  simp only [pay6_apply]
  rfl

section
variable (X X' : Vec Ideal S1x1024x64 .bf16) (Y Y' : Vec Ideal S1x64x2048 .bf16) (V W : Vec Ideal S1x2048x128 .bf16)

/-! The four stores are written in different places of the body; each is the one above. -/

theorem kept0 : k0_pay9 (k0_pay5 (k0_pay3 X Y) V) (k0_pay6 (k0_pay2 X' Y')) W = kept (k0_pay2 X Y) (k0_pay2 X' Y') V W := rfl
theorem kept1 : k0_pay17 (k0_pay13 (k0_pay10 (k0_pay4 X Y)) V) (k0_pay14 (k0_pay8 (k0_pay7 X') Y')) (k0_pay16 W) = kept (k0_pay2 X Y) (k0_pay2 X' Y') V W := rfl
theorem kept2 : k0_pay25 (k0_pay22 (k0_pay18 (k0_pay12 (k0_pay11 X) Y)) V) (k0_pay24 (k0_pay15 X' Y') W) (iota .tc S1024x128 32 [1] iota_S1024x128_d1_w32) 64#32
    = kept (k0_pay2 X Y) (k0_pay2 X' Y') V W := rfl
theorem kept3 : k0_pay1 (k0_pay26 (k0_pay21 (k0_pay19 X) (k0_pay20 Y) (constant S1024x2048 .f32 0x00000000#32)) V) (k0_pay27 (k0_pay23 X' Y') W)
    = kept (k0_pay2 X Y) (k0_pay2 X' Y') V W := rfl

end

end Cert.GroupedIdeal.Gen

end
-- ==== Proof.GroupedTile.lean ====
/-
  The grouped attention call on one sequence: what its four stores leave, as one function of the blocks.
-/
module

public import proofs.«01_k».proof.Proof.GroupedBlock
public import proofs.«01_k».proof.Proof.Gen.GroupedIdeal.Value
public import Idealize.ShloMosaic.Lib.Pipeline.ValueKit
public import Idealize.ShloMosaic.Lib.StableHlo.ReadAt

@[expose] public section

set_option maxRecDepth 16384

noncomputable section

namespace Cert.GroupedIdeal.Tile

open Cert.GroupedIdeal Cert.GroupedIdeal.Gen Idealize.ShloMosaic Idealize.ShloMosaic.TcCoe Idealize.SL.Sem Cert.AttnRow Cert.SoftRow

/-- The score of row `n` and key `k` in head `h`; two heads share a slice of the keys. -/
def score (x0 : Vec Ideal S1x2048x256 .bf16) (x1 : Vec Ideal S1x128x2048 .bf16) (n : Fin 2048) (h : ℕ) (hh : h < 4) (k : Fin 2048) : EReal :=
  ∑ x : Fin 64, x0 (ix3 0 n ⟨64 * h + x, by omega⟩) * qs * x1 (ix3 0 ⟨64 * (h / 2) + x, by omega⟩ k)

/-- The result at row `n`, lane `d` of pair `p`. -/
def lanes (x0 : Vec Ideal S1x2048x256 .bf16) (x1 : Vec Ideal S1x128x2048 .bf16) (x2 : Vec Ideal S1x2048x256 .bf16)
    (n : Fin 2048) (p : ℕ) (hp : p < 2) (d : Fin 128) : EReal :=
  joined (score x0 x1 n (2 * p) (by omega)) (score x0 x1 n (2 * p + 1) (by omega))
    (fun d k => x2 (ix3 0 k ⟨128 * p + d, by omega⟩)) (fun d k => x2 (ix3 0 k ⟨128 * p + d, by omega⟩)) d

/-- The result at an index of the block. -/
def blockOf (x0 : Vec Ideal S1x2048x256 .bf16) (x1 : Vec Ideal S1x128x2048 .bf16) (x2 : Vec Ideal S1x2048x256 .bf16) : S1x2048x256.Idx → EReal := fun i =>
  have h1 : (i 1).val < 2048 := (i 1).isLt
  have h2 : (i 2).val < 256 := (i 2).isLt
  lanes x0 x1 x2 ⟨(i 1).val, h1⟩ ((i 2).val / 128) (by omega) ⟨(i 2).val % 128, by omega⟩

/-- `blockOf` where the coordinates are known. -/
theorem blockOf_apply (x0 : Vec Ideal S1x2048x256 .bf16) (x1 : Vec Ideal S1x128x2048 .bf16) (x2 : Vec Ideal S1x2048x256 .bf16)
    (n : Fin 2048) (p : ℕ) (hp : p < 2) (d : Fin 128) (i : S1x2048x256.Idx) (h1 : (i 1).val = n.val) (h2 : (i 2).val = 128 * p + d.val) :
    blockOf x0 x1 x2 i = lanes x0 x1 x2 n p hp d := by
  have e1 : (i 2).val / 128 = p := by omega
  have e2 : (i 2).val % 128 = d.val := by omega
  unfold blockOf
  simp only [h1, e1, e2]

/-- A query load's element, where its coordinates are known. -/
theorem ld_q (x0 : Vec Ideal S1x2048x256 .bf16) (b o : ℕ) (off : Fin 3 → ℕ) (h) (n : Fin 2048) (j : Fin 256) (r : Fin 1024) (x : Fin 64) (e : off = ![0, b, o])
    (hn : n.val = b + r.val) (hj : j.val = o + x.val) :
    View.ld x0 (Rect.unit (s := S1x2048x256) off S1x1024x64.size h) (ix3 0 r x) = x0 (ix3 0 n j) := by
  subst e
  rw [View.ld_apply]
  refine congrArg x0 (funext fun a => Fin.ext ?_)
  rw [Rect.idx_unit_val]
  match a with
  | ⟨0, _⟩ => rfl
  | ⟨1, _⟩ => exact hn.symm
  | ⟨2, _⟩ => exact hj.symm

/-- A key load's element. -/
theorem ld_k (x1 : Vec Ideal S1x128x2048 .bf16) (o : ℕ) (h) (j : Fin 128) (x : Fin 64) (k : Fin 2048) (e : j.val = o + x.val) :
    View.ld x1 (Rect.unit (s := S1x128x2048) ![0, o, 0] S1x64x2048.size h) (ix3 0 x k) = x1 (ix3 0 j k) := by
  rw [View.ld_apply]
  refine congrArg x1 (funext fun a => Fin.ext ?_)
  rw [Rect.idx_unit_val]
  match a with
  | ⟨0, _⟩ => rfl
  | ⟨1, _⟩ => exact e.symm
  | ⟨2, _⟩ => exact Nat.zero_add _

/-- A value load's element. -/
theorem ld_v (x2 : Vec Ideal S1x2048x256 .bf16) (o : ℕ) (h) (j : Fin 256) (x : Fin 128) (k : Fin 2048) (e : j.val = o + x.val) :
    View.ld x2 (Rect.unit (s := S1x2048x256) ![0, 0, o] S1x2048x128.size h) (ix3 0 k x) = x2 (ix3 0 k j) := by
  rw [View.ld_apply]
  refine congrArg x2 (funext fun a => Fin.ext ?_)
  rw [Rect.idx_unit_val]
  match a with
  | ⟨0, _⟩ => rfl
  | ⟨1, _⟩ => exact Nat.zero_add _
  | ⟨2, _⟩ => exact e.symm

/-- A tile's scores are the rows' scores. -/
theorem pay2_score (x0 : Vec Ideal S1x2048x256 .bf16) (x1 : Vec Ideal S1x128x2048 .bf16) (off : Fin 3 → ℕ) (o : ℕ) (h h') (b j : ℕ) (hj : j < 4) (e : off = ![0, b, 64 * j])
    (eo : o = 64 * (j / 2)) (r : Fin 1024) (n : Fin 2048) (hn : n.val = b + r.val) :
    (fun k => k0_pay2 (View.ld x0 (Rect.unit (s := S1x2048x256) off S1x1024x64.size h)) (View.ld x1 (Rect.unit (s := S1x128x2048) ![0, o, 0] S1x64x2048.size h')) (ix2 r k))
      = score x0 x1 n j hj := by
  funext k
  rw [pay2_apply]
  unfold score
  refine Finset.sum_congr rfl fun x _ => ?_
  rw [ld_q x0 b (64 * j) off h n ⟨64 * j + x, by omega⟩ r x e hn rfl, ld_k x1 o h' ⟨64 * (j / 2) + x, by omega⟩ x k (by rw [eo])]

/-- Equal arguments give equal lanes. -/
theorem joined_congr {s t a b : Fin 2048 → EReal} {v w v' w' : Fin 128 → Fin 2048 → EReal} {d : Fin 128}
    (h1 : s = a) (h2 : t = b) (h3 : v = v') (h4 : w = w') : joined s t v w d = joined a b v' w' d := by
  subst h1 h2 h3 h4; rfl

/-- A stored piece agrees with the block's function. -/
theorem kept_agrees (x0 : Vec Ideal S1x2048x256 .bf16) (x1 : Vec Ideal S1x128x2048 .bf16) (x2 : Vec Ideal S1x2048x256 .bf16) (t p : ℕ) (ht : t < 2) (hp : p < 2)
    (offs offq offq' : Fin 3 → ℕ) (hs hq hq') (o : ℕ) (ho ho') (u : ℕ) (hu hu')
    (es : offs = ![0, 1024 * t, 128 * p]) (eq : offq = ![0, 1024 * t, 64 * (2 * p)]) (eq' : offq' = ![0, 1024 * t, 64 * (2 * p + 1)])
    (eo : o = 64 * p) (eu : u = 128 * p) (y : (Rect.unit (s := S1x2048x256) offs S1x1024x128.size hs).shape.Idx) :
    kept (k0_pay2 (View.ld x0 (Rect.unit (s := S1x2048x256) offq S1x1024x64.size hq)) (View.ld x1 (Rect.unit (s := S1x128x2048) ![0, o, 0] S1x64x2048.size ho)))
        (k0_pay2 (View.ld x0 (Rect.unit (s := S1x2048x256) offq' S1x1024x64.size hq')) (View.ld x1 (Rect.unit (s := S1x128x2048) ![0, o, 0] S1x64x2048.size ho')))
        (View.ld x2 (Rect.unit (s := S1x2048x256) ![0, 0, u] S1x2048x128.size hu)) (View.ld x2 (Rect.unit (s := S1x2048x256) ![0, 0, u] S1x2048x128.size hu')) y
      = blockOf x0 x1 x2 ((Rect.unit (s := S1x2048x256) offs S1x1024x128.size hs).emb y) := by
  dsimp only at y
  idx_vars y
  obtain rfl : y0 = 0 := Subsingleton.elim _ _
  rw [kept_apply]
  refine Eq.trans ?_ (blockOf_apply x0 x1 x2 ⟨1024 * t + y1, by omega⟩ p hp y2 _
    ((Rect.idx_unit_val _ _ _ _ 1).trans ?_) ((Rect.idx_unit_val _ _ _ _ 2).trans ?_)).symm
  · exact joined_congr
      (pay2_score x0 x1 _ o _ _ (1024 * t) (2 * p) (by omega) eq (by omega) y1 ⟨1024 * t + y1, by omega⟩ rfl)
      (pay2_score x0 x1 _ o _ _ (1024 * t) (2 * p + 1) (by omega) eq' (by omega) y1 ⟨1024 * t + y1, by omega⟩ rfl)
      (funext fun d => funext fun k => ld_v x2 u _ ⟨128 * p + d, by omega⟩ d k (by rw [eu]))
      (funext fun d => funext fun k => ld_v x2 u _ ⟨128 * p + d, by omega⟩ d k (by rw [eu]))
  · exact congrArg (· + y1.val) (congrFun es 1)
  · exact congrArg (· + y2.val) (congrFun es 2)

/-- What the call leaves in the result's block. -/
theorem out_eq (c : Dev nD) (i : grid0.Coords) (arg1 : Memref sig .tc .vmem S1x2048x256 .bf16) (harg1 : arg1.IsWhole) (arg2 : Memref sig .tc .vmem S1x128x2048 .bf16) (harg2 : arg2.IsWhole) (arg3 : Memref sig .tc .vmem S1x2048x256 .bf16) (harg3 : arg3.IsWhole) (arg4 : Memref sig .tc .vmem S1x2048x256 .bf16) (harg4 : arg4.IsWhole) (x0 : Vec Ideal S1x2048x256 .bf16) (x1 : Vec Ideal S1x128x2048 .bf16) (x2 : Vec Ideal S1x2048x256 .bf16) :
    out0_A_3 (F := Ideal) c i arg1 harg1 arg2 harg2 arg3 harg3 arg4 harg4 x0 x1 x2 = blockOf x0 x1 x2 := by
  funext y
  unfold out0_A_3
  refine View.read_writes_apply_of_pieces _ _ _ _ ?_ y (cover0_A_3 c i arg1 harg1 arg2 harg2 arg3 harg3 arg4 harg4 x0 x1 x2 y)
  unfold kernelRun0_A
  dsimp only
  sl_unfold_run_names
  simp only [View.readAt_eq_ld, Memref.IsWhole.read_unread]
  refine List.forall_mem_cons.mpr ⟨fun y => ?_, List.forall_mem_cons.mpr ⟨fun y => ?_, List.forall_mem_cons.mpr ⟨fun y => ?_, List.forall_mem_cons.mpr ⟨fun y => ?_, fun _ h => absurd h List.not_mem_nil⟩⟩⟩⟩
  · exact kept_agrees x0 x1 x2 1 1 (by omega) (by omega) ![0, 1024, 128] ![0, 1024, 128] ![0, 1024, 192] (by decide) (by decide) (by decide) 64 (by decide) (by decide) 128 (by decide) (by decide) rfl rfl rfl rfl rfl y
  · exact kept_agrees x0 x1 x2 1 0 (by omega) (by omega) ![0, 1024, 0] ![0, 1024, 0] ![0, 1024, 64] (by decide) (by decide) (by decide) 0 (by decide) (by decide) 0 (by decide) (by decide) rfl rfl rfl rfl rfl y
  · exact kept_agrees x0 x1 x2 0 1 (by omega) (by omega) ![0, 0, 128] ![0, 0, 128] ![0, 0, 192] (by decide) (by decide) (by decide) 64 (by decide) (by decide) 128 (by decide) (by decide) rfl rfl rfl rfl rfl y
  · exact kept_agrees x0 x1 x2 0 0 (by omega) (by omega) ![0, 0, 0] ![0, 0, 0] ![0, 0, 64] (by decide) (by decide) (by decide) 0 (by decide) (by decide) 0 (by decide) (by decide) rfl rfl rfl rfl rfl y

end Cert.GroupedIdeal.Tile

end
-- ==== Proof.GroupedValue.lean ====
/-
  The grouped attention call's result array after the run, of the arguments.
-/
module

public import proofs.«01_k».proof.Proof.GroupedTile

@[expose] public section

set_option maxRecDepth 16384

noncomputable section

namespace Cert.GroupedIdeal.Tile

open Cert.GroupedIdeal Cert.GroupedIdeal.Gen Idealize.ShloMosaic Idealize.ShloMosaic.TcCoe Idealize.SL.Sem Cert.AttnRow Cert.SoftRow

variable (m : (ℓ : Loc nD τ sig) → Buf (Elt Ideal) ℓ)

/-- The score of query `n` and key `k` of sequence `b` in head `h`. -/
def scoreOf (c : Dev nD) (b : Fin 32) (n : Fin 2048) (h : ℕ) (hh : h < 4) (k : Fin 2048) : EReal :=
  dot (n := 64) qs (fun x => m ((c : Thread nD τ).loc main_arg0) (ix3 b n ⟨64 * h + x, by omega⟩)) (fun x => m ((c : Thread nD τ).loc main_arg1) (ix3 b k ⟨64 * (h / 2) + x, by omega⟩))

/-- The values of group `p`, followed by as many ones. -/
def valueOf (c : Dev nD) (b : Fin 32) (p : ℕ) (hp : p < 2) (d : Fin 128) (k : Fin 2048) : EReal :=
  if h : d.val < 64 then m ((c : Thread nD τ).loc main_arg2) (ix3 b k ⟨64 * p + d, by omega⟩) else 1

/-- The result at token `n` of sequence `b`, lane `d` of pair `p`. -/
def lanesOf (c : Dev nD) (b : Fin 32) (n : Fin 2048) (p : ℕ) (hp : p < 2) (d : Fin 128) : EReal :=
  joined (scoreOf m c b n (2 * p) (by omega)) (scoreOf m c b n (2 * p + 1) (by omega)) (valueOf m c b p hp) (valueOf m c b p hp) d

/-- The result array. -/
def G (c : Dev nD) : S32x2048x256.Idx → EReal := fun i =>
  have h0 : (i 0).val < 32 := (i 0).isLt
  have h1 : (i 1).val < 2048 := (i 1).isLt
  have h2 : (i 2).val < 256 := (i 2).isLt
  lanesOf m c ⟨(i 0).val, h0⟩ ⟨(i 1).val, h1⟩ ((i 2).val / 128) (by omega) ⟨(i 2).val % 128, by omega⟩

/-- The windows' block indices at a point. -/
theorem idx : ∀ t : Fin cfg0.N, win0_0.index t = ![t.val, 0, 0] ∧ win0_1.index t = ![t.val, 0, 0] ∧ win0_2.index t = ![t.val, 0, 0] ∧ win0_3.index t = ![t.val, 0, 0] :=
  (by decide +kernel : ∀ t : Fin grid0.N, win0_0.index t = ![t.val, 0, 0] ∧ win0_1.index t = ![t.val, 0, 0] ∧ win0_2.index t = ![t.val, 0, 0] ∧ win0_3.index t = ![t.val, 0, 0])

/-- The queries, cast. -/
theorem read_q (c : Dev nD) (b : Fin 32) (n : Fin 2048) (k : Fin 256) : V m c main_v2 (ix3 b n k) = m ((c : Thread nD τ).loc main_arg0) (ix3 b n k) := by
  unfold V
  after_reads_at

/-- The keys, transposed and cast. -/
theorem read_k (c : Dev nD) (b : Fin 32) (n : Fin 2048) (k : Fin 128) : V m c main_v4 (ix3 b k n) = m ((c : Thread nD τ).loc main_arg1) (ix3 b n k) := by
  unfold V
  after_reads_at

/-- The values, each group followed by ones. -/
theorem read_v (c : Dev nD) (b : Fin 32) (n : Fin 2048) (p : ℕ) (hp : p < 2) (d : Fin 128) : V m c main_v7 (ix3 b n ⟨128 * p + d, by omega⟩) = valueOf m c b p hp d n := by
  have e : (128 * p + d.val) % 128 = d.val := by omega
  have e' : (128 * p + d.val) / 128 = p := by omega
  unfold V
  after_reads_at
  unfold valueOf
  simp only [e, e']
  by_cases h : d.val < 64
  · simp only [dif_pos h]
    after_reads_at
    simp only [Nat.mul_comm p 64]
  · simp only [dif_neg h]
    after_reads_at

/-- A point's query block is its sequence. -/
theorem blk_q (c : Dev nD) (t : Fin cfg0.N) (n : Fin 2048) (k : Fin 256) (h0 : t.val < 32) : iblk m c 0 t (ix3 0 n k) = V m c main_v2 (ix3 ⟨t.val, h0⟩ n k) := by
  blk_ext [iblk, idx t]

/-- A point's key block is its sequence. -/
theorem blk_k (c : Dev nD) (t : Fin cfg0.N) (n : Fin 2048) (k : Fin 128) (h0 : t.val < 32) : iblk m c 1 t (ix3 0 k n) = V m c main_v4 (ix3 ⟨t.val, h0⟩ k n) := by
  blk_ext [iblk, idx t]

/-- A point's value block is its sequence. -/
theorem blk_v (c : Dev nD) (t : Fin cfg0.N) (n : Fin 2048) (k : Fin 256) (h0 : t.val < 32) : iblk m c 2 t (ix3 0 n k) = V m c main_v7 (ix3 ⟨t.val, h0⟩ n k) := by
  blk_ext [iblk, idx t]

/-- A block's scores are the sequence's. -/
theorem score_eq (c : Dev nD) (t : Fin cfg0.N) (n : Fin 2048) (h : ℕ) (hh : h < 4) (h0 : t.val < 32) :
    score (iblk m c 0 t) (iblk m c 1 t) n h hh = scoreOf m c ⟨t.val, h0⟩ n h hh := by
  funext k
  unfold score scoreOf dot
  refine Finset.sum_congr rfl fun x _ => ?_
  rw [blk_q m c t _ _ h0, read_q, blk_k m c t _ _ h0, read_k]

/-- `G` where the coordinates are known. -/
theorem G_apply (c : Dev nD) (b : Fin 32) (n : Fin 2048) (e : Fin 256) (i : S32x2048x256.Idx) (h0 : (i 0).val = b.val) (h1 : (i 1).val = n.val)
    (h2 : (i 2).val = e.val) : G m c i = lanesOf m c b n (e.val / 128) (by omega) ⟨e.val % 128, by omega⟩ := by
  unfold G
  simp only [h0, h1, h2]

/-- The result array after the run. -/
theorem arr_eq (c : Dev nD) : (dats m 0 c).arrAt 3 cfg0.N = G m c := by
  refine (dats m 0 c).arrAt_eq_of_covers 3 _ (by decide +kernel) fun t hf y => ?_
  blk_simp
  rw [after0_3]
  unfold outsAt0
  rw [out_eq]
  idx_vars y
  have ht : t.val < 32 := lt_of_lt_of_eq t.isLt N_0
  rw [G_apply m c ⟨t.val, ht⟩ y1 y2 _ (by blk_simp [idx t]) (by blk_simp [idx t]) (by blk_simp [idx t])]
  refine (blockOf_apply _ _ _ y1 (y2.val / 128) (by omega) ⟨y2.val % 128, by omega⟩ _ rfl (Nat.div_add_mod _ _).symm).trans ?_
  unfold lanes lanesOf
  exact joined_congr (score_eq m c t _ _ _ ht) (score_eq m c t _ _ _ ht)
    (funext fun d => funext fun k => (blk_v m c t _ _ ht).trans (read_v m c _ _ _ _ _)) (funext fun d => funext fun k => (blk_v m c t _ _ ht).trans (read_v m c _ _ _ _ _))

end Cert.GroupedIdeal.Tile

end
-- ==== Proof.GroupedHead.lean ====
/-
  The grouped attention call's result array is the reference's, when the queries and the keys are real numbers.
-/
module

public import proofs.«01_k».proof.Proof.GroupedReference
public import proofs.«01_k».proof.Proof.GroupedValue

@[expose] public section

set_option maxRecDepth 16384

noncomputable section

namespace Cert.GroupedIdeal.Tile

open Cert.GroupedIdeal Cert.GroupedIdeal.Gen Idealize.ShloMosaic Idealize.ShloMosaic.TcCoe Idealize.SL.Sem Cert.AttnRow Cert.SoftRow

theorem scale_bits : Ideal.ofBits .f32 0x3E000000#32 = ((1 / 8 : ℝ) : EReal) := by
  simp [Ideal.ofBits, Ideal.ieee, -EReal.coe_mul]; norm_num

/-- The kernel's query scale is the reference's over the logarithm of two. -/
theorem qs_real : qs = ((1 / 8 * (Real.log 2)⁻¹ : ℝ) : EReal) :=
  IdealRules.named_const.ideal_named_scalar _ _ _ _ rfl

variable (m : (ℓ : Loc nD τ sig) → Buf (Elt Ideal) ℓ)

/-- One row of scores, on both sides. -/
theorem rows (c : Dev nD) (hq : ∀ i, ∃ r : ℝ, m ((c : Thread nD τ).loc main_arg0) i = (r : EReal)) (hk : ∀ i, ∃ r : ℝ, m ((c : Thread nD τ).loc main_arg1) i = (r : EReal))
    (b : Fin 32) (n : Fin 2048) (p g : Fin 2) (h : ℕ) (hh : h < 4) (e : h = 2 * p.val + g.val) :
    ∃ a : Fin 2048 → ℝ, scoreOf m c b n h hh = (fun k => ((a k * (Real.log 2)⁻¹ : ℝ) : EReal))
      ∧ Cert.GroupedReferenceIdeal.Head.row (m ((c : Thread nD τ).loc main_arg0)) (m ((c : Thread nD τ).loc main_arg1)) b p g n = fun k => ((a k : ℝ) : EReal) := by
  choose q hq using hq
  choose r hr using hk
  refine ⟨fun k => ∑ x : Fin 64, q (ix3 b n ⟨64 * h + x, by omega⟩) * (1 / 8) * r (ix3 b k ⟨64 * (h / 2) + x, by omega⟩), ?_, ?_⟩
  · funext k
    unfold scoreOf
    simp only [hq, hr, qs_real]
    exact dot_scaled _ _ _ _
  · funext k
    unfold Cert.GroupedReferenceIdeal.Head.row
    rw [Cert.GroupedReferenceIdeal.Head.v6_apply]
    have e1 : ∀ x : Fin 64, p.val * 128 + g.val * 64 + x.val = 64 * h + x.val := fun x => by omega
    have e2 : ∀ x : Fin 64, p.val * 64 + x.val = 64 * (h / 2) + x.val := fun x => by omega
    simp only [hq, hr, scale_bits, e1, e2]
    exact (dot_comm _ _ _).trans (dot_real _ _ _)

/-- The two results at one lane. -/
theorem lanes_eq (c : Dev nD) (hq : ∀ i, ∃ r : ℝ, m ((c : Thread nD τ).loc main_arg0) i = (r : EReal)) (hk : ∀ i, ∃ r : ℝ, m ((c : Thread nD τ).loc main_arg1) i = (r : EReal))
    (b : Fin 32) (n : Fin 2048) (e : Fin 256) :
    lanesOf m c b n (e.val / 128) (by omega) ⟨e.val % 128, by omega⟩
      = Cert.GroupedReferenceIdeal.Read.val_main_v21 (m ((c : Thread nD τ).loc main_arg0)) (m ((c : Thread nD τ).loc main_arg1)) (m ((c : Thread nD τ).loc main_arg2)) (ix3 b n e) := by
  rw [Cert.GroupedReferenceIdeal.Head.v21_apply, Cert.GroupedReferenceIdeal.Head.v19_apply]
  unfold lanesOf joined
  have hv : e.val / 128 * 64 = 64 * (e.val / 128) := Nat.mul_comm _ _
  by_cases hd : e.val % 128 < 64
  · obtain ⟨a, ha, ha'⟩ := rows m c hq hk b n ⟨e.val / 128, by omega⟩ ⟨e.val / 64 % 2, by omega⟩ (2 * (e.val / 128)) (by omega)
      (by show _ = 2 * (e.val / 128) + e.val / 64 % 2; omega)
    rw [if_pos hd, ha, ha', quot_eq a _ _ (fun k => dif_neg (by show ¬ (e.val % 128 + 128 - 64) % 128 < 64; omega))]
    congr 1
    funext k
    unfold valueOf
    rw [dif_pos hd]
    refine congrArg _ (congrArg (ix3 b k) (Fin.ext ?_))
    show 64 * (e.val / 128) + e.val % 128 = e.val / 128 * 64 + e.val % 64
    omega
  · obtain ⟨a, ha, ha'⟩ := rows m c hq hk b n ⟨e.val / 128, by omega⟩ ⟨e.val / 64 % 2, by omega⟩ (2 * (e.val / 128) + 1) (by omega)
      (by show _ = 2 * (e.val / 128) + e.val / 64 % 2; omega)
    rw [if_neg hd, ha, ha', quot_eq a _ _ (fun k => dif_neg (by show ¬ ((e.val % 128 + 128 - 64) % 128 + 128 - 64) % 128 < 64; omega))]
    congr 1
    funext k
    unfold valueOf
    rw [dif_pos (by show (e.val % 128 + 128 - 64) % 128 < 64; omega)]
    refine congrArg _ (congrArg (ix3 b k) (Fin.ext ?_))
    show 64 * (e.val / 128) + (e.val % 128 + 128 - 64) % 128 = e.val / 128 * 64 + e.val % 64
    omega

end Cert.GroupedIdeal.Tile

end
-- ==== Proof.GroupedFinite.lean ====
/-
  The grouped call's precondition, read back: every entry of the queries and of the keys is a real number.
-/
module

public import proofs.«01_k».proof.Proof.AttnFinite

@[expose] public section

set_option maxRecDepth 16384

noncomputable section

namespace Cert.Pre_finite4.Entry

open Cert.Pre_finite4 Idealize.ShloMosaic

/-- The predicate's side conditions. -/
theorem facts : Facts where
  bcast_S_S32x2048x256 := by decide
  reducesTo_S32x2048x256_S_d0_1_2 := by decide
  h_S_ := by decide
  bcast_S_S32x2048x128 := by decide
  reducesTo_S32x2048x128_S_d0_1_2 := by decide

local instance : Subsingleton S_.Idx := ⟨fun i j => funext fun a => a.elim0⟩

/-- Every entry of the first two arguments is a real number. -/
theorem entries [hF : Facts] (x0 : FVec Ideal S32x2048x256 .f32) (x1 x2 : FVec Ideal S32x2048x128 .f32)
    (h : Cert.Pre_finite4.fn (F := Ideal) x0 x1 x2 = fun _ => 1#1) :
    (∀ i, ∃ r : ℝ, x0 i = (r : EReal)) ∧ ∀ i, ∃ r : ℝ, x1 i = (r : EReal) := by
  have h' := congrFun h (fun a => a.elim0)
  dsimp only [Cert.Pre_finite4.fn] at h'
  obtain ⟨ha, hb⟩ := IntOp.andi_eq_one.1 h'
  exact ⟨fun i => Cert.Pre_finite.Entry.real_of_abs _ (Host.reduce_andi_all _ _ _ _ _ ha i),
    fun i => Cert.Pre_finite.Entry.real_of_abs _ (Host.reduce_andi_all _ _ _ _ _ hb i)⟩

end Cert.Pre_finite4.Entry

end
-- ==== Proof.GroupedClaim.lean ====
/-
  The claims about the grouped attention call.
-/
module

public import proofs.«01_k».proof.Defs
public import proofs.«01_k».proof.Proof.GroupedHead
public import proofs.«01_k».proof.Proof.GroupedFinite
public import proofs.«01_k».proof.Proof.Gen.GroupedIdeal.Value
public import proofs.«01_k».proof.Proof.Gen.GroupedReferenceIdeal.Run
public import proofs.«01_k».proof.Proof.Gen.GroupedReferenceIdeal.Read
public import proofs.«01_k».proof.Proof.Gen.Grouped.Frame
public import Idealize.ShloMosaic.Lib.Quiescent

@[expose] public section

set_option maxRecDepth 16384

noncomputable section

namespace Cert.Proof.GroupedClaims

open Idealize.ShloMosaic Idealize.ShloMosaic.TcCoe Idealize.SL.Sem

/-- The printed kernel keeps its arguments and leaves every semaphore at zero. -/
theorem frame_p : Cert.quiescent_Grouped (hGrouped := Cert.Grouped.Gen.facts) := fun m ρ _ => Cert.Grouped.Gen.frame m ρ

/-- The idealized kernel keeps its arguments and leaves every semaphore at zero. -/
theorem frame_pi : Cert.quiescent_GroupedIdeal (hGroupedIdeal := Cert.GroupedIdeal.Gen.facts) := fun m ρ _ => Cert.GroupedIdeal.Gen.frame m ρ

/-- The reference keeps its arguments; it has no semaphores. -/
theorem frame_ri : Cert.quiescent_GroupedReferenceIdeal (hGroupedReferenceIdeal := Cert.GroupedReferenceIdeal.Gen.facts) := fun m ρ _ =>
  (θ_run Cert.GroupedReferenceIdeal.defs _ _).mono (fun r h => ⟨fun c => (h c).2,
      Idealize.ShloMosaic.sem_eq_zero_of_no_sems (by decide) r.2⟩)
    (Cert.GroupedReferenceIdeal.Value.run (F := Ideal) m ρ)

/-- The idealized kernel's frame, with the precondition. -/
theorem frame_pi_pre : Cert.quiescent_GroupedIdeal_pre_finite4 (hGroupedIdeal := Cert.GroupedIdeal.Gen.facts) (hPre_finite4 := Cert.Pre_finite4.Entry.facts) :=
  fun m ρ _ => Cert.GroupedIdeal.Gen.frame m ρ

/-- The reference's frame, with the precondition. -/
theorem frame_ri_pre : Cert.quiescent_GroupedReferenceIdeal_pre_finite4 (hGroupedReferenceIdeal := Cert.GroupedReferenceIdeal.Gen.facts) (hPre_finite4 := Cert.Pre_finite4.Entry.facts) :=
  fun m ρ _ => frame_ri m ρ trivial

/-- The idealized kernel's scale names the printed constant. -/
theorem preserves : Cert.preserves_Grouped_GroupedIdeal :=
  IdealRules.named_const.statement Cert.GroupedIdeal.κ "qscale" .f32 0x3E38AA3B#32 (((1 / 8) * (Real.log 2)⁻¹ : ℝ) : EReal) rfl

/-- The idealized kernel and the reference compute the same result of finite queries and keys. -/
theorem algebraic : Cert.algebraic_GroupedIdeal_GroupedReferenceIdeal_pre_finite4 (hGroupedIdeal := Cert.GroupedIdeal.Gen.facts)
    (hGroupedReferenceIdeal := Cert.GroupedReferenceIdeal.Gen.facts) (hPre_finite4 := Cert.Pre_finite4.Entry.facts) := by
  intro m ρ m' ρ' hpre hagree
  refine ⟨_, Cert.GroupedIdeal.Value.run_blocks (F := Ideal) m ρ, ?_⟩
  refine (θ_run Cert.GroupedReferenceIdeal.defs _ _).mono (fun _ h c => ⟨(h c).1.trans ?_, (h c).2⟩)
    (Cert.GroupedReferenceIdeal.Value.run (F := Ideal) m' ρ')
  obtain ⟨h0, h1, h2⟩ := hagree c
  obtain ⟨hq, hk⟩ := Cert.Pre_finite4.Entry.entries (hF := Cert.Pre_finite4.Entry.facts) _ _ _ (hpre c)
  rw [Cert.GroupedReferenceIdeal.Read.val_main_v21_eq, h0, h1, h2, Cert.GroupedIdeal.Tile.arr_eq]
  funext i
  rw [show i = ix3 (i 0) (i 1) (i 2) from ValueIdx.eq_ix3 i]
  exact (Cert.GroupedIdeal.Tile.lanes_eq m c hq hk (i 0) (i 1) (i 2)).symm

end Cert.Proof.GroupedClaims

end
-- ==== Proof.LatentReference.lean ====
/-
  The latent attention's reference, each array at an index.
-/
module

public import proofs.«01_k».proof.Proof.SoftRow
public import proofs.«01_k».proof.Proof.Gen.LatentReferenceIdeal.Read
public import Idealize.ShloMosaic.Lib.Pointwise

@[expose] public section

set_option maxRecDepth 16384

noncomputable section

namespace Cert.LatentReferenceIdeal.Head

open Cert.LatentReferenceIdeal Cert.LatentReferenceIdeal.Read Idealize.ShloMosaic Cert.AttnRow Cert.SoftRow

variable (x0 x1 : (⟨S32x2048x4x96, .f32⟩ : BufTy).Contents (Elt Ideal)) (x2 : (⟨S32x2048x4x64, .f32⟩ : BufTy).Contents (Elt Ideal)) (b : Fin 32)

/-- The scores of head `h`. -/
theorem v2_apply (h : Fin 4) (n k : Fin 2048) : val_main_v2 x0 x1 (ix4 b h n k)
    = ∑ x : Fin 96, x0 (ix4 b n h x) * Ideal.ofBits FTy.f32 0x3DD105EC#32 * x1 (ix4 b k h x) := by
  pointwise [val_main_v2, val_main_v0, val_main_v1, val_main_cst]

/-- A row of scores. -/
def row (h : Fin 4) (n : Fin 2048) : Fin 2048 → EReal := fun k => val_main_v2 x0 x1 (ix4 b h n k)

/-- The scores' maximum. -/
theorem v3_apply (h : Fin 4) (n : Fin 2048) : val_main_v3 x0 x1 (ix3 b h n)
    = Finset.fold max (Ideal.ofBits FTy.f32 0xFF800000#32) (row x0 x1 b h n) Finset.univ := by
  pointwise [val_main_v3, val_main_cst_0]
  rfl

/-- The row's maximum. -/
theorem v5_apply (h : Fin 4) (n : Fin 2048) : val_main_v5 x0 x1 (ix3 b h n) = rtop (row x0 x1 b h n) := by
  rw [val_main_v5_apply, val_main_v4_apply, val_main_cst_1_apply, v3_apply]
  rfl

theorem idx_broadcast (h : Fin 4) (n k : Fin 2048) : idx_main_v6 (idx_main_v7 (ix4 b h n k)) = ix3 b h n :=
  funext fun a => by match a with | ⟨0, _⟩ => rfl | ⟨1, _⟩ => rfl | ⟨2, _⟩ => rfl

theorem idx_broadcast' (h : Fin 4) (n k : Fin 2048) : idx_main_v11 (idx_main_v12 (ix4 b h n k)) = ix3 b h n :=
  funext fun a => by match a with | ⟨0, _⟩ => rfl | ⟨1, _⟩ => rfl | ⟨2, _⟩ => rfl

theorem idx_sum (h : Fin 4) (n k : Fin 2048) : idx_main_v10 (ix3 b h n) k = ix4 b h n k :=
  funext fun a => by match a with | ⟨0, _⟩ => rfl | ⟨1, _⟩ => rfl | ⟨2, _⟩ => rfl | ⟨3, _⟩ => rfl

/-- The exponentials. -/
theorem v9_apply (h : Fin 4) (n k : Fin 2048) : val_main_v9 x0 x1 (ix4 b h n k) = Ideal.exp (row x0 x1 b h n k - rtop (row x0 x1 b h n)) := by
  rw [val_main_v9_apply, val_main_v8_apply, val_main_v7_apply, val_main_v6_apply, idx_broadcast, v5_apply]
  unfold row
  generalize rtop _ = q
  generalize val_main_v2 x0 x1 _ = u
  rfl

/-- Their sum. -/
theorem v10_apply (h : Fin 4) (n : Fin 2048) : val_main_v10 x0 x1 (ix3 b h n) = ∑ k, Ideal.exp (row x0 x1 b h n k - rtop (row x0 x1 b h n)) := by
  rw [val_main_v10_apply, val_main_cst_2_apply]
  simp only [idx_sum, v9_apply]
  rw [show (FloatOps.ofBits (F := Ideal) .f32 0x00000000#32 : EReal) = 0 from Ideal.ofBits_zero ..]
  exact zero_add _

/-- The softmax weights. -/
theorem v13_apply (h : Fin 4) (n k : Fin 2048) : val_main_v13 x0 x1 (ix4 b h n k) = prob (row x0 x1 b h n) k := by
  rw [val_main_v13_apply, val_main_v12_apply, val_main_v11_apply, idx_broadcast', v9_apply, v10_apply]
  rfl

theorem idx_perm (h : Fin 4) (n : Fin 2048) (d : Fin 64) : idx_main_v15 (ix4 b n h d) = ix4 b h d n :=
  funext fun a => by match a with | ⟨0, _⟩ => rfl | ⟨1, _⟩ => rfl | ⟨2, _⟩ => rfl | ⟨3, _⟩ => rfl
theorem idx_lhs (h : Fin 4) (n k : Fin 2048) (d : Fin 64) : lidx_main_v14 (ix4 b h d n) k = ix4 b k h d :=
  funext fun a => by match a with | ⟨0, _⟩ => rfl | ⟨1, _⟩ => rfl | ⟨2, _⟩ => rfl | ⟨3, _⟩ => rfl
theorem idx_rhs (h : Fin 4) (n k : Fin 2048) (d : Fin 64) : ridx_main_v14 (ix4 b h d n) k = ix4 b h n k :=
  funext fun a => by match a with | ⟨0, _⟩ => rfl | ⟨1, _⟩ => rfl | ⟨2, _⟩ => rfl | ⟨3, _⟩ => rfl

/-- The sum over the keys. -/
theorem v15_apply (h : Fin 4) (n : Fin 2048) (d : Fin 64) : val_main_v15 x0 x1 x2 (ix4 b n h d)
    = soft (row x0 x1 b h n) (fun k => x2 (ix4 b k h d)) := by
  rw [val_main_v15_apply, idx_perm, val_main_v14_apply]
  simp only [idx_lhs, idx_rhs, v13_apply]
  rfl

/-- The result. -/
theorem v17_apply (n : Fin 2048) (e : Fin 256) : val_main_v17 x0 x1 x2 (ix3 b n e) = val_main_v15 x0 x1 x2 (ix4 b n ⟨e / 64, by omega⟩ ⟨e % 64, by omega⟩) := by
  pointwise [val_main_v17, val_main_v16]

end Cert.LatentReferenceIdeal.Head

end
-- ==== Proof.LatentBlock.lean ====
/-
  The latent attention call on one tile of 1024 queries: what a store holds at an index, as functions of the scores of one
  query and of the values of a pair of heads.
-/
module

public import proofs.«01_k».proof.Proof.SoftRow
public import proofs.«01_k».proof.Proof.Gen.LatentIdeal.Skeleton
public import Idealize.ShloMosaic.Lib.Pointwise
public import Idealize.ShloMosaic.Lib.Pipeline.ValueKit

@[expose] public section

set_option maxRecDepth 16384

noncomputable section

namespace Cert.LatentIdeal.Gen

open Idealize.ShloMosaic Cert.AttnRow Cert.SoftRow

/-- The kernel's query scale. -/
abbrev qs : EReal := Named.named (F := Ideal) Cert.LatentIdeal.κ "qscale" (φ := .f32) 0x3E16C740#32

/-- The scores of a slice of the queries against a slice of the keys. -/
theorem pay2_apply (X : Vec Ideal S1x1024x128 .bf16) (Y : Vec Ideal S1x128x2048 .bf16) (r : Fin 1024) (k : Fin 2048) :
    k0_pay2 X Y (ix2 r k) = ∑ x : Fin 128, X (ix3 0 r x) * qs * Y (ix3 0 x k) := by
  pointwise [k0_pay2]

/-- The terms of a row of scores. -/
theorem pay6_apply (s : FVec Ideal S1024x2048 .f32) (r : Fin 1024) (k : Fin 2048) : k0_pay6 s (ix2 r k) = term (fun k => s (ix2 r k)) k := by
  pointwise [k0_pay6]; rfl

/-- A lane over the lane 64 places further round. -/
theorem pay5_apply (p : FVec Ideal S1024x2048 .bf16) (v : Vec Ideal S1x2048x128 .bf16) (r : Fin 1024) (d : Fin 128) :
    k0_pay5 p v (ix2 r d) = (∑ k, p (ix2 r k) * v (ix3 0 k d)) * Ideal.div 1 (∑ k, p (ix2 r k) * v (ix3 0 k (turn d))) := by
  pointwise [k0_pay5]

/-- The low lanes of one head beside the other's, turned. -/
theorem pay1_apply (p q : FVec Ideal S1024x128 .f32) (r : Fin 1024) (d : Fin 128) :
    k0_pay1 p q (ix3 0 r d) = if d.val < 64 then p (ix2 r d) else q (ix2 r (turn d)) := by
  pointwise [k0_pay1]
  simp only [select_low]

/-- What is stored of two heads. -/
def kept (s t : FVec Ideal S1024x2048 .f32) (v w : Vec Ideal S1x2048x128 .bf16) : FVec Ideal S1x1024x128 .bf16 :=
  k0_pay1 (k0_pay5 (k0_pay6 s) v) (k0_pay5 (k0_pay6 t) w)

/-- The same at an index. -/
theorem kept_apply (s t : FVec Ideal S1024x2048 .f32) (v w : Vec Ideal S1x2048x128 .bf16) (r : Fin 1024) (d : Fin 128) :
    kept s t v w (ix3 0 r d) = joined (fun k => s (ix2 r k)) (fun k => t (ix2 r k)) (fun d k => v (ix3 0 k d)) (fun d k => w (ix3 0 k d)) d := by
  unfold kept
  rw [pay1_apply, pay5_apply, pay5_apply]
  simp only [pay6_apply]
  rfl

section
variable (X X' : Vec Ideal S1x1024x128 .bf16) (Y Y' : Vec Ideal S1x128x2048 .bf16) (V W : Vec Ideal S1x2048x128 .bf16)

/-! The four stores are written in different places of the body; each is the one above. -/

theorem kept0 : k0_pay9 (k0_pay5 (k0_pay3 X Y) V) (k0_pay6 (k0_pay2 X' Y')) W = kept (k0_pay2 X Y) (k0_pay2 X' Y') V W := rfl
theorem kept1 : k0_pay17 (k0_pay13 (k0_pay10 (k0_pay4 X Y)) V) (k0_pay14 (k0_pay8 (k0_pay7 X') Y')) (k0_pay16 W) = kept (k0_pay2 X Y) (k0_pay2 X' Y') V W := rfl
theorem kept2 : k0_pay25 (k0_pay22 (k0_pay18 (k0_pay12 (k0_pay11 X) Y)) V) (k0_pay24 (k0_pay15 X' Y') W) (iota .tc S1024x128 32 [1] iota_S1024x128_d1_w32) 64#32
    = kept (k0_pay2 X Y) (k0_pay2 X' Y') V W := rfl
theorem kept3 : k0_pay1 (k0_pay26 (k0_pay21 (k0_pay19 X) (k0_pay20 Y) (constant S1024x2048 .f32 0x00000000#32)) V) (k0_pay27 (k0_pay23 X' Y') W)
    = kept (k0_pay2 X Y) (k0_pay2 X' Y') V W := rfl

end

end Cert.LatentIdeal.Gen

end
-- ==== Proof.LatentTile.lean ====
/-
  The latent attention call on one sequence: what its four stores leave, as one function of the blocks.
-/
module

public import proofs.«01_k».proof.Proof.LatentBlock
public import proofs.«01_k».proof.Proof.Gen.LatentIdeal.Value
public import Idealize.ShloMosaic.Lib.Pipeline.ValueKit
public import Idealize.ShloMosaic.Lib.StableHlo.ReadAt

@[expose] public section

set_option maxRecDepth 16384

noncomputable section

namespace Cert.LatentIdeal.Tile

open Cert.LatentIdeal Cert.LatentIdeal.Gen Idealize.ShloMosaic Idealize.ShloMosaic.TcCoe Idealize.SL.Sem Cert.AttnRow Cert.SoftRow

/-- The score of row `n` and key `k` in head `h`. -/
def score (x0 : Vec Ideal S1x2048x512 .bf16) (x1 : Vec Ideal S1x512x2048 .bf16) (n : Fin 2048) (h : ℕ) (hh : h < 4) (k : Fin 2048) : EReal :=
  ∑ x : Fin 128, x0 (ix3 0 n ⟨128 * h + x, by omega⟩) * qs * x1 (ix3 0 ⟨128 * h + x, by omega⟩ k)

/-- The result at row `n`, lane `d` of pair `p`. -/
def lanes (x0 : Vec Ideal S1x2048x512 .bf16) (x1 : Vec Ideal S1x512x2048 .bf16) (x2 : Vec Ideal S1x2048x512 .bf16)
    (n : Fin 2048) (p : ℕ) (hp : p < 2) (d : Fin 128) : EReal :=
  joined (score x0 x1 n (2 * p) (by omega)) (score x0 x1 n (2 * p + 1) (by omega))
    (fun d k => x2 (ix3 0 k ⟨128 * (2 * p) + d, by omega⟩)) (fun d k => x2 (ix3 0 k ⟨128 * (2 * p + 1) + d, by omega⟩)) d

/-- The result at an index of the block. -/
def blockOf (x0 : Vec Ideal S1x2048x512 .bf16) (x1 : Vec Ideal S1x512x2048 .bf16) (x2 : Vec Ideal S1x2048x512 .bf16) : S1x2048x256.Idx → EReal := fun i =>
  have h1 : (i 1).val < 2048 := (i 1).isLt
  have h2 : (i 2).val < 256 := (i 2).isLt
  lanes x0 x1 x2 ⟨(i 1).val, h1⟩ ((i 2).val / 128) (by omega) ⟨(i 2).val % 128, by omega⟩

/-- `blockOf` where the coordinates are known. -/
theorem blockOf_apply (x0 : Vec Ideal S1x2048x512 .bf16) (x1 : Vec Ideal S1x512x2048 .bf16) (x2 : Vec Ideal S1x2048x512 .bf16)
    (n : Fin 2048) (p : ℕ) (hp : p < 2) (d : Fin 128) (i : S1x2048x256.Idx) (h1 : (i 1).val = n.val) (h2 : (i 2).val = 128 * p + d.val) :
    blockOf x0 x1 x2 i = lanes x0 x1 x2 n p hp d := by
  have e1 : (i 2).val / 128 = p := by omega
  have e2 : (i 2).val % 128 = d.val := by omega
  unfold blockOf
  simp only [h1, e1, e2]

/-- A query load's element, where its coordinates are known. -/
theorem ld_q (x0 : Vec Ideal S1x2048x512 .bf16) (b o : ℕ) (off : Fin 3 → ℕ) (h) (n : Fin 2048) (j : Fin 512) (r : Fin 1024) (x : Fin 128) (e : off = ![0, b, o])
    (hn : n.val = b + r.val) (hj : j.val = o + x.val) :
    View.ld x0 (Rect.unit (s := S1x2048x512) off S1x1024x128.size h) (ix3 0 r x) = x0 (ix3 0 n j) := by
  subst e
  rw [View.ld_apply]
  refine congrArg x0 (funext fun a => Fin.ext ?_)
  rw [Rect.idx_unit_val]
  match a with
  | ⟨0, _⟩ => rfl
  | ⟨1, _⟩ => exact hn.symm
  | ⟨2, _⟩ => exact hj.symm

/-- A key load's element. -/
theorem ld_k (x1 : Vec Ideal S1x512x2048 .bf16) (o : ℕ) (h) (j : Fin 512) (x : Fin 128) (k : Fin 2048) (e : j.val = o + x.val) :
    View.ld x1 (Rect.unit (s := S1x512x2048) ![0, o, 0] S1x128x2048.size h) (ix3 0 x k) = x1 (ix3 0 j k) := by
  rw [View.ld_apply]
  refine congrArg x1 (funext fun a => Fin.ext ?_)
  rw [Rect.idx_unit_val]
  match a with
  | ⟨0, _⟩ => rfl
  | ⟨1, _⟩ => exact e.symm
  | ⟨2, _⟩ => exact Nat.zero_add _

/-- A value load's element. -/
theorem ld_v (x2 : Vec Ideal S1x2048x512 .bf16) (o : ℕ) (h) (j : Fin 512) (x : Fin 128) (k : Fin 2048) (e : j.val = o + x.val) :
    View.ld x2 (Rect.unit (s := S1x2048x512) ![0, 0, o] S1x2048x128.size h) (ix3 0 k x) = x2 (ix3 0 k j) := by
  rw [View.ld_apply]
  refine congrArg x2 (funext fun a => Fin.ext ?_)
  rw [Rect.idx_unit_val]
  match a with
  | ⟨0, _⟩ => rfl
  | ⟨1, _⟩ => exact Nat.zero_add _
  | ⟨2, _⟩ => exact e.symm

/-- A tile's scores are the rows' scores. -/
theorem pay2_score (x0 : Vec Ideal S1x2048x512 .bf16) (x1 : Vec Ideal S1x512x2048 .bf16) (off : Fin 3 → ℕ) (o : ℕ) (h h') (b j : ℕ) (hj : j < 4) (e : off = ![0, b, 128 * j])
    (eo : o = 128 * j) (r : Fin 1024) (n : Fin 2048) (hn : n.val = b + r.val) :
    (fun k => k0_pay2 (View.ld x0 (Rect.unit (s := S1x2048x512) off S1x1024x128.size h)) (View.ld x1 (Rect.unit (s := S1x512x2048) ![0, o, 0] S1x128x2048.size h')) (ix2 r k))
      = score x0 x1 n j hj := by
  funext k
  rw [pay2_apply]
  unfold score
  refine Finset.sum_congr rfl fun x _ => ?_
  rw [ld_q x0 b (128 * j) off h n ⟨128 * j + x, by omega⟩ r x e hn rfl, ld_k x1 o h' ⟨128 * j + x, by omega⟩ x k (by rw [eo])]

/-- Equal arguments give equal lanes. -/
theorem joined_congr {s t a b : Fin 2048 → EReal} {v w v' w' : Fin 128 → Fin 2048 → EReal} {d : Fin 128}
    (h1 : s = a) (h2 : t = b) (h3 : v = v') (h4 : w = w') : joined s t v w d = joined a b v' w' d := by
  subst h1 h2 h3 h4; rfl

/-- A stored piece agrees with the block's function. -/
theorem kept_agrees (x0 : Vec Ideal S1x2048x512 .bf16) (x1 : Vec Ideal S1x512x2048 .bf16) (x2 : Vec Ideal S1x2048x512 .bf16) (t p : ℕ) (ht : t < 2) (hp : p < 2)
    (offs offq offq' : Fin 3 → ℕ) (hs hq hq') (o o' : ℕ) (ho ho') (hu hu')
    (es : offs = ![0, 1024 * t, 128 * p]) (eq : offq = ![0, 1024 * t, 128 * (2 * p)]) (eq' : offq' = ![0, 1024 * t, 128 * (2 * p + 1)])
    (eo : o = 128 * (2 * p)) (eo' : o' = 128 * (2 * p + 1)) (y : (Rect.unit (s := S1x2048x256) offs S1x1024x128.size hs).shape.Idx) :
    kept (k0_pay2 (View.ld x0 (Rect.unit (s := S1x2048x512) offq S1x1024x128.size hq)) (View.ld x1 (Rect.unit (s := S1x512x2048) ![0, o, 0] S1x128x2048.size ho)))
        (k0_pay2 (View.ld x0 (Rect.unit (s := S1x2048x512) offq' S1x1024x128.size hq')) (View.ld x1 (Rect.unit (s := S1x512x2048) ![0, o', 0] S1x128x2048.size ho')))
        (View.ld x2 (Rect.unit (s := S1x2048x512) ![0, 0, o] S1x2048x128.size hu)) (View.ld x2 (Rect.unit (s := S1x2048x512) ![0, 0, o'] S1x2048x128.size hu')) y
      = blockOf x0 x1 x2 ((Rect.unit (s := S1x2048x256) offs S1x1024x128.size hs).emb y) := by
  dsimp only at y
  idx_vars y
  obtain rfl : y0 = 0 := Subsingleton.elim _ _
  rw [kept_apply]
  refine Eq.trans ?_ (blockOf_apply x0 x1 x2 ⟨1024 * t + y1, by omega⟩ p hp y2 _
    ((Rect.idx_unit_val _ _ _ _ 1).trans ?_) ((Rect.idx_unit_val _ _ _ _ 2).trans ?_)).symm
  · exact joined_congr
      (pay2_score x0 x1 _ o _ _ (1024 * t) (2 * p) (by omega) eq eo y1 ⟨1024 * t + y1, by omega⟩ rfl)
      (pay2_score x0 x1 _ o' _ _ (1024 * t) (2 * p + 1) (by omega) eq' eo' y1 ⟨1024 * t + y1, by omega⟩ rfl)
      (funext fun d => funext fun k => ld_v x2 o _ ⟨128 * (2 * p) + d, by omega⟩ d k (by rw [eo]))
      (funext fun d => funext fun k => ld_v x2 o' _ ⟨128 * (2 * p + 1) + d, by omega⟩ d k (by rw [eo']))
  · exact congrArg (· + y1.val) (congrFun es 1)
  · exact congrArg (· + y2.val) (congrFun es 2)

/-- What the call leaves in the result's block. -/
theorem out_eq (c : Dev nD) (i : grid0.Coords) (arg1 : Memref sig .tc .vmem S1x2048x512 .bf16) (harg1 : arg1.IsWhole) (arg2 : Memref sig .tc .vmem S1x512x2048 .bf16) (harg2 : arg2.IsWhole) (arg3 : Memref sig .tc .vmem S1x2048x512 .bf16) (harg3 : arg3.IsWhole) (arg4 : Memref sig .tc .vmem S1x2048x256 .bf16) (harg4 : arg4.IsWhole) (x0 : Vec Ideal S1x2048x512 .bf16) (x1 : Vec Ideal S1x512x2048 .bf16) (x2 : Vec Ideal S1x2048x512 .bf16) :
    out0_A_3 (F := Ideal) c i arg1 harg1 arg2 harg2 arg3 harg3 arg4 harg4 x0 x1 x2 = blockOf x0 x1 x2 := by
  funext y
  unfold out0_A_3
  refine View.read_writes_apply_of_pieces _ _ _ _ ?_ y (cover0_A_3 c i arg1 harg1 arg2 harg2 arg3 harg3 arg4 harg4 x0 x1 x2 y)
  unfold kernelRun0_A
  dsimp only
  sl_unfold_run_names
  simp only [View.readAt_eq_ld, Memref.IsWhole.read_unread]
  refine List.forall_mem_cons.mpr ⟨fun y => ?_, List.forall_mem_cons.mpr ⟨fun y => ?_, List.forall_mem_cons.mpr ⟨fun y => ?_, List.forall_mem_cons.mpr ⟨fun y => ?_, fun _ h => absurd h List.not_mem_nil⟩⟩⟩⟩
  · exact kept_agrees x0 x1 x2 1 1 (by omega) (by omega) ![0, 1024, 128] ![0, 1024, 256] ![0, 1024, 384] (by decide) (by decide) (by decide) 256 384 (by decide) (by decide) (by decide) (by decide) rfl rfl rfl rfl rfl y
  · exact kept_agrees x0 x1 x2 1 0 (by omega) (by omega) ![0, 1024, 0] ![0, 1024, 0] ![0, 1024, 128] (by decide) (by decide) (by decide) 0 128 (by decide) (by decide) (by decide) (by decide) rfl rfl rfl rfl rfl y
  · exact kept_agrees x0 x1 x2 0 1 (by omega) (by omega) ![0, 0, 128] ![0, 0, 256] ![0, 0, 384] (by decide) (by decide) (by decide) 256 384 (by decide) (by decide) (by decide) (by decide) rfl rfl rfl rfl rfl y
  · exact kept_agrees x0 x1 x2 0 0 (by omega) (by omega) ![0, 0, 0] ![0, 0, 0] ![0, 0, 128] (by decide) (by decide) (by decide) 0 128 (by decide) (by decide) (by decide) (by decide) rfl rfl rfl rfl rfl y

end Cert.LatentIdeal.Tile

end
-- ==== Proof.LatentValue.lean ====
/-
  The latent attention call's result array after the run, of the arguments.
-/
module

public import proofs.«01_k».proof.Proof.LatentTile

@[expose] public section

set_option maxRecDepth 16384

noncomputable section

namespace Cert.LatentIdeal.Tile

open Cert.LatentIdeal Cert.LatentIdeal.Gen Idealize.ShloMosaic Idealize.ShloMosaic.TcCoe Idealize.SL.Sem Cert.AttnRow Cert.SoftRow

variable (m : (ℓ : Loc nD τ sig) → Buf (Elt Ideal) ℓ)

/-- A lane of head `h` of the queries; the lanes from 96 on are zeros. -/
def queryOf (c : Dev nD) (b : Fin 32) (n : Fin 2048) (h : Fin 4) (x : Fin 128) : EReal :=
  if hx : x.val < 96 then m ((c : Thread nD τ).loc main_arg0) (ix4 b n h ⟨x.val, hx⟩) else 0

/-- A lane of head `h` of the keys; the lanes from 96 on are zeros. -/
def keyOf (c : Dev nD) (b : Fin 32) (n : Fin 2048) (h : Fin 4) (x : Fin 128) : EReal :=
  if hx : x.val < 96 then m ((c : Thread nD τ).loc main_arg1) (ix4 b n h ⟨x.val, hx⟩) else 0

/-- The values of head `h`, followed by as many ones. -/
def valueOf (c : Dev nD) (b : Fin 32) (h : Fin 4) (d : Fin 128) (k : Fin 2048) : EReal :=
  if hd : d.val < 64 then m ((c : Thread nD τ).loc main_arg2) (ix4 b k h ⟨d.val, hd⟩) else 1

/-- The score of query `n` and key `k` of sequence `b` in head `h`. -/
def scoreOf (c : Dev nD) (b : Fin 32) (n : Fin 2048) (h : Fin 4) (k : Fin 2048) : EReal := dot qs (queryOf m c b n h) (keyOf m c b k h)

/-- The result at token `n` of sequence `b`, lane `d` of pair `p`. -/
def lanesOf (c : Dev nD) (b : Fin 32) (n : Fin 2048) (p : ℕ) (hp : p < 2) (d : Fin 128) : EReal :=
  joined (scoreOf m c b n ⟨2 * p, by omega⟩) (scoreOf m c b n ⟨2 * p + 1, by omega⟩) (valueOf m c b ⟨2 * p, by omega⟩) (valueOf m c b ⟨2 * p + 1, by omega⟩) d

/-- The result array. -/
def G (c : Dev nD) : S32x2048x256.Idx → EReal := fun i =>
  have h0 : (i 0).val < 32 := (i 0).isLt
  have h1 : (i 1).val < 2048 := (i 1).isLt
  have h2 : (i 2).val < 256 := (i 2).isLt
  lanesOf m c ⟨(i 0).val, h0⟩ ⟨(i 1).val, h1⟩ ((i 2).val / 128) (by omega) ⟨(i 2).val % 128, by omega⟩

/-- The windows' block indices at a point. -/
theorem idx : ∀ t : Fin cfg0.N, win0_0.index t = ![t.val, 0, 0] ∧ win0_1.index t = ![t.val, 0, 0] ∧ win0_2.index t = ![t.val, 0, 0] ∧ win0_3.index t = ![t.val, 0, 0] :=
  (by decide +kernel : ∀ t : Fin grid0.N, win0_0.index t = ![t.val, 0, 0] ∧ win0_1.index t = ![t.val, 0, 0] ∧ win0_2.index t = ![t.val, 0, 0] ∧ win0_3.index t = ![t.val, 0, 0])

/-- The queries, each head followed by zeros. -/
theorem read_q (c : Dev nD) (b : Fin 32) (n : Fin 2048) (h : Fin 4) (x : Fin 128) : V m c main_v4 (ix3 b n ⟨128 * h.val + x, by omega⟩) = queryOf m c b n h x := by
  have e : (128 * h.val + x.val) % 128 = x.val := by omega
  have e' : (128 * h.val + x.val) / 128 = h.val := by omega
  unfold V
  after_reads_at
  unfold queryOf
  simp only [e, e']
  by_cases hx : x.val < 96
  · simp only [dif_pos hx]
    after_reads_at
  · simp only [dif_neg hx]
    after_reads_at

/-- The keys, likewise, transposed. -/
theorem read_k (c : Dev nD) (b : Fin 32) (n : Fin 2048) (h : Fin 4) (x : Fin 128) : V m c main_v8 (ix3 b ⟨128 * h.val + x, by omega⟩ n) = keyOf m c b n h x := by
  have e : (128 * h.val + x.val) % 128 = x.val := by omega
  have e' : (128 * h.val + x.val) / 128 = h.val := by omega
  unfold V
  after_reads_at
  unfold keyOf
  simp only [e, e']
  by_cases hx : x.val < 96
  · simp only [dif_pos hx]
    after_reads_at
  · simp only [dif_neg hx]
    after_reads_at

/-- The values, each head followed by ones. -/
theorem read_v (c : Dev nD) (b : Fin 32) (n : Fin 2048) (h : Fin 4) (x : Fin 128) : V m c main_v11 (ix3 b n ⟨128 * h.val + x, by omega⟩) = valueOf m c b h x n := by
  have e : (128 * h.val + x.val) % 128 = x.val := by omega
  have e' : (128 * h.val + x.val) / 128 = h.val := by omega
  unfold V
  after_reads_at
  unfold valueOf
  simp only [e, e']
  by_cases hx : x.val < 64
  · simp only [dif_pos hx]
    after_reads_at
  · simp only [dif_neg hx]
    after_reads_at

/-- A point's query block is its sequence. -/
theorem blk_q (c : Dev nD) (t : Fin cfg0.N) (n : Fin 2048) (k : Fin 512) (h0 : t.val < 32) : iblk m c 0 t (ix3 0 n k) = V m c main_v4 (ix3 ⟨t.val, h0⟩ n k) := by
  blk_ext [iblk, idx t]

/-- A point's key block is its sequence. -/
theorem blk_k (c : Dev nD) (t : Fin cfg0.N) (n : Fin 2048) (k : Fin 512) (h0 : t.val < 32) : iblk m c 1 t (ix3 0 k n) = V m c main_v8 (ix3 ⟨t.val, h0⟩ k n) := by
  blk_ext [iblk, idx t]

/-- A point's value block is its sequence. -/
theorem blk_v (c : Dev nD) (t : Fin cfg0.N) (n : Fin 2048) (k : Fin 512) (h0 : t.val < 32) : iblk m c 2 t (ix3 0 n k) = V m c main_v11 (ix3 ⟨t.val, h0⟩ n k) := by
  blk_ext [iblk, idx t]

/-- A block's scores are the sequence's. -/
theorem score_eq (c : Dev nD) (t : Fin cfg0.N) (n : Fin 2048) (h : ℕ) (hh : h < 4) (h0 : t.val < 32) :
    score (iblk m c 0 t) (iblk m c 1 t) n h hh = scoreOf m c ⟨t.val, h0⟩ n ⟨h, hh⟩ := by
  funext k
  unfold score scoreOf dot
  refine Finset.sum_congr rfl fun x _ => ?_
  rw [blk_q m c t _ _ h0, read_q m c ⟨t.val, h0⟩ n ⟨h, hh⟩ x, blk_k m c t _ _ h0, read_k m c ⟨t.val, h0⟩ k ⟨h, hh⟩ x]

/-- `G` where the coordinates are known. -/
theorem G_apply (c : Dev nD) (b : Fin 32) (n : Fin 2048) (e : Fin 256) (i : S32x2048x256.Idx) (h0 : (i 0).val = b.val) (h1 : (i 1).val = n.val)
    (h2 : (i 2).val = e.val) : G m c i = lanesOf m c b n (e.val / 128) (by omega) ⟨e.val % 128, by omega⟩ := by
  unfold G
  simp only [h0, h1, h2]

/-- The result array after the run. -/
theorem arr_eq (c : Dev nD) : (dats m 0 c).arrAt 3 cfg0.N = G m c := by
  refine (dats m 0 c).arrAt_eq_of_covers 3 _ (by decide +kernel) fun t hf y => ?_
  blk_simp
  rw [after0_3]
  unfold outsAt0
  rw [out_eq]
  idx_vars y
  have ht : t.val < 32 := lt_of_lt_of_eq t.isLt N_0
  rw [G_apply m c ⟨t.val, ht⟩ y1 y2 _ (by blk_simp [idx t]) (by blk_simp [idx t]) (by blk_simp [idx t])]
  refine (blockOf_apply _ _ _ y1 (y2.val / 128) (by omega) ⟨y2.val % 128, by omega⟩ _ rfl (Nat.div_add_mod _ _).symm).trans ?_
  unfold lanes lanesOf
  exact joined_congr (score_eq m c t _ _ _ ht) (score_eq m c t _ _ _ ht)
    (funext fun d => funext fun k => (blk_v m c t _ _ ht).trans (read_v m c ⟨t.val, ht⟩ k ⟨2 * (y2.val / 128), by omega⟩ d))
    (funext fun d => funext fun k => (blk_v m c t _ _ ht).trans (read_v m c ⟨t.val, ht⟩ k ⟨2 * (y2.val / 128) + 1, by omega⟩ d))

end Cert.LatentIdeal.Tile

end
-- ==== Proof.LatentHead.lean ====
/-
  The latent attention call's result array is the reference's, when the queries and the keys are real numbers.
-/
module

public import proofs.«01_k».proof.Proof.LatentReference
public import proofs.«01_k».proof.Proof.LatentValue

@[expose] public section

set_option maxRecDepth 16384

noncomputable section

namespace Cert.LatentIdeal.Tile

open Cert.LatentIdeal Cert.LatentIdeal.Gen Idealize.ShloMosaic Idealize.ShloMosaic.TcCoe Idealize.SL.Sem Cert.AttnRow Cert.SoftRow

theorem scale_bits : Ideal.ofBits .f32 0x3DD105EC#32 = ((3424635 / 33554432 : ℝ) : EReal) := by
  simp [Ideal.ofBits, Ideal.ieee, -EReal.coe_mul]; norm_num

/-- The kernel's query scale is the reference's over the logarithm of two. -/
theorem qs_real : qs = ((3424635 / 33554432 * (Real.log 2)⁻¹ : ℝ) : EReal) :=
  IdealRules.named_const.ideal_named_scalar _ _ _ _ rfl

/-- Lanes of zeros add nothing to a dot product. -/
theorem dot_padded (r : EReal) (q k : Fin 96 → EReal) :
    dot r (fun x : Fin 128 => if h : x.val < 96 then q ⟨x.val, h⟩ else 0) (fun x : Fin 128 => if h : x.val < 96 then k ⟨x.val, h⟩ else 0) = dot r q k := by
  unfold dot
  refine (Fin.sum_univ_add (a := 96) (b := 32) fun x : Fin 128 =>
    (if h : x.val < 96 then q ⟨x.val, h⟩ else 0) * r * (if h : x.val < 96 then k ⟨x.val, h⟩ else 0)).trans ?_
  have hz : ∀ i : Fin 32, ¬ (Fin.natAdd 96 i).val < 96 := fun i => by simp
  have hl : ∀ i : Fin 96, (Fin.castAdd 32 i).val < 96 := fun i => i.isLt
  rw [Finset.sum_eq_zero (s := Finset.univ) (f := fun i : Fin 32 => (if h : (Fin.natAdd 96 i).val < 96 then q ⟨(Fin.natAdd 96 i).val, h⟩ else 0) * r
    * (if h : (Fin.natAdd 96 i).val < 96 then k ⟨(Fin.natAdd 96 i).val, h⟩ else 0)) (fun i _ => by rw [dif_neg (hz i), zero_mul, zero_mul]), add_zero]
  refine Finset.sum_congr rfl fun i _ => ?_
  rw [dif_pos (hl i), dif_pos (hl i)]
  rfl

variable (m : (ℓ : Loc nD τ sig) → Buf (Elt Ideal) ℓ)

/-- One row of scores, on both sides. -/
theorem rows (c : Dev nD) (hq : ∀ i, ∃ r : ℝ, m ((c : Thread nD τ).loc main_arg0) i = (r : EReal)) (hk : ∀ i, ∃ r : ℝ, m ((c : Thread nD τ).loc main_arg1) i = (r : EReal))
    (b : Fin 32) (n : Fin 2048) (h : Fin 4) :
    ∃ a : Fin 2048 → ℝ, scoreOf m c b n h = (fun k => ((a k * (Real.log 2)⁻¹ : ℝ) : EReal))
      ∧ Cert.LatentReferenceIdeal.Head.row (m ((c : Thread nD τ).loc main_arg0)) (m ((c : Thread nD τ).loc main_arg1)) b h n = fun k => ((a k : ℝ) : EReal) := by
  choose q hq using hq
  choose r hr using hk
  refine ⟨fun k => ∑ x : Fin 96, q (ix4 b n h x) * (3424635 / 33554432) * r (ix4 b k h x), ?_, ?_⟩
  · funext k
    unfold scoreOf
    refine (dot_padded _ (fun x => m ((c : Thread nD τ).loc main_arg0) (ix4 b n h x)) (fun x => m ((c : Thread nD τ).loc main_arg1) (ix4 b k h x))).trans ?_
    simp only [hq, hr, qs_real]
    exact dot_scaled _ _ _ _
  · funext k
    unfold Cert.LatentReferenceIdeal.Head.row
    rw [Cert.LatentReferenceIdeal.Head.v2_apply]
    simp only [hq, hr, scale_bits]
    exact dot_real _ _ _

/-- The two results at one lane. -/
theorem lanes_eq (c : Dev nD) (hq : ∀ i, ∃ r : ℝ, m ((c : Thread nD τ).loc main_arg0) i = (r : EReal)) (hk : ∀ i, ∃ r : ℝ, m ((c : Thread nD τ).loc main_arg1) i = (r : EReal))
    (b : Fin 32) (n : Fin 2048) (e : Fin 256) :
    lanesOf m c b n (e.val / 128) (by omega) ⟨e.val % 128, by omega⟩
      = Cert.LatentReferenceIdeal.Read.val_main_v17 (m ((c : Thread nD τ).loc main_arg0)) (m ((c : Thread nD τ).loc main_arg1)) (m ((c : Thread nD τ).loc main_arg2)) (ix3 b n e) := by
  rw [Cert.LatentReferenceIdeal.Head.v17_apply, Cert.LatentReferenceIdeal.Head.v15_apply]
  unfold lanesOf joined
  by_cases hd : e.val % 128 < 64
  · have eh : (⟨2 * (e.val / 128), by omega⟩ : Fin 4) = ⟨e.val / 64, by omega⟩ := Fin.ext (by show 2 * (e.val / 128) = e.val / 64; omega)
    obtain ⟨a, ha, ha'⟩ := rows m c hq hk b n ⟨e.val / 64, by omega⟩
    rw [if_pos hd, eh, ha, ha', quot_eq a _ _ (fun k => dif_neg (by show ¬ (e.val % 128 + 128 - 64) % 128 < 64; omega))]
    congr 1
    funext k
    unfold valueOf
    rw [dif_pos hd]
    refine congrArg _ (congrArg (ix4 b k _) (Fin.ext ?_))
    show e.val % 128 = e.val % 64
    omega
  · have eh : (⟨2 * (e.val / 128) + 1, by omega⟩ : Fin 4) = ⟨e.val / 64, by omega⟩ := Fin.ext (by show 2 * (e.val / 128) + 1 = e.val / 64; omega)
    obtain ⟨a, ha, ha'⟩ := rows m c hq hk b n ⟨e.val / 64, by omega⟩
    rw [if_neg hd, eh, ha, ha', quot_eq a _ _ (fun k => dif_neg (by show ¬ ((e.val % 128 + 128 - 64) % 128 + 128 - 64) % 128 < 64; omega))]
    congr 1
    funext k
    unfold valueOf
    rw [dif_pos (by show (e.val % 128 + 128 - 64) % 128 < 64; omega)]
    refine congrArg _ (congrArg (ix4 b k _) (Fin.ext ?_))
    show (e.val % 128 + 128 - 64) % 128 = e.val % 64
    omega

end Cert.LatentIdeal.Tile

end
-- ==== Proof.LatentFinite.lean ====
/-
  The latent call's precondition, read back: every entry of the queries and of the keys is a real number.
-/
module

public import proofs.«01_k».proof.Proof.AttnFinite

@[expose] public section

set_option maxRecDepth 16384

noncomputable section

namespace Cert.Pre_finite5.Entry

open Cert.Pre_finite5 Idealize.ShloMosaic

/-- The predicate's side conditions. -/
theorem facts : Facts where
  bcast_S_S32x2048x4x96 := by decide
  reducesTo_S32x2048x4x96_S_d0_1_2_3 := by decide
  h_S_ := by decide

local instance : Subsingleton S_.Idx := ⟨fun i j => funext fun a => a.elim0⟩

/-- Every entry of the first two arguments is a real number. -/
theorem entries [hF : Facts] (x0 x1 : FVec Ideal S32x2048x4x96 .f32) (x2 : FVec Ideal S32x2048x4x64 .f32)
    (h : Cert.Pre_finite5.fn (F := Ideal) x0 x1 x2 = fun _ => 1#1) :
    (∀ i, ∃ r : ℝ, x0 i = (r : EReal)) ∧ ∀ i, ∃ r : ℝ, x1 i = (r : EReal) := by
  have h' := congrFun h (fun a => a.elim0)
  dsimp only [Cert.Pre_finite5.fn] at h'
  obtain ⟨ha, hb⟩ := IntOp.andi_eq_one.1 h'
  exact ⟨fun i => Cert.Pre_finite.Entry.real_of_abs _ (Host.reduce_andi_all _ _ _ _ _ ha i),
    fun i => Cert.Pre_finite.Entry.real_of_abs _ (Host.reduce_andi_all _ _ _ _ _ hb i)⟩

end Cert.Pre_finite5.Entry

end
-- ==== Proof.LatentClaim.lean ====
/-
  The claims about the latent attention call.
-/
module

public import proofs.«01_k».proof.Defs
public import proofs.«01_k».proof.Proof.LatentHead
public import proofs.«01_k».proof.Proof.LatentFinite
public import proofs.«01_k».proof.Proof.Gen.LatentIdeal.Value
public import proofs.«01_k».proof.Proof.Gen.LatentReferenceIdeal.Run
public import proofs.«01_k».proof.Proof.Gen.LatentReferenceIdeal.Read
public import proofs.«01_k».proof.Proof.Gen.Latent.Frame
public import Idealize.ShloMosaic.Lib.Quiescent

@[expose] public section

set_option maxRecDepth 16384

noncomputable section

namespace Cert.Proof.LatentClaims

open Idealize.ShloMosaic Idealize.ShloMosaic.TcCoe Idealize.SL.Sem

/-- The printed kernel keeps its arguments and leaves every semaphore at zero. -/
theorem frame_p : Cert.quiescent_Latent (hLatent := Cert.Latent.Gen.facts) := fun m ρ _ => Cert.Latent.Gen.frame m ρ

/-- The idealized kernel keeps its arguments and leaves every semaphore at zero. -/
theorem frame_pi : Cert.quiescent_LatentIdeal (hLatentIdeal := Cert.LatentIdeal.Gen.facts) := fun m ρ _ => Cert.LatentIdeal.Gen.frame m ρ

/-- The reference keeps its arguments; it has no semaphores. -/
theorem frame_ri : Cert.quiescent_LatentReferenceIdeal (hLatentReferenceIdeal := Cert.LatentReferenceIdeal.Gen.facts) := fun m ρ _ =>
  (θ_run Cert.LatentReferenceIdeal.defs _ _).mono (fun r h => ⟨fun c => (h c).2,
      Idealize.ShloMosaic.sem_eq_zero_of_no_sems (by decide) r.2⟩)
    (Cert.LatentReferenceIdeal.Value.run (F := Ideal) m ρ)

/-- The idealized kernel's frame, with the precondition. -/
theorem frame_pi_pre : Cert.quiescent_LatentIdeal_pre_finite5 (hLatentIdeal := Cert.LatentIdeal.Gen.facts) (hPre_finite5 := Cert.Pre_finite5.Entry.facts) :=
  fun m ρ _ => Cert.LatentIdeal.Gen.frame m ρ

/-- The reference's frame, with the precondition. -/
theorem frame_ri_pre : Cert.quiescent_LatentReferenceIdeal_pre_finite5 (hLatentReferenceIdeal := Cert.LatentReferenceIdeal.Gen.facts) (hPre_finite5 := Cert.Pre_finite5.Entry.facts) :=
  fun m ρ _ => frame_ri m ρ trivial

/-- The idealized kernel's scale names the printed constant. -/
theorem preserves : Cert.preserves_Latent_LatentIdeal :=
  IdealRules.named_const.statement Cert.LatentIdeal.κ "qscale" .f32 0x3E16C740#32 (((3424635 / 33554432) * (Real.log 2)⁻¹ : ℝ) : EReal) rfl

/-- The idealized kernel and the reference compute the same result of finite queries and keys. -/
theorem algebraic : Cert.algebraic_LatentIdeal_LatentReferenceIdeal_pre_finite5 (hLatentIdeal := Cert.LatentIdeal.Gen.facts)
    (hLatentReferenceIdeal := Cert.LatentReferenceIdeal.Gen.facts) (hPre_finite5 := Cert.Pre_finite5.Entry.facts) := by
  intro m ρ m' ρ' hpre hagree
  refine ⟨_, Cert.LatentIdeal.Value.run_blocks (F := Ideal) m ρ, ?_⟩
  refine (θ_run Cert.LatentReferenceIdeal.defs _ _).mono (fun _ h c => ⟨(h c).1.trans ?_, (h c).2⟩)
    (Cert.LatentReferenceIdeal.Value.run (F := Ideal) m' ρ')
  obtain ⟨h0, h1, h2⟩ := hagree c
  obtain ⟨hq, hk⟩ := Cert.Pre_finite5.Entry.entries (hF := Cert.Pre_finite5.Entry.facts) _ _ _ (hpre c)
  rw [Cert.LatentReferenceIdeal.Read.val_main_v17_eq, h0, h1, h2, Cert.LatentIdeal.Tile.arr_eq]
  funext i
  rw [show i = ix3 (i 0) (i 1) (i 2) from ValueIdx.eq_ix3 i]
  exact (Cert.LatentIdeal.Tile.lanes_eq m c hq hk (i 0) (i 1) (i 2)).symm

end Cert.Proof.LatentClaims

end
-- ==== Proof.InprojRow.lean ====
/-
  The input projection of one token: every lane of its twelve results, of the token's row and of the packed weights.
-/
module

public import proofs.«01_k».proof.Proof.Rms
public import proofs.«01_k».proof.Proof.SoftRow

@[expose] public section

noncomputable section

namespace Cert.InprojRow

open Idealize.ShloMosaic Cert.Rms Cert.SoftRow

/-- Slabs of 128 lanes after a rotary embedding: a lane, the lane 16 ahead of it and the lane 16 behind it, weighted. -/
def roped (x c l h : Fin 128 → EReal) (d : Fin 128) : EReal :=
  x d * c d + x ⟨(d.val + 128 - 112) % 128, Nat.mod_lt _ (by omega)⟩ * l d + x ⟨(d.val + 128 - 16) % 128, Nat.mod_lt _ (by omega)⟩ * h d

/-- The number added to a mean square. -/
abbrev eps : EReal := Ideal.ofBits .f32 0x358637BD#32

/-- A lane where it lies in the same half as another, zero elsewhere. -/
def only (d : Fin 128) (x : EReal) (e : Fin 128) : EReal := if e.val / 64 = d.val / 64 then x else 0

/-- A lane divided by the root of the mean square of its half, the squares `h + l` summed in two parts. -/
def grouped (x h l : Fin 128 → EReal) (d : Fin 128) : EReal :=
  x d * Ideal.rsqrt ((∑ e, only d (h e) e + ∑ e, only d (l e) e) * Ideal.ofBits .f32 0x3C800000#32 + eps)

/-- The same of the lane's own squares and of what is left of them after their first part is taken off. -/
def halved (x : Fin 128 → EReal) (d : Fin 128) : EReal := grouped x (fun e => x e * x e) (fun e => x e * x e - x e * x e) d

/-- What one token's lanes depend on. `r` stands for 1 / 192. -/
structure Ins where
  x : Fin 1024 → EReal
  g : Fin 1024 → EReal
  w : Fin 1024 → Fin 2560 → EReal
  tab : Fin 9 → Fin 128 → EReal
  cqn : Fin 256 → EReal
  ckvn : Fin 128 → EReal
  wuq : Fin 256 → Fin 512 → EReal
  wukv : Fin 128 → Fin 1024 → EReal
  dqn : Fin 128 → EReal
  dkn : Fin 128 → EReal
  r : EReal

namespace Ins

variable (I : Ins)

/-- Column `n` of the projected row. -/
def p (n : Fin 2560) : EReal := ∑ k, normed I.x I.g k * I.w k n

/-- Slab `i` of the projected row. -/
def slab (i : ℕ) (hi : i < 20) (e : Fin 128) : EReal := I.p ⟨128 * i + e, by omega⟩

/-- Slabs of equal numbers. -/
theorem slab_eq {i j : ℕ} (h : i = j) (hi : i < 20) (hj : j < 20) : I.slab i hi = I.slab j hj := by subst h; rfl

/-- The normed latent of the queries. -/
def cq (e : Fin 256) : EReal :=
  I.p ⟨2048 + e, by omega⟩ * Ideal.rsqrt ((∑ j : Fin 256, I.p ⟨2048 + j, by omega⟩ * I.p ⟨2048 + j, by omega⟩) * I.r + eps) * I.cqn e

/-- The latent queries before the rotary embedding. -/
def q (n : Fin 512) : EReal := ∑ e, I.cq e * I.wuq e n

/-- The normed latent of the keys and values. -/
def ckv (e : Fin 128) : EReal :=
  I.slab 18 (by omega) e * Ideal.rsqrt (Ideal.div (∑ j, I.slab 18 (by omega) j * I.slab 18 (by omega) j) (Ideal.ofBits .f32 0x43000000#32) + eps) * I.ckvn e

/-- The latent keys and values before the rotary embedding. -/
def kv (n : Fin 1024) : EReal := ∑ e, I.ckv e * I.wukv e n

/-- A rotary embedding with the tables `3 v`, `3 v + 1`, `3 v + 2`. -/
def rope (v : ℕ) (hv : v < 3) (x : Fin 128 → EReal) (d : Fin 128) : EReal :=
  roped x (I.tab ⟨3 * v, by omega⟩) (I.tab ⟨3 * v + 1, by omega⟩) (I.tab ⟨3 * v + 2, by omega⟩) d

/-- The lane within a slab. -/
abbrev lane {m : ℕ} (n : Fin m) : Fin 128 := ⟨n.val % 128, Nat.mod_lt _ (by omega)⟩

/-- A lane of the values, of the low half or of the high half of a slab, followed by ones. -/
def ones (x : Fin 128 → EReal) (high : Bool) (d : Fin 128) : EReal :=
  if d.val < 64 then (if high then x (turn d) else x d) else 1

def qa (n : Fin 256) : EReal := I.rope 0 (by omega) (I.slab (n / 128) (by omega)) (lane n)
def ka (n : Fin 256) : EReal := I.rope 0 (by omega) (I.slab (2 + n / 128) (by omega)) (lane n)
def va (n : Fin 256) : EReal := I.slab (4 + n / 128) (by omega) (lane n)
def qb (n : Fin 256) : EReal := I.slab (6 + n / 128) (by omega) (lane n)
def kb (n : Fin 256) : EReal := I.slab (8 + n / 128) (by omega) (lane n)
def vb (n : Fin 512) : EReal := ones (I.slab (10 + n / 256) (by omega)) (n.val / 128 % 2 == 1) (lane n)
def qc (n : Fin 512) : EReal := I.rope 1 (by omega) (fun e => I.q ⟨128 * (n / 128) + e, by omega⟩) (lane n)
def kc (n : Fin 512) : EReal := I.kv ⟨128 * (n / 128) + lane n, by omega⟩ + I.rope 1 (by omega) (I.slab 19 (by omega)) (lane n)
def vc (n : Fin 512) : EReal := ones (fun e => I.kv ⟨128 * (4 + n / 128) + e, by omega⟩) false (lane n)
def qd (n : Fin 256) : EReal := I.rope 2 (by omega) (fun e => halved (I.slab (12 + n / 128) (by omega)) e * I.dqn e) (lane n)
def kd (n : Fin 128) : EReal := I.rope 2 (by omega) (fun e => halved (I.slab 14 (by omega)) e * I.dkn e) n
def vd (n : Fin 256) : EReal := ones (I.slab 15 (by omega)) (n.val / 128 == 1) (lane n)

end Ins

end Cert.InprojRow

end
-- ==== Proof.InprojBlock.lean ====
/-
  The input projection on one block of 1024 tokens: what its body computes at an index, as functions of the token's row.
-/
module

public import proofs.«01_k».proof.Proof.InprojRow
public import proofs.«01_k».proof.Proof.AttnBlock
public import proofs.«01_k».proof.Proof.Gen.InprojIdeal.Skeleton
public import Idealize.ShloMosaic.Lib.Pointwise
public import Idealize.ShloMosaic.Lib.Pipeline.ValueKit

@[expose] public section

set_option maxRecDepth 16384

noncomputable section

namespace Cert.InprojIdeal.Gen

open Idealize.ShloMosaic Cert.Rms Cert.AttnRow Cert.SoftRow Cert.InprojRow

/-- 128 lanes of a row from lane `o` on. -/
def seg {m : ℕ} (f : Fin m → EReal) (o : ℕ) (ho : o + 128 ≤ m) (e : Fin 128) : EReal := f ⟨o + e.val, by omega⟩

/-- The kernel's inverse of the latent query width. -/
abbrev wd : EReal := Named.named (F := Ideal) Cert.InprojIdeal.κ "width" (φ := .f32) 0x3BAAAAAB#32

/-- The normed rows. -/
theorem pay3_apply (x : Vec Ideal S1x1024x1024 .f32) (g : Vec Ideal S1x1024 .f32) (r d : Fin 1024) :
    k0_pay3 x g (ix2 r d) = normed (fun k => x (ix3 0 r k)) (fun k => g (ix2 0 k)) d := by
  pointwise [k0_pay3, normed]

/-- The projection to slabs 16 to 19. -/
theorem pay4_apply (x : Vec Ideal S1x1024x1024 .f32) (g : Vec Ideal S1x1024 .f32) (w : Vec Ideal S1024x512 .bf16) (r : Fin 1024) (n : Fin 512) :
    k0_pay4 x g w (ix2 r n) = ∑ k, normed (fun k => x (ix3 0 r k)) (fun k => g (ix2 0 k)) k * w (ix2 k n) := by
  pointwise [k0_pay4, k0_pay3, normed]

/-- The projection to slabs 0 to 5. -/
theorem pay5_apply (x : Vec Ideal S1x1024x1024 .f32) (g : Vec Ideal S1x1024 .f32) (w : Vec Ideal S1024x768 .bf16) (r : Fin 1024) (n : Fin 768) :
    k0_pay5 x g w (ix2 r n) = ∑ k, normed (fun k => x (ix3 0 r k)) (fun k => g (ix2 0 k)) k * w (ix2 k n) := by
  pointwise [k0_pay5, k0_pay3, normed]

/-- The projection to slabs 6 to 11. -/
theorem pay10_apply (x : Vec Ideal S1x1024x1024 .f32) (g : Vec Ideal S1x1024 .f32) (w : Vec Ideal S1024x768 .bf16) (r : Fin 1024) (n : Fin 768) :
    k0_pay10 (k0_pay3 x g) w (ix2 r n) = ∑ k, normed (fun k => x (ix3 0 r k)) (fun k => g (ix2 0 k)) k * w (ix2 k n) := by
  pointwise [k0_pay10, k0_pay3, normed]

/-- The projection to slabs 12 to 15. -/
theorem pay27_apply (x : Vec Ideal S1x1024x1024 .f32) (g : Vec Ideal S1x1024 .f32) (w : Vec Ideal S1024x512 .bf16) (r : Fin 1024) (n : Fin 512) :
    k0_pay27 (k0_pay3 x g) w (ix2 r n) = ∑ k, normed (fun k => x (ix3 0 r k)) (fun k => g (ix2 0 k)) k * w (ix2 k n) := by
  pointwise [k0_pay27, k0_pay3, normed]

/-- Two slabs side by side are the 256 lanes they were cut from. -/
theorem beside (v : FVec Ideal S1024x512 .f32) (r : Fin 1024) (e : Fin 256) :
    concatenate S1024x256 1 [⟨S1024x128, extractStridedSlice S1024x128 ![0, 0] v slices_S1024x512_o0_0_S1024x128⟩,
      ⟨S1024x128, extractStridedSlice S1024x128 ![0, 128] v slices_S1024x512_o0_128_S1024x128⟩] concatenates_S1024x128_S1024x128_S1024x256_d1 (ix2 r e)
      = v (ix2 r ⟨e.val, by omega⟩) := by
  by_cases h : e.val < 128
  · pointwise
    simp only [h, dif_pos]
  · pointwise
    simp only [h, dif_neg, not_false_eq_true]
    congr 2
    apply Fin.ext
    simp only
    omega

/-- The normed latent of the queries before its gain. -/
theorem pay6_apply (x : Vec Ideal S1x1024x1024 .f32) (g : Vec Ideal S1x1024 .f32) (w : Vec Ideal S1024x512 .bf16) (r : Fin 1024) (e : Fin 256) :
    k0_pay6 x g w (ix2 r e) = k0_pay4 x g w (ix2 r ⟨e.val, by omega⟩)
      * Ideal.rsqrt ((∑ j : Fin 256, k0_pay4 x g w (ix2 r ⟨j.val, by omega⟩) * k0_pay4 x g w (ix2 r ⟨j.val, by omega⟩)) * wd + eps) := by
  have hb := beside (k0_pay4 x g w) r
  unfold k0_pay6
  generalize hc : concatenate S1024x256 1 _ _ = c at hb ⊢
  simp only [← hb]
  pointwise

/-- The latent queries. -/
theorem pay8_apply (v : FVec Ideal S1024x256 .f32) (g : Vec Ideal S1x256 .f32) (w : Vec Ideal S256x512 .bf16) (r : Fin 1024) (n : Fin 512) :
    k0_pay8 v (k0_pay7 g) w (ix2 r n) = ∑ e : Fin 256, v (ix2 r e) * g (ix2 0 e) * w (ix2 e n) := by
  pointwise [k0_pay8, k0_pay7]

/-- The latent keys and values. -/
theorem pay9_apply (v : FVec Ideal S1024x512 .f32) (g : Vec Ideal S1x128 .f32) (w : Vec Ideal S128x1024 .bf16) (r n : Fin 1024) :
    k0_pay9 v g w (ix2 r n) = ∑ e : Fin 128, (seg (fun n => v (ix2 r n)) 256 (by decide) e
      * Ideal.rsqrt (Ideal.div (∑ j, seg (fun n => v (ix2 r n)) 256 (by decide) j * seg (fun n => v (ix2 r n)) 256 (by decide) j) (Ideal.ofBits .f32 0x43000000#32) + eps)
      * g (ix2 0 e)) * w (ix2 e n) := by
  pointwise [k0_pay9, seg]

/-- The literal one. -/
theorem one_bits : Ideal.ofBits .f32 0x3F800000#32 = 1 := by pointwise

section
variable (v : FVec Ideal S1024x768 .f32) (a b c : Vec Ideal S1x1024x128 .f32) (r : Fin 1024) (d : Fin 128)

/-- The first slab of the differential queries. -/
theorem qa0 : k0_pay16 (k0_pay11 v) (k0_pay12 b) (k0_pay13 c) (k0_pay14 v a) (k0_pay15 v) (ix3 0 r d) = roped (seg (fun n => v (ix2 r n)) 0 (by decide)) (fun e => a (ix3 0 r e)) (fun e => b (ix3 0 r e)) (fun e => c (ix3 0 r e)) d := by
  pointwise [k0_pay16, k0_pay11, k0_pay12, k0_pay13, k0_pay14, k0_pay15, roped, seg]

/-- The second slab of the differential queries. -/
theorem qa1 : k0_pay17 v a b c (ix3 0 r d) = roped (seg (fun n => v (ix2 r n)) 128 (by decide)) (fun e => a (ix3 0 r e)) (fun e => b (ix3 0 r e)) (fun e => c (ix3 0 r e)) d := by
  pointwise [k0_pay17, roped, seg]

/-- The first slab of the differential keys. -/
theorem ka0 : k0_pay21 (k0_pay18 v) (k0_pay19 a) (k0_pay20 b) c (ix3 0 d r) = roped (seg (fun n => v (ix2 r n)) 256 (by decide)) (fun e => a (ix3 0 r e)) (fun e => b (ix3 0 r e)) (fun e => c (ix3 0 r e)) d := by
  pointwise [k0_pay21, k0_pay18, k0_pay19, k0_pay20, roped, seg]

/-- The second slab of the differential keys. -/
theorem ka1 : k0_pay22 v a b c (ix3 0 d r) = roped (seg (fun n => v (ix2 r n)) 384 (by decide)) (fun e => a (ix3 0 r e)) (fun e => b (ix3 0 r e)) (fun e => c (ix3 0 r e)) d := by
  pointwise [k0_pay22, roped, seg]

/-- The first slab of the differential values. -/
theorem va0 : k0_pay25 (k0_pay24 v) (ix3 0 r d) = seg (fun n => v (ix2 r n)) 512 (by decide) d := by
  pointwise [k0_pay25, k0_pay24, seg]

/-- The second slab of the differential values. -/
theorem va1 : k0_pay26 (k0_pay23 v) (ix3 0 r d) = seg (fun n => v (ix2 r n)) 640 (by decide) d := by
  pointwise [k0_pay26, k0_pay23, seg]

/-- The first slab of the neighbourhood queries. -/
theorem qb0 : k0_pay28 v (ix3 0 r d) = seg (fun n => v (ix2 r n)) 0 (by decide) d := by
  pointwise [k0_pay28, seg]

/-- The second slab of the neighbourhood queries. -/
theorem qb1 : k0_pay29 v (ix3 0 r d) = seg (fun n => v (ix2 r n)) 128 (by decide) d := by
  pointwise [k0_pay29, seg]

/-- The first slab of the neighbourhood keys. -/
theorem kb0 : k0_pay30 v (ix3 0 d r) = seg (fun n => v (ix2 r n)) 256 (by decide) d := by
  pointwise [k0_pay30, seg]

/-- The second slab of the neighbourhood keys. -/
theorem kb1 : k0_pay31 v (ix3 0 d r) = seg (fun n => v (ix2 r n)) 384 (by decide) d := by
  pointwise [k0_pay31, seg]

/-- The values of the first neighbourhood head beside ones. -/
theorem vb0 : k0_pay34 (k0_pay32 v) (iota .tc S1024x128 32 [1] iota_S1024x128_d1_w32) 64#32 (ix3 0 r d) = Ins.ones (seg (fun n => v (ix2 r n)) 512 (by decide)) false d := by
  pointwise [k0_pay34, k0_pay32, seg, Ins.ones]
  simp only [select_low, one_bits]
  rfl

/-- The values of the second neighbourhood head beside ones. -/
theorem vb1 : k0_pay35 v (ix3 0 r d) = Ins.ones (seg (fun n => v (ix2 r n)) 512 (by decide)) true d := by
  pointwise [k0_pay35, seg, Ins.ones]
  simp only [select_low, one_bits]

/-- The values of the third neighbourhood head beside ones. -/
theorem vb2 : k0_pay36 v (ix3 0 r d) = Ins.ones (seg (fun n => v (ix2 r n)) 640 (by decide)) false d := by
  pointwise [k0_pay36, seg, Ins.ones]
  simp only [select_low, one_bits]
  rfl

/-- The values of the fourth neighbourhood head beside ones. -/
theorem vb3 : k0_pay37 (k0_pay33 v) (ix3 0 r d) = Ins.ones (seg (fun n => v (ix2 r n)) 640 (by decide)) true d := by
  pointwise [k0_pay37, k0_pay33, seg, Ins.ones]
  simp only [select_low, one_bits]

end

section
variable (v : FVec Ideal S1024x512 .f32) (a b c : Vec Ideal S1x1024x128 .f32) (r : Fin 1024) (d : Fin 128)

/-- The rotary part of the latent keys. -/
theorem kr : k0_pay38 v a b c (ix2 r d) = roped (seg (fun n => v (ix2 r n)) 384 (by decide)) (fun e => a (ix3 0 r e)) (fun e => b (ix3 0 r e)) (fun e => c (ix3 0 r e)) d := by
  pointwise [k0_pay38, roped, seg]

/-- The first head of the latent queries. -/
theorem qc0 : k0_pay46 (k0_pay39 v a b c) (ix3 0 r d) = roped (seg (fun n => v (ix2 r n)) 0 (by decide)) (fun e => a (ix3 0 r e)) (fun e => b (ix3 0 r e)) (fun e => c (ix3 0 r e)) d := by
  pointwise [k0_pay46, k0_pay39, roped, seg]

/-- The second head of the latent queries. -/
theorem qc1 : k0_pay47 (k0_pay41 (k0_pay40 v) a b c) (ix3 0 r d) = roped (seg (fun n => v (ix2 r n)) 128 (by decide)) (fun e => a (ix3 0 r e)) (fun e => b (ix3 0 r e)) (fun e => c (ix3 0 r e)) d := by
  pointwise [k0_pay47, k0_pay41, k0_pay40, roped, seg]

/-- The third head of the latent queries. -/
theorem qc2 : k0_pay48 (k0_pay42 v a b c) (ix3 0 r d) = roped (seg (fun n => v (ix2 r n)) 256 (by decide)) (fun e => a (ix3 0 r e)) (fun e => b (ix3 0 r e)) (fun e => c (ix3 0 r e)) d := by
  pointwise [k0_pay48, k0_pay42, roped, seg]

/-- The fourth head of the latent queries. -/
theorem qc3 : k0_pay49 (k0_pay43 v) (k0_pay44 a) (k0_pay45 b) c (ix3 0 r d) = roped (seg (fun n => v (ix2 r n)) 384 (by decide)) (fun e => a (ix3 0 r e)) (fun e => b (ix3 0 r e)) (fun e => c (ix3 0 r e)) d := by
  pointwise [k0_pay49, k0_pay43, k0_pay44, k0_pay45, roped, seg]

/-- The values of the first grouped head beside ones. -/
theorem vd0 : k0_pay1 (k0_pay93 v) k0_pay94 (ix3 0 r d) = Ins.ones (seg (fun n => v (ix2 r n)) 384 (by decide)) false d := by
  pointwise [k0_pay1, k0_pay93, k0_pay94, seg, Ins.ones]
  simp only [select_low, one_bits]
  rfl

/-- The values of the second grouped head beside ones. -/
theorem vd1 : k0_pay2 v (ix3 0 r d) = Ins.ones (seg (fun n => v (ix2 r n)) 384 (by decide)) true d := by
  pointwise [k0_pay2, seg, Ins.ones]
  simp only [select_low, one_bits]

end

section
variable (v : FVec Ideal S1024x1024 .f32) (k : FVec Ideal S1024x128 .f32) (r : Fin 1024) (d : Fin 128)

/-- The first head of the latent keys. -/
theorem kc0 : k0_pay50 v k (ix3 0 d r) = seg (fun n => v (ix2 r n)) 0 (by decide) d + k (ix2 r d) := by
  pointwise [k0_pay50, seg]

/-- The second head of the latent keys. -/
theorem kc1 : k0_pay52 (k0_pay51 v k) (ix3 0 d r) = seg (fun n => v (ix2 r n)) 128 (by decide) d + k (ix2 r d) := by
  pointwise [k0_pay52, k0_pay51, seg]

/-- The third head of the latent keys. -/
theorem kc2 : k0_pay53 v k (ix3 0 d r) = seg (fun n => v (ix2 r n)) 256 (by decide) d + k (ix2 r d) := by
  pointwise [k0_pay53, seg]

/-- The fourth head of the latent keys. -/
theorem kc3 : k0_pay54 v k (ix3 0 d r) = seg (fun n => v (ix2 r n)) 384 (by decide) d + k (ix2 r d) := by
  pointwise [k0_pay54, seg]

/-- The values of the first latent head beside ones. -/
theorem vc0 : k0_pay61 (k0_pay55 v) (ix3 0 r d) = Ins.ones (seg (fun n => v (ix2 r n)) 512 (by decide)) false d := by
  pointwise [k0_pay61, k0_pay55, seg, Ins.ones]
  simp only [select_low, one_bits]
  rfl

/-- The values of the second latent head beside ones. -/
theorem vc1 : k0_pay62 (k0_pay56 v) (ix3 0 r d) = Ins.ones (seg (fun n => v (ix2 r n)) 640 (by decide)) false d := by
  pointwise [k0_pay62, k0_pay56, seg, Ins.ones]
  simp only [select_low, one_bits]
  rfl

/-- The values of the third latent head beside ones. -/
theorem vc2 : k0_pay63 (k0_pay57 v) (ix3 0 r d) = Ins.ones (seg (fun n => v (ix2 r n)) 768 (by decide)) false d := by
  pointwise [k0_pay63, k0_pay57, seg, Ins.ones]
  simp only [select_low, one_bits]
  rfl

/-- The values of the fourth latent head beside ones. -/
theorem vc3 : k0_pay64 (k0_pay58 v) k0_pay59 (k0_pay60 (F := Ideal)) (ix3 0 r d) = Ins.ones (seg (fun n => v (ix2 r n)) 896 (by decide)) false d := by
  pointwise [k0_pay64, k0_pay58, k0_pay59, k0_pay60, seg, Ins.ones]
  simp only [select_low, one_bits]
  rfl

end

end Cert.InprojIdeal.Gen

end
-- ==== Proof.InprojGroup.lean ====
/-
  The input projection on one block of 1024 tokens: the norm over the halves of a slab.
-/
module

public import proofs.«01_k».proof.Proof.InprojBlock

@[expose] public section

set_option maxRecDepth 16384

noncomputable section

namespace Cert.InprojIdeal.Gen

open Idealize.ShloMosaic Cert.Rms Cert.AttnRow Cert.SoftRow Cert.InprojRow

/-- The body's rounded-down division by 64, at the number of a lane. -/
theorem half_of : ∀ x : Fin 128, Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 x.val) 64#32) 0#32))
      (IntOp.subi (IntOp.divsi ArithUnit.vector (BitVec.ofNat 32 x.val) 64#32) 1#32)
      (IntOp.divsi ArithUnit.vector (BitVec.ofNat 32 x.val) 64#32) = BitVec.ofNat 32 (x.val / 64) := by decide +kernel

/-- Half numbers compare as the naturals do. -/
theorem half_eq : ∀ e d : Fin 2, IntOp.cmpi CmpIPredicate.eq (BitVec.ofNat 32 e.val) (BitVec.ofNat 32 d.val) = if e.val = d.val then 1#1 else 0#1 := by decide

/-- Choosing the lanes of the same half. -/
theorem select_half (e d : Fin 128) (x : EReal) :
    Scalar.select (IntOp.cmpi CmpIPredicate.eq (BitVec.ofNat 32 (e.val / 64)) (BitVec.ofNat 32 (d.val / 64))) x 0 = only d x e := by
  have h := half_eq ⟨e.val / 64, by omega⟩ ⟨d.val / 64, by omega⟩
  simp only at h
  rw [h]
  unfold only Scalar.select
  by_cases hh : e.val / 64 = d.val / 64 <;> simp [hh]

/-- A slab of lanes over the root of the mean square of their halves. -/
theorem pay72_apply (x : FVec Ideal S1024x128 .f32) (h l : FVec Ideal S1024x128 .bf16) (r : Fin 1024) (d : Fin 128) :
    k0_pay72 x h l k0_pay69 k0_pay70 k0_pay71 (ix2 r d) = grouped (fun e => x (ix2 r e)) (fun e => h (ix2 r e)) (fun e => l (ix2 r e)) d := by
  pointwise [k0_pay72, k0_pay69, k0_pay70, k0_pay71]
  simp only [half_of, select_half]
  rfl

/-- A slab of lanes over the root of the mean square of their halves. -/
theorem pay81_apply (x : FVec Ideal S1024x128 .f32) (h l : FVec Ideal S1024x128 .bf16) (r : Fin 1024) (d : Fin 128) :
    k0_pay81 x h l k0_pay78 k0_pay79 k0_pay80 (ix2 r d) = grouped (fun e => x (ix2 r e)) (fun e => h (ix2 r e)) (fun e => l (ix2 r e)) d := by
  pointwise [k0_pay81, k0_pay78, k0_pay79, k0_pay80]
  simp only [half_of, select_half]
  rfl

section
variable (v : FVec Ideal S1024x512 .f32) (g : Vec Ideal S1x128 .f32) (a b c : Vec Ideal S1x1024x128 .f32) (r : Fin 1024) (d : Fin 128)

/-- The first slab of the grouped queries. -/
theorem qd0 : k0_pay82 (k0_pay73 (k0_pay72 (k0_pay65 v) (k0_pay67 v) (k0_pay68 v) k0_pay69 k0_pay70 k0_pay71) g a b c) (ix3 0 r d) = roped (fun e => halved (seg (fun n => v (ix2 r n)) 0 (by decide)) e * g (ix2 0 e)) (fun e => a (ix3 0 r e)) (fun e => b (ix3 0 r e)) (fun e => c (ix3 0 r e)) d := by
  pointwise [k0_pay82, k0_pay73]
  simp only [pay72_apply]
  pointwise [k0_pay65, k0_pay66, k0_pay67, k0_pay68, roped, halved, grouped, seg]

/-- The second slab of the grouped queries. -/
theorem qd1 : k0_pay83 (k0_pay81 (k0_pay74 v) (k0_pay76 v) (k0_pay77 v) k0_pay78 k0_pay79 k0_pay80) g a b c (ix3 0 r d) = roped (fun e => halved (seg (fun n => v (ix2 r n)) 128 (by decide)) e * g (ix2 0 e)) (fun e => a (ix3 0 r e)) (fun e => b (ix3 0 r e)) (fun e => c (ix3 0 r e)) d := by
  pointwise [k0_pay83]
  simp only [pay81_apply]
  pointwise [k0_pay74, k0_pay75, k0_pay76, k0_pay77, roped, halved, grouped, seg]

/-- The grouped keys. -/
theorem kd0 : k0_pay92 (k0_pay84 v) (k0_pay86 v) (k0_pay87 v) (k0_pay90 (iota .tc S128x128 32 [0] iota_S128x128_d0_w32) 64#32 k0_pay88 k0_pay89) (Scalar.ofBits .f32 0x00000000#32) (k0_pay91 (F := Ideal)) g a b c (ix3 0 d r) = roped (fun e => halved (seg (fun n => v (ix2 r n)) 256 (by decide)) e * g (ix2 0 e)) (fun e => a (ix3 0 r e)) (fun e => b (ix3 0 r e)) (fun e => c (ix3 0 r e)) d := by
  have h1 := half_of ⟨(d.val + 128 - 112) % 128, Nat.mod_lt _ (by omega)⟩
  have h2 := half_of ⟨(d.val + 128 - 16) % 128, Nat.mod_lt _ (by omega)⟩
  have s1 := fun e x => select_half e ⟨(d.val + 128 - 112) % 128, Nat.mod_lt _ (by omega)⟩ x
  have s2 := fun e x => select_half e ⟨(d.val + 128 - 16) % 128, Nat.mod_lt _ (by omega)⟩ x
  dsimp only at h1 h2 s1 s2
  pointwise [k0_pay92, k0_pay90, k0_pay88, k0_pay89, k0_pay91]
  simp only [half_of, h1, h2, select_half, s1, s2]
  pointwise [k0_pay84, k0_pay85, k0_pay86, k0_pay87, roped, halved, grouped, seg]

end

end Cert.InprojIdeal.Gen

end
-- ==== Proof.InprojOut.lean ====
/-
  The input projection on one block of 1024 tokens: its twelve output blocks at an index, as lanes of the token's row.
-/
module

public import proofs.«01_k».proof.Proof.InprojGroup
public import proofs.«01_k».proof.Proof.Gen.InprojIdeal.Frame
public import Idealize.ShloMosaic.Lib.Pipeline.ValueKit

@[expose] public section

set_option maxRecDepth 16384

noncomputable section

namespace Cert.InprojIdeal.Gen

open Idealize.ShloMosaic Cert.Rms Cert.AttnRow Cert.SoftRow Cert.InprojRow

variable (x0 : Vec Ideal S1x1024x1024 .f32) (x1 : Vec Ideal S1x1024 .f32) (x2 : Vec Ideal S1024x2560 .bf16) (x3 : Vec Ideal S9x1024x128 .f32) (x4 : Vec Ideal S1x256 .f32)
  (x5 : Vec Ideal S1x128 .f32) (x6 : Vec Ideal S256x512 .bf16) (x7 : Vec Ideal S128x1024 .bf16) (x8 x9 : Vec Ideal S1x128 .f32)

/-- What token `r` of a block depends on. -/
def insOf (r : Fin 1024) : Ins where
  x := fun k => x0 (ix3 0 r k)
  g := fun k => x1 (ix2 0 k)
  w := fun k n => x2 (ix2 k n)
  tab := fun i d => x3 (ix3 i r d)
  cqn := fun e => x4 (ix2 0 e)
  ckvn := fun e => x5 (ix2 0 e)
  wuq := fun e n => x6 (ix2 e n)
  wukv := fun e n => x7 (ix2 e n)
  dqn := fun e => x8 (ix2 0 e)
  dkn := fun e => x9 (ix2 0 e)
  r := wd

variable (r : Fin 1024)

/-- Slabs 0 to 5. -/
theorem chunk0 (n : Fin 768) : k0_pay97 x0 x1 x2 x3 x4 x5 x6 x7 x8 x9 (ix2 r n) = (insOf x0 x1 x2 x3 x4 x5 x6 x7 x8 x9 r).p ⟨n.val, by omega⟩ := by
  unfold k0_pay97
  rw [pay5_apply]
  unfold Ins.p insOf
  refine Finset.sum_congr rfl fun k _ => ?_
  pointwise

/-- Slabs 6 to 11. -/
theorem chunk1 (n : Fin 768) : k0_pay100 x0 x1 x2 x3 x4 x5 x6 x7 x8 x9 (ix2 r n) = (insOf x0 x1 x2 x3 x4 x5 x6 x7 x8 x9 r).p ⟨768 + n.val, by omega⟩ := by
  unfold k0_pay100 k0_pay95
  rw [pay10_apply]
  unfold Ins.p insOf
  refine Finset.sum_congr rfl fun k _ => ?_
  pointwise

/-- Slabs 12 to 15. -/
theorem chunk2 (n : Fin 512) : k0_pay101 x0 x1 x2 x3 x4 x5 x6 x7 x8 x9 (ix2 r n) = (insOf x0 x1 x2 x3 x4 x5 x6 x7 x8 x9 r).p ⟨1536 + n.val, by omega⟩ := by
  unfold k0_pay101 k0_pay95
  rw [pay27_apply]
  unfold Ins.p insOf
  refine Finset.sum_congr rfl fun k _ => ?_
  pointwise

/-- Slabs 16 to 19. -/
theorem chunk3 (n : Fin 512) : k0_pay96 x0 x1 x2 x3 x4 x5 x6 x7 x8 x9 (ix2 r n) = (insOf x0 x1 x2 x3 x4 x5 x6 x7 x8 x9 r).p ⟨2048 + n.val, by omega⟩ := by
  unfold k0_pay96
  rw [pay4_apply]
  unfold Ins.p insOf
  refine Finset.sum_congr rfl fun k _ => ?_
  pointwise

/-- A slab of a chunk is a slab of the row. -/
theorem seg_slab {m : ℕ} (I : Ins) (f : Fin m → EReal) (b o i : ℕ) (ho : o + 128 ≤ m) (hi : i < 20) (hb : b + o = 128 * i)
    (hf : ∀ (n : Fin m) (h : b + n.val < 2560), f n = I.p ⟨b + n.val, h⟩) : seg f o ho = I.slab i hi := by
  funext e
  unfold seg Ins.slab
  rw [hf _ (by simp only; omega)]
  congr 2
  simp only
  omega

/-- A slab of slabs 0 to 5. -/
theorem seg0 (o i : ℕ) (ho : o + 128 ≤ 768) (hi : i < 20) (hb : 0 + o = 128 * i) : seg (fun n => k0_pay97 x0 x1 x2 x3 x4 x5 x6 x7 x8 x9 (ix2 r n)) o ho = (insOf x0 x1 x2 x3 x4 x5 x6 x7 x8 x9 r).slab i hi :=
  seg_slab _ _ 0 o i ho hi hb fun n h => (chunk0 x0 x1 x2 x3 x4 x5 x6 x7 x8 x9 r n).trans (by simp only [Nat.zero_add])

/-- A slab of slabs 6 to 11. -/
theorem seg1 (o i : ℕ) (ho : o + 128 ≤ 768) (hi : i < 20) (hb : 768 + o = 128 * i) : seg (fun n => k0_pay100 x0 x1 x2 x3 x4 x5 x6 x7 x8 x9 (ix2 r n)) o ho = (insOf x0 x1 x2 x3 x4 x5 x6 x7 x8 x9 r).slab i hi :=
  seg_slab _ _ 768 o i ho hi hb fun n _ => chunk1 x0 x1 x2 x3 x4 x5 x6 x7 x8 x9 r n

/-- A slab of slabs 12 to 15. -/
theorem seg2 (o i : ℕ) (ho : o + 128 ≤ 512) (hi : i < 20) (hb : 1536 + o = 128 * i) : seg (fun n => k0_pay101 x0 x1 x2 x3 x4 x5 x6 x7 x8 x9 (ix2 r n)) o ho = (insOf x0 x1 x2 x3 x4 x5 x6 x7 x8 x9 r).slab i hi :=
  seg_slab _ _ 1536 o i ho hi hb fun n _ => chunk2 x0 x1 x2 x3 x4 x5 x6 x7 x8 x9 r n

/-- A slab of slabs 16 to 19. -/
theorem seg3 (o i : ℕ) (ho : o + 128 ≤ 512) (hi : i < 20) (hb : 2048 + o = 128 * i) : seg (fun n => k0_pay96 x0 x1 x2 x3 x4 x5 x6 x7 x8 x9 (ix2 r n)) o ho = (insOf x0 x1 x2 x3 x4 x5 x6 x7 x8 x9 r).slab i hi :=
  seg_slab _ _ 2048 o i ho hi hb fun n _ => chunk3 x0 x1 x2 x3 x4 x5 x6 x7 x8 x9 r n

/-- The latent queries. -/
theorem q_eq (n : Fin 512) : k0_pay98 x0 x1 x2 x3 x4 x5 x6 x7 x8 x9 (ix2 r n) = (insOf x0 x1 x2 x3 x4 x5 x6 x7 x8 x9 r).q n := by
  unfold k0_pay98
  rw [pay8_apply]
  unfold Ins.q
  refine Finset.sum_congr rfl fun e _ => ?_
  rw [pay6_apply]
  have h := chunk3 x0 x1 x2 x3 x4 x5 x6 x7 x8 x9 r
  unfold k0_pay96 at h
  have h6 : View.ld x6 r0_5 (ix2 e n) = (insOf x0 x1 x2 x3 x4 x5 x6 x7 x8 x9 r).wuq e n := by unfold insOf; pointwise
  have h4 : View.ld x4 r0_4 (ix2 0 e) = (insOf x0 x1 x2 x3 x4 x5 x6 x7 x8 x9 r).cqn e := by unfold insOf; pointwise
  simp only [h, h6, h4]
  rfl

/-- The latent keys and values. -/
theorem kv_eq (n : Fin 1024) : k0_pay99 x0 x1 x2 x3 x4 x5 x6 x7 x8 x9 (ix2 r n) = (insOf x0 x1 x2 x3 x4 x5 x6 x7 x8 x9 r).kv n := by
  unfold k0_pay99
  rw [pay9_apply, seg3 x0 x1 x2 x3 x4 x5 x6 x7 x8 x9 r 256 18 _ (by omega) rfl]
  unfold Ins.kv
  refine Finset.sum_congr rfl fun e _ => ?_
  have h7 : View.ld x7 r0_7 (ix2 e n) = (insOf x0 x1 x2 x3 x4 x5 x6 x7 x8 x9 r).wukv e n := by unfold insOf; pointwise
  have h5 : View.ld x5 r0_6 (ix2 0 e) = (insOf x0 x1 x2 x3 x4 x5 x6 x7 x8 x9 r).ckvn e := by unfold insOf; pointwise
  rw [h7, h5]
  rfl

/-- Table 0. -/
theorem tab0 (d : Fin 128) : View.ld x3 r0_9 (ix3 0 r d) = (insOf x0 x1 x2 x3 x4 x5 x6 x7 x8 x9 r).tab 0 d := by
  unfold insOf
  pointwise

/-- Table 1. -/
theorem tab1 (d : Fin 128) : View.ld x3 r0_10 (ix3 0 r d) = (insOf x0 x1 x2 x3 x4 x5 x6 x7 x8 x9 r).tab 1 d := by
  unfold insOf
  pointwise

/-- Table 2. -/
theorem tab2 (d : Fin 128) : View.ld x3 r0_11 (ix3 0 r d) = (insOf x0 x1 x2 x3 x4 x5 x6 x7 x8 x9 r).tab 2 d := by
  unfold insOf
  pointwise

/-- Table 3. -/
theorem tab3 (d : Fin 128) : View.ld x3 r0_21 (ix3 0 r d) = (insOf x0 x1 x2 x3 x4 x5 x6 x7 x8 x9 r).tab 3 d := by
  unfold insOf
  pointwise

/-- Table 4. -/
theorem tab4 (d : Fin 128) : View.ld x3 r0_22 (ix3 0 r d) = (insOf x0 x1 x2 x3 x4 x5 x6 x7 x8 x9 r).tab 4 d := by
  unfold insOf
  pointwise

/-- Table 5. -/
theorem tab5 (d : Fin 128) : View.ld x3 r0_23 (ix3 0 r d) = (insOf x0 x1 x2 x3 x4 x5 x6 x7 x8 x9 r).tab 5 d := by
  unfold insOf
  pointwise

/-- Table 6. -/
theorem tab6 (d : Fin 128) : View.ld x3 r0_28 (ix3 0 r d) = (insOf x0 x1 x2 x3 x4 x5 x6 x7 x8 x9 r).tab 6 d := by
  unfold insOf
  pointwise

/-- Table 7. -/
theorem tab7 (d : Fin 128) : View.ld x3 r0_29 (ix3 0 r d) = (insOf x0 x1 x2 x3 x4 x5 x6 x7 x8 x9 r).tab 7 d := by
  unfold insOf
  pointwise

/-- Table 8. -/
theorem tab8 (d : Fin 128) : View.ld x3 r0_30 (ix3 0 r d) = (insOf x0 x1 x2 x3 x4 x5 x6 x7 x8 x9 r).tab 8 d := by
  unfold insOf
  pointwise

/-- A rotary embedding with the block's tables. -/
theorem rope0 (f : Fin 128 → EReal) (d : Fin 128) :
    roped f (fun e => View.ld x3 r0_9 (ix3 0 r e)) (fun e => View.ld x3 r0_10 (ix3 0 r e)) (fun e => View.ld x3 r0_11 (ix3 0 r e)) d
      = (insOf x0 x1 x2 x3 x4 x5 x6 x7 x8 x9 r).rope 0 (by decide) f d := by
  simp only [tab0 x0 x1 x2 x3 x4 x5 x6 x7 x8 x9 r, tab1 x0 x1 x2 x3 x4 x5 x6 x7 x8 x9 r, tab2 x0 x1 x2 x3 x4 x5 x6 x7 x8 x9 r]
  rfl

/-- A rotary embedding with the block's tables. -/
theorem rope1 (f : Fin 128 → EReal) (d : Fin 128) :
    roped f (fun e => View.ld x3 r0_21 (ix3 0 r e)) (fun e => View.ld x3 r0_22 (ix3 0 r e)) (fun e => View.ld x3 r0_23 (ix3 0 r e)) d
      = (insOf x0 x1 x2 x3 x4 x5 x6 x7 x8 x9 r).rope 1 (by decide) f d := by
  simp only [tab3 x0 x1 x2 x3 x4 x5 x6 x7 x8 x9 r, tab4 x0 x1 x2 x3 x4 x5 x6 x7 x8 x9 r, tab5 x0 x1 x2 x3 x4 x5 x6 x7 x8 x9 r]
  rfl

/-- A rotary embedding with the block's tables. -/
theorem rope2 (f : Fin 128 → EReal) (d : Fin 128) :
    roped f (fun e => View.ld x3 r0_28 (ix3 0 r e)) (fun e => View.ld x3 r0_29 (ix3 0 r e)) (fun e => View.ld x3 r0_30 (ix3 0 r e)) d
      = (insOf x0 x1 x2 x3 x4 x5 x6 x7 x8 x9 r).rope 2 (by decide) f d := by
  simp only [tab6 x0 x1 x2 x3 x4 x5 x6 x7 x8 x9 r, tab7 x0 x1 x2 x3 x4 x5 x6 x7 x8 x9 r, tab8 x0 x1 x2 x3 x4 x5 x6 x7 x8 x9 r]
  rfl

/-- The rotary part of the latent keys. -/
theorem kr_eq (d : Fin 128) : k0_pay102 x0 x1 x2 x3 x4 x5 x6 x7 x8 x9 (ix2 r d) = (insOf x0 x1 x2 x3 x4 x5 x6 x7 x8 x9 r).rope 1 (by decide) ((insOf x0 x1 x2 x3 x4 x5 x6 x7 x8 x9 r).slab 19 (by decide)) d := by
  unfold k0_pay102
  rw [kr, rope1 x0 x1 x2 x3 x4 x5 x6 x7 x8 x9 r, seg3 x0 x1 x2 x3 x4 x5 x6 x7 x8 x9 r 384 19 _ (by omega) rfl]

/-- A head of the latent queries. -/
theorem segq (o i : ℕ) (ho : o + 128 ≤ 512) (hi : i < 4) (hb : o = 128 * i) :
    seg (fun n => k0_pay98 x0 x1 x2 x3 x4 x5 x6 x7 x8 x9 (ix2 r n)) o ho = fun e : Fin 128 => (insOf x0 x1 x2 x3 x4 x5 x6 x7 x8 x9 r).q ⟨128 * i + e, by omega⟩ := by
  subst hb
  funext e
  exact q_eq x0 x1 x2 x3 x4 x5 x6 x7 x8 x9 r _

/-- A head of the latent keys or values. -/
theorem segkv (o i : ℕ) (ho : o + 128 ≤ 1024) (hi : i < 8) (hb : o = 128 * i) :
    seg (fun n => k0_pay99 x0 x1 x2 x3 x4 x5 x6 x7 x8 x9 (ix2 r n)) o ho = fun e : Fin 128 => (insOf x0 x1 x2 x3 x4 x5 x6 x7 x8 x9 r).kv ⟨128 * i + e, by omega⟩ := by
  subst hb
  funext e
  exact kv_eq x0 x1 x2 x3 x4 x5 x6 x7 x8 x9 r _

/-- The gain of the grouped queries. -/
theorem gain_q (f : Fin 128 → EReal) : (fun e => f e * View.ld x8 r0_6 (ix2 0 e)) = fun e => f e * (insOf x0 x1 x2 x3 x4 x5 x6 x7 x8 x9 r).dqn e := by
  funext e
  refine congrArg (f e * ·) ?_
  unfold insOf
  pointwise

/-- The gain of the grouped keys. -/
theorem gain_k (f : Fin 128 → EReal) : (fun e => f e * View.ld x9 r0_6 (ix2 0 e)) = fun e => f e * (insOf x0 x1 x2 x3 x4 x5 x6 x7 x8 x9 r).dkn e := by
  funext e
  refine congrArg (f e * ·) ?_
  unfold insOf
  pointwise

/-- The differential queries. -/
theorem out10 (n : Fin 256) : out0_10 x0 x1 x2 x3 x4 x5 x6 x7 x8 x9 (ix3 0 r n) = (insOf x0 x1 x2 x3 x4 x5 x6 x7 x8 x9 r).qa n := by
  unfold out0_10
  canon_tiles t h
  · idx_vars t
    obtain rfl : t0 = 0 := Subsingleton.elim _ _
    obtain rfl : r = t1 := Fin.ext (by simpa using h1)
    have hl : Ins.lane n = t2 := Fin.ext (by simp only; omega)
    rw [qa1, rope0 x0 x1 x2 x3 x4 x5 x6 x7 x8 x9, seg0 x0 x1 x2 x3 x4 x5 x6 x7 x8 x9 _ 128 1 _ (by omega) rfl]
    unfold Ins.qa
    rw [Ins.slab_eq _ (show n.val / 128 = 1 by omega) _ (by decide), hl]
  · idx_vars t
    obtain rfl : t0 = 0 := Subsingleton.elim _ _
    obtain rfl : r = t1 := Fin.ext (by simpa using h1)
    have hl : Ins.lane n = t2 := Fin.ext (by simp only; omega)
    rw [qa0, rope0 x0 x1 x2 x3 x4 x5 x6 x7 x8 x9, seg0 x0 x1 x2 x3 x4 x5 x6 x7 x8 x9 _ 0 0 _ (by omega) rfl]
    unfold Ins.qa
    rw [Ins.slab_eq _ (show n.val / 128 = 0 by omega) _ (by decide), hl]

/-- The differential keys. -/
theorem out11 (n : Fin 256) : out0_11 x0 x1 x2 x3 x4 x5 x6 x7 x8 x9 (ix3 0 n r) = (insOf x0 x1 x2 x3 x4 x5 x6 x7 x8 x9 r).ka n := by
  unfold out0_11
  canon_tiles t h
  · idx_vars t
    obtain rfl : t0 = 0 := Subsingleton.elim _ _
    obtain rfl : r = t2 := Fin.ext (by simpa using h2)
    have hl : Ins.lane n = t1 := Fin.ext (by simp only; omega)
    rw [ka1, rope0 x0 x1 x2 x3 x4 x5 x6 x7 x8 x9, seg0 x0 x1 x2 x3 x4 x5 x6 x7 x8 x9 _ 384 3 _ (by omega) rfl]
    unfold Ins.ka
    rw [Ins.slab_eq _ (show 2 + n.val / 128 = 3 by omega) _ (by decide), hl]
  · idx_vars t
    obtain rfl : t0 = 0 := Subsingleton.elim _ _
    obtain rfl : r = t2 := Fin.ext (by simpa using h2)
    have hl : Ins.lane n = t1 := Fin.ext (by simp only; omega)
    rw [ka0, rope0 x0 x1 x2 x3 x4 x5 x6 x7 x8 x9, seg0 x0 x1 x2 x3 x4 x5 x6 x7 x8 x9 _ 256 2 _ (by omega) rfl]
    unfold Ins.ka
    rw [Ins.slab_eq _ (show 2 + n.val / 128 = 2 by omega) _ (by decide), hl]

/-- The differential values. -/
theorem out12 (n : Fin 256) : out0_12 x0 x1 x2 x3 x4 x5 x6 x7 x8 x9 (ix3 0 r n) = (insOf x0 x1 x2 x3 x4 x5 x6 x7 x8 x9 r).va n := by
  unfold out0_12
  canon_tiles t h
  · idx_vars t
    obtain rfl : t0 = 0 := Subsingleton.elim _ _
    obtain rfl : r = t1 := Fin.ext (by simpa using h1)
    have hl : Ins.lane n = t2 := Fin.ext (by simp only; omega)
    rw [va1, seg0 x0 x1 x2 x3 x4 x5 x6 x7 x8 x9 _ 640 5 _ (by omega) rfl]
    unfold Ins.va
    rw [Ins.slab_eq _ (show 4 + n.val / 128 = 5 by omega) _ (by decide), hl]
  · idx_vars t
    obtain rfl : t0 = 0 := Subsingleton.elim _ _
    obtain rfl : r = t1 := Fin.ext (by simpa using h1)
    have hl : Ins.lane n = t2 := Fin.ext (by simp only; omega)
    rw [va0, seg0 x0 x1 x2 x3 x4 x5 x6 x7 x8 x9 _ 512 4 _ (by omega) rfl]
    unfold Ins.va
    rw [Ins.slab_eq _ (show 4 + n.val / 128 = 4 by omega) _ (by decide), hl]

/-- The neighbourhood queries. -/
theorem out13 (n : Fin 256) : out0_13 x0 x1 x2 x3 x4 x5 x6 x7 x8 x9 (ix3 0 r n) = (insOf x0 x1 x2 x3 x4 x5 x6 x7 x8 x9 r).qb n := by
  unfold out0_13
  canon_tiles t h
  · idx_vars t
    obtain rfl : t0 = 0 := Subsingleton.elim _ _
    obtain rfl : r = t1 := Fin.ext (by simpa using h1)
    have hl : Ins.lane n = t2 := Fin.ext (by simp only; omega)
    rw [qb1, seg1 x0 x1 x2 x3 x4 x5 x6 x7 x8 x9 _ 128 7 _ (by omega) rfl]
    unfold Ins.qb
    rw [Ins.slab_eq _ (show 6 + n.val / 128 = 7 by omega) _ (by decide), hl]
  · idx_vars t
    obtain rfl : t0 = 0 := Subsingleton.elim _ _
    obtain rfl : r = t1 := Fin.ext (by simpa using h1)
    have hl : Ins.lane n = t2 := Fin.ext (by simp only; omega)
    rw [qb0, seg1 x0 x1 x2 x3 x4 x5 x6 x7 x8 x9 _ 0 6 _ (by omega) rfl]
    unfold Ins.qb
    rw [Ins.slab_eq _ (show 6 + n.val / 128 = 6 by omega) _ (by decide), hl]

/-- The neighbourhood keys. -/
theorem out14 (n : Fin 256) : out0_14 x0 x1 x2 x3 x4 x5 x6 x7 x8 x9 (ix3 0 n r) = (insOf x0 x1 x2 x3 x4 x5 x6 x7 x8 x9 r).kb n := by
  unfold out0_14
  canon_tiles t h
  · idx_vars t
    obtain rfl : t0 = 0 := Subsingleton.elim _ _
    obtain rfl : r = t2 := Fin.ext (by simpa using h2)
    have hl : Ins.lane n = t1 := Fin.ext (by simp only; omega)
    rw [kb1, seg1 x0 x1 x2 x3 x4 x5 x6 x7 x8 x9 _ 384 9 _ (by omega) rfl]
    unfold Ins.kb
    rw [Ins.slab_eq _ (show 8 + n.val / 128 = 9 by omega) _ (by decide), hl]
  · idx_vars t
    obtain rfl : t0 = 0 := Subsingleton.elim _ _
    obtain rfl : r = t2 := Fin.ext (by simpa using h2)
    have hl : Ins.lane n = t1 := Fin.ext (by simp only; omega)
    rw [kb0, seg1 x0 x1 x2 x3 x4 x5 x6 x7 x8 x9 _ 256 8 _ (by omega) rfl]
    unfold Ins.kb
    rw [Ins.slab_eq _ (show 8 + n.val / 128 = 8 by omega) _ (by decide), hl]

/-- The neighbourhood values. -/
theorem out15 (n : Fin 512) : out0_15 x0 x1 x2 x3 x4 x5 x6 x7 x8 x9 (ix3 0 r n) = (insOf x0 x1 x2 x3 x4 x5 x6 x7 x8 x9 r).vb n := by
  unfold out0_15
  canon_tiles t h
  · idx_vars t
    obtain rfl : t0 = 0 := Subsingleton.elim _ _
    obtain rfl : r = t1 := Fin.ext (by simpa using h1)
    have hl : Ins.lane n = t2 := Fin.ext (by simp only; omega)
    rw [vb3, seg1 x0 x1 x2 x3 x4 x5 x6 x7 x8 x9 _ 640 11 _ (by omega) rfl]
    unfold Ins.vb
    rw [Ins.slab_eq _ (show 10 + n.val / 256 = 11 by omega) _ (by decide), hl]
    simp only [show n.val / 128 = 3 by omega]
    rfl
  · idx_vars t
    obtain rfl : t0 = 0 := Subsingleton.elim _ _
    obtain rfl : r = t1 := Fin.ext (by simpa using h1)
    have hl : Ins.lane n = t2 := Fin.ext (by simp only; omega)
    rw [vb2, seg1 x0 x1 x2 x3 x4 x5 x6 x7 x8 x9 _ 640 11 _ (by omega) rfl]
    unfold Ins.vb
    rw [Ins.slab_eq _ (show 10 + n.val / 256 = 11 by omega) _ (by decide), hl]
    simp only [show n.val / 128 = 2 by omega]
    rfl
  · idx_vars t
    obtain rfl : t0 = 0 := Subsingleton.elim _ _
    obtain rfl : r = t1 := Fin.ext (by simpa using h1)
    have hl : Ins.lane n = t2 := Fin.ext (by simp only; omega)
    rw [vb1, seg1 x0 x1 x2 x3 x4 x5 x6 x7 x8 x9 _ 512 10 _ (by omega) rfl]
    unfold Ins.vb
    rw [Ins.slab_eq _ (show 10 + n.val / 256 = 10 by omega) _ (by decide), hl]
    simp only [show n.val / 128 = 1 by omega]
    rfl
  · idx_vars t
    obtain rfl : t0 = 0 := Subsingleton.elim _ _
    obtain rfl : r = t1 := Fin.ext (by simpa using h1)
    have hl : Ins.lane n = t2 := Fin.ext (by simp only; omega)
    rw [vb0, seg1 x0 x1 x2 x3 x4 x5 x6 x7 x8 x9 _ 512 10 _ (by omega) rfl]
    unfold Ins.vb
    rw [Ins.slab_eq _ (show 10 + n.val / 256 = 10 by omega) _ (by decide), hl]
    simp only [show n.val / 128 = 0 by omega]
    rfl

/-- The latent queries. -/
theorem out16 (n : Fin 512) : out0_16 x0 x1 x2 x3 x4 x5 x6 x7 x8 x9 (ix3 0 r n) = (insOf x0 x1 x2 x3 x4 x5 x6 x7 x8 x9 r).qc n := by
  unfold out0_16
  canon_tiles t h
  · idx_vars t
    obtain rfl : t0 = 0 := Subsingleton.elim _ _
    obtain rfl : r = t1 := Fin.ext (by simpa using h1)
    have hl : Ins.lane n = t2 := Fin.ext (by simp only; omega)
    rw [qc3, rope1 x0 x1 x2 x3 x4 x5 x6 x7 x8 x9, segq x0 x1 x2 x3 x4 x5 x6 x7 x8 x9 _ 384 3 _ (by omega) rfl]
    unfold Ins.qc
    simp only [show n.val / 128 = 3 by omega, hl]
  · idx_vars t
    obtain rfl : t0 = 0 := Subsingleton.elim _ _
    obtain rfl : r = t1 := Fin.ext (by simpa using h1)
    have hl : Ins.lane n = t2 := Fin.ext (by simp only; omega)
    rw [qc2, rope1 x0 x1 x2 x3 x4 x5 x6 x7 x8 x9, segq x0 x1 x2 x3 x4 x5 x6 x7 x8 x9 _ 256 2 _ (by omega) rfl]
    unfold Ins.qc
    simp only [show n.val / 128 = 2 by omega, hl]
  · idx_vars t
    obtain rfl : t0 = 0 := Subsingleton.elim _ _
    obtain rfl : r = t1 := Fin.ext (by simpa using h1)
    have hl : Ins.lane n = t2 := Fin.ext (by simp only; omega)
    rw [qc1, rope1 x0 x1 x2 x3 x4 x5 x6 x7 x8 x9, segq x0 x1 x2 x3 x4 x5 x6 x7 x8 x9 _ 128 1 _ (by omega) rfl]
    unfold Ins.qc
    simp only [show n.val / 128 = 1 by omega, hl]
  · idx_vars t
    obtain rfl : t0 = 0 := Subsingleton.elim _ _
    obtain rfl : r = t1 := Fin.ext (by simpa using h1)
    have hl : Ins.lane n = t2 := Fin.ext (by simp only; omega)
    rw [qc0, rope1 x0 x1 x2 x3 x4 x5 x6 x7 x8 x9, segq x0 x1 x2 x3 x4 x5 x6 x7 x8 x9 _ 0 0 _ (by omega) rfl]
    unfold Ins.qc
    simp only [show n.val / 128 = 0 by omega, hl]

/-- The latent keys. -/
theorem out17 (n : Fin 512) : out0_17 x0 x1 x2 x3 x4 x5 x6 x7 x8 x9 (ix3 0 n r) = (insOf x0 x1 x2 x3 x4 x5 x6 x7 x8 x9 r).kc n := by
  unfold out0_17
  canon_tiles t h
  · idx_vars t
    obtain rfl : t0 = 0 := Subsingleton.elim _ _
    obtain rfl : r = t2 := Fin.ext (by simpa using h2)
    have hl : Ins.lane n = t1 := Fin.ext (by simp only; omega)
    rw [kc3, kr_eq x0 x1 x2 x3 x4 x5 x6 x7 x8 x9, segkv x0 x1 x2 x3 x4 x5 x6 x7 x8 x9 _ 384 3 _ (by omega) rfl]
    unfold Ins.kc
    simp only [show n.val / 128 = 3 by omega, show n.val % 128 = t1.val by omega, hl]
  · idx_vars t
    obtain rfl : t0 = 0 := Subsingleton.elim _ _
    obtain rfl : r = t2 := Fin.ext (by simpa using h2)
    have hl : Ins.lane n = t1 := Fin.ext (by simp only; omega)
    rw [kc2, kr_eq x0 x1 x2 x3 x4 x5 x6 x7 x8 x9, segkv x0 x1 x2 x3 x4 x5 x6 x7 x8 x9 _ 256 2 _ (by omega) rfl]
    unfold Ins.kc
    simp only [show n.val / 128 = 2 by omega, show n.val % 128 = t1.val by omega, hl]
  · idx_vars t
    obtain rfl : t0 = 0 := Subsingleton.elim _ _
    obtain rfl : r = t2 := Fin.ext (by simpa using h2)
    have hl : Ins.lane n = t1 := Fin.ext (by simp only; omega)
    rw [kc1, kr_eq x0 x1 x2 x3 x4 x5 x6 x7 x8 x9, segkv x0 x1 x2 x3 x4 x5 x6 x7 x8 x9 _ 128 1 _ (by omega) rfl]
    unfold Ins.kc
    simp only [show n.val / 128 = 1 by omega, show n.val % 128 = t1.val by omega, hl]
  · idx_vars t
    obtain rfl : t0 = 0 := Subsingleton.elim _ _
    obtain rfl : r = t2 := Fin.ext (by simpa using h2)
    have hl : Ins.lane n = t1 := Fin.ext (by simp only; omega)
    rw [kc0, kr_eq x0 x1 x2 x3 x4 x5 x6 x7 x8 x9, segkv x0 x1 x2 x3 x4 x5 x6 x7 x8 x9 _ 0 0 _ (by omega) rfl]
    unfold Ins.kc
    simp only [show n.val / 128 = 0 by omega, show n.val % 128 = t1.val by omega, hl]

/-- The latent values. -/
theorem out18 (n : Fin 512) : out0_18 x0 x1 x2 x3 x4 x5 x6 x7 x8 x9 (ix3 0 r n) = (insOf x0 x1 x2 x3 x4 x5 x6 x7 x8 x9 r).vc n := by
  unfold out0_18
  canon_tiles t h
  · idx_vars t
    obtain rfl : t0 = 0 := Subsingleton.elim _ _
    obtain rfl : r = t1 := Fin.ext (by simpa using h1)
    have hl : Ins.lane n = t2 := Fin.ext (by simp only; omega)
    rw [vc3, segkv x0 x1 x2 x3 x4 x5 x6 x7 x8 x9 _ 896 7 _ (by omega) rfl]
    unfold Ins.vc
    simp only [show n.val / 128 = 3 by omega, hl]
  · idx_vars t
    obtain rfl : t0 = 0 := Subsingleton.elim _ _
    obtain rfl : r = t1 := Fin.ext (by simpa using h1)
    have hl : Ins.lane n = t2 := Fin.ext (by simp only; omega)
    rw [vc2, segkv x0 x1 x2 x3 x4 x5 x6 x7 x8 x9 _ 768 6 _ (by omega) rfl]
    unfold Ins.vc
    simp only [show n.val / 128 = 2 by omega, hl]
  · idx_vars t
    obtain rfl : t0 = 0 := Subsingleton.elim _ _
    obtain rfl : r = t1 := Fin.ext (by simpa using h1)
    have hl : Ins.lane n = t2 := Fin.ext (by simp only; omega)
    rw [vc1, segkv x0 x1 x2 x3 x4 x5 x6 x7 x8 x9 _ 640 5 _ (by omega) rfl]
    unfold Ins.vc
    simp only [show n.val / 128 = 1 by omega, hl]
  · idx_vars t
    obtain rfl : t0 = 0 := Subsingleton.elim _ _
    obtain rfl : r = t1 := Fin.ext (by simpa using h1)
    have hl : Ins.lane n = t2 := Fin.ext (by simp only; omega)
    rw [vc0, segkv x0 x1 x2 x3 x4 x5 x6 x7 x8 x9 _ 512 4 _ (by omega) rfl]
    unfold Ins.vc
    simp only [show n.val / 128 = 0 by omega, hl]

/-- The grouped queries. -/
theorem out19 (n : Fin 256) : out0_19 x0 x1 x2 x3 x4 x5 x6 x7 x8 x9 (ix3 0 r n) = (insOf x0 x1 x2 x3 x4 x5 x6 x7 x8 x9 r).qd n := by
  unfold out0_19
  canon_tiles t h
  · idx_vars t
    obtain rfl : t0 = 0 := Subsingleton.elim _ _
    obtain rfl : r = t1 := Fin.ext (by simpa using h1)
    have hl : Ins.lane n = t2 := Fin.ext (by simp only; omega)
    rw [qd1, rope2 x0 x1 x2 x3 x4 x5 x6 x7 x8 x9, seg2 x0 x1 x2 x3 x4 x5 x6 x7 x8 x9 _ 128 13 _ (by omega) rfl, gain_q x0 x1 x2 x3 x4 x5 x6 x7 x8 x9 r]
    unfold Ins.qd
    rw [Ins.slab_eq _ (show 12 + n.val / 128 = 13 by omega) _ (by decide), hl]
  · idx_vars t
    obtain rfl : t0 = 0 := Subsingleton.elim _ _
    obtain rfl : r = t1 := Fin.ext (by simpa using h1)
    have hl : Ins.lane n = t2 := Fin.ext (by simp only; omega)
    rw [qd0, rope2 x0 x1 x2 x3 x4 x5 x6 x7 x8 x9, seg2 x0 x1 x2 x3 x4 x5 x6 x7 x8 x9 _ 0 12 _ (by omega) rfl, gain_q x0 x1 x2 x3 x4 x5 x6 x7 x8 x9 r]
    unfold Ins.qd
    rw [Ins.slab_eq _ (show 12 + n.val / 128 = 12 by omega) _ (by decide), hl]

/-- The grouped keys. -/
theorem out20 (n : Fin 128) : out0_20 x0 x1 x2 x3 x4 x5 x6 x7 x8 x9 (ix3 0 n r) = (insOf x0 x1 x2 x3 x4 x5 x6 x7 x8 x9 r).kd n := by
  unfold out0_20
  canon_tiles t h
  idx_vars t
  obtain rfl : t0 = 0 := Subsingleton.elim _ _
  obtain rfl : r = t2 := Fin.ext (by simpa using h2)
  obtain rfl : n = t1 := Fin.ext (by simpa using h1)
  rw [kd0, rope2 x0 x1 x2 x3 x4 x5 x6 x7 x8 x9, seg2 x0 x1 x2 x3 x4 x5 x6 x7 x8 x9 _ 256 14 _ (by omega) rfl, gain_k x0 x1 x2 x3 x4 x5 x6 x7 x8 x9 r]
  rfl

/-- The grouped values. -/
theorem out21 (n : Fin 256) : out0_21 x0 x1 x2 x3 x4 x5 x6 x7 x8 x9 (ix3 0 r n) = (insOf x0 x1 x2 x3 x4 x5 x6 x7 x8 x9 r).vd n := by
  unfold out0_21
  canon_tiles t h
  · idx_vars t
    obtain rfl : t0 = 0 := Subsingleton.elim _ _
    obtain rfl : r = t1 := Fin.ext (by simpa using h1)
    have hl : Ins.lane n = t2 := Fin.ext (by simp only; omega)
    rw [vd1, seg2 x0 x1 x2 x3 x4 x5 x6 x7 x8 x9 _ 384 15 _ (by omega) rfl]
    unfold Ins.vd
    simp only [show n.val / 128 = 1 by omega, hl]
    rfl
  · idx_vars t
    obtain rfl : t0 = 0 := Subsingleton.elim _ _
    obtain rfl : r = t1 := Fin.ext (by simpa using h1)
    have hl : Ins.lane n = t2 := Fin.ext (by simp only; omega)
    rw [vd0, seg2 x0 x1 x2 x3 x4 x5 x6 x7 x8 x9 _ 384 15 _ (by omega) rfl]
    unfold Ins.vd
    simp only [show n.val / 128 = 0 by omega, hl]
    rfl

end Cert.InprojIdeal.Gen

end
-- ==== Proof.InprojTok.lean ====
/-
  One token of the input projection: what its results depend on, and the packing of it that the launch reads.
-/
module

public import proofs.«01_k».proof.Proof.InprojRow

@[expose] public section

noncomputable section

namespace Cert.InprojRow

open Idealize.ShloMosaic Cert.Rms Cert.SoftRow

/-- A token's row, the weights and norms of the layer, and the token's angles. -/
structure Tok where
  x : Fin 1024 → EReal
  g : Fin 1024 → EReal
  w : Fin 1024 → Fin 6496 → EReal
  ang : Fin 16 → EReal
  row : Fin 16 → EReal
  col : Fin 16 → EReal
  cqn : Fin 192 → EReal
  ckvn : Fin 128 → EReal
  wuq : Fin 192 → Fin 384 → EReal
  wukv : Fin 128 → Fin 512 → EReal
  dqn : Fin 64 → EReal
  dkn : Fin 64 → EReal

/-- The columns of the projection in the launch's order, zeros between them. -/
def mix (w : Fin 6496 → EReal) (n : Fin 2560) : EReal :=
  if n.val < 1536 then w ⟨n, by omega⟩
  else if n.val < 2048 then w ⟨n + 352, by omega⟩
  else if n.val < 2240 then w ⟨n - 512, by omega⟩
  else if n.val < 2304 then 0
  else if n.val < 2432 then w ⟨n - 576, by omega⟩
  else if n.val < 2496 then 0
  else if n.val < 2528 then w ⟨n - 640, by omega⟩
  else 0

/-- A function of a lane at two equal lanes. -/
theorem at_eq {N : ℕ} (w : Fin N → EReal) {a b : ℕ} (ha : a < N) (hb : b < N) (h : a = b) : w ⟨a, ha⟩ = w ⟨b, hb⟩ := by subst h; rfl

/-- Columns 0 to 1535. -/
theorem mix_0 (w : Fin 6496 → EReal) (n : Fin 2560) (h' : n.val < 1536) : mix w n = w ⟨n.val, by omega⟩ := by
  unfold mix
  rw [if_pos h']

/-- Columns 1536 to 2047. -/
theorem mix_1 (w : Fin 6496 → EReal) (n : Fin 2560) (h : 1536 ≤ n.val) (h' : n.val < 2048) : mix w n = w ⟨n.val + 352, by omega⟩ := by
  unfold mix
  rw [if_neg (show ¬n.val < 1536 by omega), if_pos h']

/-- Columns 2048 to 2239. -/
theorem mix_2 (w : Fin 6496 → EReal) (n : Fin 2560) (h : 2048 ≤ n.val) (h' : n.val < 2240) : mix w n = w ⟨n.val - 512, by omega⟩ := by
  unfold mix
  rw [if_neg (show ¬n.val < 1536 by omega), if_neg (show ¬n.val < 2048 by omega), if_pos h']

/-- Columns 2240 to 2303. -/
theorem mix_3 (w : Fin 6496 → EReal) (n : Fin 2560) (h : 2240 ≤ n.val) (h' : n.val < 2304) : mix w n = 0 := by
  unfold mix
  rw [if_neg (show ¬n.val < 1536 by omega), if_neg (show ¬n.val < 2048 by omega), if_neg (show ¬n.val < 2240 by omega), if_pos h']

/-- Columns 2304 to 2431. -/
theorem mix_4 (w : Fin 6496 → EReal) (n : Fin 2560) (h : 2304 ≤ n.val) (h' : n.val < 2432) : mix w n = w ⟨n.val - 576, by omega⟩ := by
  unfold mix
  rw [if_neg (show ¬n.val < 1536 by omega), if_neg (show ¬n.val < 2048 by omega), if_neg (show ¬n.val < 2240 by omega), if_neg (show ¬n.val < 2304 by omega), if_pos h']

/-- Columns 2432 to 2495. -/
theorem mix_5 (w : Fin 6496 → EReal) (n : Fin 2560) (h : 2432 ≤ n.val) (h' : n.val < 2496) : mix w n = 0 := by
  unfold mix
  rw [if_neg (show ¬n.val < 1536 by omega), if_neg (show ¬n.val < 2048 by omega), if_neg (show ¬n.val < 2240 by omega), if_neg (show ¬n.val < 2304 by omega), if_neg (show ¬n.val < 2432 by omega), if_pos h']

/-- Columns 2496 to 2527. -/
theorem mix_6 (w : Fin 6496 → EReal) (n : Fin 2560) (h : 2496 ≤ n.val) (h' : n.val < 2528) : mix w n = w ⟨n.val - 640, by omega⟩ := by
  unfold mix
  rw [if_neg (show ¬n.val < 1536 by omega), if_neg (show ¬n.val < 2048 by omega), if_neg (show ¬n.val < 2240 by omega), if_neg (show ¬n.val < 2304 by omega), if_neg (show ¬n.val < 2432 by omega), if_neg (show ¬n.val < 2496 by omega), if_pos h']

/-- Columns 2528 to 2559. -/
theorem mix_7 (w : Fin 6496 → EReal) (n : Fin 2560) (h : 2528 ≤ n.val) : mix w n = 0 := by
  unfold mix
  rw [if_neg (show ¬n.val < 1536 by omega), if_neg (show ¬n.val < 2048 by omega), if_neg (show ¬n.val < 2240 by omega), if_neg (show ¬n.val < 2304 by omega), if_neg (show ¬n.val < 2432 by omega), if_neg (show ¬n.val < 2496 by omega), if_neg (show ¬n.val < 2528 by omega)]

/-- The angle of a lane. -/
abbrev at16 (a : Fin 16 → EReal) (d : Fin 128) : EReal := a ⟨d.val % 16, Nat.mod_lt _ (by omega)⟩

/-- The three tables of a rotary embedding over 32 lanes, by the lane: its own weight, that of the lane 16 ahead and that of
    the lane 16 behind. -/
def trio (a : Fin 16 → EReal) (i : Fin 3) (d : Fin 128) : EReal :=
  if i = 0 then Ideal.cos (at16 a d)
  else if i = 1 then (if d.val % 32 < 16 then -Ideal.sin (at16 a d) else 0)
  else (if d.val % 32 < 16 then 0 else Ideal.sin (at16 a d))

/-- The nine tables. -/
def tables (ang row col : Fin 16 → EReal) (v : Fin 9) (d : Fin 128) : EReal :=
  if h : v.val < 3 then trio ang ⟨v.val, h⟩ d
  else if h : v.val < 6 then
    (if 64 ≤ d.val ∧ d.val < 96 then trio ang ⟨v.val - 3, by omega⟩ d else if v.val = 3 then 1 else 0)
  else if d.val % 64 < 32 then trio row ⟨v.val - 6, by omega⟩ d else trio col ⟨v.val - 6, by omega⟩ d

/-- The up-projection of the queries, each head's 96 columns followed by zeros, zero rows below. -/
def padq (w : Fin 192 → Fin 384 → EReal) (e : Fin 256) (n : Fin 512) : EReal :=
  if h : e.val < 192 ∧ n.val % 128 < 96 then w ⟨e, h.1⟩ ⟨96 * (n / 128) + n % 128, by have := h.2; omega⟩ else 0

/-- The up-projection of the keys and then of the values, each head's 64 columns followed by zeros. -/
def padkv (w : Fin 512 → EReal) (n : Fin 1024) : EReal :=
  if h : n.val % 128 < 64 then
    (if h' : n.val < 512 then w ⟨128 * (n / 128) + n % 128, by omega⟩ else w ⟨128 * (n / 128 - 4) + 64 + n % 128, by omega⟩)
  else 0

/-- A token as the launch reads it. -/
def Tok.pack (T : Tok) (r : EReal) : Ins where
  x := T.x
  g := T.g
  w k := mix (T.w k)
  tab := tables T.ang T.row T.col
  cqn e := if h : e.val < 192 then T.cqn ⟨e, h⟩ else 0
  ckvn := T.ckvn
  wuq := padq T.wuq
  wukv e := padkv (T.wukv e)
  dqn d := T.dqn ⟨d.val % 64, Nat.mod_lt _ (by omega)⟩
  dkn d := T.dkn ⟨d.val % 64, Nat.mod_lt _ (by omega)⟩
  r := r

end Cert.InprojRow

end
-- ==== Proof.InprojReads.lean ====
/-
  What the input projection's launch reads: the arguments, packed on the host.
-/
module

public import proofs.«01_k».proof.Proof.InprojTok
public import proofs.«01_k».proof.Proof.Gen.InprojIdeal.Value
public import Idealize.ShloMosaic.Lib.Pipeline.ValueKit
public import Idealize.ShloMosaic.Lib.StableHlo.ReadAt

@[expose] public section

set_option maxRecDepth 16384

noncomputable section

namespace Cert.InprojIdeal.Tile

open Cert.InprojIdeal Cert.InprojIdeal.Gen Idealize.ShloMosaic Idealize.ShloMosaic.TcCoe Idealize.SL.Sem Cert.InprojRow

variable (m : (ℓ : Loc nD τ sig) → Buf (Elt Ideal) ℓ)

/-- The integer zero as a number. -/
theorem zero_i : (FloatOps.sitofp (F := Ideal) FTy.f32 0#32 : EReal) = 0 := by
  show ((BitVec.toInt 0#32 : ℝ) : EReal) = 0
  simp

/-- The projection's columns. -/
theorem read_w (c : Dev nD) (k : Fin 1024) (n : Fin 2560) : V m c main_v25 (ix2 k n) = mix (fun j => m ((c : Thread nD τ).loc main_arg2) (ix2 k j)) n := by
  unfold V
  after_reads_at
  by_cases h0 : n.val < 768
  · refine (dif_pos (show n.val < 768 by omega)).trans ?_
    refine Eq.trans ?_ (mix_0 _ n (by omega)).symm
    after_reads_at
  refine (dif_neg (show ¬n.val < 768 by omega)).trans ?_
  by_cases h1 : n.val < 1536
  · refine (dif_pos (show n.val - 768 < 768 by omega)).trans ?_
    refine Eq.trans ?_ (mix_0 _ n (by omega)).symm
    after_reads_at
    exact at_eq (fun j => m ((c : Thread nD τ).loc main_arg2) (ix2 k j)) _ _ (by omega)
  refine (dif_neg (show ¬n.val - 768 < 768 by omega)).trans ?_
  by_cases h2 : n.val < 2048
  · refine (dif_pos (show n.val - 768 - 768 < 512 by omega)).trans ?_
    refine Eq.trans ?_ (mix_1 _ n (by omega) (by omega)).symm
    after_reads_at
    exact at_eq (fun j => m ((c : Thread nD τ).loc main_arg2) (ix2 k j)) _ _ (by omega)
  refine (dif_neg (show ¬n.val - 768 - 768 < 512 by omega)).trans ?_
  by_cases h3 : n.val < 2240
  · refine (dif_pos (show n.val - 768 - 768 - 512 < 192 by omega)).trans ?_
    refine Eq.trans ?_ (mix_2 _ n (by omega) (by omega)).symm
    after_reads_at
    exact at_eq (fun j => m ((c : Thread nD τ).loc main_arg2) (ix2 k j)) _ _ (by omega)
  refine (dif_neg (show ¬n.val - 768 - 768 - 512 < 192 by omega)).trans ?_
  by_cases h4 : n.val < 2304
  · refine (dif_pos (show n.val - 768 - 768 - 512 - 192 < 64 by omega)).trans ?_
    refine Eq.trans ?_ (mix_3 _ n (by omega) (by omega)).symm
    after_reads_at
  refine (dif_neg (show ¬n.val - 768 - 768 - 512 - 192 < 64 by omega)).trans ?_
  by_cases h5 : n.val < 2432
  · refine (dif_pos (show n.val - 768 - 768 - 512 - 192 - 64 < 128 by omega)).trans ?_
    refine Eq.trans ?_ (mix_4 _ n (by omega) (by omega)).symm
    after_reads_at
    exact at_eq (fun j => m ((c : Thread nD τ).loc main_arg2) (ix2 k j)) _ _ (by omega)
  refine (dif_neg (show ¬n.val - 768 - 768 - 512 - 192 - 64 < 128 by omega)).trans ?_
  by_cases h6 : n.val < 2496
  · refine (dif_pos (show n.val - 768 - 768 - 512 - 192 - 64 - 128 < 64 by omega)).trans ?_
    refine Eq.trans ?_ (mix_5 _ n (by omega) (by omega)).symm
    after_reads_at
  refine (dif_neg (show ¬n.val - 768 - 768 - 512 - 192 - 64 - 128 < 64 by omega)).trans ?_
  by_cases h7 : n.val < 2528
  · refine (dif_pos (show n.val - 768 - 768 - 512 - 192 - 64 - 128 - 64 < 32 by omega)).trans ?_
    refine Eq.trans ?_ (mix_6 _ n (by omega) (by omega)).symm
    after_reads_at
    exact at_eq (fun j => m ((c : Thread nD τ).loc main_arg2) (ix2 k j)) _ _ (by omega)
  refine (dif_neg (show ¬n.val - 768 - 768 - 512 - 192 - 64 - 128 - 64 < 32 by omega)).trans ?_
  refine Eq.trans ?_ (mix_7 _ n (by omega)).symm
  after_reads_at

/-- The token array is the first argument. -/
theorem read_x (c : Dev nD) (b : Fin 32) (n : Fin 2048) (k : Fin 1024) : V m c main_arg0 (ix3 b n k) = m ((c : Thread nD τ).loc main_arg0) (ix3 b n k) := by
  unfold V
  after_reads_at

/-- The gain as a row. -/
theorem read_g (c : Dev nD) (k : Fin 1024) : V m c main_v37 (ix2 0 k) = m ((c : Thread nD τ).loc main_arg1) (ix1 k) := by
  unfold V
  after_reads_at

/-- The latent queries' gain, followed by zeros. -/
theorem read_cqn (c : Dev nD) (e : Fin 256) : V m c main_v24 (ix2 0 e) = if h : e.val < 192 then m ((c : Thread nD τ).loc main_arg6) (ix1 ⟨e.val, h⟩) else (0 : EReal) := by
  unfold V
  after_reads_at
  by_cases h : e.val < 192
  · exact (dif_pos h).trans (by rw [dif_pos h])
  · exact (dif_neg h).trans (zero_i.trans (by rw [dif_neg h]))

/-- The latent keys' gain as a row. -/
theorem read_ckvn (c : Dev nD) (k : Fin 128) : V m c main_v26 (ix2 0 k) = m ((c : Thread nD τ).loc main_arg7) (ix1 k) := by
  unfold V
  after_reads_at

/-- The up-projection of the latent queries, padded. -/
theorem read_wuq (c : Dev nD) (e : Fin 256) (n : Fin 512) : V m c main_v27 (ix2 e n) = padq (fun a b => m ((c : Thread nD τ).loc main_arg8) (ix2 a b)) e n := by
  unfold V
  after_reads_at
  unfold padq
  by_cases h : e.val < 192 ∧ n.val % 128 < 96
  · refine (dif_pos ⟨h.1, by omega, h.2⟩).trans (Eq.trans ?_ (dif_pos h).symm)
    exact at_eq (fun j => m ((c : Thread nD τ).loc main_arg8) (ix2 ⟨e.val, h.1⟩ j)) _ _ (by omega)
  · exact (dif_neg fun h' => h ⟨h'.1, h'.2.2⟩).trans (zero_i.trans (by rw [dif_neg h]))

/-- The up-projection of the latent keys and values, padded. -/
theorem read_wukv (c : Dev nD) (e : Fin 128) (n : Fin 1024) : V m c main_v28 (ix2 e n) = padkv (fun b => m ((c : Thread nD τ).loc main_arg9) (ix2 e b)) n := by
  unfold V
  after_reads_at
  by_cases h : n.val < 512
  · refine (dif_pos h).trans ?_
    after_reads_at
    unfold padkv
    by_cases h' : n.val % 128 < 64
    · refine (dif_pos ⟨by omega, h'⟩).trans (Eq.trans ?_ ((dif_pos h').trans (dif_pos h)).symm)
      exact at_eq (fun j => m ((c : Thread nD τ).loc main_arg9) (ix2 e j)) _ _ (by omega)
    · exact (dif_neg fun q => h' q.2).trans (zero_i.trans (by rw [dif_neg h']))
  · refine (dif_neg h).trans ?_
    after_reads_at
    unfold padkv
    by_cases h' : n.val % 128 < 64
    · refine (dif_pos ⟨by omega, by omega⟩).trans (Eq.trans ?_ ((dif_pos h').trans (dif_neg h)).symm)
      exact at_eq (fun j => m ((c : Thread nD τ).loc main_arg9) (ix2 e j)) _ _ (by omega)
    · exact (dif_neg fun q => h' (by have := q.2; omega)).trans (zero_i.trans (by rw [dif_neg h']))

/-- The grouped queries' gain, once per half of a slab. -/
theorem read_dqn (c : Dev nD) (d : Fin 128) : V m c main_v32 (ix2 0 d) = m ((c : Thread nD τ).loc main_arg10) (ix1 ⟨d.val % 64, by omega⟩) := by
  unfold V
  after_reads_at

/-- The grouped keys' gain, once per half of a slab. -/
theorem read_dkn (c : Dev nD) (d : Fin 128) : V m c main_v36 (ix2 0 d) = m ((c : Thread nD τ).loc main_arg11) (ix1 ⟨d.val % 64, by omega⟩) := by
  unfold V
  after_reads_at

end Cert.InprojIdeal.Tile

end
-- ==== Proof.InprojLanes.lean ====
/-
  The constants of the rotary tables, lane by lane, and the take of a lane's angle.
-/
module

public import proofs.«01_k».proof.Proof.InprojTok
public import proofs.«01_k».proof.Proof.Gen.InprojIdeal.Value
public import Idealize.ShloMosaic.Lib.Pipeline.ValueKit
public import Idealize.ShloMosaic.Lib.StableHlo.ReadAt

@[expose] public section

set_option maxRecDepth 16384

noncomputable section

namespace Cert.InprojIdeal.Tile

open Cert.InprojIdeal Cert.InprojIdeal.Gen Idealize.ShloMosaic Idealize.ShloMosaic.TcCoe Idealize.SL.Sem Cert.InprojRow

/-- A take of the columns of the angles, read at an entry. -/
theorem gather_cols {α : Type} (x : S2048x16.Idx → α) (idx : IVec S128x1 32) (s : Fin 2048) (d : Fin 128) :
    Host.gather gather_S2048x16_S128x1_S2048x128_0_1_n_n_1_1_20481 x idx (ix2 s d)
      = x (ix2 s ⟨min (idx (ix2 d 0)).toInt.toNat 15, by omega⟩) := by
  refine congrArg x (funext fun a => Fin.ext ?_)
  show gather_S2048x16_S128x1_S2048x128_0_1_n_n_1_1_20481.start (ix2 s d) idx a
    + gather_S2048x16_S128x1_S2048x128_0_1_n_n_1_1_20481.batchCoord (ix2 s d) a
    + gather_S2048x16_S128x1_S2048x128_0_1_n_n_1_1_20481.offCoord (ix2 s d) a = _
  rw [GatherDims.batchCoord_eq_zero _ _ _ (List.not_mem_nil), Nat.add_zero]
  have h01 : a = 0 ∨ a = 1 := by
    match a with
    | ⟨0, _⟩ => exact Or.inl rfl
    | ⟨1, _⟩ => exact Or.inr rfl
  rcases h01 with rfl | rfl
  · have h0 : gather_S2048x16_S128x1_S2048x128_0_1_n_n_1_1_20481.start (ix2 s d) idx 0 = 0 := by
      unfold GatherDims.start
      exact dif_neg (by decide)
    have h1 : gather_S2048x16_S128x1_S2048x128_0_1_n_n_1_1_20481.offCoord (ix2 s d) 0 = s.val := by
      unfold GatherDims.offCoord
      exact (dif_pos (by decide)).trans rfl
    rw [h0, h1, Nat.zero_add]
    rfl
  · have h1 : gather_S2048x16_S128x1_S2048x128_0_1_n_n_1_1_20481.offCoord (ix2 s d) 1 = 0 := by
      unfold GatherDims.offCoord
      exact dif_neg (by decide)
    have hi : gather_S2048x16_S128x1_S2048x128_0_1_n_n_1_1_20481.siIdx (ix2 s d) ⟨0, by decide⟩ = ix2 d 0 := by
      funext b
      refine Fin.ext ?_
      match b with
      | ⟨0, _⟩ => rfl
      | ⟨1, _⟩ => rfl
    have h0 : gather_S2048x16_S128x1_S2048x128_0_1_n_n_1_1_20481.start (ix2 s d) idx 1 = min (idx (ix2 d 0)).toInt.toNat 15 := by
      rw [← hi]
      unfold GatherDims.start
      exact (dif_pos (by decide)).trans rfl
    rw [h0, h1, Nat.add_zero]
    rfl

/-- A lane's place among the constants. -/
theorem lane_at (d : Fin 128) : (S128.rowMajor (ix1 d) : Fin 128) = d := Fin.ext (Shape.rowMajor_val_one (ix1 d))

/-- The index constant, for all lanes. -/
theorem freq_all : ∀ d : Fin 128, (lit1 d).toInt.toNat = d.val % 16 := by decide

/-- The first halves' constant, for all lanes. -/
theorem first_all : ∀ d : Fin 128, lit0 d = if d.val % 32 < 16 then 1#1 else 0#1 := by decide

/-- The row lanes' constant, for all lanes. -/
theorem axial_all : ∀ d : Fin 128, lit2 d = if d.val % 64 < 32 then 1#1 else 0#1 := by decide

/-- The turning lanes' constant, for all lanes. -/
theorem active_all : ∀ d : Fin 128, lit3 d = if 64 ≤ d.val ∧ d.val < 96 then 1#1 else 0#1 := by decide

/-- The first halves. -/
theorem first_at (d : Fin 128) : lit0 (S128.rowMajor (ix1 d)) = if d.val % 32 < 16 then 1#1 else 0#1 := (congrArg lit0 (lane_at d)).trans (first_all d)

/-- The row lanes. -/
theorem axial_at (d : Fin 128) : lit2 (S128.rowMajor (ix1 d)) = if d.val % 64 < 32 then 1#1 else 0#1 := (congrArg lit2 (lane_at d)).trans (axial_all d)

/-- The turning lanes. -/
theorem active_at (d : Fin 128) : lit3 (S128.rowMajor (ix1 d)) = if 64 ≤ d.val ∧ d.val < 96 then 1#1 else 0#1 := (congrArg lit3 (lane_at d)).trans (active_all d)

/-- A lane's angle by the take. -/
theorem take_at {α : Type} (x : S2048x16.Idx → α) (s : Fin 2048) (d : Fin 128) :
    Host.gather gather_S2048x16_S128x1_S2048x128_0_1_n_n_1_1_20481 x
      (broadcastInDim S128x1 ![0] bcast_S128_S128x1_0
        (select (constantI S128 1 0#1)
          (addi (fun i => lit1 (S128.rowMajor i)) (broadcastInDim S128 ![] bcast_S_S128 (constantI S_ 32 16#32)))
          fun i => lit1 (S128.rowMajor i))) (ix2 s d) = x (ix2 s ⟨d.val % 16, by omega⟩) := by
  refine (gather_cols x _ s d).trans (congrArg (fun k => x (ix2 s k)) (Fin.ext ?_))
  have h : (lit1 (S128.rowMajor (ix1 d))).toInt.toNat = d.val % 16 := (congrArg (fun e => (lit1 e).toInt.toNat) (lane_at d)).trans (freq_all d)
  have h' : ∀ w : BitVec 32, w = lit1 (S128.rowMajor (ix1 d)) → min w.toInt.toNat 15 = d.val % 16 := by
    intro w hw
    rw [hw, h]
    omega
  refine h' _ ?_
  pointwise
  try rfl

end Cert.InprojIdeal.Tile

end
-- ==== Proof.InprojTabs.lean ====
/-
  The rotary tables the input projection's launch reads, of the angles.
-/
module

public import proofs.«01_k».proof.Proof.InprojLanes
public import proofs.«01_k».proof.Proof.Gen.InprojIdeal.Value
public import Idealize.ShloMosaic.Lib.Pipeline.ValueKit
public import Idealize.ShloMosaic.Lib.StableHlo.ReadAt

@[expose] public section

set_option maxRecDepth 16384

noncomputable section

namespace Cert.InprojIdeal.Tile

open Cert.InprojIdeal Cert.InprojIdeal.Gen Idealize.ShloMosaic Idealize.ShloMosaic.TcCoe Idealize.SL.Sem Cert.InprojRow

variable (m : (ℓ : Loc nD τ sig) → Buf (Elt Ideal) ℓ)

/-- The constant zero. -/
theorem zero_c : (id (constant (F := Ideal) S_ FTy.f32 0#32) ix0 : EReal) = 0 := by
  simp only [id_eq]
  pointwise

/-- The constant one. -/
theorem one_c : (id (constant (F := Ideal) S_ FTy.f32 1065353216#32) ix0 : EReal) = 1 := by
  simp only [id_eq]
  pointwise

/-- The sequence tables: the own weights. -/
theorem tab0 (c : Dev nD) (s : Fin 2048) (d : Fin 128) : V m c main_v94 (ix3 0 s d)
    = Ideal.cos (m ((c : Thread nD τ).loc main_arg3) (ix2 s ⟨d.val % 16, by omega⟩)) := by
  unfold V
  after_reads_at
  after_reads_at
  refine (congrArg (fun z : EReal => Ideal.cos z)
    (take_at (m (c, Proc.tc.devRef main_arg3)) s d)).trans ?_
  beta_reduce
  first | rfl | exact zero_c | exact one_c

/-- The sequence tables: the weights of the lanes 16 ahead. -/
theorem tab1 (c : Dev nD) (s : Fin 2048) (d : Fin 128) : V m c main_v94 (ix3 1 s d)
    = if d.val % 32 < 16 then -Ideal.sin (m ((c : Thread nD τ).loc main_arg3) (ix2 s ⟨d.val % 16, by omega⟩)) else 0 := by
  unfold V
  after_reads_at
  after_reads_at
  refine (congrArg (fun z : EReal => Scalar.select (IntOp.andi (1#1) (lit0 (S128.rowMajor (ix1 d)))) (-Ideal.sin z) (id (constant (F := Ideal) S_ FTy.f32 0#32) ix0 : EReal))
    (take_at (m (c, Proc.tc.devRef main_arg3)) s d)).trans ?_
  beta_reduce
  rw [first_at]
  by_cases h1 : d.val % 32 < 16 <;>
    simp only [h1, if_true, if_false, and_self, not_false_eq_true, ite_true, ite_false] <;>
    first | rfl | exact zero_c | exact one_c

/-- The sequence tables: the weights of the lanes 16 behind. -/
theorem tab2 (c : Dev nD) (s : Fin 2048) (d : Fin 128) : V m c main_v94 (ix3 2 s d)
    = if d.val % 32 < 16 then 0 else Ideal.sin (m ((c : Thread nD τ).loc main_arg3) (ix2 s ⟨d.val % 16, by omega⟩)) := by
  unfold V
  after_reads_at
  after_reads_at
  refine (congrArg (fun z : EReal => Scalar.select (IntOp.andi (1#1) (~~~lit0 (S128.rowMajor (ix1 d)))) (Ideal.sin z) (id (constant (F := Ideal) S_ FTy.f32 0#32) ix0 : EReal))
    (take_at (m (c, Proc.tc.devRef main_arg3)) s d)).trans ?_
  beta_reduce
  rw [first_at]
  by_cases h1 : d.val % 32 < 16 <;>
    simp only [h1, if_true, if_false, and_self, not_false_eq_true, ite_true, ite_false] <;>
    first | rfl | exact zero_c | exact one_c

/-- The tables of the slabs whose lanes 64 to 95 turn: the own weights. -/
theorem tab3 (c : Dev nD) (s : Fin 2048) (d : Fin 128) : V m c main_v94 (ix3 3 s d)
    = if 64 ≤ d.val ∧ d.val < 96 then (Ideal.cos (m ((c : Thread nD τ).loc main_arg3) (ix2 s ⟨d.val % 16, by omega⟩))) else 1 := by
  unfold V
  after_reads_at
  after_reads_at
  refine (congrArg (fun z : EReal => Scalar.select (lit3 (S128.rowMajor (ix1 d))) (Ideal.cos z) (id (constant (F := Ideal) S_ FTy.f32 1065353216#32) ix0 : EReal))
    (take_at (m (c, Proc.tc.devRef main_arg3)) s d)).trans ?_
  beta_reduce
  rw [active_at]
  by_cases h2 : 64 ≤ d.val ∧ d.val < 96 <;>
    simp only [h2, if_true, if_false, and_self, not_false_eq_true, ite_true, ite_false] <;>
    first | rfl | exact zero_c | exact one_c

/-- The tables of the slabs whose lanes 64 to 95 turn: the weights of the lanes 16 ahead. -/
theorem tab4 (c : Dev nD) (s : Fin 2048) (d : Fin 128) : V m c main_v94 (ix3 4 s d)
    = if 64 ≤ d.val ∧ d.val < 96 then (if d.val % 32 < 16 then -Ideal.sin (m ((c : Thread nD τ).loc main_arg3) (ix2 s ⟨d.val % 16, by omega⟩)) else 0) else 0 := by
  unfold V
  after_reads_at
  after_reads_at
  refine (congrArg (fun z : EReal => Scalar.select (IntOp.andi (lit3 (S128.rowMajor (ix1 d))) (lit0 (S128.rowMajor (ix1 d)))) (-Ideal.sin z) (id (constant (F := Ideal) S_ FTy.f32 0#32) ix0 : EReal))
    (take_at (m (c, Proc.tc.devRef main_arg3)) s d)).trans ?_
  beta_reduce
  rw [first_at, active_at]
  by_cases h1 : d.val % 32 < 16 <;>
  by_cases h2 : 64 ≤ d.val ∧ d.val < 96 <;>
    simp only [h1, h2, if_true, if_false, and_self, not_false_eq_true, ite_true, ite_false] <;>
    first | rfl | exact zero_c | exact one_c

/-- The tables of the slabs whose lanes 64 to 95 turn: the weights of the lanes 16 behind. -/
theorem tab5 (c : Dev nD) (s : Fin 2048) (d : Fin 128) : V m c main_v94 (ix3 5 s d)
    = if 64 ≤ d.val ∧ d.val < 96 then (if d.val % 32 < 16 then 0 else Ideal.sin (m ((c : Thread nD τ).loc main_arg3) (ix2 s ⟨d.val % 16, by omega⟩))) else 0 := by
  unfold V
  after_reads_at
  after_reads_at
  refine (congrArg (fun z : EReal => Scalar.select (IntOp.andi (lit3 (S128.rowMajor (ix1 d))) (~~~lit0 (S128.rowMajor (ix1 d)))) (Ideal.sin z) (id (constant (F := Ideal) S_ FTy.f32 0#32) ix0 : EReal))
    (take_at (m (c, Proc.tc.devRef main_arg3)) s d)).trans ?_
  beta_reduce
  rw [first_at, active_at]
  by_cases h1 : d.val % 32 < 16 <;>
  by_cases h2 : 64 ≤ d.val ∧ d.val < 96 <;>
    simp only [h1, h2, if_true, if_false, and_self, not_false_eq_true, ite_true, ite_false] <;>
    first | rfl | exact zero_c | exact one_c

/-- The axial tables: the own weights. -/
theorem tab6 (c : Dev nD) (s : Fin 2048) (d : Fin 128) : V m c main_v94 (ix3 6 s d)
    = if d.val % 64 < 32 then (Ideal.cos (m ((c : Thread nD τ).loc main_arg4) (ix2 s ⟨d.val % 16, by omega⟩))) else (Ideal.cos (m ((c : Thread nD τ).loc main_arg5) (ix2 s ⟨d.val % 16, by omega⟩))) := by
  unfold V
  after_reads_at
  after_reads_at
  refine (congrArg (fun z : EReal => Ideal.cos z)
    (congrArg₂ (fun u v : EReal => Scalar.select (lit2 (S128.rowMajor (ix1 d))) u v)
      (take_at (m (c, Proc.tc.devRef main_arg4)) s d) (take_at (m (c, Proc.tc.devRef main_arg5)) s d))).trans ?_
  beta_reduce
  rw [axial_at]
  by_cases h3 : d.val % 64 < 32 <;>
    simp only [h3, if_true, if_false, and_self, not_false_eq_true, ite_true, ite_false] <;>
    first | rfl | exact zero_c | exact one_c

/-- The axial tables: the weights of the lanes 16 ahead. -/
theorem tab7 (c : Dev nD) (s : Fin 2048) (d : Fin 128) : V m c main_v94 (ix3 7 s d)
    = if d.val % 64 < 32 then (if d.val % 32 < 16 then -Ideal.sin (m ((c : Thread nD τ).loc main_arg4) (ix2 s ⟨d.val % 16, by omega⟩)) else 0) else (if d.val % 32 < 16 then -Ideal.sin (m ((c : Thread nD τ).loc main_arg5) (ix2 s ⟨d.val % 16, by omega⟩)) else 0) := by
  unfold V
  after_reads_at
  after_reads_at
  refine (congrArg (fun z : EReal => Scalar.select (IntOp.andi (1#1) (lit0 (S128.rowMajor (ix1 d)))) (-Ideal.sin z) (id (constant (F := Ideal) S_ FTy.f32 0#32) ix0 : EReal))
    (congrArg₂ (fun u v : EReal => Scalar.select (lit2 (S128.rowMajor (ix1 d))) u v)
      (take_at (m (c, Proc.tc.devRef main_arg4)) s d) (take_at (m (c, Proc.tc.devRef main_arg5)) s d))).trans ?_
  beta_reduce
  rw [first_at, axial_at]
  by_cases h1 : d.val % 32 < 16 <;>
  by_cases h3 : d.val % 64 < 32 <;>
    simp only [h1, h3, if_true, if_false, and_self, not_false_eq_true, ite_true, ite_false] <;>
    first | rfl | exact zero_c | exact one_c

/-- The axial tables: the weights of the lanes 16 behind. -/
theorem tab8 (c : Dev nD) (s : Fin 2048) (d : Fin 128) : V m c main_v94 (ix3 8 s d)
    = if d.val % 64 < 32 then (if d.val % 32 < 16 then 0 else Ideal.sin (m ((c : Thread nD τ).loc main_arg4) (ix2 s ⟨d.val % 16, by omega⟩))) else (if d.val % 32 < 16 then 0 else Ideal.sin (m ((c : Thread nD τ).loc main_arg5) (ix2 s ⟨d.val % 16, by omega⟩))) := by
  unfold V
  after_reads_at
  after_reads_at
  refine (congrArg (fun z : EReal => Scalar.select (IntOp.andi (1#1) (~~~lit0 (S128.rowMajor (ix1 d)))) (Ideal.sin z) (id (constant (F := Ideal) S_ FTy.f32 0#32) ix0 : EReal))
    (congrArg₂ (fun u v : EReal => Scalar.select (lit2 (S128.rowMajor (ix1 d))) u v)
      (take_at (m (c, Proc.tc.devRef main_arg4)) s d) (take_at (m (c, Proc.tc.devRef main_arg5)) s d))).trans ?_
  beta_reduce
  rw [first_at, axial_at]
  by_cases h1 : d.val % 32 < 16 <;>
  by_cases h3 : d.val % 64 < 32 <;>
    simp only [h1, h3, if_true, if_false, and_self, not_false_eq_true, ite_true, ite_false] <;>
    first | rfl | exact zero_c | exact one_c

/-- The nine tables. -/
theorem read_t (c : Dev nD) (v : Fin 9) (s : Fin 2048) (d : Fin 128) : V m c main_v94 (ix3 v s d)
    = tables (fun k => m ((c : Thread nD τ).loc main_arg3) (ix2 s k)) (fun k => m ((c : Thread nD τ).loc main_arg4) (ix2 s k))
        (fun k => m ((c : Thread nD τ).loc main_arg5) (ix2 s k)) v d := by
  fin_cases v
  · exact (tab0 m c s d).trans (by simp [tables, trio])
  · exact (tab1 m c s d).trans (by simp [tables, trio])
  · exact (tab2 m c s d).trans (by simp [tables, trio])
  · exact (tab3 m c s d).trans (by simp [tables, trio])
  · exact (tab4 m c s d).trans (by simp [tables, trio])
  · exact (tab5 m c s d).trans (by simp [tables, trio])
  · exact (tab6 m c s d).trans (by simp [tables, trio])
  · exact (tab7 m c s d).trans (by simp [tables, trio])
  · exact (tab8 m c s d).trans (by simp [tables, trio])

end Cert.InprojIdeal.Tile

end
-- ==== Proof.InprojValue.lean ====
/-
  The input projection's twelve result arrays after the run, of the arguments.
-/
module

public import proofs.«01_k».proof.Proof.InprojOut
public import proofs.«01_k».proof.Proof.InprojReads
public import proofs.«01_k».proof.Proof.InprojTabs

@[expose] public section

set_option maxRecDepth 16384

noncomputable section

namespace Cert.InprojIdeal.Tile

open Cert.InprojIdeal Cert.InprojIdeal.Gen Idealize.ShloMosaic Idealize.ShloMosaic.TcCoe Idealize.SL.Sem Cert.InprojRow

variable (m : (ℓ : Loc nD τ sig) → Buf (Elt Ideal) ℓ)

/-- Token `s` of sequence `b` of the arguments. -/
def tokOf (c : Dev nD) (b : Fin 32) (s : Fin 2048) : Tok where
  x k := m ((c : Thread nD τ).loc main_arg0) (ix3 b s k)
  g k := m ((c : Thread nD τ).loc main_arg1) (ix1 k)
  w k n := m ((c : Thread nD τ).loc main_arg2) (ix2 k n)
  ang k := m ((c : Thread nD τ).loc main_arg3) (ix2 s k)
  row k := m ((c : Thread nD τ).loc main_arg4) (ix2 s k)
  col k := m ((c : Thread nD τ).loc main_arg5) (ix2 s k)
  cqn k := m ((c : Thread nD τ).loc main_arg6) (ix1 k)
  ckvn k := m ((c : Thread nD τ).loc main_arg7) (ix1 k)
  wuq k n := m ((c : Thread nD τ).loc main_arg8) (ix2 k n)
  wukv k n := m ((c : Thread nD τ).loc main_arg9) (ix2 k n)
  dqn k := m ((c : Thread nD τ).loc main_arg10) (ix1 k)
  dkn k := m ((c : Thread nD τ).loc main_arg11) (ix1 k)

/-- The same as the launch reads it. -/
def rowOf (c : Dev nD) (b : Fin 32) (s : Fin 2048) : Ins := (tokOf m c b s).pack wd

/-- The input windows' block indices at a point: point `t` is half `t / 32` of sequence `t % 32`. -/
theorem idx : ∀ t : Fin cfg0.N, win0_0.index t = ![t.val % 32, t.val / 32, 0] ∧ win0_3.index t = ![0, t.val / 32, 0] ∧ win0_1.index t = ![0, 0] ∧ win0_2.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, win0_0.index t = ![t.val % 32, t.val / 32, 0] ∧ win0_3.index t = ![0, t.val / 32, 0] ∧ win0_1.index t = ![0, 0] ∧ win0_2.index t = ![0, 0] ∧ win0_4.index t = ![0, 0] ∧ win0_5.index t = ![0, 0] ∧ win0_6.index t = ![0, 0] ∧ win0_7.index t = ![0, 0] ∧ win0_8.index t = ![0, 0] ∧ win0_9.index t = ![0, 0])

/-- The block index of result 0. -/
theorem idx10 : ∀ t : Fin cfg0.N, win0_10.index t = ![t.val % 32, t.val / 32, 0] :=
  (by decide +kernel : ∀ t : Fin grid0.N, win0_10.index t = ![t.val % 32, t.val / 32, 0])

/-- The block index of result 1. -/
theorem idx11 : ∀ t : Fin cfg0.N, win0_11.index t = ![t.val % 32, 0, t.val / 32] :=
  (by decide +kernel : ∀ t : Fin grid0.N, win0_11.index t = ![t.val % 32, 0, t.val / 32])

/-- The block index of result 2. -/
theorem idx12 : ∀ t : Fin cfg0.N, win0_12.index t = ![t.val % 32, t.val / 32, 0] :=
  (by decide +kernel : ∀ t : Fin grid0.N, win0_12.index t = ![t.val % 32, t.val / 32, 0])

/-- The block index of result 3. -/
theorem idx13 : ∀ t : Fin cfg0.N, win0_13.index t = ![t.val % 32, t.val / 32, 0] :=
  (by decide +kernel : ∀ t : Fin grid0.N, win0_13.index t = ![t.val % 32, t.val / 32, 0])

/-- The block index of result 4. -/
theorem idx14 : ∀ t : Fin cfg0.N, win0_14.index t = ![t.val % 32, 0, t.val / 32] :=
  (by decide +kernel : ∀ t : Fin grid0.N, win0_14.index t = ![t.val % 32, 0, t.val / 32])

/-- The block index of result 5. -/
theorem idx15 : ∀ t : Fin cfg0.N, win0_15.index t = ![t.val % 32, t.val / 32, 0] :=
  (by decide +kernel : ∀ t : Fin grid0.N, win0_15.index t = ![t.val % 32, t.val / 32, 0])

/-- The block index of result 6. -/
theorem idx16 : ∀ t : Fin cfg0.N, win0_16.index t = ![t.val % 32, t.val / 32, 0] :=
  (by decide +kernel : ∀ t : Fin grid0.N, win0_16.index t = ![t.val % 32, t.val / 32, 0])

/-- The block index of result 7. -/
theorem idx17 : ∀ t : Fin cfg0.N, win0_17.index t = ![t.val % 32, 0, t.val / 32] :=
  (by decide +kernel : ∀ t : Fin grid0.N, win0_17.index t = ![t.val % 32, 0, t.val / 32])

/-- The block index of result 8. -/
theorem idx18 : ∀ t : Fin cfg0.N, win0_18.index t = ![t.val % 32, t.val / 32, 0] :=
  (by decide +kernel : ∀ t : Fin grid0.N, win0_18.index t = ![t.val % 32, t.val / 32, 0])

/-- The block index of result 9. -/
theorem idx19 : ∀ t : Fin cfg0.N, win0_19.index t = ![t.val % 32, t.val / 32, 0] :=
  (by decide +kernel : ∀ t : Fin grid0.N, win0_19.index t = ![t.val % 32, t.val / 32, 0])

/-- The block index of result 10. -/
theorem idx20 : ∀ t : Fin cfg0.N, win0_20.index t = ![t.val % 32, 0, t.val / 32] :=
  (by decide +kernel : ∀ t : Fin grid0.N, win0_20.index t = ![t.val % 32, 0, t.val / 32])

/-- The block index of result 11. -/
theorem idx21 : ∀ t : Fin cfg0.N, win0_21.index t = ![t.val % 32, t.val / 32, 0] :=
  (by decide +kernel : ∀ t : Fin grid0.N, win0_21.index t = ![t.val % 32, t.val / 32, 0])

/-- A point's token block. -/
theorem blk_x (c : Dev nD) (t : Fin cfg0.N) (r k : Fin 1024) (h0 : t.val % 32 < 32) (h : t.val / 32 * 1024 + r.val < 2048) :
    iblk m c 0 t (ix3 0 r k) = V m c main_arg0 (ix3 ⟨t.val % 32, h0⟩ ⟨t.val / 32 * 1024 + r, h⟩ k) := by
  blk_ext [iblk, idx t]

/-- A point's block of the tables. -/
theorem blk_t (c : Dev nD) (t : Fin cfg0.N) (v : Fin 9) (r : Fin 1024) (d : Fin 128) (h : t.val / 32 * 1024 + r.val < 2048) :
    iblk m c 3 t (ix3 v r d) = V m c main_v94 (ix3 v ⟨t.val / 32 * 1024 + r, h⟩ d) := by
  blk_ext [iblk, idx t]

/-- Every point's block of window 1 is the whole array. -/
theorem blk_1 (c : Dev nD) (t : Fin cfg0.N) (a : Fin 1) (k : Fin 1024) : iblk m c 1 t (ix2 a k) = V m c main_v37 (ix2 a k) := by
  blk_ext [iblk, idx t]

/-- Every point's block of window 2 is the whole array. -/
theorem blk_2 (c : Dev nD) (t : Fin cfg0.N) (a : Fin 1024) (k : Fin 2560) : iblk m c 2 t (ix2 a k) = V m c main_v25 (ix2 a k) := by
  blk_ext [iblk, idx t]

/-- Every point's block of window 4 is the whole array. -/
theorem blk_4 (c : Dev nD) (t : Fin cfg0.N) (a : Fin 1) (k : Fin 256) : iblk m c 4 t (ix2 a k) = V m c main_v24 (ix2 a k) := by
  blk_ext [iblk, idx t]

/-- Every point's block of window 5 is the whole array. -/
theorem blk_5 (c : Dev nD) (t : Fin cfg0.N) (a : Fin 1) (k : Fin 128) : iblk m c 5 t (ix2 a k) = V m c main_v26 (ix2 a k) := by
  blk_ext [iblk, idx t]

/-- Every point's block of window 6 is the whole array. -/
theorem blk_6 (c : Dev nD) (t : Fin cfg0.N) (a : Fin 256) (k : Fin 512) : iblk m c 6 t (ix2 a k) = V m c main_v27 (ix2 a k) := by
  blk_ext [iblk, idx t]

/-- Every point's block of window 7 is the whole array. -/
theorem blk_7 (c : Dev nD) (t : Fin cfg0.N) (a : Fin 128) (k : Fin 1024) : iblk m c 7 t (ix2 a k) = V m c main_v28 (ix2 a k) := by
  blk_ext [iblk, idx t]

/-- Every point's block of window 8 is the whole array. -/
theorem blk_8 (c : Dev nD) (t : Fin cfg0.N) (a : Fin 1) (k : Fin 128) : iblk m c 8 t (ix2 a k) = V m c main_v32 (ix2 a k) := by
  blk_ext [iblk, idx t]

/-- Every point's block of window 9 is the whole array. -/
theorem blk_9 (c : Dev nD) (t : Fin cfg0.N) (a : Fin 1) (k : Fin 128) : iblk m c 9 t (ix2 a k) = V m c main_v36 (ix2 a k) := by
  blk_ext [iblk, idx t]

/-- What a block's token depends on is what the sequence's token does. -/
theorem ins_eq (c : Dev nD) (t : Fin cfg0.N) (r : Fin 1024) (h0 : t.val % 32 < 32) (h : t.val / 32 * 1024 + r.val < 2048) :
    insOf (iblk m c 0 t) (iblk m c 1 t) (iblk m c 2 t) (iblk m c 3 t) (iblk m c 4 t) (iblk m c 5 t) (iblk m c 6 t) (iblk m c 7 t) (iblk m c 8 t) (iblk m c 9 t) r
      = rowOf m c ⟨t.val % 32, h0⟩ ⟨t.val / 32 * 1024 + r, h⟩ := by
  unfold insOf rowOf Tok.pack tokOf
  refine Ins.mk.injEq .. ▸ ⟨?_, ?_, ?_, ?_, ?_, ?_, ?_, ?_, ?_, ?_, rfl⟩
  · exact funext fun k => (blk_x m c t r k h0 h).trans (read_x m c _ _ k)
  · exact funext fun k => (blk_1 m c t 0 k).trans (read_g m c k)
  · exact funext fun k => funext fun n => (blk_2 m c t k n).trans (read_w m c k n)
  · exact funext fun v => funext fun d => (blk_t m c t v r d h).trans (read_t m c v _ d)
  · exact funext fun e => (blk_4 m c t 0 e).trans (read_cqn m c e)
  · exact funext fun e => (blk_5 m c t 0 e).trans (read_ckvn m c e)
  · exact funext fun e => funext fun n => (blk_6 m c t e n).trans (read_wuq m c e n)
  · exact funext fun e => funext fun n => (blk_7 m c t e n).trans (read_wukv m c e n)
  · exact funext fun e => (blk_8 m c t 0 e).trans (read_dqn m c e)
  · exact funext fun e => (blk_9 m c t 0 e).trans (read_dkn m c e)

/-- Result 0. -/
def G10 (c : Dev nD) : S32x2048x256.Idx → EReal := fun i =>
  have h0 : (i 0).val < 32 := (i 0).isLt
  have h1 : (i 1).val < 2048 := (i 1).isLt
  have h2 : (i 2).val < 256 := (i 2).isLt
  (rowOf m c ⟨(i 0).val, h0⟩ ⟨(i 1).val, h1⟩).qa ⟨(i 2).val, h2⟩

/-- `G10` where the coordinates are known. -/
theorem G10_apply (c : Dev nD) (b : Fin 32) (s : Fin 2048) (n : Fin 256) (i : S32x2048x256.Idx) (h0 : (i 0).val = b.val) (h1 : (i 1).val = s.val)
    (h2 : (i 2).val = n.val) : G10 m c i = (rowOf m c b s).qa n := by
  unfold G10
  simp only [h0, h1, h2]

/-- Result 0 after the run. -/
theorem arr10 (c : Dev nD) : (dats m 0 c).arrAt 10 cfg0.N = G10 m c := by
  refine (dats m 0 c).arrAt_eq_of_covers 10 _ (by decide +kernel) fun t hf y => ?_
  blk_simp
  rw [after0_10]
  idx_vars y
  obtain rfl : y0 = 0 := Subsingleton.elim _ _
  have ht : t.val < 64 := lt_of_lt_of_eq t.isLt N_0
  have hy : y1.val < 1024 := y1.isLt
  rw [G10_apply m c ⟨t.val % 32, by omega⟩ ⟨t.val / 32 * 1024 + y1, by omega⟩ y2 _ (by blk_simp [idx10 t]; rfl) (by blk_simp [idx10 t]) (by blk_simp [idx10 t])]
  exact (out10 _ _ _ _ _ _ _ _ _ _ y1 y2).trans (congrArg (fun I => Ins.qa I y2) (ins_eq m c t y1 (by omega) (by omega)))

/-- Result 1. -/
def G11 (c : Dev nD) : S32x256x2048.Idx → EReal := fun i =>
  have h0 : (i 0).val < 32 := (i 0).isLt
  have h1 : (i 1).val < 256 := (i 1).isLt
  have h2 : (i 2).val < 2048 := (i 2).isLt
  (rowOf m c ⟨(i 0).val, h0⟩ ⟨(i 2).val, h2⟩).ka ⟨(i 1).val, h1⟩

/-- `G11` where the coordinates are known. -/
theorem G11_apply (c : Dev nD) (b : Fin 32) (s : Fin 2048) (n : Fin 256) (i : S32x256x2048.Idx) (h0 : (i 0).val = b.val) (h1 : (i 2).val = s.val)
    (h2 : (i 1).val = n.val) : G11 m c i = (rowOf m c b s).ka n := by
  unfold G11
  simp only [h0, h1, h2]

/-- Result 1 after the run. -/
theorem arr11 (c : Dev nD) : (dats m 0 c).arrAt 11 cfg0.N = G11 m c := by
  refine (dats m 0 c).arrAt_eq_of_covers 11 _ (by decide +kernel) fun t hf y => ?_
  blk_simp
  rw [after0_11]
  idx_vars y
  obtain rfl : y0 = 0 := Subsingleton.elim _ _
  have ht : t.val < 64 := lt_of_lt_of_eq t.isLt N_0
  have hy : y2.val < 1024 := y2.isLt
  rw [G11_apply m c ⟨t.val % 32, by omega⟩ ⟨t.val / 32 * 1024 + y2, by omega⟩ y1 _ (by blk_simp [idx11 t]; rfl) (by blk_simp [idx11 t]) (by blk_simp [idx11 t])]
  exact (out11 _ _ _ _ _ _ _ _ _ _ y2 y1).trans (congrArg (fun I => Ins.ka I y1) (ins_eq m c t y2 (by omega) (by omega)))

/-- Result 2. -/
def G12 (c : Dev nD) : S32x2048x256.Idx → EReal := fun i =>
  have h0 : (i 0).val < 32 := (i 0).isLt
  have h1 : (i 1).val < 2048 := (i 1).isLt
  have h2 : (i 2).val < 256 := (i 2).isLt
  (rowOf m c ⟨(i 0).val, h0⟩ ⟨(i 1).val, h1⟩).va ⟨(i 2).val, h2⟩

/-- `G12` where the coordinates are known. -/
theorem G12_apply (c : Dev nD) (b : Fin 32) (s : Fin 2048) (n : Fin 256) (i : S32x2048x256.Idx) (h0 : (i 0).val = b.val) (h1 : (i 1).val = s.val)
    (h2 : (i 2).val = n.val) : G12 m c i = (rowOf m c b s).va n := by
  unfold G12
  simp only [h0, h1, h2]

/-- Result 2 after the run. -/
theorem arr12 (c : Dev nD) : (dats m 0 c).arrAt 12 cfg0.N = G12 m c := by
  refine (dats m 0 c).arrAt_eq_of_covers 12 _ (by decide +kernel) fun t hf y => ?_
  blk_simp
  rw [after0_12]
  idx_vars y
  obtain rfl : y0 = 0 := Subsingleton.elim _ _
  have ht : t.val < 64 := lt_of_lt_of_eq t.isLt N_0
  have hy : y1.val < 1024 := y1.isLt
  rw [G12_apply m c ⟨t.val % 32, by omega⟩ ⟨t.val / 32 * 1024 + y1, by omega⟩ y2 _ (by blk_simp [idx12 t]; rfl) (by blk_simp [idx12 t]) (by blk_simp [idx12 t])]
  exact (out12 _ _ _ _ _ _ _ _ _ _ y1 y2).trans (congrArg (fun I => Ins.va I y2) (ins_eq m c t y1 (by omega) (by omega)))

/-- Result 3. -/
def G13 (c : Dev nD) : S32x2048x256.Idx → EReal := fun i =>
  have h0 : (i 0).val < 32 := (i 0).isLt
  have h1 : (i 1).val < 2048 := (i 1).isLt
  have h2 : (i 2).val < 256 := (i 2).isLt
  (rowOf m c ⟨(i 0).val, h0⟩ ⟨(i 1).val, h1⟩).qb ⟨(i 2).val, h2⟩

/-- `G13` where the coordinates are known. -/
theorem G13_apply (c : Dev nD) (b : Fin 32) (s : Fin 2048) (n : Fin 256) (i : S32x2048x256.Idx) (h0 : (i 0).val = b.val) (h1 : (i 1).val = s.val)
    (h2 : (i 2).val = n.val) : G13 m c i = (rowOf m c b s).qb n := by
  unfold G13
  simp only [h0, h1, h2]

/-- Result 3 after the run. -/
theorem arr13 (c : Dev nD) : (dats m 0 c).arrAt 13 cfg0.N = G13 m c := by
  refine (dats m 0 c).arrAt_eq_of_covers 13 _ (by decide +kernel) fun t hf y => ?_
  blk_simp
  rw [after0_13]
  idx_vars y
  obtain rfl : y0 = 0 := Subsingleton.elim _ _
  have ht : t.val < 64 := lt_of_lt_of_eq t.isLt N_0
  have hy : y1.val < 1024 := y1.isLt
  rw [G13_apply m c ⟨t.val % 32, by omega⟩ ⟨t.val / 32 * 1024 + y1, by omega⟩ y2 _ (by blk_simp [idx13 t]; rfl) (by blk_simp [idx13 t]) (by blk_simp [idx13 t])]
  exact (out13 _ _ _ _ _ _ _ _ _ _ y1 y2).trans (congrArg (fun I => Ins.qb I y2) (ins_eq m c t y1 (by omega) (by omega)))

/-- Result 4. -/
def G14 (c : Dev nD) : S32x256x2048.Idx → EReal := fun i =>
  have h0 : (i 0).val < 32 := (i 0).isLt
  have h1 : (i 1).val < 256 := (i 1).isLt
  have h2 : (i 2).val < 2048 := (i 2).isLt
  (rowOf m c ⟨(i 0).val, h0⟩ ⟨(i 2).val, h2⟩).kb ⟨(i 1).val, h1⟩

/-- `G14` where the coordinates are known. -/
theorem G14_apply (c : Dev nD) (b : Fin 32) (s : Fin 2048) (n : Fin 256) (i : S32x256x2048.Idx) (h0 : (i 0).val = b.val) (h1 : (i 2).val = s.val)
    (h2 : (i 1).val = n.val) : G14 m c i = (rowOf m c b s).kb n := by
  unfold G14
  simp only [h0, h1, h2]

/-- Result 4 after the run. -/
theorem arr14 (c : Dev nD) : (dats m 0 c).arrAt 14 cfg0.N = G14 m c := by
  refine (dats m 0 c).arrAt_eq_of_covers 14 _ (by decide +kernel) fun t hf y => ?_
  blk_simp
  rw [after0_14]
  idx_vars y
  obtain rfl : y0 = 0 := Subsingleton.elim _ _
  have ht : t.val < 64 := lt_of_lt_of_eq t.isLt N_0
  have hy : y2.val < 1024 := y2.isLt
  rw [G14_apply m c ⟨t.val % 32, by omega⟩ ⟨t.val / 32 * 1024 + y2, by omega⟩ y1 _ (by blk_simp [idx14 t]; rfl) (by blk_simp [idx14 t]) (by blk_simp [idx14 t])]
  exact (out14 _ _ _ _ _ _ _ _ _ _ y2 y1).trans (congrArg (fun I => Ins.kb I y1) (ins_eq m c t y2 (by omega) (by omega)))

/-- Result 5. -/
def G15 (c : Dev nD) : S32x2048x512.Idx → EReal := fun i =>
  have h0 : (i 0).val < 32 := (i 0).isLt
  have h1 : (i 1).val < 2048 := (i 1).isLt
  have h2 : (i 2).val < 512 := (i 2).isLt
  (rowOf m c ⟨(i 0).val, h0⟩ ⟨(i 1).val, h1⟩).vb ⟨(i 2).val, h2⟩

/-- `G15` where the coordinates are known. -/
theorem G15_apply (c : Dev nD) (b : Fin 32) (s : Fin 2048) (n : Fin 512) (i : S32x2048x512.Idx) (h0 : (i 0).val = b.val) (h1 : (i 1).val = s.val)
    (h2 : (i 2).val = n.val) : G15 m c i = (rowOf m c b s).vb n := by
  unfold G15
  simp only [h0, h1, h2]

/-- Result 5 after the run. -/
theorem arr15 (c : Dev nD) : (dats m 0 c).arrAt 15 cfg0.N = G15 m c := by
  refine (dats m 0 c).arrAt_eq_of_covers 15 _ (by decide +kernel) fun t hf y => ?_
  blk_simp
  rw [after0_15]
  idx_vars y
  obtain rfl : y0 = 0 := Subsingleton.elim _ _
  have ht : t.val < 64 := lt_of_lt_of_eq t.isLt N_0
  have hy : y1.val < 1024 := y1.isLt
  rw [G15_apply m c ⟨t.val % 32, by omega⟩ ⟨t.val / 32 * 1024 + y1, by omega⟩ y2 _ (by blk_simp [idx15 t]; rfl) (by blk_simp [idx15 t]) (by blk_simp [idx15 t])]
  exact (out15 _ _ _ _ _ _ _ _ _ _ y1 y2).trans (congrArg (fun I => Ins.vb I y2) (ins_eq m c t y1 (by omega) (by omega)))

/-- Result 6. -/
def G16 (c : Dev nD) : S32x2048x512.Idx → EReal := fun i =>
  have h0 : (i 0).val < 32 := (i 0).isLt
  have h1 : (i 1).val < 2048 := (i 1).isLt
  have h2 : (i 2).val < 512 := (i 2).isLt
  (rowOf m c ⟨(i 0).val, h0⟩ ⟨(i 1).val, h1⟩).qc ⟨(i 2).val, h2⟩

/-- `G16` where the coordinates are known. -/
theorem G16_apply (c : Dev nD) (b : Fin 32) (s : Fin 2048) (n : Fin 512) (i : S32x2048x512.Idx) (h0 : (i 0).val = b.val) (h1 : (i 1).val = s.val)
    (h2 : (i 2).val = n.val) : G16 m c i = (rowOf m c b s).qc n := by
  unfold G16
  simp only [h0, h1, h2]

/-- Result 6 after the run. -/
theorem arr16 (c : Dev nD) : (dats m 0 c).arrAt 16 cfg0.N = G16 m c := by
  refine (dats m 0 c).arrAt_eq_of_covers 16 _ (by decide +kernel) fun t hf y => ?_
  blk_simp
  rw [after0_16]
  idx_vars y
  obtain rfl : y0 = 0 := Subsingleton.elim _ _
  have ht : t.val < 64 := lt_of_lt_of_eq t.isLt N_0
  have hy : y1.val < 1024 := y1.isLt
  rw [G16_apply m c ⟨t.val % 32, by omega⟩ ⟨t.val / 32 * 1024 + y1, by omega⟩ y2 _ (by blk_simp [idx16 t]; rfl) (by blk_simp [idx16 t]) (by blk_simp [idx16 t])]
  exact (out16 _ _ _ _ _ _ _ _ _ _ y1 y2).trans (congrArg (fun I => Ins.qc I y2) (ins_eq m c t y1 (by omega) (by omega)))

/-- Result 7. -/
def G17 (c : Dev nD) : S32x512x2048.Idx → EReal := fun i =>
  have h0 : (i 0).val < 32 := (i 0).isLt
  have h1 : (i 1).val < 512 := (i 1).isLt
  have h2 : (i 2).val < 2048 := (i 2).isLt
  (rowOf m c ⟨(i 0).val, h0⟩ ⟨(i 2).val, h2⟩).kc ⟨(i 1).val, h1⟩

/-- `G17` where the coordinates are known. -/
theorem G17_apply (c : Dev nD) (b : Fin 32) (s : Fin 2048) (n : Fin 512) (i : S32x512x2048.Idx) (h0 : (i 0).val = b.val) (h1 : (i 2).val = s.val)
    (h2 : (i 1).val = n.val) : G17 m c i = (rowOf m c b s).kc n := by
  unfold G17
  simp only [h0, h1, h2]

/-- Result 7 after the run. -/
theorem arr17 (c : Dev nD) : (dats m 0 c).arrAt 17 cfg0.N = G17 m c := by
  refine (dats m 0 c).arrAt_eq_of_covers 17 _ (by decide +kernel) fun t hf y => ?_
  blk_simp
  rw [after0_17]
  idx_vars y
  obtain rfl : y0 = 0 := Subsingleton.elim _ _
  have ht : t.val < 64 := lt_of_lt_of_eq t.isLt N_0
  have hy : y2.val < 1024 := y2.isLt
  rw [G17_apply m c ⟨t.val % 32, by omega⟩ ⟨t.val / 32 * 1024 + y2, by omega⟩ y1 _ (by blk_simp [idx17 t]; rfl) (by blk_simp [idx17 t]) (by blk_simp [idx17 t])]
  exact (out17 _ _ _ _ _ _ _ _ _ _ y2 y1).trans (congrArg (fun I => Ins.kc I y1) (ins_eq m c t y2 (by omega) (by omega)))

/-- Result 8. -/
def G18 (c : Dev nD) : S32x2048x512.Idx → EReal := fun i =>
  have h0 : (i 0).val < 32 := (i 0).isLt
  have h1 : (i 1).val < 2048 := (i 1).isLt
  have h2 : (i 2).val < 512 := (i 2).isLt
  (rowOf m c ⟨(i 0).val, h0⟩ ⟨(i 1).val, h1⟩).vc ⟨(i 2).val, h2⟩

/-- `G18` where the coordinates are known. -/
theorem G18_apply (c : Dev nD) (b : Fin 32) (s : Fin 2048) (n : Fin 512) (i : S32x2048x512.Idx) (h0 : (i 0).val = b.val) (h1 : (i 1).val = s.val)
    (h2 : (i 2).val = n.val) : G18 m c i = (rowOf m c b s).vc n := by
  unfold G18
  simp only [h0, h1, h2]

/-- Result 8 after the run. -/
theorem arr18 (c : Dev nD) : (dats m 0 c).arrAt 18 cfg0.N = G18 m c := by
  refine (dats m 0 c).arrAt_eq_of_covers 18 _ (by decide +kernel) fun t hf y => ?_
  blk_simp
  rw [after0_18]
  idx_vars y
  obtain rfl : y0 = 0 := Subsingleton.elim _ _
  have ht : t.val < 64 := lt_of_lt_of_eq t.isLt N_0
  have hy : y1.val < 1024 := y1.isLt
  rw [G18_apply m c ⟨t.val % 32, by omega⟩ ⟨t.val / 32 * 1024 + y1, by omega⟩ y2 _ (by blk_simp [idx18 t]; rfl) (by blk_simp [idx18 t]) (by blk_simp [idx18 t])]
  exact (out18 _ _ _ _ _ _ _ _ _ _ y1 y2).trans (congrArg (fun I => Ins.vc I y2) (ins_eq m c t y1 (by omega) (by omega)))

/-- Result 9. -/
def G19 (c : Dev nD) : S32x2048x256.Idx → EReal := fun i =>
  have h0 : (i 0).val < 32 := (i 0).isLt
  have h1 : (i 1).val < 2048 := (i 1).isLt
  have h2 : (i 2).val < 256 := (i 2).isLt
  (rowOf m c ⟨(i 0).val, h0⟩ ⟨(i 1).val, h1⟩).qd ⟨(i 2).val, h2⟩

/-- `G19` where the coordinates are known. -/
theorem G19_apply (c : Dev nD) (b : Fin 32) (s : Fin 2048) (n : Fin 256) (i : S32x2048x256.Idx) (h0 : (i 0).val = b.val) (h1 : (i 1).val = s.val)
    (h2 : (i 2).val = n.val) : G19 m c i = (rowOf m c b s).qd n := by
  unfold G19
  simp only [h0, h1, h2]

/-- Result 9 after the run. -/
theorem arr19 (c : Dev nD) : (dats m 0 c).arrAt 19 cfg0.N = G19 m c := by
  refine (dats m 0 c).arrAt_eq_of_covers 19 _ (by decide +kernel) fun t hf y => ?_
  blk_simp
  rw [after0_19]
  idx_vars y
  obtain rfl : y0 = 0 := Subsingleton.elim _ _
  have ht : t.val < 64 := lt_of_lt_of_eq t.isLt N_0
  have hy : y1.val < 1024 := y1.isLt
  rw [G19_apply m c ⟨t.val % 32, by omega⟩ ⟨t.val / 32 * 1024 + y1, by omega⟩ y2 _ (by blk_simp [idx19 t]; rfl) (by blk_simp [idx19 t]) (by blk_simp [idx19 t])]
  exact (out19 _ _ _ _ _ _ _ _ _ _ y1 y2).trans (congrArg (fun I => Ins.qd I y2) (ins_eq m c t y1 (by omega) (by omega)))

/-- Result 10. -/
def G20 (c : Dev nD) : S32x128x2048.Idx → EReal := fun i =>
  have h0 : (i 0).val < 32 := (i 0).isLt
  have h1 : (i 1).val < 128 := (i 1).isLt
  have h2 : (i 2).val < 2048 := (i 2).isLt
  (rowOf m c ⟨(i 0).val, h0⟩ ⟨(i 2).val, h2⟩).kd ⟨(i 1).val, h1⟩

/-- `G20` where the coordinates are known. -/
theorem G20_apply (c : Dev nD) (b : Fin 32) (s : Fin 2048) (n : Fin 128) (i : S32x128x2048.Idx) (h0 : (i 0).val = b.val) (h1 : (i 2).val = s.val)
    (h2 : (i 1).val = n.val) : G20 m c i = (rowOf m c b s).kd n := by
  unfold G20
  simp only [h0, h1, h2]

/-- Result 10 after the run. -/
theorem arr20 (c : Dev nD) : (dats m 0 c).arrAt 20 cfg0.N = G20 m c := by
  refine (dats m 0 c).arrAt_eq_of_covers 20 _ (by decide +kernel) fun t hf y => ?_
  blk_simp
  rw [after0_20]
  idx_vars y
  obtain rfl : y0 = 0 := Subsingleton.elim _ _
  have ht : t.val < 64 := lt_of_lt_of_eq t.isLt N_0
  have hy : y2.val < 1024 := y2.isLt
  rw [G20_apply m c ⟨t.val % 32, by omega⟩ ⟨t.val / 32 * 1024 + y2, by omega⟩ y1 _ (by blk_simp [idx20 t]; rfl) (by blk_simp [idx20 t]) (by blk_simp [idx20 t])]
  exact (out20 _ _ _ _ _ _ _ _ _ _ y2 y1).trans (congrArg (fun I => Ins.kd I y1) (ins_eq m c t y2 (by omega) (by omega)))

/-- Result 11. -/
def G21 (c : Dev nD) : S32x2048x256.Idx → EReal := fun i =>
  have h0 : (i 0).val < 32 := (i 0).isLt
  have h1 : (i 1).val < 2048 := (i 1).isLt
  have h2 : (i 2).val < 256 := (i 2).isLt
  (rowOf m c ⟨(i 0).val, h0⟩ ⟨(i 1).val, h1⟩).vd ⟨(i 2).val, h2⟩

/-- `G21` where the coordinates are known. -/
theorem G21_apply (c : Dev nD) (b : Fin 32) (s : Fin 2048) (n : Fin 256) (i : S32x2048x256.Idx) (h0 : (i 0).val = b.val) (h1 : (i 1).val = s.val)
    (h2 : (i 2).val = n.val) : G21 m c i = (rowOf m c b s).vd n := by
  unfold G21
  simp only [h0, h1, h2]

/-- Result 11 after the run. -/
theorem arr21 (c : Dev nD) : (dats m 0 c).arrAt 21 cfg0.N = G21 m c := by
  refine (dats m 0 c).arrAt_eq_of_covers 21 _ (by decide +kernel) fun t hf y => ?_
  blk_simp
  rw [after0_21]
  idx_vars y
  obtain rfl : y0 = 0 := Subsingleton.elim _ _
  have ht : t.val < 64 := lt_of_lt_of_eq t.isLt N_0
  have hy : y1.val < 1024 := y1.isLt
  rw [G21_apply m c ⟨t.val % 32, by omega⟩ ⟨t.val / 32 * 1024 + y1, by omega⟩ y2 _ (by blk_simp [idx21 t]; rfl) (by blk_simp [idx21 t]) (by blk_simp [idx21 t])]
  exact (out21 _ _ _ _ _ _ _ _ _ _ y1 y2).trans (congrArg (fun I => Ins.vd I y2) (ins_eq m c t y1 (by omega) (by omega)))

end Cert.InprojIdeal.Tile

end
-- ==== Proof.InprojPlain.lean ====
/-
  One token of the input projection by the plain layer: every lane of its twelve results.
-/
module

public import proofs.«01_k».proof.Proof.InprojTok

@[expose] public section

noncomputable section

namespace Cert.InprojRow

open Idealize.ShloMosaic Cert.Rms Cert.SoftRow

/-- A rotary embedding over groups of 32 lanes: a lane and the lane of the group's other half. -/
def turned {N : ℕ} (hN : N % 32 = 0) (x : Fin N → EReal) (a : Fin 16 → EReal) (n : Fin N) : EReal :=
  if h : n.val % 32 < 16 then
    x n * Ideal.cos (a ⟨n.val % 32, h⟩) - x ⟨n.val + 16, by omega⟩ * Ideal.sin (a ⟨n.val % 32, h⟩)
  else
    x n * Ideal.cos (a ⟨n.val % 32 - 16, by omega⟩) + x ⟨n.val - 16, by omega⟩ * Ideal.sin (a ⟨n.val % 32 - 16, by omega⟩)

/-- A lane divided by the root of the mean square of its own 64 lanes, times a gain. -/
def grouped64 {N : ℕ} (hN : N % 64 = 0) (x : Fin N → EReal) (g : Fin 64 → EReal) (n : Fin N) : EReal :=
  x n * Ideal.rsqrt (Ideal.div (∑ e : Fin 64, x ⟨n.val / 64 * 64 + e, by omega⟩ * x ⟨n.val / 64 * 64 + e, by omega⟩) (Ideal.ofBits .f32 0x42800000#32) + eps)
    * g ⟨n.val % 64, Nat.mod_lt _ (by omega)⟩

namespace Tok

variable (T : Tok)

/-- Column `n` of the projected row. -/
def proj (n : Fin 6496) : EReal := ∑ k, normed T.x T.g k * T.w k n

/-- The normed latent of the queries. -/
def lcq (e : Fin 192) : EReal :=
  T.proj ⟨1536 + e, by omega⟩ * Ideal.rsqrt (Ideal.div (∑ j : Fin 192, T.proj ⟨1536 + j, by omega⟩ * T.proj ⟨1536 + j, by omega⟩) (Ideal.ofBits .f32 0x43400000#32) + eps) * T.cqn e

/-- The latent queries before the rotary embedding. -/
def lq (n : Fin 384) : EReal := ∑ e, T.lcq e * T.wuq e n

/-- The normed latent of the keys and values. -/
def lckv (e : Fin 128) : EReal :=
  T.proj ⟨1728 + e, by omega⟩ * Ideal.rsqrt (Ideal.div (∑ j : Fin 128, T.proj ⟨1728 + j, by omega⟩ * T.proj ⟨1728 + j, by omega⟩) (Ideal.ofBits .f32 0x43000000#32) + eps) * T.ckvn e

/-- The latent keys and values before the rotary embedding. -/
def lkv (n : Fin 512) : EReal := ∑ e, T.lckv e * T.wukv e n

/-- The axial angles of a lane. -/
def axial {N : ℕ} (n : Fin N) : Fin 16 → EReal := if n.val % 64 < 32 then T.row else T.col

def rqa (n : Fin 256) : EReal := turned rfl (fun e : Fin 256 => T.proj ⟨e, by omega⟩) T.ang n
def rka (n : Fin 256) : EReal := turned rfl (fun e : Fin 256 => T.proj ⟨256 + e, by omega⟩) T.ang n
def rva (n : Fin 256) : EReal := T.proj ⟨512 + n, by omega⟩
def rqb (n : Fin 256) : EReal := T.proj ⟨768 + n, by omega⟩
def rkb (n : Fin 256) : EReal := T.proj ⟨1024 + n, by omega⟩
def rvb (n : Fin 512) : EReal := if h : n.val % 128 < 64 then T.proj ⟨1280 + (n / 128 * 64 + n % 128), by omega⟩ else 1
def rqc (n : Fin 512) : EReal :=
  if h : n.val % 128 < 64 then T.lq ⟨n / 128 * 96 + n % 128, by omega⟩
  else if h : n.val % 128 < 96 then turned rfl (fun e : Fin 32 => T.lq ⟨n / 128 * 96 + 64 + e, by omega⟩) T.ang ⟨n.val % 128 - 64, by omega⟩
  else 0
def rkc (n : Fin 512) : EReal :=
  if h : n.val % 128 < 64 then T.lkv ⟨n / 128 * 128 + n % 128, by omega⟩
  else if h : n.val % 128 < 96 then turned rfl (fun e : Fin 32 => T.proj ⟨1856 + e, by omega⟩) T.ang ⟨n.val % 128 - 64, by omega⟩
  else 0
def rvc (n : Fin 512) : EReal := if h : n.val % 128 < 64 then T.lkv ⟨n / 128 * 128 + 64 + n % 128, by omega⟩ else 1
def rqd (n : Fin 256) : EReal := turned rfl (grouped64 rfl (fun e : Fin 256 => T.proj ⟨1888 + e, by omega⟩) T.dqn) (T.axial n) n
def rkd (n : Fin 128) : EReal := turned rfl (grouped64 rfl (fun e : Fin 128 => T.proj ⟨2144 + e, by omega⟩) T.dkn) (T.axial n) n
def rvd (n : Fin 256) : EReal := if h : n.val % 128 < 64 then T.proj ⟨2272 + (n / 128 * 64 + n % 128), by omega⟩ else 1

end Tok

end Cert.InprojRow

end
-- ==== Proof.InprojMath.lean ====
/-
  The two forms of a rotary embedding and of the norms agree: zeros drop out of the padded sums, and what the squares' second
  part adds is zero when they are real numbers.
-/
module

public import proofs.«01_k».proof.Proof.InprojPlain
public import proofs.«01_k».proof.Proof.AttnMath

@[expose] public section

set_option maxRecDepth 16384

noncomputable section

namespace Cert.InprojRow

open Idealize.ShloMosaic Cert.Rms Cert.SoftRow

/-- A rotary embedding by tables is the embedding of the lane's group. -/
theorem roped_trio (x : Fin 128 → EReal) (a : Fin 16 → EReal) (d : Fin 128) :
    roped x (trio a 0) (trio a 1) (trio a 2) d = turned rfl x a d := by
  have hd : d.val < 128 := d.isLt
  unfold roped turned trio
  by_cases h : d.val % 32 < 16
  · have e1 : (d.val + 128 - 112) % 128 = d.val + 16 := by omega
    have e2 : d.val % 16 = d.val % 32 := by omega
    have g1 : at16 a d = a ⟨d.val % 32, h⟩ := congrArg a (Fin.ext e2)
    simp only [dif_pos h, if_pos h, e1, e2, if_true, show ¬(1 : Fin 3) = 0 by decide, show ¬(2 : Fin 3) = 0 by decide, show ¬(2 : Fin 3) = 1 by decide, if_false,
      mul_neg, mul_zero, add_zero, sub_eq_add_neg, g1]
  · have e1 : (d.val + 128 - 16) % 128 = d.val - 16 := by omega
    have e2 : d.val % 16 = d.val % 32 - 16 := by omega
    have g1 : at16 a d = a ⟨d.val % 32 - 16, by omega⟩ := congrArg a (Fin.ext e2)
    simp only [dif_neg h, if_neg h, e1, e2, if_true, show ¬(1 : Fin 3) = 0 by decide, show ¬(2 : Fin 3) = 0 by decide, show ¬(2 : Fin 3) = 1 by decide, if_false,
      mul_zero, add_zero, g1]

/-- A rotary embedding of a part of the lanes. -/
theorem turned_part {N M : ℕ} (hN : N % 32 = 0) (hM : M % 32 = 0) (x : Fin N → EReal) (y : Fin M → EReal) (a : Fin 16 → EReal) (o : ℕ) (ho : o % 32 = 0)
    (n : Fin N) (k : Fin M) (hn : n.val = o + k.val) (hxy : ∀ (e : Fin M) (h : o + e.val < N), e.val / 32 = k.val / 32 → x ⟨o + e.val, h⟩ = y e) :
    turned hN x a n = turned hM y a k := by
  have hk : k.val < M := k.isLt
  have hnN : n.val < N := n.isLt
  have h0 : x n = y k := by
    rw [← hxy k (by omega) rfl]
    exact congrArg x (Fin.ext hn)
  have hm : n.val % 32 = k.val % 32 := by omega
  unfold turned
  by_cases h : k.val % 32 < 16
  · have h1 : x ⟨n.val + 16, by omega⟩ = y ⟨k.val + 16, by omega⟩ := by
      rw [← hxy ⟨k.val + 16, by omega⟩ (by simp only; omega) (by simp only; omega)]
      exact congrArg x (Fin.ext (by simp only; omega))
    rw [dif_pos h, dif_pos (hm ▸ h), h0, h1]
    simp only [hm]
  · have h1 : x ⟨n.val - 16, by omega⟩ = y ⟨k.val - 16, by omega⟩ := by
      rw [← hxy ⟨k.val - 16, by omega⟩ (by simp only; omega) (by simp only; omega)]
      exact congrArg x (Fin.ext (by simp only; omega))
    rw [dif_neg h, dif_neg (hm ▸ h), h0, h1]
    simp only [hm]

/-- A sum over 256 lanes whose last 64 terms are zero. -/
theorem sum_low (f : Fin 256 → EReal) (h : ∀ e : Fin 256, 192 ≤ e.val → f e = 0) : ∑ e, f e = ∑ e : Fin 192, f ⟨e.val, by omega⟩ := by
  refine (Fin.sum_univ_add (a := 192) (b := 64) f).trans ?_
  rw [Finset.sum_eq_zero (s := Finset.univ) (f := fun i : Fin 64 => f (Fin.natAdd 192 i)) (fun i _ => h _ (by simp)), add_zero]
  rfl

/-- A sum over the lanes of one half. -/
theorem sum_half (f : Fin 128 → EReal) (d : Fin 128) : ∑ e, only d (f e) e = ∑ e : Fin 64, f ⟨d.val / 64 * 64 + e.val, by omega⟩ := by
  refine (Fin.sum_univ_add (a := 64) (b := 64) fun e : Fin 128 => only d (f e) e).trans ?_
  have hd : d.val < 128 := d.isLt
  unfold only
  by_cases h : d.val < 64
  · rw [Finset.sum_congr rfl fun (i : Fin 64) _ => if_pos (show (Fin.castAdd 64 i).val / 64 = d.val / 64 by simp only [Fin.val_castAdd]; omega),
      Finset.sum_congr rfl fun (i : Fin 64) _ => if_neg (show ¬(Fin.natAdd 64 i).val / 64 = d.val / 64 by simp only [Fin.val_natAdd]; omega),
      Finset.sum_const_zero, add_zero]
    exact Finset.sum_congr rfl fun i _ => congrArg f (Fin.ext (by simp only [Fin.val_castAdd]; omega))
  · rw [Finset.sum_congr rfl fun (i : Fin 64) _ => if_neg (show ¬(Fin.castAdd 64 i).val / 64 = d.val / 64 by simp only [Fin.val_castAdd]; omega),
      Finset.sum_congr rfl fun (i : Fin 64) _ => if_pos (show (Fin.natAdd 64 i).val / 64 = d.val / 64 by simp only [Fin.val_natAdd]; omega),
      Finset.sum_const_zero, zero_add]
    exact Finset.sum_congr rfl fun i _ => congrArg f (Fin.ext (by simp only [Fin.val_natAdd]; omega))

theorem width_bits : Ideal.ofBits .f32 0x43400000#32 = ((192 : ℝ) : EReal) := by
  simp [Ideal.ofBits, Ideal.ieee, -EReal.coe_mul]
  norm_num

theorem depth_bits : Ideal.ofBits .f32 0x44800000#32 = ((1024 : ℝ) : EReal) := by
  simp [Ideal.ofBits, Ideal.ieee, -EReal.coe_mul]
  norm_num

theorem eps_bits : eps = ((8796093 * 2⁻¹ ^ 43 : ℝ) : EReal) := by
  unfold eps
  simp [Ideal.ofBits, Ideal.ieee, -EReal.coe_mul]

/-- A lane divided by the root mean square of its half, in one sum, when the lanes are real numbers. -/
theorem halved_real (x : Fin 128 → EReal) (hx : ∀ e, ∃ r : ℝ, x e = (r : EReal)) (d : Fin 128) :
    halved x d = x d * Ideal.rsqrt (Ideal.div (∑ e : Fin 64, x ⟨d.val / 64 * 64 + e.val, by omega⟩ * x ⟨d.val / 64 * 64 + e.val, by omega⟩) (Ideal.ofBits .f32 0x42800000#32) + eps) := by
  unfold halved grouped
  have hz : ∀ e, x e * x e - x e * x e = 0 := fun e => by
    obtain ⟨r, hr⟩ := hx e
    rw [hr, ← EReal.coe_mul, ← EReal.coe_sub, sub_self, EReal.coe_zero]
  have ho : ∀ e, only d (x e * x e - x e * x e) e = 0 := fun e => by rw [hz]; unfold only; split <;> rfl
  rw [Finset.sum_eq_zero (fun e _ => ho e), add_zero, sum_half (fun e => x e * x e), Cert.AttnRow.size_bits, Cert.AttnRow.inverse_bits,
    Ideal.div_coe (by norm_num)]

/-- A finite sum of real numbers is one. -/
theorem sum_real {ι : Type} [Fintype ι] (f : ι → EReal) (h : ∀ i, ∃ r : ℝ, f i = (r : EReal)) : ∃ r : ℝ, ∑ i, f i = (r : EReal) := by
  choose g hg using h
  exact ⟨∑ i, g i, by simp only [hg]; exact Cert.AttnRow.coe_sum g⟩

/-- The square of an infinite number is infinite. -/
theorem square_top {a : EReal} (h : ¬ ∃ r : ℝ, a = (r : EReal)) : a * a = ⊤ := by
  induction a using EReal.rec with
  | bot => exact EReal.bot_mul_bot
  | coe r => exact absurd ⟨r, rfl⟩ h
  | top => exact EReal.top_mul_top

/-- A square is not negative. -/
theorem square_nonneg (a : EReal) : 0 ≤ a * a := by
  by_cases h : ∃ r : ℝ, a = (r : EReal)
  · obtain ⟨r, rfl⟩ := h
    rw [← EReal.coe_mul]
    exact EReal.coe_nonneg.mpr (mul_self_nonneg r)
  · rw [square_top h]
    exact le_top

/-- A row with an infinite entry is normed to zero. -/
theorem normed_zero (x g : Fin 1024 → EReal) (hx : ¬ ∀ k, ∃ r : ℝ, x k = (r : EReal)) (k : Fin 1024) : normed x g k = 0 := by
  obtain ⟨j, hj⟩ := not_forall.mp hx
  have hs : ∑ k, x k * x k = ⊤ := by
    refine top_le_iff.mp (le_of_eq_of_le (square_top hj).symm ?_)
    exact Finset.single_le_sum (f := fun k => x k * x k) (fun k _ => square_nonneg (x k)) (Finset.mem_univ j)
  unfold normed
  have he : Ideal.ofBits .f32 0x358637BD#32 = ((8796093 * 2⁻¹ ^ 43 : ℝ) : EReal) := eps_bits
  rw [hs, depth_bits, he, Ideal.div_coe (by norm_num), EReal.top_mul_coe_of_pos (by norm_num), EReal.top_add_coe]
  change x k * 0 * g k = 0
  rw [mul_zero, zero_mul]

/-- A normed row is one of real numbers if its gain is. -/
theorem normed_real (x g : Fin 1024 → EReal) (hg : ∀ k, ∃ r : ℝ, g k = (r : EReal)) (k : Fin 1024) :
    ∃ r : ℝ, normed x g k = (r : EReal) := by
  by_cases hx : ∀ k, ∃ r : ℝ, x k = (r : EReal)
  swap
  · exact ⟨0, (normed_zero x g hx k).trans EReal.coe_zero.symm⟩
  choose a ha using hx
  choose b hb using hg
  have hs : ∑ k, x k * x k = ((∑ k, a k * a k : ℝ) : EReal) := by
    simp only [ha, ← EReal.coe_mul]
    exact Cert.AttnRow.coe_sum fun k => a k * a k
  have hn : 0 ≤ ∑ k, a k * a k := Finset.sum_nonneg fun k _ => mul_self_nonneg (a k)
  have hp : 0 < (∑ k, a k * a k) * (1 / 1024) + 8796093 * 2⁻¹ ^ 43 := by positivity
  unfold normed
  have he : Ideal.ofBits .f32 0x358637BD#32 = ((8796093 * 2⁻¹ ^ 43 : ℝ) : EReal) := eps_bits
  rw [hs, depth_bits, he, Ideal.div_coe (by norm_num), ← EReal.coe_mul, ← EReal.coe_add, Ideal.rsqrt_coe, if_neg (not_lt.mpr hp.le), if_neg hp.ne', ha, hb,
    ← EReal.coe_mul, ← EReal.coe_mul]
  exact ⟨_, rfl⟩

/-- A row projected with a real gain and real weights is one of real numbers. -/
theorem proj_real (T : Tok) (hg : ∀ k, ∃ r : ℝ, T.g k = (r : EReal)) (hw : ∀ k n, ∃ r : ℝ, T.w k n = (r : EReal))
    (n : Fin 6496) : ∃ r : ℝ, T.proj n = (r : EReal) := by
  unfold Tok.proj
  refine sum_real _ fun k => ?_
  obtain ⟨a, ha⟩ := normed_real T.x T.g hg k
  obtain ⟨b, hb⟩ := hw k n
  exact ⟨a * b, by rw [ha, hb, EReal.coe_mul]⟩

end Cert.InprojRow

end
-- ==== Proof.InprojAgree.lean ====
/-
  One token of the input projection: what the launch computes of the packed weights is what the plain layer computes.
-/
module

public import proofs.«01_k».proof.Proof.InprojMath

@[expose] public section

set_option maxRecDepth 16384

noncomputable section

namespace Cert.InprojRow

open Idealize.ShloMosaic Cert.Rms Cert.SoftRow

variable (T : Tok) (r : EReal)

/-- A column of the packed weights that holds a column of the layer's. -/
theorem p_of {n : Fin 2560} {m : Fin 6496} (h : ∀ w, mix w n = w m) : (T.pack r).p n = T.proj m := by
  unfold Ins.p Tok.proj
  exact Finset.sum_congr rfl fun k _ => congrArg (normed T.x T.g k * ·) (h (T.w k))

/-- A column of zeros. -/
theorem p_zero {n : Fin 2560} (h : ∀ w, mix w n = 0) : (T.pack r).p n = 0 := by
  unfold Ins.p
  exact Finset.sum_eq_zero fun k _ => (congrArg (normed T.x T.g k * ·) (h (T.w k))).trans (mul_zero _)

theorem p_0 {n m : ℕ} {hn : n < 2560} {hm : m < 6496} (h : n < 1536) (e : n = m) : (T.pack r).p ⟨n, hn⟩ = T.proj ⟨m, hm⟩ :=
  p_of T r fun w => (mix_0 w ⟨n, hn⟩ h).trans (at_eq w _ _ e)

theorem p_1 {n m : ℕ} {hn : n < 2560} {hm : m < 6496} (h : 1536 ≤ n ∧ n < 2048) (e : n + 352 = m) : (T.pack r).p ⟨n, hn⟩ = T.proj ⟨m, hm⟩ :=
  p_of T r fun w => (mix_1 w ⟨n, hn⟩ h.1 h.2).trans (at_eq w _ _ e)

theorem p_2 {n m : ℕ} {hn : n < 2560} {hm : m < 6496} (h : 2048 ≤ n ∧ n < 2240) (e : n - 512 = m) : (T.pack r).p ⟨n, hn⟩ = T.proj ⟨m, hm⟩ :=
  p_of T r fun w => (mix_2 w ⟨n, hn⟩ h.1 h.2).trans (at_eq w _ _ e)

theorem p_3 {n : ℕ} {hn : n < 2560} (h : 2240 ≤ n ∧ n < 2304) : (T.pack r).p ⟨n, hn⟩ = 0 := p_zero T r fun w => mix_3 w ⟨n, hn⟩ h.1 h.2

theorem p_4 {n m : ℕ} {hn : n < 2560} {hm : m < 6496} (h : 2304 ≤ n ∧ n < 2432) (e : n - 576 = m) : (T.pack r).p ⟨n, hn⟩ = T.proj ⟨m, hm⟩ :=
  p_of T r fun w => (mix_4 w ⟨n, hn⟩ h.1 h.2).trans (at_eq w _ _ e)

theorem p_5 {n : ℕ} {hn : n < 2560} (h : 2432 ≤ n ∧ n < 2496) : (T.pack r).p ⟨n, hn⟩ = 0 := p_zero T r fun w => mix_5 w ⟨n, hn⟩ h.1 h.2

theorem p_6 {n m : ℕ} {hn : n < 2560} {hm : m < 6496} (h : 2496 ≤ n ∧ n < 2528) (e : n - 640 = m) : (T.pack r).p ⟨n, hn⟩ = T.proj ⟨m, hm⟩ :=
  p_of T r fun w => (mix_6 w ⟨n, hn⟩ h.1 h.2).trans (at_eq w _ _ e)

theorem p_7 {n : ℕ} {hn : n < 2560} (h : 2528 ≤ n) : (T.pack r).p ⟨n, hn⟩ = 0 := p_zero T r fun w => mix_7 w ⟨n, hn⟩ h

/-- The rotary embedding by the sequence angles. -/
theorem rope_0 (h : 0 < 3) (x : Fin 128 → EReal) (d : Fin 128) : (T.pack r).rope 0 h x d = turned rfl x T.ang d := roped_trio x T.ang d

/-- A rotary embedding's lane of the tables a lane has. -/
theorem roped_at {x c l h c' l' h' : Fin 128 → EReal} {d : Fin 128} (hc : c d = c' d) (hl : l d = l' d) (hh : h d = h' d) : roped x c l h d = roped x c' l' h' d := by
  unfold roped
  rw [hc, hl, hh]

/-- The embedding of the latent attention, its rotated lanes. -/
theorem rope_1_in (h : 1 < 3) (x : Fin 128 → EReal) (d : Fin 128) (hd : 64 ≤ d.val ∧ d.val < 96) : (T.pack r).rope 1 h x d = turned rfl x T.ang d :=
  (roped_at (if_pos hd) (if_pos hd) (if_pos hd)).trans (roped_trio x T.ang d)

/-- The embedding of the latent attention leaves its other lanes. -/
theorem rope_1_out (h : 1 < 3) (x : Fin 128 → EReal) (d : Fin 128) (hd : ¬(64 ≤ d.val ∧ d.val < 96)) : (T.pack r).rope 1 h x d = x d := by
  refine (roped_at (c' := fun _ => 1) (l' := fun _ => 0) (h' := fun _ => 0) (if_neg hd) (if_neg hd) (if_neg hd)).trans ?_
  unfold roped
  rw [mul_one, mul_zero, mul_zero, add_zero, add_zero]

/-- The axial embedding. -/
theorem rope_2 (h : 2 < 3) (x : Fin 128 → EReal) (d : Fin 128) : (T.pack r).rope 2 h x d = turned rfl x (Tok.axial T d) d := by
  by_cases hd : d.val % 64 < 32
  · rw [show Tok.axial T d = T.row from if_pos hd, ← roped_trio x T.row d]
    exact roped_at (if_pos hd) (if_pos hd) (if_pos hd)
  · rw [show Tok.axial T d = T.col from if_neg hd, ← roped_trio x T.col d]
    exact roped_at (if_neg hd) (if_neg hd) (if_neg hd)

theorem qa_eq (n : Fin 256) : (T.pack r).qa n = T.rqa n := by
  have hn : n.val < 256 := n.isLt
  refine (rope_0 T r _ _ _).trans ?_
  unfold Tok.rqa
  refine (turned_part rfl rfl _ _ T.ang (128 * (n.val / 128)) (by omega) n (Ins.lane n) (by first | omega | (simp only; omega)) fun e h _ => ?_).symm
  have he : e.val < 128 := e.isLt
  exact (p_0 T r (by first | omega | (simp only; omega)) (by first | omega | simp only)).symm

theorem ka_eq (n : Fin 256) : (T.pack r).ka n = T.rka n := by
  have hn : n.val < 256 := n.isLt
  refine (rope_0 T r _ _ _).trans ?_
  unfold Tok.rka
  refine (turned_part rfl rfl _ _ T.ang (128 * (n.val / 128)) (by omega) n (Ins.lane n) (by first | omega | (simp only; omega)) fun e h _ => ?_).symm
  have he : e.val < 128 := e.isLt
  exact (p_0 T r (by first | omega | (simp only; omega)) (by first | omega | (simp only; omega))).symm

theorem va_eq (n : Fin 256) : (T.pack r).va n = T.rva n := by
  have hn : n.val < 256 := n.isLt
  exact p_0 T r (by first | omega | (simp only; omega)) (by first | omega | (simp only; omega))

theorem qb_eq (n : Fin 256) : (T.pack r).qb n = T.rqb n := by
  have hn : n.val < 256 := n.isLt
  exact p_0 T r (by first | omega | (simp only; omega)) (by first | omega | (simp only; omega))

theorem kb_eq (n : Fin 256) : (T.pack r).kb n = T.rkb n := by
  have hn : n.val < 256 := n.isLt
  exact p_0 T r (by first | omega | (simp only; omega)) (by first | omega | (simp only; omega))

theorem vb_eq (n : Fin 512) : (T.pack r).vb n = T.rvb n := by
  have hn : n.val < 512 := n.isLt
  unfold Ins.vb Ins.ones Tok.rvb
  by_cases h : n.val % 128 < 64
  · refine (if_pos h).trans (Eq.trans ?_ (dif_pos h).symm)
    by_cases hb : n.val / 128 % 2 = 1
    · refine (if_pos (by simp [hb])).trans ?_
      exact p_0 T r (by first | omega | (simp only; omega)) (by first | omega | (simp only; omega))
    · refine (if_neg (by simp [hb])).trans ?_
      exact p_0 T r (by first | omega | (simp only; omega)) (by first | omega | (simp only; omega))
  · exact (if_neg h).trans (by rw [dif_neg h])

theorem vd_eq (n : Fin 256) : (T.pack r).vd n = T.rvd n := by
  have hn : n.val < 256 := n.isLt
  unfold Ins.vd Ins.ones Tok.rvd
  by_cases h : n.val % 128 < 64
  · refine (if_pos h).trans (Eq.trans ?_ (dif_pos h).symm)
    by_cases hb : n.val / 128 = 1
    · refine (if_pos (by simp [hb])).trans ?_
      exact p_1 T r (by first | omega | (simp only; omega)) (by first | omega | (simp only; omega))
    · refine (if_neg (by simp [hb])).trans ?_
      exact p_1 T r (by first | omega | (simp only; omega)) (by first | omega | (simp only; omega))
  · exact (if_neg h).trans (by rw [dif_neg h])

/-- The normed latent of the queries. -/
theorem cq_eq (hr : r = ((1 / 192 : ℝ) : EReal)) (e : Fin 192) : (T.pack r).cq ⟨e.val, by omega⟩ = T.lcq e := by
  have he : e.val < 192 := e.isLt
  have hs : ∑ j : Fin 256, (T.pack r).p ⟨2048 + j, by omega⟩ * (T.pack r).p ⟨2048 + j, by omega⟩
      = ∑ j : Fin 192, T.proj ⟨1536 + j, by omega⟩ * T.proj ⟨1536 + j, by omega⟩ := by
    refine (sum_low _ fun j hj => ?_).trans (Finset.sum_congr rfl fun j _ => ?_)
    · have hj' : j.val < 256 := j.isLt
      rw [p_3 T r (by omega), mul_zero]
    · have hj' : j.val < 192 := j.isLt
      rw [p_2 T r (m := 1536 + j.val) (hm := by omega) (by first | omega | (simp only; omega)) (by first | omega | (simp only; omega))]
  unfold Ins.cq Tok.lcq
  rw [hs, p_2 T r (m := 1536 + e.val) (hm := by omega) (by first | omega | (simp only; omega)) (by first | omega | (simp only; omega)), width_bits, Ideal.div_coe (by norm_num),
    show (T.pack r).r = ((1 / 192 : ℝ) : EReal) from hr]
  exact congrArg (_ * ·) (dif_pos he)

/-- The normed latent of the queries, past its lanes. -/
theorem cq_zero (e : Fin 256) (he : 192 ≤ e.val) : (T.pack r).cq e = 0 := by
  unfold Ins.cq
  exact (congrArg (_ * ·) (dif_neg (by omega))).trans (mul_zero _)

/-- The latent queries before the rotary embedding. -/
theorem q_eq (hr : r = ((1 / 192 : ℝ) : EReal)) {n m : ℕ} {hn : n < 512} {hm : m < 384} (h : n % 128 < 96) (e : 96 * (n / 128) + n % 128 = m) :
    (T.pack r).q ⟨n, hn⟩ = T.lq ⟨m, hm⟩ := by
  subst e
  unfold Ins.q Tok.lq
  refine (sum_low _ fun e he => ?_).trans (Finset.sum_congr rfl fun e _ => ?_)
  · rw [cq_zero T r e he, zero_mul]
  · rw [cq_eq T r hr e]
    exact congrArg (_ * ·) (dif_pos ⟨e.isLt, h⟩)

/-- The latent queries, past a head's lanes. -/
theorem q_zero {n : ℕ} {hn : n < 512} (h : ¬n % 128 < 96) : (T.pack r).q ⟨n, hn⟩ = 0 := by
  unfold Ins.q
  exact Finset.sum_eq_zero fun e _ => (congrArg (_ * ·) (dif_neg fun hh : e.val < 192 ∧ n % 128 < 96 => h hh.2)).trans (mul_zero _)

theorem qc_eq (hr : r = ((1 / 192 : ℝ) : EReal)) (n : Fin 512) : (T.pack r).qc n = T.rqc n := by
  have hn : n.val < 512 := n.isLt
  unfold Ins.qc Tok.rqc
  by_cases h1 : n.val % 128 < 64
  · refine (rope_1_out T r _ _ _ (by first | omega | (simp only; omega))).trans (Eq.trans ?_ (dif_pos h1).symm)
    exact q_eq T r hr (by first | omega | (simp only; omega)) (by first | omega | (simp only; omega))
  · by_cases h2 : n.val % 128 < 96
    · refine (rope_1_in T r _ _ _ (by first | omega | (simp only; omega))).trans (Eq.trans ?_ ((dif_neg h1).trans (dif_pos h2)).symm)
      refine turned_part rfl rfl _ _ T.ang 64 rfl _ _ (by first | omega | (simp only; omega)) fun e h _ => ?_
      have he : e.val < 32 := e.isLt
      exact q_eq T r hr (by first | omega | (simp only; omega)) (by first | omega | (simp only; omega))
    · refine (rope_1_out T r _ _ _ (by first | omega | (simp only; omega))).trans (Eq.trans ?_ ((dif_neg h1).trans (dif_neg h2)).symm)
      exact q_zero T r (by first | omega | (simp only; omega))

/-- The normed latent of the keys and values. -/
theorem ckv_eq (e : Fin 128) : (T.pack r).ckv e = T.lckv e := by
  have hp : ∀ j : Fin 128, (T.pack r).slab 18 (by omega) j = T.proj ⟨1728 + j.val, by omega⟩ := fun j => by
    have hj : j.val < 128 := j.isLt
    exact p_4 T r (by first | omega | (simp only; omega)) (by first | omega | (simp only; omega))
  unfold Ins.ckv Tok.lckv
  simp only [hp]
  rfl

/-- The latent keys before the rotary embedding. -/
theorem kv_key {n m : ℕ} {hn : n < 1024} {hm : m < 512} (h : n % 128 < 64) (h' : n < 512) (e : n = m) : (T.pack r).kv ⟨n, hn⟩ = T.lkv ⟨m, hm⟩ := by
  unfold Ins.kv Tok.lkv
  refine Finset.sum_congr rfl fun k _ => ?_
  rw [ckv_eq]
  exact congrArg (_ * ·) ((dif_pos h).trans ((dif_pos h').trans (at_eq (T.wukv k) _ _ (by first | omega | (simp only; omega)))))

/-- The latent values. -/
theorem kv_value {n m : ℕ} {hn : n < 1024} {hm : m < 512} (h : n % 128 < 64) (h' : ¬n < 512) (e : n - 448 = m) : (T.pack r).kv ⟨n, hn⟩ = T.lkv ⟨m, hm⟩ := by
  unfold Ins.kv Tok.lkv
  refine Finset.sum_congr rfl fun k _ => ?_
  rw [ckv_eq]
  exact congrArg (_ * ·) ((dif_pos h).trans ((dif_neg h').trans (at_eq (T.wukv k) _ _ (by first | omega | (simp only; omega)))))

/-- The latent keys and values, past a head's lanes. -/
theorem kv_zero {n : ℕ} {hn : n < 1024} (h : ¬n % 128 < 64) : (T.pack r).kv ⟨n, hn⟩ = 0 := by
  unfold Ins.kv
  exact Finset.sum_eq_zero fun k _ => (congrArg (_ * ·) (dif_neg h)).trans (mul_zero _)

theorem vc_eq (n : Fin 512) : (T.pack r).vc n = T.rvc n := by
  have hn : n.val < 512 := n.isLt
  unfold Ins.vc Ins.ones Tok.rvc
  by_cases h : n.val % 128 < 64
  · refine (if_pos h).trans (Eq.trans ?_ (dif_pos h).symm)
    refine (if_neg (by simp)).trans ?_
    exact kv_value T r (by first | omega | (simp only; omega)) (by first | omega | (simp only; omega)) (by first | omega | (simp only; omega))
  · exact (if_neg h).trans (by rw [dif_neg h])

theorem kc_eq (n : Fin 512) : (T.pack r).kc n = T.rkc n := by
  have hn : n.val < 512 := n.isLt
  unfold Ins.kc Tok.rkc
  by_cases h1 : n.val % 128 < 64
  · rw [rope_1_out T r _ _ _ (by first | omega | (simp only; omega)),
      show (T.pack r).slab 19 (by omega) (Ins.lane n) = 0 from p_5 T r (by first | omega | (simp only; omega)), add_zero]
    refine Eq.trans ?_ (dif_pos h1).symm
    exact kv_key T r (by first | omega | (simp only; omega)) (by first | omega | (simp only; omega)) (by first | omega | (simp only; omega))
  · rw [kv_zero T r (by first | omega | (simp only; omega)), zero_add]
    by_cases h2 : n.val % 128 < 96
    · refine (rope_1_in T r _ _ _ (by first | omega | (simp only; omega))).trans (Eq.trans ?_ ((dif_neg h1).trans (dif_pos h2)).symm)
      refine turned_part rfl rfl _ _ T.ang 64 rfl _ _ (by first | omega | (simp only; omega)) fun e h _ => ?_
      have he : e.val < 32 := e.isLt
      exact p_6 T r (by first | omega | (simp only; omega)) (by first | omega | (simp only; omega))
    · refine (rope_1_out T r _ _ _ (by first | omega | (simp only; omega))).trans (Eq.trans ?_ ((dif_neg h1).trans (dif_neg h2)).symm)
      exact p_7 T r (by first | omega | (simp only; omega))

/-- A slab's normed lanes are those of the columns it holds. -/
theorem normed_slab {N : ℕ} (hN : N % 64 = 0) (x : Fin 128 → EReal) (y : Fin N → EReal) (g : Fin 64 → EReal) (hx : ∀ e, ∃ v : ℝ, x e = (v : EReal)) (o : ℕ)
    (ho : o % 64 = 0) (hoN : o + 128 ≤ N) (hxy : ∀ e : Fin 128, x e = y ⟨o + e.val, by omega⟩) (d : Fin 128) :
    halved x d * g ⟨d.val % 64, Nat.mod_lt _ (by omega)⟩ = grouped64 hN y g ⟨o + d.val, by omega⟩ := by
  have hd : d.val < 128 := d.isLt
  rw [halved_real x hx d]
  unfold grouped64
  have hf : ∀ e : Fin 64, x ⟨d.val / 64 * 64 + e.val, by omega⟩ = y ⟨(o + d.val) / 64 * 64 + e.val, by omega⟩ := fun e => by
    rw [hxy]
    exact at_eq y _ _ (by first | omega | (simp only; omega))
  simp only [hf]
  rw [hxy d, at_eq g (b := (o + d.val) % 64) _ (Nat.mod_lt _ (by omega)) (by omega)]

theorem qd_eq (hp : ∀ n, ∃ v : ℝ, T.proj n = (v : EReal)) (n : Fin 256) : (T.pack r).qd n = T.rqd n := by
  have hn : n.val < 256 := n.isLt
  have hs : ∀ e : Fin 128, (T.pack r).slab (12 + n.val / 128) (by omega) e = T.proj ⟨1888 + (128 * (n.val / 128) + e.val), by omega⟩ := fun e => by
    have he : e.val < 128 := e.isLt
    exact p_1 T r (by first | omega | (simp only; omega)) (by first | omega | (simp only; omega))
  refine (rope_2 T r _ _ _).trans ?_
  unfold Tok.rqd
  rw [show Tok.axial T (Ins.lane n) = Tok.axial T n from by unfold Tok.axial; rw [show (Ins.lane n).val % 64 = n.val % 64 by simp only; omega]]
  refine (turned_part rfl rfl _ _ (Tok.axial T n) (128 * (n.val / 128)) (by omega) n (Ins.lane n) (by first | omega | (simp only; omega)) fun e h _ => ?_).symm
  refine (normed_slab rfl _ (fun e : Fin 256 => T.proj ⟨1888 + e.val, by omega⟩) T.dqn (fun e => ?_) (128 * (n.val / 128)) (by omega) (by omega) hs e).symm
  rw [hs e]
  exact hp _

theorem kd_eq (hp : ∀ n, ∃ v : ℝ, T.proj n = (v : EReal)) (n : Fin 128) : (T.pack r).kd n = T.rkd n := by
  have hs : ∀ e : Fin 128, (T.pack r).slab 14 (by omega) e = T.proj ⟨2144 + (0 + e.val), by omega⟩ := fun e => by
    have he : e.val < 128 := e.isLt
    exact p_1 T r (by first | omega | (simp only; omega)) (by first | omega | (simp only; omega))
  refine (rope_2 T r _ _ _).trans ?_
  unfold Tok.rkd
  refine (turned_part rfl rfl _ _ (Tok.axial T n) 0 rfl n n (by omega) fun e h _ => ?_).symm
  refine (normed_slab rfl _ (fun e : Fin 128 => T.proj ⟨2144 + e.val, by omega⟩) T.dkn (fun e => ?_) 0 rfl (by omega) hs e).symm
  rw [hs e]
  exact hp _

end Cert.InprojRow

end
-- ==== Proof.InprojReference.lean ====
/-
  The input projection's reference, each result at an index.
-/
module

public import proofs.«01_k».proof.Proof.InprojPlain
public import proofs.«01_k».proof.Proof.Gen.InprojReferenceIdeal.Read
public import Idealize.ShloMosaic.Lib.Pointwise
public import Idealize.ShloMosaic.Lib.IdealHost

@[expose] public section

set_option maxRecDepth 16384

noncomputable section

namespace Cert.InprojReferenceIdeal.Tile

open Cert.InprojReferenceIdeal Cert.InprojReferenceIdeal.Read Idealize.ShloMosaic Cert.InprojRow Cert.Rms

variable (x0 : (⟨S32x2048x1024, .f32⟩ : BufTy).Contents (Elt Ideal)) (x1 : (⟨S1024, .f32⟩ : BufTy).Contents (Elt Ideal))
  (x2 : (⟨S1024x6496, .f32⟩ : BufTy).Contents (Elt Ideal)) (x3 x4 x5 : (⟨S2048x16, .f32⟩ : BufTy).Contents (Elt Ideal))
  (x6 : (⟨S192, .f32⟩ : BufTy).Contents (Elt Ideal)) (x7 : (⟨S128, .f32⟩ : BufTy).Contents (Elt Ideal))
  (x8 : (⟨S192x384, .f32⟩ : BufTy).Contents (Elt Ideal)) (x9 : (⟨S128x512, .f32⟩ : BufTy).Contents (Elt Ideal))
  (x10 x11 : (⟨S64, .f32⟩ : BufTy).Contents (Elt Ideal)) (b : Fin 32) (s : Fin 2048)

/-- Token `s` of sequence `b`. -/
def tokAt : Tok where
  x k := x0 (ix3 b s k)
  g k := x1 (ix1 k)
  w k n := x2 (ix2 k n)
  ang k := x3 (ix2 s k)
  row k := x4 (ix2 s k)
  col k := x5 (ix2 s k)
  cqn k := x6 (ix1 k)
  ckvn k := x7 (ix1 k)
  wuq k n := x8 (ix2 k n)
  wukv k n := x9 (ix2 k n)
  dqn k := x10 (ix1 k)
  dkn k := x11 (ix1 k)

/-- The normed row. -/
theorem v12_apply (d : Fin 1024) : val_main_v12 x0 x1 (ix3 b s d) = normed (fun k => x0 (ix3 b s k)) (fun k => x1 (ix1 k)) d := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, normed]

/-- The projected row. -/
theorem v13_apply (n : Fin 6496) : val_main_v13 x0 x1 x2 (ix3 b s n) = Tok.proj (tokAt x0 x1 x2 x3 x4 x5 x6 x7 x8 x9 x10 x11 b s) n := by
  pointwise [val_main_v13]
  simp only [v12_apply]
  rfl

/-- A token's sequence angles. -/
theorem tok_ang (k : Fin 16) : (tokAt x0 x1 x2 x3 x4 x5 x6 x7 x8 x9 x10 x11 b s).ang k = x3 (ix2 s k) := rfl

/-- The projected row at a lane given in another form. -/
theorem v13_at {n m : ℕ} {hn : n < 6496} {hm : m < 6496} (h : n = m) : val_main_v13 x0 x1 x2 (ix3 b s ⟨n, hn⟩) = Tok.proj (tokAt x0 x1 x2 x3 x4 x5 x6 x7 x8 x9 x10 x11 b s) ⟨m, hm⟩ := by
  subst h
  exact v13_apply x0 x1 x2 x3 x4 x5 x6 x7 x8 x9 x10 x11 b s _

/-- A sequence angle at a lane given in another form. -/
theorem ang_at {n m : ℕ} {hn : n < 16} {hm : m < 16} (h : n = m) : x3 (ix2 s ⟨n, hn⟩) = (tokAt x0 x1 x2 x3 x4 x5 x6 x7 x8 x9 x10 x11 b s).ang ⟨m, hm⟩ := by
  subst h
  rfl

/-- A row angle at a lane given in another form. -/
theorem row_at {n m : ℕ} {hn : n < 16} {hm : m < 16} (h : n = m) : x4 (ix2 s ⟨n, hn⟩) = (tokAt x0 x1 x2 x3 x4 x5 x6 x7 x8 x9 x10 x11 b s).row ⟨m, hm⟩ := by
  subst h
  rfl

/-- A column angle at a lane given in another form. -/
theorem col_at {n m : ℕ} {hn : n < 16} {hm : m < 16} (h : n = m) : x5 (ix2 s ⟨n, hn⟩) = (tokAt x0 x1 x2 x3 x4 x5 x6 x7 x8 x9 x10 x11 b s).col ⟨m, hm⟩ := by
  subst h
  rfl

/-- The first lanes of a rotation, part by part. -/
theorem rot_sub {p p' q q' a a' : EReal} (hp : p = p') (hq : q = q') (ha : a = a') :
    p * Ideal.cos a - q * Ideal.sin a = p' * Ideal.cos a' - q' * Ideal.sin a' := by
  rw [hp, hq, ha]

/-- The last lanes of a rotation, part by part. -/
theorem rot_add {p p' q q' a a' : EReal} (hp : p = p') (hq : q = q') (ha : a = a') :
    p * Ideal.cos a + q * Ideal.sin a = p' * Ideal.cos a' + q' * Ideal.sin a' := by
  rw [hp, hq, ha]

/-- A normed lane, part by part. -/
theorem norm_eq {N : ℕ} {p p' g g' c : EReal} {f f' : Fin N → EReal} (hp : p = p') (hf : ∀ e, f e = f' e) (hg : g = g') :
    p * Ideal.rsqrt (Ideal.div (∑ e, f e * f e) c + eps) * g = p' * Ideal.rsqrt (Ideal.div (∑ e, f' e * f' e) c + eps) * g' := by
  rw [hp, hg, funext hf]

/-- A choice whose condition holds on both sides. -/
theorem both_pos {p q : Prop} [Decidable p] [Decidable q] {a : p → EReal} {b : ¬p → EReal} {a' : q → EReal} {b' : ¬q → EReal} (h : p) (h' : q)
    (e : a h = a' h') : dite p a b = dite q a' b' := (dif_pos h).trans (e.trans (dif_pos h').symm)

/-- A choice whose condition fails on both sides. -/
theorem both_neg {p q : Prop} [Decidable p] [Decidable q] {a : p → EReal} {b : ¬p → EReal} {a' : q → EReal} {b' : ¬q → EReal} (h : ¬p) (h' : ¬q)
    (e : b h = b' h') : dite p a b = dite q a' b' := (dif_neg h).trans (e.trans (dif_neg h').symm)

end Cert.InprojReferenceIdeal.Tile

end
-- ==== Proof.InprojRefA.lean ====
/-
  The differential attention's queries by the reference.
-/
module

public import proofs.«01_k».proof.Proof.InprojReference
public import Idealize.ShloMosaic.Lib.Pointwise
public import Idealize.ShloMosaic.Lib.IdealHost

@[expose] public section

set_option maxRecDepth 16384

noncomputable section

namespace Cert.InprojReferenceIdeal.Tile

open Cert.InprojReferenceIdeal Cert.InprojReferenceIdeal.Read Idealize.ShloMosaic Cert.InprojRow Cert.Rms

variable (x0 : (⟨S32x2048x1024, .f32⟩ : BufTy).Contents (Elt Ideal)) (x1 : (⟨S1024, .f32⟩ : BufTy).Contents (Elt Ideal))
  (x2 : (⟨S1024x6496, .f32⟩ : BufTy).Contents (Elt Ideal)) (x3 x4 x5 : (⟨S2048x16, .f32⟩ : BufTy).Contents (Elt Ideal))
  (x6 : (⟨S192, .f32⟩ : BufTy).Contents (Elt Ideal)) (x7 : (⟨S128, .f32⟩ : BufTy).Contents (Elt Ideal))
  (x8 : (⟨S192x384, .f32⟩ : BufTy).Contents (Elt Ideal)) (x9 : (⟨S128x512, .f32⟩ : BufTy).Contents (Elt Ideal))
  (x10 x11 : (⟨S64, .f32⟩ : BufTy).Contents (Elt Ideal)) (b : Fin 32) (s : Fin 2048)

/-- The differential queries. -/
theorem v244_apply (n : Fin 256) : val_main_v244 x0 x1 x2 x3 (ix3 b s n) = Tok.rqa (tokAt x0 x1 x2 x3 x4 x5 x6 x7 x8 x9 x10 x11 b s) n := by
  pointwise [val_main_v244, val_main_v243, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v19, val_main_v14]
  unfold Tok.rqa turned
  by_cases h : n.val % 32 < 16
  · exact both_pos h h (rot_sub (v13_at x0 x1 x2 x3 x4 x5 x6 x7 x8 x9 x10 x11 b s (by first | omega | (simp only; omega))) (v13_at x0 x1 x2 x3 x4 x5 x6 x7 x8 x9 x10 x11 b s (by first | omega | (simp only; omega))) (ang_at x0 x1 x2 x3 x4 x5 x6 x7 x8 x9 x10 x11 b s rfl))
  · exact both_neg h h (rot_add (v13_at x0 x1 x2 x3 x4 x5 x6 x7 x8 x9 x10 x11 b s (by first | omega | (simp only; omega))) (v13_at x0 x1 x2 x3 x4 x5 x6 x7 x8 x9 x10 x11 b s (by first | omega | (simp only; omega))) (ang_at x0 x1 x2 x3 x4 x5 x6 x7 x8 x9 x10 x11 b s rfl))

end Cert.InprojReferenceIdeal.Tile

end
-- ==== Proof.InprojRefB.lean ====
/-
  The differential attention's keys and values by the reference.
-/
module

public import proofs.«01_k».proof.Proof.InprojReference
public import Idealize.ShloMosaic.Lib.Pointwise
public import Idealize.ShloMosaic.Lib.IdealHost

@[expose] public section

set_option maxRecDepth 16384

noncomputable section

namespace Cert.InprojReferenceIdeal.Tile

open Cert.InprojReferenceIdeal Cert.InprojReferenceIdeal.Read Idealize.ShloMosaic Cert.InprojRow Cert.Rms

variable (x0 : (⟨S32x2048x1024, .f32⟩ : BufTy).Contents (Elt Ideal)) (x1 : (⟨S1024, .f32⟩ : BufTy).Contents (Elt Ideal))
  (x2 : (⟨S1024x6496, .f32⟩ : BufTy).Contents (Elt Ideal)) (x3 x4 x5 : (⟨S2048x16, .f32⟩ : BufTy).Contents (Elt Ideal))
  (x6 : (⟨S192, .f32⟩ : BufTy).Contents (Elt Ideal)) (x7 : (⟨S128, .f32⟩ : BufTy).Contents (Elt Ideal))
  (x8 : (⟨S192x384, .f32⟩ : BufTy).Contents (Elt Ideal)) (x9 : (⟨S128x512, .f32⟩ : BufTy).Contents (Elt Ideal))
  (x10 x11 : (⟨S64, .f32⟩ : BufTy).Contents (Elt Ideal)) (b : Fin 32) (s : Fin 2048)

/-- The differential keys. -/
theorem v247_apply (n : Fin 256) : val_main_v247 x0 x1 x2 x3 (ix3 b n s) = Tok.rka (tokAt x0 x1 x2 x3 x4 x5 x6 x7 x8 x9 x10 x11 b s) n := by
  pointwise [val_main_v247, val_main_v246, val_main_v245, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v20, val_main_v14]
  unfold Tok.rka turned
  by_cases h : n.val % 32 < 16
  · exact both_pos h h (rot_sub (v13_at x0 x1 x2 x3 x4 x5 x6 x7 x8 x9 x10 x11 b s (by first | omega | (simp only; omega))) (v13_at x0 x1 x2 x3 x4 x5 x6 x7 x8 x9 x10 x11 b s (by first | omega | (simp only; omega))) (ang_at x0 x1 x2 x3 x4 x5 x6 x7 x8 x9 x10 x11 b s rfl))
  · exact both_neg h h (rot_add (v13_at x0 x1 x2 x3 x4 x5 x6 x7 x8 x9 x10 x11 b s (by first | omega | (simp only; omega))) (v13_at x0 x1 x2 x3 x4 x5 x6 x7 x8 x9 x10 x11 b s (by first | omega | (simp only; omega))) (ang_at x0 x1 x2 x3 x4 x5 x6 x7 x8 x9 x10 x11 b s rfl))

/-- The differential values. -/
theorem v248_apply (n : Fin 256) : val_main_v248 x0 x1 x2 (ix3 b s n) = Tok.rva (tokAt x0 x1 x2 x3 x4 x5 x6 x7 x8 x9 x10 x11 b s) n := by
  pointwise [val_main_v248, val_main_v21, val_main_v14]
  exact v13_at x0 x1 x2 x3 x4 x5 x6 x7 x8 x9 x10 x11 b s rfl

end Cert.InprojReferenceIdeal.Tile

end
-- ==== Proof.InprojRefC.lean ====
/-
  The plain results of the reference.
-/
module

public import proofs.«01_k».proof.Proof.InprojReference
public import Idealize.ShloMosaic.Lib.Pointwise
public import Idealize.ShloMosaic.Lib.IdealHost

@[expose] public section

set_option maxRecDepth 16384

noncomputable section

namespace Cert.InprojReferenceIdeal.Tile

open Cert.InprojReferenceIdeal Cert.InprojReferenceIdeal.Read Idealize.ShloMosaic Cert.InprojRow Cert.Rms

variable (x0 : (⟨S32x2048x1024, .f32⟩ : BufTy).Contents (Elt Ideal)) (x1 : (⟨S1024, .f32⟩ : BufTy).Contents (Elt Ideal))
  (x2 : (⟨S1024x6496, .f32⟩ : BufTy).Contents (Elt Ideal)) (x3 x4 x5 : (⟨S2048x16, .f32⟩ : BufTy).Contents (Elt Ideal))
  (x6 : (⟨S192, .f32⟩ : BufTy).Contents (Elt Ideal)) (x7 : (⟨S128, .f32⟩ : BufTy).Contents (Elt Ideal))
  (x8 : (⟨S192x384, .f32⟩ : BufTy).Contents (Elt Ideal)) (x9 : (⟨S128x512, .f32⟩ : BufTy).Contents (Elt Ideal))
  (x10 x11 : (⟨S64, .f32⟩ : BufTy).Contents (Elt Ideal)) (b : Fin 32) (s : Fin 2048)

/-- The neighbourhood queries. -/
theorem v249_apply (n : Fin 256) : val_main_v249 x0 x1 x2 (ix3 b s n) = Tok.rqb (tokAt x0 x1 x2 x3 x4 x5 x6 x7 x8 x9 x10 x11 b s) n := by
  pointwise [val_main_v249, val_main_v58, val_main_v15]
  exact v13_at x0 x1 x2 x3 x4 x5 x6 x7 x8 x9 x10 x11 b s (by omega)

/-- The neighbourhood keys. -/
theorem v251_apply (n : Fin 256) : val_main_v251 x0 x1 x2 (ix3 b n s) = Tok.rkb (tokAt x0 x1 x2 x3 x4 x5 x6 x7 x8 x9 x10 x11 b s) n := by
  pointwise [val_main_v251, val_main_v250, val_main_v59, val_main_v15]
  exact v13_at x0 x1 x2 x3 x4 x5 x6 x7 x8 x9 x10 x11 b s (by omega)

/-- The neighbourhood values. -/
theorem v255_apply (n : Fin 512) : val_main_v255 x0 x1 x2 (ix3 b s n) = Tok.rvb (tokAt x0 x1 x2 x3 x4 x5 x6 x7 x8 x9 x10 x11 b s) n := by
  pointwise [val_main_v255, val_main_v254, val_main_v253, val_main_v252, val_main_cst_14, val_main_v61, val_main_v60, val_main_v15]
  unfold Tok.rvb
  by_cases h : n.val % 128 < 64
  · exact both_pos h h (v13_at x0 x1 x2 x3 x4 x5 x6 x7 x8 x9 x10 x11 b s (by omega))
  · exact both_neg h h (by first | rfl | exact Ideal.ofBits_f32_one)

/-- The grouped values. -/
theorem v277_apply (n : Fin 256) : val_main_v277 x0 x1 x2 (ix3 b s n) = Tok.rvd (tokAt x0 x1 x2 x3 x4 x5 x6 x7 x8 x9 x10 x11 b s) n := by
  pointwise [val_main_v277, val_main_v276, val_main_v275, val_main_v274, val_main_cst_18, val_main_v242, val_main_v139, val_main_v17]
  unfold Tok.rvd
  by_cases h : n.val % 128 < 64
  · exact both_pos h h (v13_at x0 x1 x2 x3 x4 x5 x6 x7 x8 x9 x10 x11 b s (by omega))
  · exact both_neg h h (by first | rfl | exact Ideal.ofBits_f32_one)

end Cert.InprojReferenceIdeal.Tile

end
-- ==== Proof.InprojRefD.lean ====
/-
  The latent attention's values by the reference.
-/
module

public import proofs.«01_k».proof.Proof.InprojReference
public import Idealize.ShloMosaic.Lib.Pointwise
public import Idealize.ShloMosaic.Lib.IdealHost

@[expose] public section

set_option maxRecDepth 16384

noncomputable section

namespace Cert.InprojReferenceIdeal.Tile

open Cert.InprojReferenceIdeal Cert.InprojReferenceIdeal.Read Idealize.ShloMosaic Cert.InprojRow Cert.Rms

variable (x0 : (⟨S32x2048x1024, .f32⟩ : BufTy).Contents (Elt Ideal)) (x1 : (⟨S1024, .f32⟩ : BufTy).Contents (Elt Ideal))
  (x2 : (⟨S1024x6496, .f32⟩ : BufTy).Contents (Elt Ideal)) (x3 x4 x5 : (⟨S2048x16, .f32⟩ : BufTy).Contents (Elt Ideal))
  (x6 : (⟨S192, .f32⟩ : BufTy).Contents (Elt Ideal)) (x7 : (⟨S128, .f32⟩ : BufTy).Contents (Elt Ideal))
  (x8 : (⟨S192x384, .f32⟩ : BufTy).Contents (Elt Ideal)) (x9 : (⟨S128x512, .f32⟩ : BufTy).Contents (Elt Ideal))
  (x10 x11 : (⟨S64, .f32⟩ : BufTy).Contents (Elt Ideal)) (b : Fin 32) (s : Fin 2048)

/-- The latent keys and values before the rotary embedding. -/
theorem v113_apply (n : Fin 512) : val_main_v113 x0 x1 x2 x7 x9 (ix3 b s n) = Tok.lkv (tokAt x0 x1 x2 x3 x4 x5 x6 x7 x8 x9 x10 x11 b s) n := by
  pointwise [val_main_v113, val_main_v112, val_main_v111, val_main_v110, val_main_v109, val_main_v108, val_main_v107, val_main_v106, val_main_v105, val_main_v104, val_main_v103, val_main_v102, val_main_v101, val_main_v100, val_main_cst_5, val_main_cst_6, val_main_cst_7, val_main_v63, val_main_v16]
  refine Finset.sum_congr rfl fun e _ => congrArg (· * x9 (ix2 e n)) ?_
  exact norm_eq (v13_at x0 x1 x2 x3 x4 x5 x6 x7 x8 x9 x10 x11 b s (by first | omega | (simp only; omega))) (fun e => v13_at x0 x1 x2 x3 x4 x5 x6 x7 x8 x9 x10 x11 b s (by first | omega | (simp only; omega))) rfl

/-- The latent keys and values at a lane given in another form. -/
theorem v113_at {n m : ℕ} {hn : n < 512} {hm : m < 512} (h : n = m) : val_main_v113 x0 x1 x2 x7 x9 (ix3 b s ⟨n, hn⟩) = Tok.lkv (tokAt x0 x1 x2 x3 x4 x5 x6 x7 x8 x9 x10 x11 b s) ⟨m, hm⟩ := by
  subst h
  exact v113_apply x0 x1 x2 x3 x4 x5 x6 x7 x8 x9 x10 x11 b s _

/-- The latent values. -/
theorem v268_apply (n : Fin 512) : val_main_v268 x0 x1 x2 x7 x9 (ix3 b s n) = Tok.rvc (tokAt x0 x1 x2 x3 x4 x5 x6 x7 x8 x9 x10 x11 b s) n := by
  pointwise [val_main_v268, val_main_v267, val_main_v266, val_main_v265, val_main_cst_17, val_main_v116, val_main_v114]
  unfold Tok.rvc
  by_cases h : n.val % 128 < 64
  · exact both_pos h h (v113_at x0 x1 x2 x3 x4 x5 x6 x7 x8 x9 x10 x11 b s (by first | omega | (simp only; omega)))
  · exact both_neg h h (by first | rfl | exact Ideal.ofBits_f32_one)

end Cert.InprojReferenceIdeal.Tile

end
-- ==== Proof.InprojAxial.lean ====
/-
  The axial embedding where a lane's angles are known.
-/
module

public import proofs.«01_k».proof.Proof.InprojPlain

@[expose] public section

noncomputable section

namespace Cert.InprojRow

/-- The lanes of a half that are turned by the row. -/
theorem turned_row (T : Tok) {N : ℕ} (hN : N % 32 = 0) (x : Fin N → EReal) (n : Fin N) (h : n.val % 64 < 32) : turned hN x (Tok.axial T n) n = turned hN x T.row n := by
  unfold Tok.axial
  rw [if_pos h]

/-- The lanes of a half that are turned by the column. -/
theorem turned_col (T : Tok) {N : ℕ} (hN : N % 32 = 0) (x : Fin N → EReal) (n : Fin N) (h : ¬n.val % 64 < 32) : turned hN x (Tok.axial T n) n = turned hN x T.col n := by
  unfold Tok.axial
  rw [if_neg h]

end Cert.InprojRow

end
-- ==== Proof.InprojRefE.lean ====
/-
  The grouped attention's keys by the reference.
-/
module

public import proofs.«01_k».proof.Proof.InprojReference
public import proofs.«01_k».proof.Proof.InprojAxial
public import Idealize.ShloMosaic.Lib.Pointwise
public import Idealize.ShloMosaic.Lib.IdealHost

@[expose] public section

set_option maxRecDepth 16384

noncomputable section

namespace Cert.InprojReferenceIdeal.Tile

open Cert.InprojReferenceIdeal Cert.InprojReferenceIdeal.Read Idealize.ShloMosaic Cert.InprojRow Cert.Rms

variable (x0 : (⟨S32x2048x1024, .f32⟩ : BufTy).Contents (Elt Ideal)) (x1 : (⟨S1024, .f32⟩ : BufTy).Contents (Elt Ideal))
  (x2 : (⟨S1024x6496, .f32⟩ : BufTy).Contents (Elt Ideal)) (x3 x4 x5 : (⟨S2048x16, .f32⟩ : BufTy).Contents (Elt Ideal))
  (x6 : (⟨S192, .f32⟩ : BufTy).Contents (Elt Ideal)) (x7 : (⟨S128, .f32⟩ : BufTy).Contents (Elt Ideal))
  (x8 : (⟨S192x384, .f32⟩ : BufTy).Contents (Elt Ideal)) (x9 : (⟨S128x512, .f32⟩ : BufTy).Contents (Elt Ideal))
  (x10 x11 : (⟨S64, .f32⟩ : BufTy).Contents (Elt Ideal)) (b : Fin 32) (s : Fin 2048)

/-- The normed grouped keys. -/
theorem v204_apply (i : Fin 2) (n : Fin 64) : val_main_v204 x0 x1 x2 x11 (ix4 b s i n) = grouped64 (N := 128) rfl (fun e : Fin 128 => Tok.proj (tokAt x0 x1 x2 x3 x4 x5 x6 x7 x8 x9 x10 x11 b s) ⟨2144 + e, by omega⟩) (Tok.dkn (tokAt x0 x1 x2 x3 x4 x5 x6 x7 x8 x9 x10 x11 b s)) ⟨i.val * 64 + n.val, by omega⟩ := by
  pointwise [val_main_v204, val_main_v203, val_main_v202, val_main_v201, val_main_v200, val_main_v199, val_main_v198, val_main_v197, val_main_v196, val_main_v195, val_main_v194, val_main_v193, val_main_v192, val_main_v191, val_main_cst_11, val_main_cst_12, val_main_cst_13, val_main_v138, val_main_v17]
  unfold grouped64
  exact norm_eq (v13_at x0 x1 x2 x3 x4 x5 x6 x7 x8 x9 x10 x11 b s (by first | omega | (simp only; omega))) (fun e => v13_at x0 x1 x2 x3 x4 x5 x6 x7 x8 x9 x10 x11 b s (by first | omega | (simp only; omega))) (at_eq (fun k => x11 (ix1 k)) _ _ (by first | omega | (simp only; omega)))

/-- The normed grouped keys at a lane given in another form. -/
theorem v204_at {i n m : ℕ} {hi : i < 2} {hn : n < 64} {hm : m < 128} (h : i * 64 + n = m) :
    val_main_v204 x0 x1 x2 x11 (ix4 b s ⟨i, hi⟩ ⟨n, hn⟩) = grouped64 (N := 128) rfl (fun e : Fin 128 => Tok.proj (tokAt x0 x1 x2 x3 x4 x5 x6 x7 x8 x9 x10 x11 b s) ⟨2144 + e, by omega⟩) (Tok.dkn (tokAt x0 x1 x2 x3 x4 x5 x6 x7 x8 x9 x10 x11 b s)) ⟨m, hm⟩ := by
  subst h
  exact v204_apply x0 x1 x2 x3 x4 x5 x6 x7 x8 x9 x10 x11 b s _ _

set_option maxHeartbeats 1600000 in
/-- The grouped keys. -/
theorem v273_apply (n : Fin 128) : val_main_v273 x0 x1 x2 x4 x5 x11 (ix3 b n s) = Tok.rkd (tokAt x0 x1 x2 x3 x4 x5 x6 x7 x8 x9 x10 x11 b s) n := by
  pointwise [val_main_v273, val_main_v272, val_main_v271, val_main_v241, val_main_v240, val_main_v239, val_main_v238, val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205]
  unfold Tok.rkd
  by_cases h : n.val % 64 < 32
  · refine Eq.trans ?_ (turned_row (tokAt x0 x1 x2 x3 x4 x5 x6 x7 x8 x9 x10 x11 b s) rfl _ n h).symm
    unfold turned
    refine (dif_pos h).trans ?_
    by_cases h1 : n.val % 64 < 16
    · exact both_pos h1 (show n.val % 32 < 16 by omega) (rot_sub (v204_at x0 x1 x2 x3 x4 x5 x6 x7 x8 x9 x10 x11 b s (by first | omega | (simp only; omega))) (v204_at x0 x1 x2 x3 x4 x5 x6 x7 x8 x9 x10 x11 b s (by first | omega | (simp only; omega))) (row_at x0 x1 x2 x3 x4 x5 x6 x7 x8 x9 x10 x11 b s (by first | omega | (simp only; omega))))
    · exact both_neg h1 (show ¬n.val % 32 < 16 by omega) (rot_add (v204_at x0 x1 x2 x3 x4 x5 x6 x7 x8 x9 x10 x11 b s (by first | omega | (simp only; omega))) (v204_at x0 x1 x2 x3 x4 x5 x6 x7 x8 x9 x10 x11 b s (by first | omega | (simp only; omega))) (row_at x0 x1 x2 x3 x4 x5 x6 x7 x8 x9 x10 x11 b s (by first | omega | (simp only; omega))))
  · refine Eq.trans ?_ (turned_col (tokAt x0 x1 x2 x3 x4 x5 x6 x7 x8 x9 x10 x11 b s) rfl _ n h).symm
    unfold turned
    refine (dif_neg h).trans ?_
    by_cases h1 : n.val % 64 - 32 < 16
    · exact both_pos h1 (show n.val % 32 < 16 by omega) (rot_sub (v204_at x0 x1 x2 x3 x4 x5 x6 x7 x8 x9 x10 x11 b s (by first | omega | (simp only; omega))) (v204_at x0 x1 x2 x3 x4 x5 x6 x7 x8 x9 x10 x11 b s (by first | omega | (simp only; omega))) (col_at x0 x1 x2 x3 x4 x5 x6 x7 x8 x9 x10 x11 b s (by first | omega | (simp only; omega))))
    · exact both_neg h1 (show ¬n.val % 32 < 16 by omega) (rot_add (v204_at x0 x1 x2 x3 x4 x5 x6 x7 x8 x9 x10 x11 b s (by first | omega | (simp only; omega))) (v204_at x0 x1 x2 x3 x4 x5 x6 x7 x8 x9 x10 x11 b s (by first | omega | (simp only; omega))) (col_at x0 x1 x2 x3 x4 x5 x6 x7 x8 x9 x10 x11 b s (by first | omega | (simp only; omega))))

end Cert.InprojReferenceIdeal.Tile

end
-- ==== Proof.InprojRefF.lean ====
/-
  The grouped attention's queries by the reference.
-/
module

public import proofs.«01_k».proof.Proof.InprojReference
public import proofs.«01_k».proof.Proof.InprojAxial
public import Idealize.ShloMosaic.Lib.Pointwise
public import Idealize.ShloMosaic.Lib.IdealHost

@[expose] public section

set_option maxRecDepth 16384

noncomputable section

namespace Cert.InprojReferenceIdeal.Tile

open Cert.InprojReferenceIdeal Cert.InprojReferenceIdeal.Read Idealize.ShloMosaic Cert.InprojRow Cert.Rms

variable (x0 : (⟨S32x2048x1024, .f32⟩ : BufTy).Contents (Elt Ideal)) (x1 : (⟨S1024, .f32⟩ : BufTy).Contents (Elt Ideal))
  (x2 : (⟨S1024x6496, .f32⟩ : BufTy).Contents (Elt Ideal)) (x3 x4 x5 : (⟨S2048x16, .f32⟩ : BufTy).Contents (Elt Ideal))
  (x6 : (⟨S192, .f32⟩ : BufTy).Contents (Elt Ideal)) (x7 : (⟨S128, .f32⟩ : BufTy).Contents (Elt Ideal))
  (x8 : (⟨S192x384, .f32⟩ : BufTy).Contents (Elt Ideal)) (x9 : (⟨S128x512, .f32⟩ : BufTy).Contents (Elt Ideal))
  (x10 x11 : (⟨S64, .f32⟩ : BufTy).Contents (Elt Ideal)) (b : Fin 32) (s : Fin 2048)

/-- The normed grouped queries. -/
theorem v153_apply (i j : Fin 2) (n : Fin 64) : val_main_v153 x0 x1 x2 x10 (ix5 b s i j n) = grouped64 (N := 256) rfl (fun e : Fin 256 => Tok.proj (tokAt x0 x1 x2 x3 x4 x5 x6 x7 x8 x9 x10 x11 b s) ⟨1888 + e, by omega⟩) (Tok.dqn (tokAt x0 x1 x2 x3 x4 x5 x6 x7 x8 x9 x10 x11 b s)) ⟨i.val * 128 + j.val * 64 + n.val, by omega⟩ := by
  pointwise [val_main_v153, val_main_v152, val_main_v151, val_main_v150, val_main_v149, val_main_v148, val_main_v147, val_main_v146, val_main_v145, val_main_v144, val_main_v143, val_main_v142, val_main_v141, val_main_v140, val_main_cst_8, val_main_cst_9, val_main_cst_10, val_main_v137, val_main_v17]
  unfold grouped64
  exact norm_eq (v13_at x0 x1 x2 x3 x4 x5 x6 x7 x8 x9 x10 x11 b s (by first | omega | rfl | (simp only; omega))) (fun e => v13_at x0 x1 x2 x3 x4 x5 x6 x7 x8 x9 x10 x11 b s (by first | omega | rfl | (simp only; omega))) (at_eq (fun k => x10 (ix1 k)) _ _ (by first | omega | rfl | (simp only; omega)))

/-- The normed grouped queries at a lane given in another form. -/
theorem v153_at {i j n m : ℕ} {hi : i < 2} {hj : j < 2} {hn : n < 64} {hm : m < 256} (h : i * 128 + j * 64 + n = m) :
    val_main_v153 x0 x1 x2 x10 (ix5 b s ⟨i, hi⟩ ⟨j, hj⟩ ⟨n, hn⟩) = grouped64 (N := 256) rfl (fun e : Fin 256 => Tok.proj (tokAt x0 x1 x2 x3 x4 x5 x6 x7 x8 x9 x10 x11 b s) ⟨1888 + e, by omega⟩) (Tok.dqn (tokAt x0 x1 x2 x3 x4 x5 x6 x7 x8 x9 x10 x11 b s)) ⟨m, hm⟩ := by
  subst h
  exact v153_apply x0 x1 x2 x3 x4 x5 x6 x7 x8 x9 x10 x11 b s _ _ _

set_option maxHeartbeats 1600000 in
/-- The grouped queries. -/
theorem v270_apply (n : Fin 256) : val_main_v270 x0 x1 x2 x4 x5 x10 (ix3 b s n) = Tok.rqd (tokAt x0 x1 x2 x3 x4 x5 x6 x7 x8 x9 x10 x11 b s) n := by
  pointwise [val_main_v270, val_main_v269, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154]
  unfold Tok.rqd
  by_cases h : n.val % 64 < 32
  · refine Eq.trans ?_ (turned_row (tokAt x0 x1 x2 x3 x4 x5 x6 x7 x8 x9 x10 x11 b s) rfl _ n h).symm
    unfold turned
    refine (dif_pos h).trans ?_
    by_cases h1 : n.val % 64 < 16
    · exact both_pos h1 (show n.val % 32 < 16 by omega) (rot_sub (v153_at x0 x1 x2 x3 x4 x5 x6 x7 x8 x9 x10 x11 b s (by first | omega | rfl | (simp only; omega))) (v153_at x0 x1 x2 x3 x4 x5 x6 x7 x8 x9 x10 x11 b s (by first | omega | rfl | (simp only; omega))) (row_at x0 x1 x2 x3 x4 x5 x6 x7 x8 x9 x10 x11 b s (by first | omega | rfl | (simp only; omega))))
    · exact both_neg h1 (show ¬n.val % 32 < 16 by omega) (rot_add (v153_at x0 x1 x2 x3 x4 x5 x6 x7 x8 x9 x10 x11 b s (by first | omega | rfl | (simp only; omega))) (v153_at x0 x1 x2 x3 x4 x5 x6 x7 x8 x9 x10 x11 b s (by first | omega | rfl | (simp only; omega))) (row_at x0 x1 x2 x3 x4 x5 x6 x7 x8 x9 x10 x11 b s (by first | omega | rfl | (simp only; omega))))
  · refine Eq.trans ?_ (turned_col (tokAt x0 x1 x2 x3 x4 x5 x6 x7 x8 x9 x10 x11 b s) rfl _ n h).symm
    unfold turned
    refine (dif_neg h).trans ?_
    by_cases h1 : n.val % 64 - 32 < 16
    · exact both_pos h1 (show n.val % 32 < 16 by omega) (rot_sub (v153_at x0 x1 x2 x3 x4 x5 x6 x7 x8 x9 x10 x11 b s (by first | omega | rfl | (simp only; omega))) (v153_at x0 x1 x2 x3 x4 x5 x6 x7 x8 x9 x10 x11 b s (by first | omega | rfl | (simp only; omega))) (col_at x0 x1 x2 x3 x4 x5 x6 x7 x8 x9 x10 x11 b s (by first | omega | rfl | (simp only; omega))))
    · exact both_neg h1 (show ¬n.val % 32 < 16 by omega) (rot_add (v153_at x0 x1 x2 x3 x4 x5 x6 x7 x8 x9 x10 x11 b s (by first | omega | rfl | (simp only; omega))) (v153_at x0 x1 x2 x3 x4 x5 x6 x7 x8 x9 x10 x11 b s (by first | omega | rfl | (simp only; omega))) (col_at x0 x1 x2 x3 x4 x5 x6 x7 x8 x9 x10 x11 b s (by first | omega | rfl | (simp only; omega))))

end Cert.InprojReferenceIdeal.Tile

end
-- ==== Proof.InprojRefG.lean ====
/-
  The latent attention's queries by the reference.
-/
module

public import proofs.«01_k».proof.Proof.InprojReference
public import Idealize.ShloMosaic.Lib.Pointwise
public import Idealize.ShloMosaic.Lib.IdealHost

@[expose] public section

set_option maxRecDepth 16384

noncomputable section

namespace Cert.InprojReferenceIdeal.Tile

open Cert.InprojReferenceIdeal Cert.InprojReferenceIdeal.Read Idealize.ShloMosaic Cert.InprojRow Cert.Rms

variable (x0 : (⟨S32x2048x1024, .f32⟩ : BufTy).Contents (Elt Ideal)) (x1 : (⟨S1024, .f32⟩ : BufTy).Contents (Elt Ideal))
  (x2 : (⟨S1024x6496, .f32⟩ : BufTy).Contents (Elt Ideal)) (x3 x4 x5 : (⟨S2048x16, .f32⟩ : BufTy).Contents (Elt Ideal))
  (x6 : (⟨S192, .f32⟩ : BufTy).Contents (Elt Ideal)) (x7 : (⟨S128, .f32⟩ : BufTy).Contents (Elt Ideal))
  (x8 : (⟨S192x384, .f32⟩ : BufTy).Contents (Elt Ideal)) (x9 : (⟨S128x512, .f32⟩ : BufTy).Contents (Elt Ideal))
  (x10 x11 : (⟨S64, .f32⟩ : BufTy).Contents (Elt Ideal)) (b : Fin 32) (s : Fin 2048)

/-- The latent queries before the rotary embedding. -/
theorem v78_apply (n : Fin 384) : val_main_v78 x0 x1 x2 x6 x8 (ix3 b s n) = Tok.lq (tokAt x0 x1 x2 x3 x4 x5 x6 x7 x8 x9 x10 x11 b s) n := by
  pointwise [val_main_v78, val_main_v77, val_main_v76, val_main_v75, val_main_v74, val_main_v73, val_main_v72, val_main_v71, val_main_v70, val_main_v69, val_main_v68, val_main_v67, val_main_v66, val_main_v65, val_main_cst_2, val_main_cst_3, val_main_cst_4, val_main_v62, val_main_v16]
  refine Finset.sum_congr rfl fun e _ => congrArg (· * x8 (ix2 e n)) ?_
  exact norm_eq (v13_at x0 x1 x2 x3 x4 x5 x6 x7 x8 x9 x10 x11 b s (by first | omega | (simp only; omega))) (fun e => v13_at x0 x1 x2 x3 x4 x5 x6 x7 x8 x9 x10 x11 b s (by first | omega | (simp only; omega))) rfl

/-- The latent queries at a lane given in another form. -/
theorem v78_at {n m : ℕ} {hn : n < 384} {hm : m < 384} (h : n = m) : val_main_v78 x0 x1 x2 x6 x8 (ix3 b s ⟨n, hn⟩) = Tok.lq (tokAt x0 x1 x2 x3 x4 x5 x6 x7 x8 x9 x10 x11 b s) ⟨m, hm⟩ := by
  subst h
  exact v78_apply x0 x1 x2 x3 x4 x5 x6 x7 x8 x9 x10 x11 b s _

/-- The latent queries. -/
theorem v259_apply (n : Fin 512) : val_main_v259 x0 x1 x2 x3 x6 x8 (ix3 b s n) = Tok.rqc (tokAt x0 x1 x2 x3 x4 x5 x6 x7 x8 x9 x10 x11 b s) n := by
  pointwise [val_main_v259, val_main_v258, val_main_v257, val_main_v256, val_main_cst_15, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79]
  unfold Tok.rqc
  by_cases h1 : n.val % 128 < 64
  · exact (dif_pos (show n.val % 128 < 96 by omega)).trans (both_pos h1 h1 (v78_at x0 x1 x2 x3 x4 x5 x6 x7 x8 x9 x10 x11 b s (by first | omega | (simp only; omega))))
  · by_cases h2 : n.val % 128 < 96
    · refine (dif_pos h2).trans (both_neg h1 h1 (Eq.trans ?_ (dif_pos h2).symm))
      unfold turned
      by_cases h3 : n.val % 128 - 64 < 16
      · exact both_pos h3 (show (n.val % 128 - 64) % 32 < 16 by omega) (rot_sub (v78_at x0 x1 x2 x3 x4 x5 x6 x7 x8 x9 x10 x11 b s (by first | omega | (simp only; omega))) (v78_at x0 x1 x2 x3 x4 x5 x6 x7 x8 x9 x10 x11 b s (by first | omega | (simp only; omega))) (ang_at x0 x1 x2 x3 x4 x5 x6 x7 x8 x9 x10 x11 b s (by first | omega | (simp only; omega))))
      · exact both_neg h3 (show ¬(n.val % 128 - 64) % 32 < 16 by omega) (rot_add (v78_at x0 x1 x2 x3 x4 x5 x6 x7 x8 x9 x10 x11 b s (by first | omega | (simp only; omega))) (v78_at x0 x1 x2 x3 x4 x5 x6 x7 x8 x9 x10 x11 b s (by first | omega | (simp only; omega))) (ang_at x0 x1 x2 x3 x4 x5 x6 x7 x8 x9 x10 x11 b s (by first | omega | (simp only; omega))))
    · exact (dif_neg h2).trans (Eq.trans rfl ((dif_neg h1).trans (dif_neg h2)).symm)

end Cert.InprojReferenceIdeal.Tile

end
-- ==== Proof.InprojRefH.lean ====
/-
  The latent attention's keys by the reference.
-/
module

public import proofs.«01_k».proof.Proof.InprojRefD
public import Idealize.ShloMosaic.Lib.Pointwise
public import Idealize.ShloMosaic.Lib.IdealHost

@[expose] public section

set_option maxRecDepth 16384

noncomputable section

namespace Cert.InprojReferenceIdeal.Tile

open Cert.InprojReferenceIdeal Cert.InprojReferenceIdeal.Read Idealize.ShloMosaic Cert.InprojRow Cert.Rms

variable (x0 : (⟨S32x2048x1024, .f32⟩ : BufTy).Contents (Elt Ideal)) (x1 : (⟨S1024, .f32⟩ : BufTy).Contents (Elt Ideal))
  (x2 : (⟨S1024x6496, .f32⟩ : BufTy).Contents (Elt Ideal)) (x3 x4 x5 : (⟨S2048x16, .f32⟩ : BufTy).Contents (Elt Ideal))
  (x6 : (⟨S192, .f32⟩ : BufTy).Contents (Elt Ideal)) (x7 : (⟨S128, .f32⟩ : BufTy).Contents (Elt Ideal))
  (x8 : (⟨S192x384, .f32⟩ : BufTy).Contents (Elt Ideal)) (x9 : (⟨S128x512, .f32⟩ : BufTy).Contents (Elt Ideal))
  (x10 x11 : (⟨S64, .f32⟩ : BufTy).Contents (Elt Ideal)) (b : Fin 32) (s : Fin 2048)

/-- The latent keys. -/
theorem v264_apply (n : Fin 512) : val_main_v264 x0 x1 x2 x3 x7 x9 (ix3 b n s) = Tok.rkc (tokAt x0 x1 x2 x3 x4 x5 x6 x7 x8 x9 x10 x11 b s) n := by
  pointwise [val_main_v264, val_main_v263, val_main_v262, val_main_v261, val_main_v260, val_main_cst_16, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v115, val_main_v114, val_main_v64, val_main_v16]
  unfold Tok.rkc
  by_cases h1 : n.val % 128 < 64
  · exact (dif_pos (show n.val % 128 < 96 by omega)).trans (both_pos h1 h1 (v113_at x0 x1 x2 x3 x4 x5 x6 x7 x8 x9 x10 x11 b s (n := n.val) (by omega)))
  · by_cases h2 : n.val % 128 < 96
    · refine (dif_pos h2).trans (both_neg h1 h1 (Eq.trans ?_ (dif_pos h2).symm))
      unfold turned
      by_cases h3 : n.val % 128 - 64 < 16
      · exact both_pos h3 (show (n.val % 128 - 64) % 32 < 16 by omega) (rot_sub (v13_at x0 x1 x2 x3 x4 x5 x6 x7 x8 x9 x10 x11 b s (by simp only; omega)) (v13_at x0 x1 x2 x3 x4 x5 x6 x7 x8 x9 x10 x11 b s (by simp only; omega)) (ang_at x0 x1 x2 x3 x4 x5 x6 x7 x8 x9 x10 x11 b s (by simp only; omega)))
      · exact both_neg h3 (show ¬(n.val % 128 - 64) % 32 < 16 by omega) (rot_add (v13_at x0 x1 x2 x3 x4 x5 x6 x7 x8 x9 x10 x11 b s (by simp only; omega)) (v13_at x0 x1 x2 x3 x4 x5 x6 x7 x8 x9 x10 x11 b s (by simp only; omega)) (ang_at x0 x1 x2 x3 x4 x5 x6 x7 x8 x9 x10 x11 b s (by simp only; omega)))
    · exact (dif_neg h2).trans (Eq.trans rfl ((dif_neg h1).trans (dif_neg h2)).symm)

end Cert.InprojReferenceIdeal.Tile

end
-- ==== Proof.InprojHead.lean ====
/-
  The input projection's results: what the launch leaves is what the reference computes.
-/
module

public import proofs.«01_k».proof.Proof.InprojValue
public import proofs.«01_k».proof.Proof.InprojAgree
public import proofs.«01_k».proof.Proof.InprojRefA
public import proofs.«01_k».proof.Proof.InprojRefB
public import proofs.«01_k».proof.Proof.InprojRefC
public import proofs.«01_k».proof.Proof.InprojRefD
public import proofs.«01_k».proof.Proof.InprojRefE
public import proofs.«01_k».proof.Proof.InprojRefF
public import proofs.«01_k».proof.Proof.InprojRefG
public import proofs.«01_k».proof.Proof.InprojRefH

@[expose] public section

set_option maxRecDepth 16384

noncomputable section

namespace Cert.InprojIdeal.Tile

open Cert.InprojIdeal Cert.InprojIdeal.Gen Idealize.ShloMosaic Idealize.ShloMosaic.TcCoe Idealize.SL.Sem Cert.InprojRow

/-- The named constant's value. -/
theorem wd_real : wd = ((1 / 192 : ℝ) : EReal) := IdealRules.named_const.ideal_named_scalar _ _ _ _ rfl

variable (m : (ℓ : Loc nD τ sig) → Buf (Elt Ideal) ℓ) (c : Dev nD)

/-- The two spellings of a token. -/
theorem tok_eq (b : Fin 32) (s : Fin 2048) : tokOf m c b s = Cert.InprojReferenceIdeal.Tile.tokAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b s := rfl

/-- A token's row, projected with a real gain and real weights. -/
theorem tok_real (hg : ∀ i, ∃ r : ℝ, (m ((c : Thread nD τ).loc main_arg1)) i = (r : EReal)) (hw : ∀ i, ∃ r : ℝ, (m ((c : Thread nD τ).loc main_arg2)) i = (r : EReal))
    (b : Fin 32) (s : Fin 2048) (n : Fin 6496) : ∃ r : ℝ, (tokOf m c b s).proj n = (r : EReal) :=
  proj_real _ (fun k => hg (ix1 k)) (fun k n => hw (ix2 k n)) n

/-- The differential queries. -/
theorem res10 : (dats m 0 c).arrAt 10 cfg0.N = Cert.InprojReferenceIdeal.Read.val_main_v244 (m ((c : Thread nD τ).loc main_arg0)) (m ((c : Thread nD τ).loc main_arg1)) (m ((c : Thread nD τ).loc main_arg2)) (m ((c : Thread nD τ).loc main_arg3)) := by
  rw [arr10]
  funext i
  refine (G10_apply m c (i 0) (i 1) (i 2) i rfl rfl rfl).trans ((qa_eq (tokOf m c (i 0) (i 1)) wd (i 2)).trans ?_)
  refine Eq.trans ?_ (congrArg (Cert.InprojReferenceIdeal.Read.val_main_v244 (m ((c : Thread nD τ).loc main_arg0)) (m ((c : Thread nD τ).loc main_arg1)) (m ((c : Thread nD τ).loc main_arg2)) (m ((c : Thread nD τ).loc main_arg3))) (ValueIdx.eq_ix3 i)).symm
  exact (Cert.InprojReferenceIdeal.Tile.v244_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 1) (i 2)).symm

/-- The differential keys. -/
theorem res11 : (dats m 0 c).arrAt 11 cfg0.N = Cert.InprojReferenceIdeal.Read.val_main_v247 (m ((c : Thread nD τ).loc main_arg0)) (m ((c : Thread nD τ).loc main_arg1)) (m ((c : Thread nD τ).loc main_arg2)) (m ((c : Thread nD τ).loc main_arg3)) := by
  rw [arr11]
  funext i
  refine (G11_apply m c (i 0) (i 2) (i 1) i rfl rfl rfl).trans ((ka_eq (tokOf m c (i 0) (i 2)) wd (i 1)).trans ?_)
  refine Eq.trans ?_ (congrArg (Cert.InprojReferenceIdeal.Read.val_main_v247 (m ((c : Thread nD τ).loc main_arg0)) (m ((c : Thread nD τ).loc main_arg1)) (m ((c : Thread nD τ).loc main_arg2)) (m ((c : Thread nD τ).loc main_arg3))) (ValueIdx.eq_ix3 i)).symm
  exact (Cert.InprojReferenceIdeal.Tile.v247_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 2) (i 1)).symm

/-- The differential values. -/
theorem res12 : (dats m 0 c).arrAt 12 cfg0.N = Cert.InprojReferenceIdeal.Read.val_main_v248 (m ((c : Thread nD τ).loc main_arg0)) (m ((c : Thread nD τ).loc main_arg1)) (m ((c : Thread nD τ).loc main_arg2)) := by
  rw [arr12]
  funext i
  refine (G12_apply m c (i 0) (i 1) (i 2) i rfl rfl rfl).trans ((va_eq (tokOf m c (i 0) (i 1)) wd (i 2)).trans ?_)
  refine Eq.trans ?_ (congrArg (Cert.InprojReferenceIdeal.Read.val_main_v248 (m ((c : Thread nD τ).loc main_arg0)) (m ((c : Thread nD τ).loc main_arg1)) (m ((c : Thread nD τ).loc main_arg2))) (ValueIdx.eq_ix3 i)).symm
  exact (Cert.InprojReferenceIdeal.Tile.v248_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 1) (i 2)).symm

/-- The neighbourhood queries. -/
theorem res13 : (dats m 0 c).arrAt 13 cfg0.N = Cert.InprojReferenceIdeal.Read.val_main_v249 (m ((c : Thread nD τ).loc main_arg0)) (m ((c : Thread nD τ).loc main_arg1)) (m ((c : Thread nD τ).loc main_arg2)) := by
  rw [arr13]
  funext i
  refine (G13_apply m c (i 0) (i 1) (i 2) i rfl rfl rfl).trans ((qb_eq (tokOf m c (i 0) (i 1)) wd (i 2)).trans ?_)
  refine Eq.trans ?_ (congrArg (Cert.InprojReferenceIdeal.Read.val_main_v249 (m ((c : Thread nD τ).loc main_arg0)) (m ((c : Thread nD τ).loc main_arg1)) (m ((c : Thread nD τ).loc main_arg2))) (ValueIdx.eq_ix3 i)).symm
  exact (Cert.InprojReferenceIdeal.Tile.v249_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 1) (i 2)).symm

/-- The neighbourhood keys. -/
theorem res14 : (dats m 0 c).arrAt 14 cfg0.N = Cert.InprojReferenceIdeal.Read.val_main_v251 (m ((c : Thread nD τ).loc main_arg0)) (m ((c : Thread nD τ).loc main_arg1)) (m ((c : Thread nD τ).loc main_arg2)) := by
  rw [arr14]
  funext i
  refine (G14_apply m c (i 0) (i 2) (i 1) i rfl rfl rfl).trans ((kb_eq (tokOf m c (i 0) (i 2)) wd (i 1)).trans ?_)
  refine Eq.trans ?_ (congrArg (Cert.InprojReferenceIdeal.Read.val_main_v251 (m ((c : Thread nD τ).loc main_arg0)) (m ((c : Thread nD τ).loc main_arg1)) (m ((c : Thread nD τ).loc main_arg2))) (ValueIdx.eq_ix3 i)).symm
  exact (Cert.InprojReferenceIdeal.Tile.v251_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 2) (i 1)).symm

/-- The neighbourhood values. -/
theorem res15 : (dats m 0 c).arrAt 15 cfg0.N = Cert.InprojReferenceIdeal.Read.val_main_v255 (m ((c : Thread nD τ).loc main_arg0)) (m ((c : Thread nD τ).loc main_arg1)) (m ((c : Thread nD τ).loc main_arg2)) := by
  rw [arr15]
  funext i
  refine (G15_apply m c (i 0) (i 1) (i 2) i rfl rfl rfl).trans ((vb_eq (tokOf m c (i 0) (i 1)) wd (i 2)).trans ?_)
  refine Eq.trans ?_ (congrArg (Cert.InprojReferenceIdeal.Read.val_main_v255 (m ((c : Thread nD τ).loc main_arg0)) (m ((c : Thread nD τ).loc main_arg1)) (m ((c : Thread nD τ).loc main_arg2))) (ValueIdx.eq_ix3 i)).symm
  exact (Cert.InprojReferenceIdeal.Tile.v255_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 1) (i 2)).symm

/-- The latent queries. -/
theorem res16 : (dats m 0 c).arrAt 16 cfg0.N = Cert.InprojReferenceIdeal.Read.val_main_v259 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg8)) := by
  rw [arr16]
  funext i
  refine (G16_apply m c (i 0) (i 1) (i 2) i rfl rfl rfl).trans ((qc_eq (tokOf m c (i 0) (i 1)) wd wd_real (i 2)).trans ?_)
  refine Eq.trans ?_ (congrArg (Cert.InprojReferenceIdeal.Read.val_main_v259 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg8))) (ValueIdx.eq_ix3 i)).symm
  exact (Cert.InprojReferenceIdeal.Tile.v259_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 1) (i 2)).symm

/-- The latent keys. -/
theorem res17 : (dats m 0 c).arrAt 17 cfg0.N = Cert.InprojReferenceIdeal.Read.val_main_v264 (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg9)) := by
  rw [arr17]
  funext i
  refine (G17_apply m c (i 0) (i 2) (i 1) i rfl rfl rfl).trans ((kc_eq (tokOf m c (i 0) (i 2)) wd (i 1)).trans ?_)
  refine Eq.trans ?_ (congrArg (Cert.InprojReferenceIdeal.Read.val_main_v264 (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg9))) (ValueIdx.eq_ix3 i)).symm
  exact (Cert.InprojReferenceIdeal.Tile.v264_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 2) (i 1)).symm

/-- The latent values. -/
theorem res18 : (dats m 0 c).arrAt 18 cfg0.N = Cert.InprojReferenceIdeal.Read.val_main_v268 (m ((c : Thread nD τ).loc main_arg0)) (m ((c : Thread nD τ).loc main_arg1)) (m ((c : Thread nD τ).loc main_arg2)) (m ((c : Thread nD τ).loc main_arg7)) (m ((c : Thread nD τ).loc main_arg9)) := by
  rw [arr18]
  funext i
  refine (G18_apply m c (i 0) (i 1) (i 2) i rfl rfl rfl).trans ((vc_eq (tokOf m c (i 0) (i 1)) wd (i 2)).trans ?_)
  refine Eq.trans ?_ (congrArg (Cert.InprojReferenceIdeal.Read.val_main_v268 (m ((c : Thread nD τ).loc main_arg0)) (m ((c : Thread nD τ).loc main_arg1)) (m ((c : Thread nD τ).loc main_arg2)) (m ((c : Thread nD τ).loc main_arg7)) (m ((c : Thread nD τ).loc main_arg9))) (ValueIdx.eq_ix3 i)).symm
  exact (Cert.InprojReferenceIdeal.Tile.v268_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 1) (i 2)).symm

/-- The grouped queries. -/
theorem res19 (hg : ∀ i, ∃ r : ℝ, (m ((c : Thread nD τ).loc main_arg1)) i = (r : EReal)) (hw : ∀ i, ∃ r : ℝ, (m ((c : Thread nD τ).loc main_arg2)) i = (r : EReal))
    : (dats m 0 c).arrAt 19 cfg0.N = Cert.InprojReferenceIdeal.Read.val_main_v270 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg10)) := by
  rw [arr19]
  funext i
  refine (G19_apply m c (i 0) (i 1) (i 2) i rfl rfl rfl).trans ((qd_eq (tokOf m c (i 0) (i 1)) wd (tok_real m c hg hw (i 0) (i 1)) (i 2)).trans ?_)
  refine Eq.trans ?_ (congrArg (Cert.InprojReferenceIdeal.Read.val_main_v270 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg10))) (ValueIdx.eq_ix3 i)).symm
  exact (Cert.InprojReferenceIdeal.Tile.v270_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 1) (i 2)).symm

/-- The grouped keys. -/
theorem res20 (hg : ∀ i, ∃ r : ℝ, (m ((c : Thread nD τ).loc main_arg1)) i = (r : EReal)) (hw : ∀ i, ∃ r : ℝ, (m ((c : Thread nD τ).loc main_arg2)) i = (r : EReal))
    : (dats m 0 c).arrAt 20 cfg0.N = Cert.InprojReferenceIdeal.Read.val_main_v273 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg11)) := by
  rw [arr20]
  funext i
  refine (G20_apply m c (i 0) (i 2) (i 1) i rfl rfl rfl).trans ((kd_eq (tokOf m c (i 0) (i 2)) wd (tok_real m c hg hw (i 0) (i 2)) (i 1)).trans ?_)
  refine Eq.trans ?_ (congrArg (Cert.InprojReferenceIdeal.Read.val_main_v273 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg11))) (ValueIdx.eq_ix3 i)).symm
  exact (Cert.InprojReferenceIdeal.Tile.v273_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 2) (i 1)).symm

/-- The grouped values. -/
theorem res21 : (dats m 0 c).arrAt 21 cfg0.N = Cert.InprojReferenceIdeal.Read.val_main_v277 (m ((c : Thread nD τ).loc main_arg0)) (m ((c : Thread nD τ).loc main_arg1)) (m ((c : Thread nD τ).loc main_arg2)) := by
  rw [arr21]
  funext i
  refine (G21_apply m c (i 0) (i 1) (i 2) i rfl rfl rfl).trans ((vd_eq (tokOf m c (i 0) (i 1)) wd (i 2)).trans ?_)
  refine Eq.trans ?_ (congrArg (Cert.InprojReferenceIdeal.Read.val_main_v277 (m ((c : Thread nD τ).loc main_arg0)) (m ((c : Thread nD τ).loc main_arg1)) (m ((c : Thread nD τ).loc main_arg2))) (ValueIdx.eq_ix3 i)).symm
  exact (Cert.InprojReferenceIdeal.Tile.v277_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 1) (i 2)).symm

end Cert.InprojIdeal.Tile

end
-- ==== Proof.InprojFinite.lean ====
/-
  The input projection's precondition, read back: every entry of the norm's gain and of the weights is a real number.
-/
module

public import proofs.«01_k».proof.Pre_finite6
public import proofs.«01_k».proof.Proof.AttnFinite

@[expose] public section

set_option maxRecDepth 16384

noncomputable section

namespace Cert.Pre_finite6.Entry

open Cert.Pre_finite6 Idealize.ShloMosaic

/-- The predicate's side conditions. -/
theorem facts : Facts where
  bcast_S_S1024 := by decide
  reducesTo_S1024_S_d0 := by decide
  h_S_ := by decide
  bcast_S_S1024x6496 := by decide
  reducesTo_S1024x6496_S_d0_1 := by decide

local instance : Subsingleton S_.Idx := ⟨fun i j => funext fun a => a.elim0⟩

/-- Every entry of the second and the third argument is a real number. -/
theorem entries [hF : Facts] (x0 : FVec Ideal S32x2048x1024 .f32) (x1 : FVec Ideal S1024 .f32) (x2 : FVec Ideal S1024x6496 .f32) (x3 x4 x5 : FVec Ideal S2048x16 .f32)
    (x6 : FVec Ideal S192 .f32) (x7 : FVec Ideal S128 .f32) (x8 : FVec Ideal S192x384 .f32) (x9 : FVec Ideal S128x512 .f32) (x10 x11 : FVec Ideal S64 .f32)
    (h : Cert.Pre_finite6.fn (F := Ideal) x0 x1 x2 x3 x4 x5 x6 x7 x8 x9 x10 x11 = fun _ => 1#1) :
    (∀ i, ∃ r : ℝ, x1 i = (r : EReal)) ∧ ∀ i, ∃ r : ℝ, x2 i = (r : EReal) := by
  have h' := congrFun h (fun a => a.elim0)
  dsimp only [Cert.Pre_finite6.fn] at h'
  obtain ⟨hb, hc⟩ := IntOp.andi_eq_one.1 h'
  exact ⟨fun i => Cert.Pre_finite.Entry.real_of_abs _ (Host.reduce_andi_all _ _ _ _ _ hb i),
    fun i => Cert.Pre_finite.Entry.real_of_abs _ (Host.reduce_andi_all _ _ _ _ _ hc i)⟩

end Cert.Pre_finite6.Entry

end
-- ==== Proof.InprojClaim.lean ====
/-
  The claims about the input projection.
-/
module

public import proofs.«01_k».proof.Defs
public import proofs.«01_k».proof.Proof.InprojHead
public import proofs.«01_k».proof.Proof.InprojFinite
public import proofs.«01_k».proof.Proof.Gen.InprojIdeal.Value
public import proofs.«01_k».proof.Proof.Gen.InprojReferenceIdeal.Run
public import proofs.«01_k».proof.Proof.Gen.InprojReferenceIdeal.Read
public import proofs.«01_k».proof.Proof.Gen.Inproj.Frame
public import Idealize.ShloMosaic.Lib.Quiescent

@[expose] public section

set_option maxRecDepth 16384

noncomputable section

namespace Cert.Proof.InprojClaims

open Idealize.ShloMosaic Idealize.ShloMosaic.TcCoe Idealize.SL.Sem

/-- The printed kernel keeps its arguments and leaves every semaphore at zero. -/
theorem frame_p : Cert.quiescent_Inproj (hInproj := Cert.Inproj.Gen.facts) := fun m ρ _ => Cert.Inproj.Gen.frame m ρ

/-- The idealized kernel keeps its arguments and leaves every semaphore at zero. -/
theorem frame_pi : Cert.quiescent_InprojIdeal (hInprojIdeal := Cert.InprojIdeal.Gen.facts) := fun m ρ _ => Cert.InprojIdeal.Gen.frame m ρ

/-- The reference keeps its arguments; it has no semaphores. -/
theorem frame_ri : Cert.quiescent_InprojReferenceIdeal (hInprojReferenceIdeal := Cert.InprojReferenceIdeal.Gen.facts) := fun m ρ _ =>
  (θ_run Cert.InprojReferenceIdeal.defs _ _).mono (fun r h => ⟨fun c => (h c).2.2.2.2.2.2.2.2.2.2.2.2,
      Idealize.ShloMosaic.sem_eq_zero_of_no_sems (by decide) r.2⟩)
    (Cert.InprojReferenceIdeal.Value.run (F := Ideal) m ρ)

/-- The idealized kernel's frame, with the precondition. -/
theorem frame_pi_pre : Cert.quiescent_InprojIdeal_pre_finite6 (hInprojIdeal := Cert.InprojIdeal.Gen.facts) (hPre_finite6 := Cert.Pre_finite6.Entry.facts) :=
  fun m ρ _ => Cert.InprojIdeal.Gen.frame m ρ

/-- The reference's frame, with the precondition. -/
theorem frame_ri_pre : Cert.quiescent_InprojReferenceIdeal_pre_finite6 (hInprojReferenceIdeal := Cert.InprojReferenceIdeal.Gen.facts) (hPre_finite6 := Cert.Pre_finite6.Entry.facts) :=
  fun m ρ _ => frame_ri m ρ trivial

/-- The idealized kernel's width names the printed constant. -/
theorem preserves : Cert.preserves_Inproj_InprojIdeal :=
  IdealRules.named_const.statement Cert.InprojIdeal.κ "width" .f32 0x3BAAAAAB#32 ((1 / 192 : ℝ) : EReal) rfl

set_option maxHeartbeats 4000000 in
/-- The idealized kernel and the reference compute the same twelve results of finite gains and weights. -/
theorem algebraic : Cert.algebraic_InprojIdeal_InprojReferenceIdeal_pre_finite6 (hInprojIdeal := Cert.InprojIdeal.Gen.facts)
    (hInprojReferenceIdeal := Cert.InprojReferenceIdeal.Gen.facts) (hPre_finite6 := Cert.Pre_finite6.Entry.facts) := by
  intro m ρ m' ρ' hpre hagree
  refine ⟨_, _, _, _, _, _, _, _, _, _, _, _, Cert.InprojIdeal.Value.run_blocks (F := Ideal) m ρ, ?_⟩
  refine (θ_run Cert.InprojReferenceIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩)
    (Cert.InprojReferenceIdeal.Value.run (F := Ideal) m' ρ')
  · obtain ⟨h0, h1, h2, h3, h4, h5, h6, h7, h8, h9, h10, h11⟩ := hagree c
    refine (Cert.InprojReferenceIdeal.Read.val_main_v244_eq (StableHlo.launchContents m' c)).trans (Eq.trans ?_ (Cert.InprojIdeal.Tile.res10 m c).symm)
    exact congr (congr (congr (congrArg (Cert.InprojReferenceIdeal.Read.val_main_v244 (F := Ideal)) h0) h1) h2) h3
  · obtain ⟨h0, h1, h2, h3, h4, h5, h6, h7, h8, h9, h10, h11⟩ := hagree c
    refine (Cert.InprojReferenceIdeal.Read.val_main_v247_eq (StableHlo.launchContents m' c)).trans (Eq.trans ?_ (Cert.InprojIdeal.Tile.res11 m c).symm)
    exact congr (congr (congr (congrArg (Cert.InprojReferenceIdeal.Read.val_main_v247 (F := Ideal)) h0) h1) h2) h3
  · obtain ⟨h0, h1, h2, h3, h4, h5, h6, h7, h8, h9, h10, h11⟩ := hagree c
    refine (Cert.InprojReferenceIdeal.Read.val_main_v248_eq (StableHlo.launchContents m' c)).trans (Eq.trans ?_ (Cert.InprojIdeal.Tile.res12 m c).symm)
    exact congr (congr (congrArg (Cert.InprojReferenceIdeal.Read.val_main_v248 (F := Ideal)) h0) h1) h2
  · obtain ⟨h0, h1, h2, h3, h4, h5, h6, h7, h8, h9, h10, h11⟩ := hagree c
    refine (Cert.InprojReferenceIdeal.Read.val_main_v249_eq (StableHlo.launchContents m' c)).trans (Eq.trans ?_ (Cert.InprojIdeal.Tile.res13 m c).symm)
    exact congr (congr (congrArg (Cert.InprojReferenceIdeal.Read.val_main_v249 (F := Ideal)) h0) h1) h2
  · obtain ⟨h0, h1, h2, h3, h4, h5, h6, h7, h8, h9, h10, h11⟩ := hagree c
    refine (Cert.InprojReferenceIdeal.Read.val_main_v251_eq (StableHlo.launchContents m' c)).trans (Eq.trans ?_ (Cert.InprojIdeal.Tile.res14 m c).symm)
    exact congr (congr (congrArg (Cert.InprojReferenceIdeal.Read.val_main_v251 (F := Ideal)) h0) h1) h2
  · obtain ⟨h0, h1, h2, h3, h4, h5, h6, h7, h8, h9, h10, h11⟩ := hagree c
    refine (Cert.InprojReferenceIdeal.Read.val_main_v255_eq (StableHlo.launchContents m' c)).trans (Eq.trans ?_ (Cert.InprojIdeal.Tile.res15 m c).symm)
    exact congr (congr (congrArg (Cert.InprojReferenceIdeal.Read.val_main_v255 (F := Ideal)) h0) h1) h2
  · obtain ⟨h0, h1, h2, h3, h4, h5, h6, h7, h8, h9, h10, h11⟩ := hagree c
    refine (Cert.InprojReferenceIdeal.Read.val_main_v259_eq (StableHlo.launchContents m' c)).trans (Eq.trans ?_ (Cert.InprojIdeal.Tile.res16 m c).symm)
    exact congr (congr (congr (congr (congr (congrArg (Cert.InprojReferenceIdeal.Read.val_main_v259 (F := Ideal)) h0) h1) h2) h3) h6) h8
  · obtain ⟨h0, h1, h2, h3, h4, h5, h6, h7, h8, h9, h10, h11⟩ := hagree c
    refine (Cert.InprojReferenceIdeal.Read.val_main_v264_eq (StableHlo.launchContents m' c)).trans (Eq.trans ?_ (Cert.InprojIdeal.Tile.res17 m c).symm)
    exact congr (congr (congr (congr (congr (congrArg (Cert.InprojReferenceIdeal.Read.val_main_v264 (F := Ideal)) h0) h1) h2) h3) h7) h9
  · obtain ⟨h0, h1, h2, h3, h4, h5, h6, h7, h8, h9, h10, h11⟩ := hagree c
    refine (Cert.InprojReferenceIdeal.Read.val_main_v268_eq (StableHlo.launchContents m' c)).trans (Eq.trans ?_ (Cert.InprojIdeal.Tile.res18 m c).symm)
    exact congr (congr (congr (congr (congrArg (Cert.InprojReferenceIdeal.Read.val_main_v268 (F := Ideal)) h0) h1) h2) h7) h9
  · obtain ⟨h0, h1, h2, h3, h4, h5, h6, h7, h8, h9, h10, h11⟩ := hagree c
    obtain ⟨hg, hw⟩ := Cert.Pre_finite6.Entry.entries (hF := Cert.Pre_finite6.Entry.facts) _ _ _ _ _ _ _ _ _ _ _ _ (hpre c)
    refine (Cert.InprojReferenceIdeal.Read.val_main_v270_eq (StableHlo.launchContents m' c)).trans (Eq.trans ?_ (Cert.InprojIdeal.Tile.res19 m c hg hw).symm)
    exact congr (congr (congr (congr (congr (congrArg (Cert.InprojReferenceIdeal.Read.val_main_v270 (F := Ideal)) h0) h1) h2) h4) h5) h10
  · obtain ⟨h0, h1, h2, h3, h4, h5, h6, h7, h8, h9, h10, h11⟩ := hagree c
    obtain ⟨hg, hw⟩ := Cert.Pre_finite6.Entry.entries (hF := Cert.Pre_finite6.Entry.facts) _ _ _ _ _ _ _ _ _ _ _ _ (hpre c)
    refine (Cert.InprojReferenceIdeal.Read.val_main_v273_eq (StableHlo.launchContents m' c)).trans (Eq.trans ?_ (Cert.InprojIdeal.Tile.res20 m c hg hw).symm)
    exact congr (congr (congr (congr (congr (congrArg (Cert.InprojReferenceIdeal.Read.val_main_v273 (F := Ideal)) h0) h1) h2) h4) h5) h11
  · obtain ⟨h0, h1, h2, h3, h4, h5, h6, h7, h8, h9, h10, h11⟩ := hagree c
    refine (Cert.InprojReferenceIdeal.Read.val_main_v277_eq (StableHlo.launchContents m' c)).trans (Eq.trans ?_ (Cert.InprojIdeal.Tile.res21 m c).symm)
    exact congr (congr (congrArg (Cert.InprojReferenceIdeal.Read.val_main_v277 (F := Ideal)) h0) h1) h2

end Cert.Proof.InprojClaims

end
-- ==== Proof.lean ====
/-
  The certificate: the claims about the six calls, put together.
-/
module

public import proofs.«01_k».proof.Defs
public import proofs.«01_k».proof.Proof.AttnClaim
public import proofs.«01_k».proof.Proof.FfnClaim
public import proofs.«01_k».proof.Proof.MergeClaim
public import proofs.«01_k».proof.Proof.GroupedClaim
public import proofs.«01_k».proof.Proof.LatentClaim
public import proofs.«01_k».proof.Proof.InprojClaim

@[expose] public section

noncomputable section

namespace Cert.Proof

open Idealize.ShloMosaic Idealize.SL.Sem

/-- Every claim of this certificate. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Merge.Gen.facts, Cert.MergeIdeal.Gen.facts, Cert.MergeReferenceIdeal.Gen.facts,
    Cert.Grouped.Gen.facts, Cert.GroupedIdeal.Gen.facts, Cert.GroupedReferenceIdeal.Gen.facts,
    Cert.Latent.Gen.facts, Cert.LatentIdeal.Gen.facts, Cert.LatentReferenceIdeal.Gen.facts,
    Cert.Inproj.Gen.facts, Cert.InprojIdeal.Gen.facts, Cert.InprojReferenceIdeal.Gen.facts,
    Cert.Pre_finite.Entry.facts, Cert.Pre_finite4.Entry.facts, Cert.Pre_finite5.Entry.facts, Cert.Pre_finite6.Entry.facts,
    AttnClaims.frame_p, AttnClaims.frame_pi, AttnClaims.frame_pi_pre, AttnClaims.frame_ri, AttnClaims.frame_ri_pre,
    FfnClaims.frame_p, FfnClaims.frame_pi, FfnClaims.frame_ri,
    MergeClaims.frame_p, MergeClaims.frame_pi, MergeClaims.frame_ri,
    GroupedClaims.frame_p, GroupedClaims.frame_pi, GroupedClaims.frame_pi_pre, GroupedClaims.frame_ri, GroupedClaims.frame_ri_pre,
    LatentClaims.frame_p, LatentClaims.frame_pi, LatentClaims.frame_pi_pre, LatentClaims.frame_ri, LatentClaims.frame_ri_pre,
    InprojClaims.frame_p, InprojClaims.frame_pi, InprojClaims.frame_pi_pre, InprojClaims.frame_ri, InprojClaims.frame_ri_pre,
    AttnClaims.preserves, AttnClaims.algebraic, trivial, FfnClaims.algebraic, trivial, MergeClaims.algebraic,
    GroupedClaims.preserves, GroupedClaims.algebraic, LatentClaims.preserves, LatentClaims.algebraic,
    InprojClaims.preserves, InprojClaims.algebraic⟩

end Cert.Proof

end
